-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_valid [hPre_valid : Cert.Pre_valid.Facts] (m : (ℓ : Loc Cert.KernelIdeal.nD Cert.KernelIdeal.τ Cert.KernelIdeal.sig) → Buf (Elt Ideal) ℓ) : Prop :=
  ∀ c : Dev Cert.KernelIdeal.nD,
    (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_valid [hPre_valid : Cert.Pre_valid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_valid [hKernelIdeal : Cert.KernelIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_valid m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_valid [hReferenceIdeal : Cert.ReferenceIdeal.Facts] [hPre_valid : Cert.Pre_valid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_valid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_valid [hKernelIdeal : Cert.KernelIdeal.Facts] [hReferenceIdeal : Cert.ReferenceIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_valid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts) (hPre_valid : Cert.Pre_valid.Facts),
    quiescent_Kernel (hKernel := hKernel) (hPre_in_range := hPre_in_range)
    ∧ quiescent_KernelIdeal (hKernelIdeal := hKernelIdeal) (hPre_in_range := hPre_in_range)
    ∧ quiescent_KernelIdeal_pre_valid (hKernelIdeal := hKernelIdeal) (hPre_valid := hPre_valid)
    ∧ quiescent_ReferenceIdeal (hReferenceIdeal := hReferenceIdeal)
    ∧ quiescent_ReferenceIdeal_pre_valid (hReferenceIdeal := hReferenceIdeal) (hPre_valid := hPre_valid)
    ∧ preserves_Kernel_KernelIdeal
    ∧ algebraic_KernelIdeal_ReferenceIdeal_pre_valid (hKernelIdeal := hKernelIdeal) (hReferenceIdeal := hReferenceIdeal) (hPre_valid := hPre_valid)
-- ==== Pre_in_range.lean ====
abbrev S20000x4 : Shape := ⟨2, ![20000, 4]⟩
abbrev S20000 : Shape := ⟨1, ![20000]⟩
abbrev S2x40000 : Shape := ⟨2, ![2, 40000]⟩
abbrev S_ : Shape := ⟨0, ![]⟩
abbrev S1x40000 : Shape := ⟨2, ![1, 40000]⟩
abbrev S40000 : Shape := ⟨1, ![40000]⟩

class Facts : Prop where
  bcast_S_S20000 : S_.BroadcastsInDim S20000 (![] : Fin 0 → Fin S20000.rank)
  reducesTo_S20000_S_d0 : S20000.ReducesTo [0] S_
  h_S_ : 0 < S_.numel
  slices_S2x40000_S1x40000_0_0 : S2x40000.Slices ![0, 0] S1x40000
  shapeCasts_S1x40000_S40000 : S1x40000.ShapeCasts S40000
  bcast_S_S40000 : S_.BroadcastsInDim S40000 (![] : Fin 0 → Fin S40000.rank)
  reducesTo_S40000_S_d0 : S40000.ReducesTo [0] S_
  slices_S2x40000_S1x40000_1_0 : S2x40000.Slices ![1, 0] S1x40000

variable [Facts]

def fn_part1 {F : FTy → Type} [FloatOps F] (main_arg3 : IVec S2x40000 32) (main_v16 : IVec S_ 1) (main_v17 : IVec S1x40000 32) : IVec S_ 1 :=
  let main_v18 : IVec S40000 32 := shapeCast S40000 main_v17 shapeCasts_S1x40000_S40000
  let main_c_5 : IVec S_ 32 := constantI S_ 32 0#32
  let main_v19 : IVec S40000 32 := broadcastInDim S40000 ![] bcast_S_S40000 main_c_5
  let main_v20 : IVec S40000 1 := cmpi .sge main_v18 main_v19
  let main_v21 : IVec S1x40000 32 := (extractStridedSlice S1x40000 ![1, 0] · slices_S2x40000_S1x40000_1_0) main_arg3
  let main_v22 : IVec S40000 32 := shapeCast S40000 main_v21 shapeCasts_S1x40000_S40000
  let main_c_6 : IVec S_ 32 := constantI S_ 32 256#32
  let main_v23 : IVec S40000 32 := broadcastInDim S40000 ![] bcast_S_S40000 main_c_6
  let main_v24 : IVec S40000 1 := cmpi .slt main_v22 main_v23
  let main_v25 : IVec S40000 1 := andi main_v20 main_v24
  let main_c_7 : IVec S_ 1 := constantI S_ 1 1#1
  let main_v26 : IVec S_ 1 := (fun x v => Host.reduce IntOp.andi x v reducesTo_S40000_S_d0 h_S_) main_v25 main_c_7
  let main_v27 : IVec S_ 1 := andi main_v16 main_v26
  main_v27

def fn {F : FTy → Type} [FloatOps F] (main_arg0 : FVec F S20000x4 .f32) (main_arg1 : FVec F S20000 .f32) (main_arg2 : IVec S20000 32) (main_arg3 : IVec S2x40000 32) : IVec S_ 1 :=
  let main_c : IVec S_ 32 := constantI S_ 32 4294967295#32
  let main_v0 : IVec S20000 32 := broadcastInDim S20000 ![] bcast_S_S20000 main_c
  let main_v1 : IVec S20000 1 := cmpi .sge main_arg2 main_v0
  let main_c_0 : IVec S_ 32 := constantI S_ 32 256#32
  let main_v2 : IVec S20000 32 := broadcastInDim S20000 ![] bcast_S_S20000 main_c_0
  let main_v3 : IVec S20000 1 := cmpi .slt main_arg2 main_v2
  let main_v4 : IVec S20000 1 := andi main_v1 main_v3
  let main_c_1 : IVec S_ 1 := constantI S_ 1 1#1
  let main_v5 : IVec S_ 1 := (fun x v => Host.reduce IntOp.andi x v reducesTo_S20000_S_d0 h_S_) main_v4 main_c_1
  let main_v6 : IVec S1x40000 32 := (extractStridedSlice S1x40000 ![0, 0] · slices_S2x40000_S1x40000_0_0) main_arg3
  let main_v7 : IVec S40000 32 := shapeCast S40000 main_v6 shapeCasts_S1x40000_S40000
  let main_c_2 : IVec S_ 32 := constantI S_ 32 0#32
  let main_v8 : IVec S40000 32 := broadcastInDim S40000 ![] bcast_S_S40000 main_c_2
  let main_v9 : IVec S40000 1 := cmpi .sge main_v7 main_v8
  let main_v10 : IVec S1x40000 32 := (extractStridedSlice S1x40000 ![0, 0] · slices_S2x40000_S1x40000_0_0) main_arg3
  let main_v11 : IVec S40000 32 := shapeCast S40000 main_v10 shapeCasts_S1x40000_S40000
  let main_c_3 : IVec S_ 32 := constantI S_ 32 20000#32
  let main_v12 : IVec S40000 32 := broadcastInDim S40000 ![] bcast_S_S40000 main_c_3
  let main_v13 : IVec S40000 1 := cmpi .slt main_v11 main_v12
  let main_v14 : IVec S40000 1 := andi main_v9 main_v13
  let main_c_4 : IVec S_ 1 := constantI S_ 1 1#1
  let main_v15 : IVec S_ 1 := (fun x v => Host.reduce IntOp.andi x v reducesTo_S40000_S_d0 h_S_) main_v14 main_c_4
  let main_v16 : IVec S_ 1 := andi main_v5 main_v15
  let main_v17 : IVec S1x40000 32 := (extractStridedSlice S1x40000 ![1, 0] · slices_S2x40000_S1x40000_1_0) main_arg3
  fn_part1 (F := F) main_arg3 main_v16 main_v17
-- ==== Pre_valid.lean ====
abbrev S20000x4 : Shape := ⟨2, ![20000, 4]⟩
abbrev S20000 : Shape := ⟨1, ![20000]⟩
abbrev S2x40000 : Shape := ⟨2, ![2, 40000]⟩
abbrev S_ : Shape := ⟨0, ![]⟩
abbrev S1x40000 : Shape := ⟨2, ![1, 40000]⟩
abbrev S40000 : Shape := ⟨1, ![40000]⟩

class Facts : Prop where
  bcast_S_S20000 : S_.BroadcastsInDim S20000 (![] : Fin 0 → Fin S20000.rank)
  reducesTo_S20000_S_d0 : S20000.ReducesTo [0] S_
  h_S_ : 0 < S_.numel
  slices_S2x40000_S1x40000_0_0 : S2x40000.Slices ![0, 0] S1x40000
  shapeCasts_S1x40000_S40000 : S1x40000.ShapeCasts S40000
  bcast_S_S40000 : S_.BroadcastsInDim S40000 (![] : Fin 0 → Fin S40000.rank)
  reducesTo_S40000_S_d0 : S40000.ReducesTo [0] S_
  slices_S2x40000_S1x40000_1_0 : S2x40000.Slices ![1, 0] S1x40000
  bcast_S_S20000x4 : S_.BroadcastsInDim S20000x4 (![] : Fin 0 → Fin S20000x4.rank)
  reducesTo_S20000x4_S_d0_1 : S20000x4.ReducesTo [0, 1] S_

variable [Facts]

def fn_part2 {F : FTy → Type} [FloatOps F] (main_arg2 : IVec S20000 32) (main_v34 : IVec S_ 1) (main_v35 : FVec F S20000x4 .f32) : IVec S_ 1 :=
  let main_cst_10 : FVec F S_ .f32 := constant S_ .f32 0x7F800000#32
  let main_v36 : FVec F S20000x4 .f32 := broadcastInDim S20000x4 ![] bcast_S_S20000x4 main_cst_10
  let main_v37 : IVec S20000x4 1 := cmpf .olt main_v35 main_v36
  let main_c_11 : IVec S_ 1 := constantI S_ 1 1#1
  let main_v38 : IVec S_ 1 := (fun x v => Host.reduce IntOp.andi x v reducesTo_S20000x4_S_d0_1 h_S_) main_v37 main_c_11
  let main_v39 : IVec S_ 1 := andi main_v34 main_v38
  let main_c_12 : IVec S_ 32 := constantI S_ 32 4294967295#32
  let main_v40 : IVec S20000 32 := broadcastInDim S20000 ![] bcast_S_S20000 main_c_12
  let main_v41 : IVec S20000 1 := cmpi .eq main_arg2 main_v40
  let main_c_13 : IVec S_ 1 := constantI S_ 1 0#1
  let main_v42 : IVec S_ 1 := (fun x v => Host.reduce IntOp.ori x v reducesTo_S20000_S_d0 h_S_) main_v41 main_c_13
  let main_v43 : IVec S_ 1 := andi main_v39 main_v42
  main_v43

def fn_part1 {F : FTy → Type} [FloatOps F] (main_arg0 : FVec F S20000x4 .f32) (main_arg1 : FVec F S20000 .f32) (main_arg2 : IVec S20000 32) (main_arg3 : IVec S2x40000 32) (main_v16 : IVec S_ 1) (main_v17 : IVec S1x40000 32) : IVec S_ 1 :=
  let main_v18 : IVec S40000 32 := shapeCast S40000 main_v17 shapeCasts_S1x40000_S40000
  let main_c_5 : IVec S_ 32 := constantI S_ 32 0#32
  let main_v19 : IVec S40000 32 := broadcastInDim S40000 ![] bcast_S_S40000 main_c_5
  let main_v20 : IVec S40000 1 := cmpi .sge main_v18 main_v19
  let main_v21 : IVec S1x40000 32 := (extractStridedSlice S1x40000 ![1, 0] · slices_S2x40000_S1x40000_1_0) main_arg3
  let main_v22 : IVec S40000 32 := shapeCast S40000 main_v21 shapeCasts_S1x40000_S40000
  let main_c_6 : IVec S_ 32 := constantI S_ 32 256#32
  let main_v23 : IVec S40000 32 := broadcastInDim S40000 ![] bcast_S_S40000 main_c_6
  let main_v24 : IVec S40000 1 := cmpi .slt main_v22 main_v23
  let main_v25 : IVec S40000 1 := andi main_v20 main_v24
  let main_c_7 : IVec S_ 1 := constantI S_ 1 1#1
  let main_v26 : IVec S_ 1 := (fun x v => Host.reduce IntOp.andi x v reducesTo_S40000_S_d0 h_S_) main_v25 main_c_7
  let main_v27 : IVec S_ 1 := andi main_v16 main_v26
  let main_cst : FVec F S_ .f32 := constant S_ .f32 0x00000000#32
  let main_v28 : FVec F S20000 .f32 := broadcastInDim S20000 ![] bcast_S_S20000 main_cst
  let main_v29 : IVec S20000 1 := cmpf .oge main_arg1 main_v28
  let main_cst_8 : FVec F S_ .f32 := constant S_ .f32 0x3F733333#32
  let main_v30 : FVec F S20000 .f32 := broadcastInDim S20000 ![] bcast_S_S20000 main_cst_8
  let main_v31 : IVec S20000 1 := cmpf .ole main_arg1 main_v30
  let main_v32 : IVec S20000 1 := andi main_v29 main_v31
  let main_c_9 : IVec S_ 1 := constantI S_ 1 1#1
  let main_v33 : IVec S_ 1 := (fun x v => Host.reduce IntOp.andi x v reducesTo_S20000_S_d0 h_S_) main_v32 main_c_9
  let main_v34 : IVec S_ 1 := andi main_v27 main_v33
  let main_v35 : FVec F S20000x4 .f32 := Host.absf main_arg0
  fn_part2 (F := F) main_arg2 main_v34 main_v35

def fn {F : FTy → Type} [FloatOps F] (main_arg0 : FVec F S20000x4 .f32) (main_arg1 : FVec F S20000 .f32) (main_arg2 : IVec S20000 32) (main_arg3 : IVec S2x40000 32) : IVec S_ 1 :=
  let main_c : IVec S_ 32 := constantI S_ 32 4294967295#32
  let main_v0 : IVec S20000 32 := broadcastInDim S20000 ![] bcast_S_S20000 main_c
  let main_v1 : IVec S20000 1 := cmpi .sge main_arg2 main_v0
  let main_c_0 : IVec S_ 32 := constantI S_ 32 256#32
  let main_v2 : IVec S20000 32 := broadcastInDim S20000 ![] bcast_S_S20000 main_c_0
  let main_v3 : IVec S20000 1 := cmpi .slt main_arg2 main_v2
  let main_v4 : IVec S20000 1 := andi main_v1 main_v3
  let main_c_1 : IVec S_ 1 := constantI S_ 1 1#1
  let main_v5 : IVec S_ 1 := (fun x v => Host.reduce IntOp.andi x v reducesTo_S20000_S_d0 h_S_) main_v4 main_c_1
  let main_v6 : IVec S1x40000 32 := (extractStridedSlice S1x40000 ![0, 0] · slices_S2x40000_S1x40000_0_0) main_arg3
  let main_v7 : IVec S40000 32 := shapeCast S40000 main_v6 shapeCasts_S1x40000_S40000
  let main_c_2 : IVec S_ 32 := constantI S_ 32 0#32
  let main_v8 : IVec S40000 32 := broadcastInDim S40000 ![] bcast_S_S40000 main_c_2
  let main_v9 : IVec S40000 1 := cmpi .sge main_v7 main_v8
  let main_v10 : IVec S1x40000 32 := (extractStridedSlice S1x40000 ![0, 0] · slices_S2x40000_S1x40000_0_0) main_arg3
  let main_v11 : IVec S40000 32 := shapeCast S40000 main_v10 shapeCasts_S1x40000_S40000
  let main_c_3 : IVec S_ 32 := constantI S_ 32 20000#32
  let main_v12 : IVec S40000 32 := broadcastInDim S40000 ![] bcast_S_S40000 main_c_3
  let main_v13 : IVec S40000 1 := cmpi .slt main_v11 main_v12
  let main_v14 : IVec S40000 1 := andi main_v9 main_v13
  let main_c_4 : IVec S_ 1 := constantI S_ 1 1#1
  let main_v15 : IVec S_ 1 := (fun x v => Host.reduce IntOp.andi x v reducesTo_S40000_S_d0 h_S_) main_v14 main_c_4
  let main_v16 : IVec S_ 1 := andi main_v5 main_v15
  let main_v17 : IVec S1x40000 32 := (extractStridedSlice S1x40000 ![1, 0] · slices_S2x40000_S1x40000_1_0) main_arg3
  fn_part1 (F := F) main_arg0 main_arg1 main_arg2 main_arg3 main_v16 main_v17
-- ==== Kernel.lean ====
abbrev S20000x4 : Shape := ⟨2, ![20000, 4]⟩
abbrev S20000 : Shape := ⟨1, ![20000]⟩
abbrev S2x40000 : Shape := ⟨2, ![2, 40000]⟩
abbrev S_ : Shape := ⟨0, ![]⟩
abbrev S20480x16 : Shape := ⟨2, ![20480, 16]⟩
abbrev S1 : Shape := ⟨1, ![1]⟩
abbrev S2 : Shape := ⟨1, ![2]⟩
abbrev S20480 : Shape := ⟨1, ![20480]⟩
abbrev S1x40000 : Shape := ⟨2, ![1, 40000]⟩
abbrev S40000 : Shape := ⟨1, ![40000]⟩
abbrev S960 : Shape := ⟨1, ![960]⟩
abbrev S40960 : Shape := ⟨1, ![40960]⟩
abbrev S102400 : Shape := ⟨1, ![102400]⟩
abbrev S288x16 : Shape := ⟨2, ![288, 16]⟩
abbrev S1280 : Shape := ⟨1, ![1280]⟩
abbrev S2560 : Shape := ⟨1, ![2560]⟩
abbrev S4352 : Shape := ⟨1, ![4352]⟩
abbrev S272 : Shape := ⟨1, ![272]⟩
abbrev S16x272 : Shape := ⟨2, ![16, 272]⟩
abbrev S16x16 : Shape := ⟨2, ![16, 16]⟩
abbrev S16 : Shape := ⟨1, ![16]⟩
abbrev S1x272 : Shape := ⟨2, ![1, 272]⟩
abbrev S1x16 : Shape := ⟨2, ![1, 16]⟩
abbrev S256x16 : Shape := ⟨2, ![256, 16]⟩
abbrev S1x256 : Shape := ⟨2, ![1, 256]⟩
abbrev S16x20480 : Shape := ⟨2, ![16, 20480]⟩
abbrev S20480x1 : Shape := ⟨2, ![20480, 1]⟩
abbrev S5x1x4096 : Shape := ⟨3, ![5, 1, 4096]⟩
abbrev S16x256 : Shape := ⟨2, ![16, 256]⟩
abbrev S1x1 : Shape := ⟨2, ![1, 1]⟩
abbrev S16x4096 : Shape := ⟨2, ![16, 4096]⟩
abbrev S4096x1 : Shape := ⟨2, ![4096, 1]⟩
abbrev S1x1x4096 : Shape := ⟨3, ![1, 1, 4096]⟩
abbrev S3 : Shape := ⟨1, ![3]⟩
abbrev S1x4096 : Shape := ⟨2, ![1, 4096]⟩
abbrev S256 : Shape := ⟨1, ![256]⟩
abbrev S4096 : Shape := ⟨1, ![4096]⟩
abbrev S18x4096 : Shape := ⟨2, ![18, 4096]⟩
abbrev S18x256 : Shape := ⟨2, ![18, 256]⟩
abbrev S4096x256 : Shape := ⟨2, ![4096, 256]⟩
abbrev S1x1x256 : Shape := ⟨3, ![1, 1, 256]⟩
abbrev S1x1x1 : Shape := ⟨3, ![1, 1, 1]⟩

abbrev nBuf : Table → Nat
  | .hbm => 46
  | .local .tc .vmem => 12
  | .local .tc .smem => 1
  | .shared => 2
  | .local .scVector .vmem => 14
  | _ => 0

abbrev bufTy : (tb : Table) → Fin (nBuf tb) → BufTy
  | .hbm, ⟨0, _⟩ => ⟨S20000x4, .f32⟩
  | .hbm, ⟨1, _⟩ => ⟨S20000, .f32⟩
  | .hbm, ⟨2, _⟩ => ⟨S20000, .i32⟩
  | .hbm, ⟨3, _⟩ => ⟨S2x40000, .i32⟩
  | .hbm, ⟨4, _⟩ => ⟨S_, .f32⟩
  | .hbm, ⟨5, _⟩ => ⟨S20480x16, .f32⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S1, .i32⟩
  | .hbm, ⟨10, _⟩ => ⟨S2, .i32⟩
  | .hbm, ⟨11, _⟩ => ⟨S20480x16, .f32⟩
  | .hbm, ⟨12, _⟩ => ⟨S_, .f32⟩
  | .hbm, ⟨13, _⟩ => ⟨S20480, .f32⟩
  | .hbm, ⟨14, _⟩ => ⟨S_, .i32⟩
  | .hbm, ⟨15, _⟩ => ⟨S1, .i32⟩
  | .hbm, ⟨16, _⟩ => ⟨S20480, .f32⟩
  | .hbm, ⟨17, _⟩ => ⟨S_, .i32⟩
  | .hbm, ⟨18, _⟩ => ⟨S20480, .i32⟩
  | .hbm, ⟨19, _⟩ => ⟨S_, .i32⟩
  | .hbm, ⟨20, _⟩ => ⟨S1, .i32⟩
  | .hbm, ⟨21, _⟩ => ⟨S20480, .i32⟩
  | .hbm, ⟨22, _⟩ => ⟨S1x40000, .i32⟩
  | .hbm, ⟨23, _⟩ => ⟨S40000, .i32⟩
  | .hbm, ⟨24, _⟩ => ⟨S_, .i32⟩
  | .hbm, ⟨25, _⟩ => ⟨S960, .i32⟩
  | .hbm, ⟨26, _⟩ => ⟨S40960, .i32⟩
  | .hbm, ⟨27, _⟩ => ⟨S1x40000, .i32⟩
  | .hbm, ⟨28, _⟩ => ⟨S40000, .i32⟩
  | .hbm, ⟨29, _⟩ => ⟨S_, .i32⟩
  | .hbm, ⟨30, _⟩ => ⟨S960, .i32⟩
  | .hbm, ⟨31, _⟩ => ⟨S40960, .i32⟩
  | .hbm, ⟨32, _⟩ => ⟨S102400, .i32⟩
  | .hbm, ⟨33, _⟩ => ⟨S288x16, .f32⟩
  | .hbm, ⟨34, _⟩ => ⟨S256x16, .f32⟩
  | .hbm, ⟨35, _⟩ => ⟨S16x16, .f32⟩
  | .hbm, ⟨36, _⟩ => ⟨S1x256, .f32⟩
  | .hbm, ⟨37, _⟩ => ⟨S16x16, .f32⟩
  | .hbm, ⟨38, _⟩ => ⟨S1x256, .f32⟩
  | .hbm, ⟨39, _⟩ => ⟨S16x20480, .f32⟩
  | .hbm, ⟨40, _⟩ => ⟨S20480x1, .i32⟩
  | .hbm, ⟨41, _⟩ => ⟨S5x1x4096, .f32⟩
  | .hbm, ⟨42, _⟩ => ⟨S5x1x4096, .i32⟩
  | .hbm, ⟨43, _⟩ => ⟨S16x256, .f32⟩
  | .hbm, ⟨44, _⟩ => ⟨S1x1, .f32⟩
  | .hbm, ⟨45, _⟩ => ⟨S_, .f32⟩
  | .local .tc .vmem, ⟨0, _⟩ => ⟨S16x4096, .f32⟩
  | .local .tc .vmem, ⟨1, _⟩ => ⟨S16x4096, .f32⟩
  | .local .tc .vmem, ⟨2, _⟩ => ⟨S4096x1, .i32⟩
  | .local .tc .vmem, ⟨3, _⟩ => ⟨S4096x1, .i32⟩
  | .local .tc .vmem, ⟨4, _⟩ => ⟨S1x1x4096, .f32⟩
  | .local .tc .vmem, ⟨5, _⟩ => ⟨S1x1x4096, .f32⟩
  | .local .tc .vmem, ⟨6, _⟩ => ⟨S1x1x4096, .i32⟩
  | .local .tc .vmem, ⟨7, _⟩ => ⟨S1x1x4096, .i32⟩
  | .local .tc .vmem, ⟨8, _⟩ => ⟨S16x256, .f32⟩
  | .local .tc .vmem, ⟨9, _⟩ => ⟨S1x256, .f32⟩
  | .local .tc .vmem, ⟨10, _⟩ => ⟨S1x256, .f32⟩
  | .local .tc .vmem, ⟨11, _⟩ => ⟨S1x1, .f32⟩
  | .local .tc .smem, ⟨0, _⟩ => ⟨S3, .f32⟩
  | .shared, ⟨0, _⟩ => ⟨S16x272, .f32⟩
  | .shared, ⟨1, _⟩ => ⟨S16x272, .i32⟩
  | .local .scVector .vmem, ⟨0, _⟩ => ⟨S1280, .f32⟩
  | .local .scVector .vmem, ⟨1, _⟩ => ⟨S1280, .i32⟩
  | .local .scVector .vmem, ⟨2, _⟩ => ⟨S2560, .i32⟩
  | .local .scVector .vmem, ⟨3, _⟩ => ⟨S2560, .i32⟩
  | .local .scVector .vmem, ⟨4, _⟩ => ⟨S20480, .f32⟩
  | .local .scVector .vmem, ⟨5, _⟩ => ⟨S4352, .f32⟩
  | .local .scVector .vmem, ⟨6, _⟩ => ⟨S4352, .i32⟩
  | .local .scVector .vmem, ⟨7, _⟩ => ⟨S272, .f32⟩
  | .local .scVector .vmem, ⟨8, _⟩ => ⟨S272, .i32⟩
  | .local .scVector .vmem, ⟨9, _⟩ => ⟨S16x16, .f32⟩
  | .local .scVector .vmem, ⟨10, _⟩ => ⟨S16x16, .i32⟩
  | .local .scVector .vmem, ⟨11, _⟩ => ⟨S16, .i32⟩
  | .local .scVector .vmem, ⟨12, _⟩ => ⟨S16x16, .f32⟩
  | .local .scVector .vmem, ⟨13, _⟩ => ⟨S16, .f32⟩
  | _, _ => ⟨S20000x4, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 25 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTables nBuf rfl bufTy 5 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_c_2 : Ref sig .tc := ⟨.hbm, 14, rfl⟩
abbrev main_v6 : Ref sig .tc := ⟨.hbm, 15, rfl⟩
abbrev main_v7 : Ref sig .tc := ⟨.hbm, 16, rfl⟩
abbrev main_c_3 : Ref sig .tc := ⟨.hbm, 17, rfl⟩
abbrev main_v8 : Ref sig .tc := ⟨.hbm, 18, rfl⟩
abbrev main_c_4 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_5 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_6 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v7_scv : Ref sig .scVector := ⟨.hbm, 16, rfl⟩
abbrev main_v19_scv : Ref sig .scVector := ⟨.hbm, 32, rfl⟩
abbrev main_v4_scv : Ref sig .scVector := ⟨.hbm, 11, rfl⟩
abbrev main_v20_scv : Ref sig .scVector := ⟨.hbm, 33, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg6_0 : Ref sig .tc := ⟨.vmem, 10, rfl⟩
abbrev cc1_stg7_0 : Ref sig .tc := ⟨.vmem, 11, rfl⟩
abbrev cc1_scratch0 : Ref sig .tc := ⟨.smem, 0, rfl⟩
abbrev cc0_scratch9 : Ref sig .scVector := ⟨.shared, 0, rfl⟩
abbrev cc0_scratch10 : Ref sig .scVector := ⟨.shared, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch11 : Ref sig .scVector := ⟨.vmem, 9, rfl⟩
abbrev cc0_scratch12 : Ref sig .scVector := ⟨.vmem, 10, rfl⟩
abbrev cc0_scratch13 : Ref sig .scVector := ⟨.vmem, 11, rfl⟩
abbrev cc0_scratch14 : Ref sig .scVector := ⟨.vmem, 12, rfl⟩
abbrev cc0_scratch15 : Ref sig .scVector := ⟨.vmem, 13, rfl⟩
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem5_0 : DmaSem sig := 22
abbrev cc1_sem6_0 : DmaSem sig := 23
abbrev cc1_sem7_0 : DmaSem sig := 24
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg0 : BitVec 32 := BitVec.ofNat 32 (i 0).val
  let c0_i32_2 : BitVec 32 := 0#32
  let v8 : BitVec 1 := Scalar.cmpi .eq arg0 c0_i32_2
  let v9 : BitVec 32 := Scalar.extui v8
  let c0_i32_3 : BitVec 32 := 0#32
  let v10 : BitVec 1 := Scalar.cmpi .ne v9 c0_i32_3
  v10

def k0_off1 (i : grid0.Coords) : Fin 1 → Nat :=
  let arg1 : BitVec 32 := BitVec.ofNat 32 (i 1).val
  let c1280_i32 : BitVec 32 := 1280#32
  let v21 : BitVec 32 := Scalar.muli arg1 c1280_i32
  ![v21.toNat]
def k0_off2 (i : grid0.Coords) : Fin 1 → Nat :=
  let arg1 : BitVec 32 := BitVec.ofNat 32 (i 1).val
  let c1280_i32 : BitVec 32 := 1280#32
  let v21 : BitVec 32 := Scalar.muli arg1 c1280_i32
  ![v21.toNat]
@[reducible] def k0_t1_loop : Scf.Loop 32 :=
  let c0_i32_10 : BitVec 32 := 0#32
  let c272_i32_11 : BitVec 32 := 272#32
  let v26 : BitVec 32 := Scalar.addi c0_i32_10 c272_i32_11
  let c1_i32_12 : BitVec 32 := 1#32
  ⟨c0_i32_10, v26, c1_i32_12⟩
def k0_off3 (k0_t1 : Fin k0_t1_loop.trips) : Fin 1 → Nat :=
  let c0_i32_10 : BitVec 32 := 0#32
  let c1_i32_12 : BitVec 32 := 1#32
  let arg26 : BitVec 32 := Scf.iv c0_i32_10 c1_i32_12 k0_t1
  let c16_i32_325 : BitVec 32 := 16#32
  let v2395 : BitVec 32 := Scalar.muli arg26 c16_i32_325
  let v2396 : Index := Scalar.indexCast v2395
  ![v2396.toNat]
@[reducible] def k0_t2_loop : Scf.Loop 32 :=
  let c0_i32_15 : BitVec 32 := 0#32
  let c80_i32 : BitVec 32 := 80#32
  let v31 : BitVec 32 := Scalar.addi c0_i32_15 c80_i32
  let c1_i32_16 : BitVec 32 := 1#32
  ⟨c0_i32_15, v31, c1_i32_16⟩
def k0_off4 (k0_t2 : Fin k0_t2_loop.trips) : Fin 1 → Nat :=
  let c0_i32_15 : BitVec 32 := 0#32
  let c1_i32_16 : BitVec 32 := 1#32
  let arg26 : BitVec 32 := Scf.iv c0_i32_15 c1_i32_16 k0_t2
  let c16_i32_325 : BitVec 32 := 16#32
  let v2395 : BitVec 32 := Scalar.muli arg26 c16_i32_325
  let v2396 : Index := Scalar.indexCast v2395
  ![v2396.toNat]

def k0_chk1 (i : grid0.Coords) (v2405 : IVec S16 32) : Prop :=
  (∀ (k0_h1 : k0_cond1 i = 1#1), ∀ a x, ((![v2405] : Fin 1 → IVec S16 32) a x).toNat < S4352.size a) ∧
  (∀ (k0_h1 : k0_cond1 i = 1#1), ∀ a x, ((![v2405] : Fin 1 → IVec S16 32) a x).toNat < S4352.size a) ∧
  (∀ (k0_h1 : k0_cond1 i = 1#1), ∀ a x, ((![v2405] : Fin 1 → IVec S16 32) a x).toNat < S4352.size a)
theorem k0_idx1_inb : ∀ (i : grid0.Coords) (v2405 : IVec S16 32) (k0_hw1 : k0_chk1 i v2405), ∀ (k0_h1 : k0_cond1 i = 1#1), ∀ a x, ((![v2405] : Fin 1 → IVec S16 32) a x).toNat < S4352.size a := fun i v2405 k0_hw1 k0_h1 => k0_hw1.1 k0_h1
theorem k0_idx2_inb : ∀ (i : grid0.Coords) (v2405 : IVec S16 32) (k0_hw1 : k0_chk1 i v2405), ∀ (k0_h1 : k0_cond1 i = 1#1), ∀ a x, ((![v2405] : Fin 1 → IVec S16 32) a x).toNat < S4352.size a := fun i v2405 k0_hw1 k0_h1 => k0_hw1.2.1 k0_h1
theorem k0_idx3_inb : ∀ (i : grid0.Coords) (v2405 : IVec S16 32) (k0_hw1 : k0_chk1 i v2405), ∀ (k0_h1 : k0_cond1 i = 1#1), ∀ a x, ((![v2405] : Fin 1 → IVec S16 32) a x).toNat < S4352.size a := fun i v2405 k0_hw1 k0_h1 => k0_hw1.2.2 k0_h1
def k0_off5 (i : grid0.Coords) : Fin 2 → Nat :=
  let arg1 : BitVec 32 := BitVec.ofNat 32 (i 1).val
  let c0_i32_325_r0 : BitVec 32 := 0#32
  ![arg1.toNat, 0]
def k0_cond2 (i : grid0.Coords) : BitVec 1 :=
  let arg0 : BitVec 32 := BitVec.ofNat 32 (i 0).val
  let c1_i32 : BitVec 32 := 1#32
  let v11 : BitVec 1 := Scalar.cmpi .eq arg0 c1_i32
  let v12 : BitVec 32 := Scalar.extui v11
  let c0_i32_4 : BitVec 32 := 0#32
  let v13 : BitVec 1 := Scalar.cmpi .ne v12 c0_i32_4
  v13

def k0_off6 (i : grid0.Coords) (c20480_i32 : BitVec 32) : Fin 1 → Nat :=
  let arg1 : BitVec 32 := BitVec.ofNat 32 (i 1).val
  let c2560_i32 : BitVec 32 := 2560#32
  let v21 : BitVec 32 := Scalar.muli arg1 c2560_i32
  let v22 : BitVec 32 := Scalar.addi c20480_i32 v21
  ![v22.toNat]
@[reducible] def k0_t3_loop : Scf.Loop 32 :=
  let c0_i32_10 : BitVec 32 := 0#32
  let c272_i32_11 : BitVec 32 := 272#32
  let v28 : BitVec 32 := Scalar.addi c0_i32_10 c272_i32_11
  let c1_i32_12 : BitVec 32 := 1#32
  ⟨c0_i32_10, v28, c1_i32_12⟩
def k0_off7 (k0_t3 : Fin k0_t3_loop.trips) : Fin 1 → Nat :=
  let c0_i32_10 : BitVec 32 := 0#32
  let c1_i32_12 : BitVec 32 := 1#32
  let arg26 : BitVec 32 := Scf.iv c0_i32_10 c1_i32_12 k0_t3
  let c16_i32_36 : BitVec 32 := 16#32
  let v578 : BitVec 32 := Scalar.muli arg26 c16_i32_36
  let v579 : Index := Scalar.indexCast v578
  ![v579.toNat]
@[reducible] def k0_t4_loop : Scf.Loop 32 :=
  let c0_i32_15 : BitVec 32 := 0#32
  let c160_i32 : BitVec 32 := 160#32
  let v33 : BitVec 32 := Scalar.addi c0_i32_15 c160_i32
  let c1_i32_16 : BitVec 32 := 1#32
  ⟨c0_i32_15, v33, c1_i32_16⟩
def k0_off8 (k0_t4 : Fin k0_t4_loop.trips) : Fin 1 → Nat :=
  let c0_i32_15 : BitVec 32 := 0#32
  let c1_i32_16 : BitVec 32 := 1#32
  let arg26 : BitVec 32 := Scf.iv c0_i32_15 c1_i32_16 k0_t4
  let c16_i32_36 : BitVec 32 := 16#32
  let v578 : BitVec 32 := Scalar.muli arg26 c16_i32_36
  let v579 : Index := Scalar.indexCast v578
  ![v579.toNat]

def k0_chk2 (i : grid0.Coords) (v580 : IVec S16 32) : Prop :=
  (∀ (k0_h2 : k0_cond2 i = 1#1), ∀ a x, ((![v580] : Fin 1 → IVec S16 32) a x).toNat < S20480.size a)
theorem k0_idx4_inb : ∀ (i : grid0.Coords) (v580 : IVec S16 32) (k0_hw2 : k0_chk2 i v580), ∀ (k0_h2 : k0_cond2 i = 1#1), ∀ a x, ((![v580] : Fin 1 → IVec S16 32) a x).toNat < S20480.size a := fun i v580 k0_hw2 k0_h2 => k0_hw2 k0_h2

def k0_chk3 (i : grid0.Coords) (v585 : IVec S16 32) : Prop :=
  (∀ (k0_h2 : k0_cond2 i = 1#1), ∀ a x, ((![v585] : Fin 1 → IVec S16 32) a x).toNat < S4352.size a) ∧
  (∀ (k0_h2 : k0_cond2 i = 1#1), ∀ a x, ((![v585] : Fin 1 → IVec S16 32) a x).toNat < S4352.size a)
theorem k0_idx5_inb : ∀ (i : grid0.Coords) (v585 : IVec S16 32) (k0_hw3 : k0_chk3 i v585), ∀ (k0_h2 : k0_cond2 i = 1#1), ∀ a x, ((![v585] : Fin 1 → IVec S16 32) a x).toNat < S4352.size a := fun i v585 k0_hw3 k0_h2 => k0_hw3.1 k0_h2
theorem k0_idx6_inb : ∀ (i : grid0.Coords) (v585 : IVec S16 32) (k0_hw3 : k0_chk3 i v585), ∀ (k0_h2 : k0_cond2 i = 1#1), ∀ a x, ((![v585] : Fin 1 → IVec S16 32) a x).toNat < S4352.size a := fun i v585 k0_hw3 k0_h2 => k0_hw3.2 k0_h2
def k0_off9 (i : grid0.Coords) : Fin 2 → Nat :=
  let arg1 : BitVec 32 := BitVec.ofNat 32 (i 1).val
  let c0_i32_36_r2 : BitVec 32 := 0#32
  ![arg1.toNat, 0]
def k0_cond3 (i : grid0.Coords) : BitVec 1 :=
  let arg0 : BitVec 32 := BitVec.ofNat 32 (i 0).val
  let c0_i32_5 : BitVec 32 := 0#32
  let v15 : BitVec 1 := Scalar.cmpi .eq arg0 c0_i32_5
  let v16 : BitVec 32 := Scalar.extui v15
  let c0_i32_6 : BitVec 32 := 0#32
  let v17 : BitVec 1 := Scalar.cmpi .ne v16 c0_i32_6
  v17

def k0_off10 (i : grid0.Coords) : Fin 2 → Nat :=
  let c0_i32_65_r3 : BitVec 32 := 0#32
  let arg1 : BitVec 32 := BitVec.ofNat 32 (i 1).val
  let c16_i32 : BitVec 32 := 16#32
  let v14 : BitVec 32 := Scalar.muli arg1 c16_i32
  ![0, v14.toNat]
def k0_off11 (i : grid0.Coords) : Fin 2 → Nat :=
  let c256_i32 : BitVec 32 := 256#32
  let arg1 : BitVec 32 := BitVec.ofNat 32 (i 1).val
  let v131 : BitVec 32 := Scalar.addi c256_i32 arg1
  let c0_i32_65_r5 : BitVec 32 := 0#32
  ![v131.toNat, 0]
def k0_off12 (i : grid0.Coords) : Fin 2 → Nat :=
  let arg1 : BitVec 32 := BitVec.ofNat 32 (i 1).val
  let c16_i32 : BitVec 32 := 16#32
  let v14 : BitVec 32 := Scalar.muli arg1 c16_i32
  let c0_i32_65_r6 : BitVec 32 := 0#32
  ![v14.toNat, 0]
def k0_cond4 (i : grid0.Coords) : BitVec 1 :=
  let arg0 : BitVec 32 := BitVec.ofNat 32 (i 0).val
  let c1_i32_7 : BitVec 32 := 1#32
  let v18 : BitVec 1 := Scalar.cmpi .eq arg0 c1_i32_7
  let v19 : BitVec 32 := Scalar.extui v18
  let c0_i32_8 : BitVec 32 := 0#32
  let v20 : BitVec 1 := Scalar.cmpi .ne v19 c0_i32_8
  v20

def k0_off13 (i : grid0.Coords) : Fin 2 → Nat :=
  let c0_i32_29_r7 : BitVec 32 := 0#32
  let arg1 : BitVec 32 := BitVec.ofNat 32 (i 1).val
  let c16_i32 : BitVec 32 := 16#32
  let v14 : BitVec 32 := Scalar.muli arg1 c16_i32
  ![0, v14.toNat]
def k0_off14 (i : grid0.Coords) : Fin 2 → Nat :=
  let c272_i32_28 : BitVec 32 := 272#32
  let arg1 : BitVec 32 := BitVec.ofNat 32 (i 1).val
  let v69 : BitVec 32 := Scalar.addi c272_i32_28 arg1
  let c0_i32_29_r8 : BitVec 32 := 0#32
  ![v69.toNat, 0]
abbrev grid1 : Pipeline.Grid := ⟨1, ![5], ![false]⟩

def k1_cond2 (i : grid1.Coords) : BitVec 1 :=
  let arg0 : BitVec 32 := BitVec.ofNat 32 (i 0).val
  let c4_i32 : BitVec 32 := 4#32
  let v115 : BitVec 1 := Scalar.cmpi .eq arg0 c4_i32
  let v116 : BitVec 32 := Scalar.extui v115
  let c0_i32_48 : BitVec 32 := 0#32
  let v117 : BitVec 1 := Scalar.cmpi .ne v116 c0_i32_48
  v117

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S16x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x4096 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S16x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S20000x4 : Shape := ⟨2, ![20000, 4]⟩
abbrev S20000 : Shape := ⟨1, ![20000]⟩
abbrev S2x40000 : Shape := ⟨2, ![2, 40000]⟩
abbrev S_ : Shape := ⟨0, ![]⟩
abbrev S20000x1 : Shape := ⟨2, ![20000, 1]⟩
abbrev S1x256 : Shape := ⟨2, ![1, 256]⟩
abbrev S20000x256 : Shape := ⟨2, ![20000, 256]⟩
abbrev S256 : Shape := ⟨1, ![256]⟩
abbrev S256x1 : Shape := ⟨2, ![256, 1]⟩
abbrev S256x4 : Shape := ⟨2, ![256, 4]⟩
abbrev S20000x1x4 : Shape := ⟨3, ![20000, 1, 4]⟩
abbrev S1x256x4 : Shape := ⟨3, ![1, 256, 4]⟩
abbrev S20000x256x4 : Shape := ⟨3, ![20000, 256, 4]⟩
abbrev S1x20000x256 : Shape := ⟨3, ![1, 20000, 256]⟩
abbrev S1x1x256 : Shape := ⟨3, ![1, 1, 256]⟩
abbrev S1x20000 : Shape := ⟨2, ![1, 20000]⟩
abbrev S1x40000 : Shape := ⟨2, ![1, 40000]⟩
abbrev S40000 : Shape := ⟨1, ![40000]⟩
abbrev S40000x1 : Shape := ⟨2, ![40000, 1]⟩
abbrev S40000x256 : Shape := ⟨2, ![40000, 256]⟩

abbrev nBuf : Space → Nat
  | .hbm => 132
  | .vmem => 0
  | .smem => 0
  | _ => 0

abbrev hbmTy0_0 (i : Nat) : BufTy := match i % 128 with
  | 0 => ⟨S20000x4, .f32⟩
  | 1 => ⟨S20000, .f32⟩
  | 2 => ⟨S20000, .i32⟩
  | 3 => ⟨S2x40000, .i32⟩
  | 4 => ⟨S_, .i32⟩
  | 5 => ⟨S20000, .i32⟩
  | 6 => ⟨S20000, .i1⟩
  | 7 => ⟨S20000x1, .i1⟩
  | 8 => ⟨S20000x1, .i32⟩
  | 9 => ⟨S1x256, .i32⟩
  | 10 => ⟨S20000x256, .i32⟩
  | 11 => ⟨S20000x256, .i32⟩
  | 12 => ⟨S20000x256, .i1⟩
  | 13 => ⟨S20000x256, .f32⟩
  | 14 => ⟨S_, .f32⟩
  | 15 => ⟨S_, .f32⟩
  | 16 => ⟨S20000x256, .i1⟩
  | 17 => ⟨S20000x256, .f32⟩
  | 18 => ⟨S20000x256, .f32⟩
  | 19 => ⟨S20000, .f32⟩
  | 20 => ⟨S20000, .f32⟩
  | 21 => ⟨S_, .f32⟩
  | 22 => ⟨S20000, .f32⟩
  | 23 => ⟨S20000, .f32⟩
  | 24 => ⟨S20000x1, .f32⟩
  | 25 => ⟨S20000x256, .f32⟩
  | 26 => ⟨S20000x256, .f32⟩
  | 27 => ⟨S_, .f32⟩
  | 28 => ⟨S256, .f32⟩
  | 29 => ⟨S20000x256, .i32⟩
  | 30 => ⟨S_, .f32⟩
  | 31 => ⟨S_, .i32⟩
  | 32 => ⟨S256, .f32⟩
  | 33 => ⟨S256, .i32⟩
  | 34 => ⟨S_, .i32⟩
  | 35 => ⟨S256, .i32⟩
  | 36 => ⟨S256, .i1⟩
  | 37 => ⟨S_, .i32⟩
  | 38 => ⟨S256, .i32⟩
  | 39 => ⟨S256, .i32⟩
  | 40 => ⟨S256, .i32⟩
  | 41 => ⟨S256x1, .i32⟩
  | 42 => ⟨S256x4, .f32⟩
  | 43 => ⟨S20000x1x4, .f32⟩
  | 44 => ⟨S1x256x4, .f32⟩
  | 45 => ⟨S20000x256x4, .f32⟩
  | 46 => ⟨S20000x256x4, .f32⟩
  | 47 => ⟨S20000x256x4, .f32⟩
  | 48 => ⟨S20000x256x4, .f32⟩
  | 49 => ⟨S_, .f32⟩
  | 50 => ⟨S20000x256, .f32⟩
  | 51 => ⟨S_, .f32⟩
  | 52 => ⟨S20000x256, .f32⟩
  | 53 => ⟨S20000x256, .f32⟩
  | 54 => ⟨S_, .f32⟩
  | 55 => ⟨S20000x256, .f32⟩
  | 56 => ⟨S20000x256, .f32⟩
  | 57 => ⟨S1x20000x256, .f32⟩
  | 58 => ⟨S1x1x256, .f32⟩
  | 59 => ⟨S1x20000x256, .f32⟩
  | 60 => ⟨S1x20000x256, .f32⟩
  | 61 => ⟨S1x20000x256, .f32⟩
  | 62 => ⟨S1x1x256, .f32⟩
  | 63 => ⟨S1x20000x256, .f32⟩
  | 64 => ⟨S1x20000x256, .f32⟩
  | 65 => ⟨S1x20000x256, .f32⟩
  | 66 => ⟨S1x20000x256, .f32⟩
  | 67 => ⟨S_, .f32⟩
  | 68 => ⟨S20000x256, .f32⟩
  | 69 => ⟨S20000x256, .f32⟩
  | 70 => ⟨S1x20000x256, .f32⟩
  | 71 => ⟨S1x20000x256, .f32⟩
  | 72 => ⟨S1x20000x256, .f32⟩
  | 73 => ⟨S_, .f32⟩
  | 74 => ⟨S1x20000, .f32⟩
  | 75 => ⟨S1x20000, .f32⟩
  | 76 => ⟨S1x20000, .f32⟩
  | 77 => ⟨S_, .f32⟩
  | 78 => ⟨S_, .f32⟩
  | 79 => ⟨S_, .f32⟩
  | 80 => ⟨S_, .f32⟩
  | 81 => ⟨S1x40000, .i32⟩
  | 82 => ⟨S40000, .i32⟩
  | 83 => ⟨S1x40000, .i32⟩
  | 84 => ⟨S40000, .i32⟩
  | 85 => ⟨S40000x1, .i32⟩
  | 86 => ⟨S256, .i32⟩
  | 87 => ⟨S1x256, .i32⟩
  | 88 => ⟨S40000x256, .i32⟩
  | 89 => ⟨S40000x256, .i32⟩
  | 90 => ⟨S40000x256, .i1⟩
  | 91 => ⟨S_, .i32⟩
  | 92 => ⟨S40000, .i32⟩
  | 93 => ⟨S40000, .i1⟩
  | 94 => ⟨S_, .i32⟩
  | 95 => ⟨S40000, .i32⟩
  | 96 => ⟨S40000, .i32⟩
  | 97 => ⟨S40000, .i32⟩
  | 98 => ⟨S40000x1, .i32⟩
  | 99 => ⟨S40000, .f32⟩
  | 100 => ⟨S40000x1, .f32⟩
  | 101 => ⟨S_, .f32⟩
  | 102 => ⟨S_, .f32⟩
  | 103 => ⟨S40000x256, .f32⟩
  | 104 => ⟨S40000x256, .f32⟩
  | 105 => ⟨S40000x256, .f32⟩
  | 106 => ⟨S_, .f32⟩
  | 107 => ⟨S256, .f32⟩
  | 108 => ⟨S_, .f32⟩
  | 109 => ⟨S256, .f32⟩
  | 110 => ⟨S256, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S20000, .i32⟩
  | 118 => ⟨S_, .i32⟩
  | 119 => ⟨S_, .i32⟩
  | 120 => ⟨S_, .f32⟩
  | 121 => ⟨S_, .f32⟩
  | 122 => ⟨S_, .f32⟩
  | 123 => ⟨S_, .f32⟩
  | 124 => ⟨S_, .f32⟩
  | 125 => ⟨S20000, .f32⟩
  | 126 => ⟨S20000, .f32⟩
  | 127 => ⟨S_, .f32⟩
  | _ => ⟨S20000x4, .f32⟩

abbrev hbmTy0_1 (i : Nat) : BufTy := match i % 128 with
  | 0 => ⟨S_, .f32⟩
  | 1 => ⟨S_, .f32⟩
  | 2 => ⟨S_, .f32⟩
  | 3 => ⟨S_, .f32⟩
  | _ => ⟨S20000x4, .f32⟩

abbrev hbmTy (i : Nat) : BufTy := match i / 128 with
  | 0 => hbmTy0_0 i
  | 1 => hbmTy0_1 i
  | _ => ⟨S20000x4, .f32⟩

abbrev bufTy : (tb : Table) → Fin (tcTables nBuf tb) → BufTy
  | .hbm, ⟨i, _⟩ => hbmTy i
  | _, _ => ⟨S20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v3 : Ref sig .tc := ⟨.hbm, 13, rfl⟩
abbrev main_cst : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_call2_v0 : Ref sig .tc := ⟨.hbm, 29, rfl⟩
abbrev main_call2_cst : Ref sig .tc := ⟨.hbm, 30, rfl⟩
abbrev main_call2_c : Ref sig .tc := ⟨.hbm, 31, rfl⟩
abbrev main_call2_v1_0 : Ref sig .tc := ⟨.hbm, 32, rfl⟩
abbrev main_v13 : Ref sig .tc := ⟨.hbm, 33, rfl⟩
abbrev main_c_2 : Ref sig .tc := ⟨.hbm, 34, rfl⟩
abbrev main_v14 : Ref sig .tc := ⟨.hbm, 35, rfl⟩
abbrev main_v15 : Ref sig .tc := ⟨.hbm, 36, rfl⟩
abbrev main_c_3 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_4 : Ref sig .tc := ⟨.hbm, 49, rfl⟩
abbrev main_v27 : Ref sig .tc := ⟨.hbm, 50, rfl⟩
abbrev main_cst_5 : Ref sig .tc := ⟨.hbm, 51, rfl⟩
abbrev main_v28 : Ref sig .tc := ⟨.hbm, 52, rfl⟩
abbrev main_v29 : Ref sig .tc := ⟨.hbm, 53, rfl⟩
abbrev main_cst_6 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_7 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_8 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_9 : Ref sig .tc := ⟨.hbm, 77, rfl⟩
abbrev main_v50 : Ref sig .tc := ⟨.hbm, 78, rfl⟩
abbrev main_cst_10 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_c_11 : Ref sig .tc := ⟨.hbm, 91, rfl⟩
abbrev main_v62 : Ref sig .tc := ⟨.hbm, 92, rfl⟩
abbrev main_v63 : Ref sig .tc := ⟨.hbm, 93, rfl⟩
abbrev main_c_12 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_13 : Ref sig .tc := ⟨.hbm, 101, rfl⟩
abbrev main_call3_v0 : Ref sig .tc := ⟨.hbm, 102, rfl⟩
abbrev main_call3_v1 : Ref sig .tc := ⟨.hbm, 103, rfl⟩
abbrev main_call3_v2 : Ref sig .tc := ⟨.hbm, 104, rfl⟩
abbrev main_v70 : Ref sig .tc := ⟨.hbm, 105, rfl⟩
abbrev main_cst_14 : Ref sig .tc := ⟨.hbm, 106, rfl⟩
abbrev main_v71 : Ref sig .tc := ⟨.hbm, 107, rfl⟩
abbrev main_cst_15 : Ref sig .tc := ⟨.hbm, 108, rfl⟩
abbrev main_v72 : Ref sig .tc := ⟨.hbm, 109, rfl⟩
abbrev main_v73 : Ref sig .tc := ⟨.hbm, 110, rfl⟩
abbrev main_cst_16 : Ref sig .tc := ⟨.hbm, 111, rfl⟩
abbrev main_v74 : Ref sig .tc := ⟨.hbm, 112, rfl⟩
abbrev main_cst_17 : Ref sig .tc := ⟨.hbm, 113, rfl⟩
abbrev main_v75 : Ref sig .tc := ⟨.hbm, 114, rfl⟩
abbrev main_cst_18 : Ref sig .tc := ⟨.hbm, 115, rfl⟩
abbrev main_v76 : Ref sig .tc := ⟨.hbm, 116, rfl⟩
abbrev main_v77 : Ref sig .tc := ⟨.hbm, 117, rfl⟩
abbrev main_c_19 : Ref sig .tc := ⟨.hbm, 118, rfl⟩
abbrev main_v78 : Ref sig .tc := ⟨.hbm, 119, rfl⟩
abbrev main_v79 : Ref sig .tc := ⟨.hbm, 120, rfl⟩
abbrev main_cst_20 : Ref sig .tc := ⟨.hbm, 121, rfl⟩
abbrev main_v80 : Ref sig .tc := ⟨.hbm, 122, rfl⟩
abbrev main_cst_21 : Ref sig .tc := ⟨.hbm, 123, rfl⟩
abbrev main_call4_v0 : Ref sig .tc := ⟨.hbm, 124, rfl⟩
abbrev main_call4_v1 : Ref sig .tc := ⟨.hbm, 125, rfl⟩
abbrev main_v81 : Ref sig .tc := ⟨.hbm, 126, rfl⟩
abbrev main_cst_22 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩

abbrev nD : Nat := 1
abbrev τ : Topo := Topo.v7x

variable {F : FTy → Type} [FloatOps F]
-- ==== Proof.Sc.Base.lean ====
/-
  The SparseCore call of `KernelIdeal`: the programs, buffers and locations the proofs of its tiles name.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

set_option maxRecDepth 16384

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra: the handshakes of the launch, the barrier cells, the pipelined call, the transfers -/

abbrev UH : Type := URounds (GSem nD τ sig) ℕ
abbrev UB : Type := URounds (GSem nD τ sig) ℕ
abbrev UP : Type := URounds (GSem nD τ sig) Unit
abbrev UU : Type := UH × (UB × (UP × Counters))

/-- The machine's assertions, over float values `F`. -/
abbrev MM (F : FTy → Type) : Type := MT nD τ sig (HIx 1) (Elt F) ℕ UU ℕ

/-! ## The buffers a tile names -/

abbrev fpM : Memref sig .scVector .hbm S20480 .f32 := Memref.whole main_v7_scv
abbrev intM : Memref sig .scVector .hbm S102400 .i32 := Memref.whole main_v19_scv
abbrev xM : Memref sig .scVector .hbm S20480x16 .f32 := Memref.whole main_v4_scv
abbrev outM : Memref sig .scVector .hbm S288x16 .f32 := Memref.whole main_v20_scv
abbrev s0M : Memref sig .scVector .vmem S1280 .f32 := Memref.whole cc0_scratch0
abbrev s1M : Memref sig .scVector .vmem S1280 .i32 := Memref.whole cc0_scratch1
abbrev s2M : Memref sig .scVector .vmem S2560 .i32 := Memref.whole cc0_scratch2
abbrev s3M : Memref sig .scVector .vmem S2560 .i32 := Memref.whole cc0_scratch3
abbrev s4M : Memref sig .scVector .vmem S20480 .f32 := Memref.whole cc0_scratch4
abbrev s5M : Memref sig .scVector .vmem S4352 .f32 := Memref.whole cc0_scratch5
abbrev s6M : Memref sig .scVector .vmem S4352 .i32 := Memref.whole cc0_scratch6
abbrev s7M : Memref sig .scVector .vmem S272 .f32 := Memref.whole cc0_scratch7
abbrev s8M : Memref sig .scVector .vmem S272 .i32 := Memref.whole cc0_scratch8
abbrev s9M : Memref sig .scVector .shared S16x272 .f32 := Memref.whole cc0_scratch9
abbrev s10M : Memref sig .scVector .shared S16x272 .i32 := Memref.whole cc0_scratch10
abbrev s11M : Memref sig .scVector .vmem S16x16 .f32 := Memref.whole cc0_scratch11
abbrev s12M : Memref sig .scVector .vmem S16x16 .i32 := Memref.whole cc0_scratch12
abbrev s13M : Memref sig .scVector .vmem S16 .i32 := Memref.whole cc0_scratch13
abbrev s14M : Memref sig .scVector .vmem S16x16 .f32 := Memref.whole cc0_scratch14
abbrev s15M : Memref sig .scVector .vmem S16 .f32 := Memref.whole cc0_scratch15

/-- The tile at grid point `L`: its SparseCore, its subcore number, its thread on device `d`. -/
abbrev cV (L : grid0.Coords) : Fin τ.nSC := (L 0).castLE hcore0
abbrev jV (L : grid0.Coords) : Fin τ.nSub := (L 1).castLE hsub0
abbrev tV (d : Dev nD) (L : grid0.Coords) : Thread nD τ := V d (cV L) (jV L)

end Cert.Proof.Sc

end
-- ==== Proof.Sc.Spec.lean ====
/-
  What the SparseCore call computes, written down over any float values: each tile's per-lane tables, their merge over
  the lanes, the merge over the tiles, and the rows of the result.
-/
module

public import proofs.«01_k».proof.Proof.Gen.KernelIdeal.Skeleton

@[expose] public section

set_option maxRecDepth 16384

noncomputable section

namespace Cert.Proof.Sc

open Cert.KernelIdeal Cert.KernelIdeal.Gen
open Idealize.ShloMosaic

variable {F : FTy → Type} [FloatOps F]

/-- Index `n` of a vector of `N` elements. -/
abbrev i1 {N : ℕ} (n : ℕ) (h : n < N) : (⟨1, ![N]⟩ : Shape).Idx := fun a => match a with | 0 => ⟨n, h⟩
/-- Index `(a, b)` of a matrix. -/
abbrev i2 {M N : ℕ} (a b : ℕ) (ha : a < M) (hb : b < N) : (⟨2, ![M, N]⟩ : Shape).Idx :=
  fun k => match k with | 0 => ⟨a, ha⟩ | 1 => ⟨b, hb⟩

/-- The value below every value of `f` the tables start from: `0 - 1`, as the kernel computes it. -/
def neg1 : F .f32 := (k0_pay2 (F := F)) (i1 0 (by decide))
/-- The other core's start: `0`. -/
def zero1 : F .f32 := (k0_pay3 (F := F)) (i1 0 (by decide))

/-- The bin of a hit: its class, or `256` for the classes below zero. -/
def binOf (y : BitVec 32) : BitVec 32 := Scalar.select (Scalar.cmpi .sge y 0#32) y 256#32

/-- One lane's update of its entry: the larger value, strictly. -/
def upd (b : Prop) [Decidable b] (f : F .f32) (e : BitVec 32) (T : F .f32 × BitVec 32) : F .f32 × BitVec 32 :=
  if b ∧ FloatOps.cmpf .ogt f T.1 = 1 then (f, e) else T

/-- The hits' tables of tile `w` after `k` chunks of sixteen, over the tile's windows of `f` and `y`: entry
    `272 · lane + bin`. -/
def hitTab (w : ℕ) (fw : Vec F S1280 .f32) (yw : IVec S1280 32) : (k : ℕ) → k ≤ 80 → S4352.Idx → F .f32 × BitVec 32
  | 0, _ => fun _ => (neg1, 0#32)
  | k + 1, hk => fun j =>
    let x := (j 0).val / 272
    have hx : 16 * k + x < 1280 := by
      have hj : (j 0).val < 4352 := (j 0).isLt
      omega
    upd ((binOf (yw (i1 (16 * k + x) hx))).toNat = (j 0).val % 272) (fw (i1 (16 * k + x) hx)) (BitVec.ofNat 32 (1280 * w + (16 * k + x)))
      (hitTab w fw yw k (Nat.le_of_succ_le hk) j)

/-- The edges' table of a tile after `k` chunks, over the tile's windows of the two ends and the whole of `f`. -/
def edgeTab (fa : Vec F S20480 .f32) (iw jw : IVec S2560 32) : (k : ℕ) → k ≤ 160 → S4352.Idx → F .f32
  | 0, _ => fun _ => zero1
  | k + 1, hk => fun j =>
    let x := (j 0).val / 272
    have hx : 16 * k + x < 2560 := by
      have hj : (j 0).val < 4352 := (j 0).isLt
      omega
    let f := fa (i1 ((iw (i1 (16 * k + x) hx)).toNat % 20480) (Nat.mod_lt _ (by decide)))
    let T := edgeTab fa iw jw k (Nat.le_of_succ_le hk) j
    if (jw (i1 (16 * k + x) hx)).toNat = (j 0).val % 272 ∧ FloatOps.cmpf .ogt f T = 1 then f else T

/-! ## The lanes merged -/

theorem blk_inb (l j : ℕ) (hl : l < 16) (hj : j < 17) : ∀ a, (![272 * l + 16 * j] : Fin 1 → ℕ) a + S16.size a ≤ S4352.size a := by
  intro a
  obtain rfl : a = 0 := Subsingleton.elim _ _
  show 272 * l + 16 * j + 16 ≤ 4352
  omega

/-- The sixteen entries of lane `l` at bins `16 j …`. -/
abbrev blk {α : Type} (T : S4352.Idx → α) (l j : ℕ) (hl : l < 16) (hj : j < 17) : S16.Idx → α :=
  fun x => T ((Rect.unit (s := S4352) ![272 * l + 16 * j] S16.size (blk_inb l j hl hj)).toLoadRect.idx x)

/-- One step of the merge of pairs: the larger value, of equal ones the smaller index. -/
abbrev mstep (r t : Vec F S16 .f32 × IVec S16 32) : Vec F S16 .f32 × IVec S16 32 :=
  let u := ori (cmpf .ogt t.1 r.1) (andi (cmpf .oeq t.1 r.1) (cmpi .slt t.2 r.2))
  (select u t.1 r.1, select u t.2 r.2)

/-- Lanes `0 … n` merged, at bins `16 j …`. -/
def mergeH (T : S4352.Idx → F .f32) (G : S4352.Idx → BitVec 32) (j : ℕ) (hj : j < 17) : (n : ℕ) → n < 16 → Vec F S16 .f32 × IVec S16 32
  | 0, h => (blk T 0 j h hj, blk G 0 j h hj)
  | n + 1, h => mstep (mergeH T G j hj n (Nat.lt_of_succ_lt h)) (blk T (n + 1) j h hj, blk G (n + 1) j h hj)

def mergeE (T : S4352.Idx → F .f32) (j : ℕ) (hj : j < 17) : (n : ℕ) → n < 16 → Vec F S16 .f32
  | 0, h => blk T 0 j h hj
  | n + 1, h => maximumf (mergeE T j hj n (Nat.lt_of_succ_lt h)) (blk T (n + 1) j h hj)

end Cert.Proof.Sc

end
-- ==== Proof.Sc.Lanes.lean ====
/-
  The indexed store of sixteen lanes whose entries lie in rows of their own, and the tables' one step by it.
-/
module

public import proofs.«01_k».proof.Proof.Sc.Base
public import proofs.«01_k».proof.Proof.Sc.Spec

@[expose] public section

set_option maxRecDepth 16384

noncomputable section

namespace Cert.Proof.Sc

open Cert.KernelIdeal Cert.KernelIdeal.Gen
open Idealize.ShloMosaic

variable {F : FTy → Type} [FloatOps F]

omit [FloatOps F] in
/-- A fold of conditional overwrites read at a place that at most one member of the list can hit. -/
theorem foldl_hit {A I B : Type} [DecidableEq I] (hit : I → A → Prop) [∀ i a, Decidable (hit i a)] (c : I → Prop) [DecidablePred c]
    (v : I → B) (x : I) (j : A) (l : List I) (g : A → B) (hl : ∀ k ∈ l, hit k j → k = x) :
    l.foldl (fun g k => if c k then (fun a => if hit k a then v k else g a) else g) g j
      = if x ∈ l ∧ c x ∧ hit x j then v x else g j := by
  induction l generalizing g with
  | nil => simp
  | cons k l ih =>
    rw [List.foldl_cons, ih _ fun k hk => hl k (List.mem_cons_of_mem _ hk)]
    have hk := hl k List.mem_cons_self
    by_cases hc : c k
    · by_cases hh : hit k j
      · obtain rfl := hk hh
        simp [hc, hh]
      · have : k ≠ x ∨ ¬ hit x j := by
          by_cases e : k = x
          · right; rwa [← e]
          · exact .inl e
        rcases this with h | h
        · simp [hc, hh, Ne.symm h]
        · simp [hc, hh, h]
    · by_cases e : x = k
      · subst e; simp [hc]
      · simp [hc, e]

/-- Lane `x` of sixteen. -/
abbrev lane (j : S4352.Idx) : S16.Idx := i1 ((j 0).val / 272) (by
  have hj : (j 0).val < 4352 := (j 0).isLt
  omega)

/-- The indexed store at entries `272 · lane + bin`, read at one entry. -/
theorem storeIdx_lane {e : EltTy} (f : Vec F S4352 e) (ix : IVec S16 32) (b : S16.Idx → ℕ) (hb : ∀ x, b x < 272)
    (hix : ∀ x, (ix x).toNat = 272 * (x 0).val + b x) (v : Vec F S16 e) (mask : IVec S16 1)
    (h : ∀ a x, ((![ix] : Fin 1 → IVec S16 32) a x).toNat < S4352.size a) (j : S4352.Idx) :
    storeIdx (F := F) f ![ix] v mask false h j
      = if mask (lane j) = 1 ∧ b (lane j) = (j 0).val % 272 then v (lane j) else f j := by
  have hj : (j 0).val < 4352 := (j 0).isLt
  have hx0 : ∀ k : Fin 16, (Shape.ofLane (d := ![16]) k) = (i1 k.val k.isLt : S16.Idx) := fun k => by
    funext a; obtain rfl : a = 0 := Subsingleton.elim _ _; rfl
  let hit : Fin 16 → S4352.Idx → Prop := fun k a => ∀ q, (a q).val = (idxAt (s := S4352) ![ix] h (Shape.ofLane (d := ![16]) k) q).val
  have hhit : ∀ k a, hit k a ↔ (a 0).val = 272 * k.val + b (i1 k.val k.isLt) := fun k a => by
    have e0 : (idxAt (s := S4352) ![ix] h (Shape.ofLane (d := ![16]) k) 0).val = 272 * k.val + b (i1 k.val k.isLt) := by
      rw [hx0]; exact hix (i1 k.val k.isLt)
    constructor
    · intro H; rw [← e0]; exact H 0
    · intro H q; obtain rfl : q = 0 := Subsingleton.elim _ _
      rw [e0]; exact H
  have key := foldl_hit (A := S4352.Idx) (I := Fin 16) (B := Elt F e) hit (fun k => mask (Shape.ofLane (d := ![16]) k) = 1)
    (fun k => v (Shape.ofLane (d := ![16]) k)) ⟨(j 0).val / 272, by omega⟩ j (List.finRange 16) f
    (fun k _ hk => by
      rw [hhit] at hk
      have := hb (i1 k.val k.isLt)
      apply Fin.ext; show k.val = (j 0).val / 272
      omega)
  refine Eq.trans ?_ (key.trans ?_)
  · unfold storeIdx; dsimp only; simp only [Bool.false_eq_true, ↓reduceIte]; rfl
  · simp only [hhit, hx0]
    have hb' := hb (lane j)
    refine if_congr ?_ rfl rfl
    constructor
    · rintro ⟨-, h1, h2⟩
      refine ⟨h1, ?_⟩
      have : (j 0).val = 272 * ((j 0).val / 272) + b (lane j) := h2
      omega
    · rintro ⟨h1, h2⟩
      refine ⟨List.mem_finRange _, h1, ?_⟩
      show (j 0).val = 272 * ((j 0).val / 272) + b (lane j)
      omega

/-- The lanes' numbers. -/
theorem iota16 (x : S16.Idx) : (iota .scVector S16 32 [0] iota_S16_d0_w32_scVector : IVec S16 32) x = BitVec.ofNat 32 (x 0).val := by
  simp [iota]

/-- The lanes' rows. -/
theorem pay1_toNat (x : S16.Idx) : ((k0_pay1 : IVec S16 32) x).toNat = 272 * (x 0).val := by
  have hx : (x 0).val < 16 := (x 0).isLt
  show ((iota .scVector S16 32 [0] iota_S16_d0_w32_scVector : IVec S16 32) x * 272#32).toNat = _
  rw [iota16]
  simp only [BitVec.toNat_mul, BitVec.toNat_ofNat]
  omega

theorem pay5_toNat (y : IVec S16 32) (x : S16.Idx) (hy : (binOf (y x)).toNat < 272) :
    ((k0_pay5 (F := F) k0_pay1 y) x).toNat = 272 * (x 0).val + (binOf (y x)).toNat := by
  have hx : (x 0).val < 16 := (x 0).isLt
  show ((k0_pay1 : IVec S16 32) x + binOf (y x)).toNat = _
  rw [BitVec.toNat_add, pay1_toNat]
  omega

/-! ## The offsets -/

omit [FloatOps F] in
theorem iv16 (n : ℕ) (hn : n < 4096) : (Scalar.muli (Scf.iv 0#32 1#32 n) 16#32).toNat = 16 * n := by
  show (((0#32) + BitVec.ofNat 32 n * 1#32) * 16#32).toNat = _
  simp only [BitVec.toNat_mul, BitVec.toNat_add, BitVec.toNat_ofNat]
  omega

theorem off3_eq (k : Fin k0_t1_loop.trips) : k0_off3 k 0 = 16 * k.val := by
  have hk : k.val < 272 := lt_of_lt_of_eq k.isLt (by decide)
  exact iv16 k.val (by omega)

theorem off4_eq (k : Fin k0_t2_loop.trips) : k0_off4 k 0 = 16 * k.val := by
  have hk : k.val < 80 := lt_of_lt_of_eq k.isLt (by decide)
  exact iv16 k.val (by omega)

theorem off7_eq (k : Fin k0_t3_loop.trips) : k0_off7 k 0 = 16 * k.val := by
  have hk : k.val < 272 := lt_of_lt_of_eq k.isLt (by decide)
  exact iv16 k.val (by omega)

theorem off8_eq (k : Fin k0_t4_loop.trips) : k0_off8 k 0 = 16 * k.val := by
  have hk : k.val < 160 := lt_of_lt_of_eq k.isLt (by decide)
  exact iv16 k.val (by omega)

/-- The hits' chunk at trip `k` of a tile's window. -/
abbrev chunk {α : Type} {n : ℕ} (w : (⟨1, ![n]⟩ : Shape).Idx → α) (k : ℕ) (hk : 16 * k + 16 ≤ n) : S16.Idx → α :=
  fun x => w (i1 (16 * k + (x 0).val) (by have hx : (x 0).val < 16 := (x 0).isLt; omega))

theorem pay6_eq (w : Fin 16) (k : Fin k0_t2_loop.trips) (x : S16.Idx) :
    k0_pay6 (BitVec.ofNat 32 w.val) (iota .scVector S16 32 [0] iota_S16_d0_w32_scVector) k x
      = BitVec.ofNat 32 (1280 * w.val + (16 * k.val + (x 0).val)) := by
  show (BitVec.ofNat 32 w.val * 1280#32 + Scalar.muli (Scf.iv 0#32 1#32 k.val) 16#32)
    + (iota .scVector S16 32 [0] iota_S16_d0_w32_scVector : IVec S16 32) x = _
  have hk : k.val < 80 := lt_of_lt_of_eq k.isLt (by decide)
  have hw := w.isLt
  have hx : (x 0).val < 16 := (x 0).isLt
  rw [iota16]
  apply BitVec.eq_of_toNat_eq
  rw [BitVec.toNat_add, BitVec.toNat_add, iv16 _ (by omega)]
  simp only [BitVec.toNat_mul, BitVec.toNat_ofNat]
  omega

/-! ## One trip of the hits' loop -/

section Step
variable (w : Fin 16) (fw : Vec F S1280 .f32) (yw : IVec S1280 32) (hy : ∀ x, (binOf (yw x)).toNat < 272)
include hy

theorem hit_chk (k : ℕ) (hk : 16 * k + 16 ≤ 1280) :
    ∀ a x, ((![k0_pay5 (F := F) k0_pay1 (chunk yw k hk)] : Fin 1 → IVec S16 32) a x).toNat < S4352.size a := by
  intro a x
  obtain rfl : a = 0 := Subsingleton.elim _ _
  have hx : (x 0).val < 16 := (x 0).isLt
  have h1 : (binOf (chunk yw k hk x)).toNat < 272 := hy _
  have h2 := pay5_toNat (F := F) (chunk yw k hk) x h1
  exact lt_of_eq_of_lt h2 (show 272 * (x 0).val + (binOf (chunk yw k hk x)).toNat < 4352 by omega)

theorem hit_mask (k : ℕ) (hk : 16 * k + 16 ≤ 1280) (T : S4352.Idx → F .f32) (h) (j : S4352.Idx)
    (hb : (binOf (chunk yw k hk (lane j))).toNat = (j 0).val % 272) :
    loadIdx (F := F) (e := .f32) (s := S4352) T ![k0_pay5 (F := F) k0_pay1 (chunk yw k hk)] h (lane j) = T j := by
  unfold loadIdx
  congr 1
  funext a
  obtain rfl : a = 0 := Subsingleton.elim _ _
  apply Fin.ext
  show ((k0_pay5 (F := F) k0_pay1 (chunk yw k hk)) (lane j)).toNat = (j 0).val
  have h1 : (binOf (chunk yw k hk (lane j))).toNat < 272 := hy _
  refine (pay5_toNat (F := F) (chunk yw k hk) (lane j) h1).trans ?_
  rw [hb]
  exact Nat.div_add_mod _ _

theorem hit_step (k : Fin k0_t2_loop.trips) (hk : 16 * k.val + 16 ≤ 1280) (hk' : k.val + 1 ≤ 80) (h h' h'') :
    (storeIdx (F := F) (e := .f32) (s := S4352) (fun j => (hitTab w fw yw k.val (Nat.le_of_succ_le hk') j).1)
        ![k0_pay5 (F := F) k0_pay1 (chunk yw k hk)] (chunk fw k hk)
        (k0_pay7 (chunk fw k hk) (loadIdx (F := F) (e := .f32) (s := S4352) (fun j => (hitTab w fw yw k.val (Nat.le_of_succ_le hk') j).1)
          ![k0_pay5 (F := F) k0_pay1 (chunk yw k hk)] h'')) false h
      = fun j => (hitTab w fw yw (k.val + 1) hk' j).1)
    ∧ (storeIdx (F := F) (e := .i32) (s := S4352) (fun j => (hitTab w fw yw k.val (Nat.le_of_succ_le hk') j).2)
        ![k0_pay5 (F := F) k0_pay1 (chunk yw k hk)] (k0_pay6 (BitVec.ofNat 32 w.val) (iota .scVector S16 32 [0] iota_S16_d0_w32_scVector) k)
        (k0_pay7 (chunk fw k hk) (loadIdx (F := F) (e := .f32) (s := S4352) (fun j => (hitTab w fw yw k.val (Nat.le_of_succ_le hk') j).1)
          ![k0_pay5 (F := F) k0_pay1 (chunk yw k hk)] h'')) false h'
      = fun j => (hitTab w fw yw (k.val + 1) hk' j).2) := by
  have hmask : ∀ j, (binOf (chunk yw k hk (lane j))).toNat = (j 0).val % 272 →
      k0_pay7 (chunk fw k hk) (loadIdx (F := F) (e := .f32) (s := S4352) (fun j => (hitTab w fw yw k.val (Nat.le_of_succ_le hk') j).1)
          ![k0_pay5 (F := F) k0_pay1 (chunk yw k hk)] h'') (lane j)
        = FloatOps.cmpf .ogt (chunk fw k hk (lane j)) (hitTab w fw yw k.val (Nat.le_of_succ_le hk') j).1 := fun j hb =>
    congrArg (FloatOps.cmpf .ogt (chunk fw k hk (lane j))) (hit_mask yw hy k hk _ h'' j hb)
  constructor <;> funext j
  · rw [storeIdx_lane _ _ (fun x => (binOf (chunk yw k hk x)).toNat) (fun x => hy _) (fun x => pay5_toNat _ _ (hy _))]
    show _ = (upd _ _ _ _).1
    unfold upd
    by_cases hb : (binOf (chunk yw k hk (lane j))).toNat = (j 0).val % 272
    · rw [hmask j hb]
      by_cases hc : FloatOps.cmpf .ogt (chunk fw k hk (lane j)) (hitTab w fw yw k.val (Nat.le_of_succ_le hk') j).1 = 1
      · rw [if_pos ⟨hc, hb⟩, if_pos ⟨hb, hc⟩]
      · rw [if_neg fun h => hc h.1, if_neg fun h => hc h.2]
    · rw [if_neg fun h => hb h.2, if_neg fun h => hb h.1]
  · rw [storeIdx_lane _ _ (fun x => (binOf (chunk yw k hk x)).toNat) (fun x => hy _) (fun x => pay5_toNat _ _ (hy _))]
    show _ = (upd _ _ _ _).2
    unfold upd
    by_cases hb : (binOf (chunk yw k hk (lane j))).toNat = (j 0).val % 272
    · rw [hmask j hb]
      by_cases hc : FloatOps.cmpf .ogt (chunk fw k hk (lane j)) (hitTab w fw yw k.val (Nat.le_of_succ_le hk') j).1 = 1
      · rw [if_pos ⟨hc, hb⟩, if_pos ⟨hb, hc⟩, pay6_eq]
      · rw [if_neg fun h => hc h.1, if_neg fun h => hc h.2]
    · rw [if_neg fun h => hb h.2, if_neg fun h => hb h.1]

end Step

/-! ## Sixteen entries written at a time -/

omit [FloatOps F] in
/-- A buffer after one store of sixteen entries at `o`. -/
theorem read_writes16 {sp : Space} {n : ℕ} {e : EltTy} (v : View sig .scVector sp ⟨1, ![n]⟩ e) (f : v.ty.Contents (Elt F))
    (off : Fin 1 → ℕ) (inb) (p : Vec F S16 e) (o : ℕ) (ho : off 0 = o) (y : (⟨1, ![n]⟩ : Shape).Idx) :
    v.read (Elt F) (v.writes (Elt F) f [⟨Rect.unit off S16.size inb, p⟩]) y
      = if h : o ≤ (y 0).val ∧ (y 0).val < o + 16 then p (i1 ((y 0).val - o) (by omega)) else v.read (Elt F) f y := by
  split
  · rename_i h
    refine View.read_writes_cons_hit_of_coords v f (Rect.unit off S16.size inb) p [] (i1 (N := 16) ((y 0).val - o) (by omega)) y fun a => ?_
    obtain rfl : a = 0 := Subsingleton.elim _ _
    show (y 0).val = off 0 + 1 * ((y 0).val - o)
    omega
  · rename_i h
    refine View.read_writes_cons_miss_of_axis v f _ [] y 0 o 16 ho rfl rfl ?_
    omega

/-- Block `j` of sixteen of a vector of 272. -/
theorem blk16_inb (j : ℕ) (hj : j < 17) : ∀ a, (![16 * j] : Fin 1 → ℕ) a + S16.size a ≤ S272.size a := by
  intro a
  obtain rfl : a = 0 := Subsingleton.elim _ _
  show 16 * j + 16 ≤ 272
  omega

/-- The stores of blocks `0 … n - 1`, the last first. -/
def pieces {e : EltTy} (M : (j : ℕ) → j < 17 → Vec F S16 e) : (n : ℕ) → n ≤ 17 → List (View.Piece (Elt F) S272 e)
  | 0, _ => []
  | n + 1, h => ⟨Rect.unit ![16 * n] S16.size (blk16_inb n h), M n h⟩ :: pieces M n (Nat.le_of_succ_le h)

omit [FloatOps F] in
theorem at_congr {α : Type} (M : (j : ℕ) → j < 17 → S16.Idx → α) {a a' b b' : ℕ} (h : a = a') (h' : b = b') {ha ha' hb hb'} :
    M a ha (i1 b hb) = M a' ha' (i1 b' hb') := by
  subst h; subst h'; rfl

omit [FloatOps F] in
/-- The buffer after them, at an entry of one of the blocks. -/
theorem read_pieces {sp : Space} {e : EltTy} (v : View sig .scVector sp S272 e) (f : v.ty.Contents (Elt F))
    (M : (j : ℕ) → j < 17 → Vec F S16 e) : ∀ (n : ℕ) (hn : n ≤ 17) (y : S272.Idx) (hy : (y 0).val < 16 * n),
    v.read (Elt F) (v.writes (Elt F) f (pieces M n hn)) y
      = M ((y 0).val / 16) (by omega) (i1 ((y 0).val % 16) (Nat.mod_lt _ (by decide)))
  | 0, _, y, hy => absurd hy (by omega)
  | n + 1, hn, y, hy => by
    by_cases h : 16 * n ≤ (y 0).val
    · have e1 : (y 0).val / 16 = n := by omega
      have e2 : (y 0).val % 16 = (y 0).val - 16 * n := by omega
      have := View.read_writes_cons_hit_of_coords v f (Rect.unit ![16 * n] S16.size (blk16_inb n hn)) (M n hn)
        (pieces M n (Nat.le_of_succ_le hn)) (i1 (N := 16) ((y 0).val - 16 * n) (by omega)) y (fun a => by
          obtain rfl : a = 0 := Subsingleton.elim _ _
          show (y 0).val = 16 * n + 1 * ((y 0).val - 16 * n)
          omega)
      exact Eq.trans this (at_congr M e1.symm e2.symm)
    · refine Eq.trans (View.read_writes_cons_miss_of_axis v f _ _ y 0 (16 * n) 16 rfl rfl rfl (by omega)) ?_
      exact read_pieces v f M n _ y (by omega)

/-- A vector of 272 from its blocks. -/
def ofBlocks {α : Type} (M : (j : ℕ) → j < 17 → S16.Idx → α) : S272.Idx → α := fun y =>
  M ((y 0).val / 16) (by have hy : (y 0).val < 272 := (y 0).isLt; omega) (i1 ((y 0).val % 16) (Nat.mod_lt _ (by decide)))

omit [FloatOps F] in
theorem writes_pieces7 (f : s7M.view.ty.Contents (Elt F)) (M : (j : ℕ) → j < 17 → Vec F S16 .f32) :
    s7M.view.writes (Elt F) f (pieces M 17 le_rfl) = ofBlocks M :=
  funext fun y => read_pieces s7M.view f M 17 le_rfl y (y 0).isLt
omit [FloatOps F] in
theorem writes_pieces8 (f : s8M.view.ty.Contents (Elt F)) (M : (j : ℕ) → j < 17 → Vec F S16 .i32) :
    s8M.view.writes (Elt F) f (pieces M 17 le_rfl) = ofBlocks M :=
  funext fun y => read_pieces s8M.view f M 17 le_rfl y (y 0).isLt

end Cert.Proof.Sc

end
-- ==== Proof.Sc.Indexed.lean ====
/-
  The indexed load and store on a tile's own tables, which it holds whole.
-/
module

public import proofs.«01_k».proof.Proof.Sc.Lanes

@[expose] public section

set_option maxRecDepth 16384

noncomputable section

namespace Cert.Proof.Sc

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable (d : Dev nD) (L : grid0.Coords)

/-- A buffer's contents named otherwise. -/
theorem pin {ℓ : Loc nD τ sig} {S : Finset (Idx ℓ)} {q : PosShare TreeShare} {g : Buf (Elt F) ℓ} :
    iprop(∃ b, ⌜b = g⌝ ∗ ℓ ↦[S]{q} b) ⊢ (ℓ ↦[S]{q} g : sProp (MM F)) := by
  iintro ⟨%b, %h, H⟩; subst h; iexact H

section
variable {ix : IVec S16 32} {α : Type} {Q : α → sProp (MM F)}

theorem gather5 {h : ∀ a x, ((![ix] : Fin 1 → IVec S16 32) a x).toNat < S4352.size a} {hl}
    {k : Vec F S16 .f32 → Prog (TpuEff nD τ sig (Elt F) Λ₀ (.scVector (cV L) (jV L))) α} (f : S4352.Idx → F .f32) :
    (s5M.view.loc (tV d L) ↦{fullShare} f : sProp (MM F))
      ⊢ iprop(((s5M.view.loc (tV d L) ↦{fullShare} f)
          -∗ wp frame (wpE (defs₀ (F := F)) 𝒱₀ (tV d L) none) Set.univ (k (loadIdx (F := F) (e := .f32) (s := S4352) f ![ix] h)) Q)
        -∗ wp frame (wpE (defs₀ (F := F)) 𝒱₀ (tV d L) none) Set.univ (SparseCore.vectorLoadIdx s5M ![ix] h hl >>= k) Q) := by
  have h5 : (s5M.access (.whole S4352)).read (Elt F) f = f := Memref.read_access_whole (Elt F) cc0_scratch5 f
  have := SparseCore.wp_vectorLoadIdx (defs := defs₀ (F := F)) (U := UU) (Name := ℕ) (Lvl := ℕ) (Ix := HIx 1) 𝒱₀ (tV d L) none Set.univ (base := s5M) (idxs := ![ix]) (h := h) (hl := hl) (k := k) (Q := Q)
    (S := Finset.univ) (q := fullShare) (f := f) (Finset.subset_univ _)
  rw [h5] at this
  exact this

theorem gather4 {h : ∀ a x, ((![ix] : Fin 1 → IVec S16 32) a x).toNat < S20480.size a} {hl}
    {k : Vec F S16 .f32 → Prog (TpuEff nD τ sig (Elt F) Λ₀ (.scVector (cV L) (jV L))) α} (f : S20480.Idx → F .f32) :
    (s4M.view.loc (tV d L) ↦{fullShare} f : sProp (MM F))
      ⊢ iprop(((s4M.view.loc (tV d L) ↦{fullShare} f)
          -∗ wp frame (wpE (defs₀ (F := F)) 𝒱₀ (tV d L) none) Set.univ (k (loadIdx (F := F) (e := .f32) (s := S20480) f ![ix] h)) Q)
        -∗ wp frame (wpE (defs₀ (F := F)) 𝒱₀ (tV d L) none) Set.univ (SparseCore.vectorLoadIdx s4M ![ix] h hl >>= k) Q) := by
  have h5 : (s4M.access (.whole S20480)).read (Elt F) f = f := Memref.read_access_whole (Elt F) cc0_scratch4 f
  have := SparseCore.wp_vectorLoadIdx (defs := defs₀ (F := F)) (U := UU) (Name := ℕ) (Lvl := ℕ) (Ix := HIx 1) 𝒱₀ (tV d L) none Set.univ (base := s4M) (idxs := ![ix]) (h := h) (hl := hl) (k := k) (Q := Q)
    (S := Finset.univ) (q := fullShare) (f := f) (Finset.subset_univ _)
  rw [h5] at this
  exact this

theorem scatter5 {h : ∀ a x, ((![ix] : Fin 1 → IVec S16 32) a x).toNat < S4352.size a} {hs} {v : Vec F S16 .f32} {mask : IVec S16 1}
    {k : PUnit → Prog (TpuEff nD τ sig (Elt F) Λ₀ (.scVector (cV L) (jV L))) α} (f : S4352.Idx → F .f32) :
    (s5M.view.loc (tV d L) ↦{fullShare} f : sProp (MM F))
      ⊢ iprop(((s5M.view.loc (tV d L) ↦{fullShare} storeIdx (F := F) (e := .f32) (s := S4352) f ![ix] v mask false h)
          -∗ wp frame (wpE (defs₀ (F := F)) 𝒱₀ (tV d L) none) Set.univ (k ⟨⟩) Q)
        -∗ wp frame (wpE (defs₀ (F := F)) 𝒱₀ (tV d L) none) Set.univ (SparseCore.vectorStoreIdx s5M ![ix] v mask false h hs >>= k) Q) := by
  have h5 : (s5M.access (.whole S4352)).read (Elt F) f = f := Memref.read_access_whole (Elt F) cc0_scratch5 f
  have hS : (s5M.access (.whole S4352)).set = Finset.univ := Memref.set_access_whole (cc0_scratch5 : Ref sig .scVector)
  have := SparseCore.wp_vectorStoreIdx (defs := defs₀ (F := F)) (U := UU) (Name := ℕ) (Lvl := ℕ) (Ix := HIx 1) 𝒱₀ (tV d L) none Set.univ (base := s5M) (idxs := ![ix]) (v := v) (mask := mask) (add := false) (h := h) (hs := hs) (k := k) (Q := Q)
    (f := f)
  rw [h5, hS] at this
  have hw : ∀ g : S4352.Idx → F .f32, (s5M.access (.whole S4352)).write (Elt F) f g Finset.univ = g := fun g => Memref.write_access_whole_univ (Elt F) cc0_scratch5 f g
  rw [hw] at this
  exact this

theorem scatter6 {h : ∀ a x, ((![ix] : Fin 1 → IVec S16 32) a x).toNat < S4352.size a} {hs} {v : Vec F S16 .i32} {mask : IVec S16 1}
    {k : PUnit → Prog (TpuEff nD τ sig (Elt F) Λ₀ (.scVector (cV L) (jV L))) α} (f : S4352.Idx → BitVec 32) :
    (s6M.view.loc (tV d L) ↦{fullShare} f : sProp (MM F))
      ⊢ iprop(((s6M.view.loc (tV d L) ↦{fullShare} storeIdx (F := F) (e := .i32) (s := S4352) f ![ix] v mask false h)
          -∗ wp frame (wpE (defs₀ (F := F)) 𝒱₀ (tV d L) none) Set.univ (k ⟨⟩) Q)
        -∗ wp frame (wpE (defs₀ (F := F)) 𝒱₀ (tV d L) none) Set.univ (SparseCore.vectorStoreIdx s6M ![ix] v mask false h hs >>= k) Q) := by
  have h5 : (s6M.access (.whole S4352)).read (Elt F) f = f := Memref.read_access_whole (Elt F) cc0_scratch6 f
  have hS : (s6M.access (.whole S4352)).set = Finset.univ := Memref.set_access_whole (cc0_scratch6 : Ref sig .scVector)
  have := SparseCore.wp_vectorStoreIdx (defs := defs₀ (F := F)) (U := UU) (Name := ℕ) (Lvl := ℕ) (Ix := HIx 1) 𝒱₀ (tV d L) none Set.univ (base := s6M) (idxs := ![ix]) (v := v) (mask := mask) (add := false) (h := h) (hs := hs) (k := k) (Q := Q)
    (f := f)
  rw [h5, hS] at this
  have hw : ∀ g : S4352.Idx → BitVec 32, (s6M.access (.whole S4352)).write (Elt F) f g Finset.univ = g := fun g => Memref.write_access_whole_univ (Elt F) cc0_scratch6 f g
  rw [hw] at this
  exact this

end

end Cert.Proof.Sc

end
-- ==== Proof.Sc.Hits.lean ====
module
public import proofs.«01_k».proof.Proof.Sc.Base
public import proofs.«01_k».proof.Proof.Sc.Indexed

@[expose] public section
set_option maxRecDepth 16384
noncomputable section
namespace Cert.Proof.Sc
open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable (d : Dev nD) (L : grid0.Coords)

/-- Tile `w`'s window of the padded values. -/
def fwin (fp : S20480.Idx → F .f32) (w : Fin 16) : Vec F S1280 .f32 := fun x =>
  fp (i1 (1280 * w.val + (x 0).val) (by have hx : (x 0).val < 1280 := (x 0).isLt; omega))
/-- Tile `w`'s window of the padded classes. -/
def ywin (ints : S102400.Idx → BitVec 32) (w : Fin 16) : IVec S1280 32 := fun x =>
  ints (i1 (1280 * w.val + (x 0).val) (by have hx : (x 0).val < 1280 := (x 0).isLt; omega))

/-- The tile's number. -/
abbrev sidV : Fin 16 := (L 1).cast (by decide)

omit [FloatOps F] in
theorem off1_eq : k0_off1 L 0 = 1280 * (sidV L).val := by
  have h : (L 1).val < 16 := (L 1).isLt
  show (BitVec.ofNat 32 (L 1).val * 1280#32).toNat = 1280 * (L 1).val
  simp only [BitVec.toNat_mul, BitVec.toNat_ofNat]
  omega

omit [FloatOps F] in
theorem off2_eq : k0_off2 L 0 = 1280 * (sidV L).val := off1_eq L

theorem fpWin_eq (h1 : k0_cond1 L = 1#1) (fp : Buf (Elt F) (fpM.view.loc (tV d L))) :
    View.read (Elt F) (fpM.slice (Rect.unit (k0_off1 L) S1280.size (k0_off1_inb L h1)) (fun _ => rfl)).view fp = fwin fp (sidV L) := by
  funext x
  refine congrArg fp (funext (β := fun _ : Fin 1 => _) fun a => ?_)
  obtain rfl : a = 0 := Subsingleton.elim _ _
  apply Fin.ext
  show k0_off1 L 0 + 1 * (x 0).val = 1280 * (sidV L).val + (x 0).val
  rw [off1_eq, Nat.one_mul]

theorem yWin_eq (h1 : k0_cond1 L = 1#1) (ints : Buf (Elt F) (intM.view.loc (tV d L))) :
    View.read (Elt F) (intM.slice (Rect.unit (k0_off2 L) S1280.size (k0_off2_inb L h1)) (fun _ => rfl)).view ints = ywin ints (sidV L) := by
  funext x
  refine congrArg ints (funext (β := fun _ : Fin 1 => _) fun a => ?_)
  obtain rfl : a = 0 := Subsingleton.elim _ _
  apply Fin.ext
  show k0_off2 L 0 + 1 * (x 0).val = 1280 * (sidV L).val + (x 0).val
  rw [off2_eq, Nat.one_mul]

/-- The chunk a trip loads of the tile's values. -/
theorem chunk4_f (k : Fin k0_t2_loop.trips) (hk : 16 * k.val + 16 ≤ 1280) (inb) (fw : Vec F S1280 .f32) :
    View.readAt (Elt F) s0M.view (Rect.unit (s := S1280) (k0_off4 k) S16.size inb).toLoadRect fw = chunk fw k hk := by
  funext x
  refine congrArg fw (funext (β := fun _ : Fin 1 => _) fun a => ?_)
  obtain rfl : a = 0 := Subsingleton.elim _ _
  apply Fin.ext
  show k0_off4 k 0 + 1 * (x 0).val = 16 * k.val + (x 0).val
  rw [off4_eq, Nat.one_mul]
theorem chunk4_y (k : Fin k0_t2_loop.trips) (hk : 16 * k.val + 16 ≤ 1280) (inb) (yw : IVec S1280 32) :
    View.readAt (Elt F) s1M.view (Rect.unit (s := S1280) (k0_off4 k) S16.size inb).toLoadRect yw = chunk yw k hk := by
  funext x
  refine congrArg yw (funext (β := fun _ : Fin 1 => _) fun a => ?_)
  obtain rfl : a = 0 := Subsingleton.elim _ _
  apply Fin.ext
  show k0_off4 k 0 + 1 * (x 0).val = 16 * k.val + (x 0).val
  rw [off4_eq, Nat.one_mul]

/-- The tables after the whole window. -/
def hitT (fp : S20480.Idx → F .f32) (ints : S102400.Idx → BitVec 32) (w : Fin 16) : S4352.Idx → F .f32 :=
  fun j => (hitTab w (fwin fp w) (ywin ints w) 80 le_rfl j).1
def hitG (fp : S20480.Idx → F .f32) (ints : S102400.Idx → BitVec 32) (w : Fin 16) : S4352.Idx → BitVec 32 :=
  fun j => (hitTab w (fwin fp w) (ywin ints w) 80 le_rfl j).2

theorem hitTab_end (w : Fin 16) (fw : Vec F S1280 .f32) (yw : IVec S1280 32) (n : ℕ) (hn : n ≤ 80) (e : n = 80) :
    hitTab w fw yw n hn = hitTab w fw yw 80 le_rfl := by
  subst e; rfl

set_option maxHeartbeats 4000000 in
theorem part1_wp (q : PosShare TreeShare) (fp : Buf (Elt F) (fpM.view.loc (tV d L))) (ints : Buf (Elt F) (intM.view.loc (tV d L)))
    (f0 : Buf (Elt F) (s0M.view.loc (tV d L))) (f1 : Buf (Elt F) (s1M.view.loc (tV d L)))
    (f5 : Buf (Elt F) (s5M.view.loc (tV d L))) (f6 : Buf (Elt F) (s6M.view.loc (tV d L)))
    (O : CellTallies nD τ sig (HIx 1)) (W : Waits sig (HIx 1))
    (_plan : Transfers.BatchOf (tV d L) (SemLoc.dma (sig := sig) cc0_scratch16.sem) 2)
    (hy : ∀ x, (binOf (ywin ints (sidV L) x)).toNat < 272) (h1 : k0_cond1 L = 1#1) :
    (iprop(Transfers.MayWaits (tV d L) (none : HIx 1) O
      ∗ (fpM.view.loc (tV d L) ↦{q} fp) ∗ (intM.view.loc (tV d L) ↦{q} ints)
      ∗ (s0M.view.loc (tV d L) ↦{fullShare} f0) ∗ (s1M.view.loc (tV d L) ↦{fullShare} f1)
      ∗ (s5M.view.loc (tV d L) ↦{fullShare} f5) ∗ (s6M.view.loc (tV d L) ↦{fullShare} f6)
      ∗ semVal (tV d L, SemLoc.dma cc0_scratch16.sem) 0 ∗ owes (tV d L) O W) : sProp (MM F))
     ⊢ wp frame (wpE (defs₀ (F := F)) 𝒱₀ (tV d L) none) Set.univ
      (k0_part1 L fpM (Memref.isWhole_whole _) intM (Memref.isWhole_whole _) xM (Memref.isWhole_whole _) outM (Memref.isWhole_whole _) s0M (Memref.isWhole_whole _) s1M (Memref.isWhole_whole _) s2M (Memref.isWhole_whole _) s3M (Memref.isWhole_whole _) s4M (Memref.isWhole_whole _) s5M (Memref.isWhole_whole _) s6M (Memref.isWhole_whole _) s7M (Memref.isWhole_whole _) s8M (Memref.isWhole_whole _) s9M (Memref.isWhole_whole _) s10M (Memref.isWhole_whole _) s11M (Memref.isWhole_whole _) s12M (Memref.isWhole_whole _) s13M (Memref.isWhole_whole _) s14M (Memref.isWhole_whole _) s15M (Memref.isWhole_whole _) cc0_scratch16 cc0_scratch17 cc0_scratch18 cc0_scratch19 cc0_scoped0 cc0_scoped1 cc0_scoped2 cc0_scoped3 cc0_scoped4 cc0_scoped5 cc0_scoped6 cc0_scoped7 cc0_scoped8 (BitVec.ofNat 32 (L 1).val) (iota .scVector S16 32 [0] iota_S16_d0_w32_scVector) k0_pay1 k0_pay2 k0_pay4 h1) (fun r => iprop(⌜r.1 = k0_pay12 (blk (hitT fp ints (sidV L)) 0 0 (by decide) (by decide)) (blk (hitG fp ints (sidV L)) 0 0 (by decide) (by decide)) (blk (hitT fp ints (sidV L)) 1 0 (by decide) (by decide)) (blk (hitG fp ints (sidV L)) 1 0 (by decide) (by decide)) (blk (hitT fp ints (sidV L)) 2 0 (by decide) (by decide)) (blk (hitG fp ints (sidV L)) 2 0 (by decide) (by decide))⌝
        ∗ ⌜r.2.1 = k0_pay13 (blk (hitT fp ints (sidV L)) 0 0 (by decide) (by decide)) (blk (hitG fp ints (sidV L)) 0 0 (by decide) (by decide)) (blk (hitT fp ints (sidV L)) 1 0 (by decide) (by decide)) (blk (hitG fp ints (sidV L)) 1 0 (by decide) (by decide)) (blk (hitT fp ints (sidV L)) 2 0 (by decide) (by decide)) (blk (hitG fp ints (sidV L)) 2 0 (by decide) (by decide))⌝
        ∗ ⌜r.2.2.1 = (blk (hitT fp ints (sidV L)) 3 0 (by decide) (by decide))⌝
        ∗ ⌜r.2.2.2.1 = (blk (hitG fp ints (sidV L)) 3 0 (by decide) (by decide))⌝
        ∗ ⌜r.2.2.2.2.1 = k0_pay14 (blk (hitT fp ints (sidV L)) 0 0 (by decide) (by decide)) (blk (hitG fp ints (sidV L)) 0 0 (by decide) (by decide)) (blk (hitT fp ints (sidV L)) 1 0 (by decide) (by decide)) (blk (hitG fp ints (sidV L)) 1 0 (by decide) (by decide)) (blk (hitT fp ints (sidV L)) 2 0 (by decide) (by decide)) (blk (hitG fp ints (sidV L)) 2 0 (by decide) (by decide)) (blk (hitT fp ints (sidV L)) 3 0 (by decide) (by decide))⌝
        ∗ ⌜r.2.2.2.2.2 = k0_pay15 (blk (hitT fp ints (sidV L)) 0 0 (by decide) (by decide)) (blk (hitG fp ints (sidV L)) 0 0 (by decide) (by decide)) (blk (hitT fp ints (sidV L)) 1 0 (by decide) (by decide)) (blk (hitG fp ints (sidV L)) 1 0 (by decide) (by decide)) (blk (hitT fp ints (sidV L)) 2 0 (by decide) (by decide)) (blk (hitG fp ints (sidV L)) 2 0 (by decide) (by decide)) (blk (hitT fp ints (sidV L)) 3 0 (by decide) (by decide))⌝
        ∗ Transfers.MayWaits (tV d L) (none : HIx 1) O
        ∗ (fpM.view.loc (tV d L) ↦{q} fp) ∗ (intM.view.loc (tV d L) ↦{q} ints)
        ∗ (s0M.view.loc (tV d L) ↦{fullShare} fwin fp (sidV L)) ∗ (s1M.view.loc (tV d L) ↦{fullShare} ywin ints (sidV L))
        ∗ (s5M.view.loc (tV d L) ↦{fullShare} hitT fp ints (sidV L)) ∗ (s6M.view.loc (tV d L) ↦{fullShare} hitG fp ints (sidV L))
        ∗ semVal (tV d L, SemLoc.dma cc0_scratch16.sem) 0 ∗ ∃ W', ⌜∀ p ∈ W', p ∈ W ∨ p.2 = none⌝ ∗ owes (tV d L) O W')) := by
  iintro ⟨Hmw, Hfp, Hin, H0, H1, H5, H6, Hs, HO⟩
  sl_exec
  sl_for (fun k _ => iprop(∃ g5 g6, (s5M.view.loc (tV d L) ↦{fullShare} g5) ∗ (s6M.view.loc (tV d L) ↦{fullShare} g6)
     ∗ ⌜∀ j : S4352.Idx, (j 0).val < 16 * k → (g5 j : F .f32) = neg1 ∧ (g6 j : BitVec 32) = 0#32⌝ : sProp (MM F))) $$ [H5 H6]
  case region =>
    intro k _
    iintro ⟨%g5, %g6, H5, H6, %hg⟩
    sl_exec
    sl_step
    iexists _; iexists _
    isplitl [H5]; · iexact H5
    isplitl [H6]; · iexact H6
    ipureintro
    intro j hj
    have e5 := read_writes16 (F := F) s5M.view g5 (k0_off3 k) (k0_off3_inb L k h1) k0_pay2 (16 * k.val) (off3_eq k) j
    have e6 := read_writes16 (F := F) s6M.view g6 (k0_off3 k) (k0_off3_inb L k h1) k0_pay4 (16 * k.val) (off3_eq k) j
    by_cases hh : 16 * k.val ≤ (j 0).val ∧ (j 0).val < 16 * k.val + 16
    · rw [dif_pos hh] at e5 e6
      exact ⟨e5, e6⟩
    · rw [dif_neg hh] at e5 e6
      have h' := hg j (by omega)
      exact ⟨e5.trans h'.1, e6.trans h'.2⟩
  · iexists _; iexists _
    isplitl [H5]; · iexact H5
    isplitl [H6]; · iexact H6
    ipureintro
    intro j hj
    exact absurd hj (by omega)
  iintro %_ HI
  icases HI with ⟨%g5, %g6, H5, H6, %hg⟩
  sl_exec
  ihave H0' := (pin (ℓ := s0M.view.loc (tV d L)) (g := fwin fp (sidV L))) $$ [H0]
  · iexists _; isplitr; swap; · iexact H0
    ipureintro
    exact (View.write_whole_univ _ _ _).trans (fpWin_eq d L h1 fp)
  ihave H1' := (pin (ℓ := s1M.view.loc (tV d L)) (g := ywin ints (sidV L))) $$ [H1]
  · iexists _; isplitr; swap; · iexact H1
    ipureintro
    exact (View.write_whole_univ _ _ _).trans (yWin_eq d L h1 ints)
  sl_for (fun k _ => iprop(∃ hk : k ≤ 80, (s0M.view.loc (tV d L) ↦{fullShare} fwin fp (sidV L)) ∗ (s1M.view.loc (tV d L) ↦{fullShare} ywin ints (sidV L))
     ∗ (s5M.view.loc (tV d L) ↦{fullShare} fun j : S4352.Idx => (hitTab (sidV L) (fwin fp (sidV L)) (ywin ints (sidV L)) k hk j).1)
     ∗ (s6M.view.loc (tV d L) ↦{fullShare} fun j : S4352.Idx => (hitTab (sidV L) (fwin fp (sidV L)) (ywin ints (sidV L)) k hk j).2) : sProp (MM F))) $$ [H0' H1' H5 H6]
  case region =>
    intro k _
    iintro ⟨%hk, H0, H1, H5, H6⟩
    sl_exec
    have hk80 : k.val < 80 := lt_of_lt_of_eq k.isLt (by decide)
    have hkk : 16 * k.val + 16 ≤ 1280 := by omega
    have hv : part1_wp.sl.v2405 d L ints h1 k = k0_pay5 k0_pay1 (chunk (ywin ints (sidV L)) k.val hkk) :=
      congrArg (k0_pay5 k0_pay1) (chunk4_y k hkk _ _)
    rw [hv, chunk4_f k hkk]
    have hc := hit_chk (F := F) (ywin ints (sidV L)) hy k.val hkk
    rw [wp_assume_of _ _ _ _ (show k0_chk1 L _ from ⟨fun _ => hc, fun _ => hc, fun _ => hc⟩)]
    iapply (gather5 d L _) $$ H5; iintro H5
    iapply (scatter5 d L _) $$ H5; iintro H5
    iapply (scatter6 d L _) $$ H6; iintro H6
    sl_step
    have hst := hit_step (F := F) (sidV L) (fwin fp (sidV L)) (ywin ints (sidV L)) hy k hkk hk80 hc hc hc
    iexists hk80
    isplitl [H0]; · iexact H0
    isplitl [H1]; · iexact H1
    isplitl [H5]
    · iapply pin; iexists _; isplitr; swap; · iexact H5
      ipureintro; exact hst.1
    · iapply pin; iexists _; isplitr; swap; · iexact H6
      ipureintro; exact hst.2
  · iexists (Nat.zero_le 80)
    isplitl [H0']; · iexact H0'
    isplitl [H1']; · iexact H1'
    have h0 : ∀ j : S4352.Idx, (g5 j : F .f32) = neg1 ∧ (g6 j : BitVec 32) = 0#32 := fun j =>
      hg j (lt_of_lt_of_eq (j 0).isLt (by decide))
    isplitl [H5]
    · iapply pin; iexists _; isplitr; swap; · iexact H5
      ipureintro; exact funext fun j => (h0 j).1
    · iapply pin; iexists _; isplitr; swap; · iexact H6
      ipureintro; exact funext fun j => (h0 j).2
  iintro %_ HI
  icases HI with ⟨%hk, H0, H1, H5, H6⟩
  rw [hitTab_end _ _ _ _ hk (by decide)]
  sl_exec
  sl_step
  isplitr; · ipureintro; rfl
  isplitr; · ipureintro; rfl
  isplitr; · ipureintro; rfl
  isplitr; · ipureintro; rfl
  isplitr; · ipureintro; rfl
  isplitr; · ipureintro; rfl
  isplitl [Hmw]; · iexact Hmw
  isplitl [Hfp]; · iexact Hfp
  isplitl [Hin]; · iexact Hin
  isplitl [H0]; · iexact H0
  isplitl [H1]; · iexact H1
  isplitl [H5]; · iexact H5
  isplitl [H6]; · iexact H6
  isplitl [Hs]; · iexact Hs
  iexists _; isplitr; swap; · iexact HO
  ipureintro
  intro p hp
  simp only [Finset.mem_insert] at hp
  rcases hp with rfl | rfl | hp
  · exact .inr rfl
  · exact .inr rfl
  · exact .inl hp

end Cert.Proof.Sc
end
-- ==== Proof.Sc.Merge.lean ====
/-
  The cores' segment numbers: a tile's private tables merged into its row of the shared memory.
-/
module

public import proofs.«01_k».proof.Proof.Sc.Base
public import proofs.«01_k».proof.Proof.Sc.Hits

@[expose] public section

set_option maxRecDepth 16384

noncomputable section

namespace Cert.Proof.Sc

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable (d : Dev nD) (L : grid0.Coords)

/-- A block of the vector a tile leaves: the lanes merged. -/
def bestF (fp : S20480.Idx → F .f32) (ints : S102400.Idx → BitVec 32) (w : Fin 16) : S272.Idx → F .f32 :=
  ofBlocks fun j hj => (mergeH (hitT fp ints w) (hitG fp ints w) j hj 15 (by decide)).1
def bestI (fp : S20480.Idx → F .f32) (ints : S102400.Idx → BitVec 32) (w : Fin 16) : S272.Idx → BitVec 32 :=
  ofBlocks fun j hj => (mergeH (hitT fp ints w) (hitG fp ints w) j hj 15 (by decide)).2

abbrev rowF (h1 : k0_cond1 L = 1#1) : Memref sig .scVector .shared S272 .f32 :=
  (s9M.slice (Rect.unit (s := S16x272) (k0_off5 L) S1x272.size (k0_off5_inb L h1)) (fun _ => rfl)).squeeze S272 squeezes_S1x272_S272
abbrev rowI (h1 : k0_cond1 L = 1#1) : Memref sig .scVector .shared S272 .i32 :=
  (s10M.slice (Rect.unit (s := S16x272) (k0_off5 L) S1x272.size (k0_off5_inb L h1)) (fun _ => rfl)).squeeze S272 squeezes_S1x272_S272

theorem pinE {α β : Type} (Φ : α → β → sProp (MM F)) (a : α) (b : β) : iprop(∃ x y, ⌜x = a⌝ ∗ ⌜y = b⌝ ∗ Φ x y) ⊢ Φ a b := by
  iintro ⟨%x, %y, %hx, %hy, H⟩; subst hx hy; iexact H

omit [FloatOps F] in
theorem dma_s7 {X b : S272.Idx → F .f32} (h : X = b) : ReadAs.same.apply (View.read (Elt F) s7M.view X) = b := by
  subst h; rfl

set_option maxHeartbeats 8000000 in
theorem part51_wp (q : PosShare TreeShare) (fp : Buf (Elt F) (fpM.view.loc (tV d L))) (ints : Buf (Elt F) (intM.view.loc (tV d L)))
    (f0 : Buf (Elt F) (s0M.view.loc (tV d L))) (f1 : Buf (Elt F) (s1M.view.loc (tV d L)))
    (f5 : Buf (Elt F) (s5M.view.loc (tV d L))) (f6 : Buf (Elt F) (s6M.view.loc (tV d L)))
    (f7 : Buf (Elt F) (s7M.view.loc (tV d L))) (f8 : Buf (Elt F) (s8M.view.loc (tV d L)))
    (f9 : Buf (Elt F) (s9M.view.loc (tV d L)))
    (O : CellTallies nD τ sig (HIx 1)) (W : Waits sig (HIx 1))
    (_plan : Transfers.BatchOf (tV d L) (SemLoc.dma (sig := sig) cc0_scratch16.sem) 2)
    (hy : ∀ x, (binOf (ywin ints (sidV L) x)).toNat < 272) (h1 : k0_cond1 L = 1#1) :
    (iprop(Transfers.MayWaits (tV d L) (none : HIx 1) O
      ∗ (fpM.view.loc (tV d L) ↦{q} fp) ∗ (intM.view.loc (tV d L) ↦{q} ints)
      ∗ (s0M.view.loc (tV d L) ↦{fullShare} f0) ∗ (s1M.view.loc (tV d L) ↦{fullShare} f1)
      ∗ (s5M.view.loc (tV d L) ↦{fullShare} f5) ∗ (s6M.view.loc (tV d L) ↦{fullShare} f6)
      ∗ (s7M.view.loc (tV d L) ↦{fullShare} f7) ∗ (s8M.view.loc (tV d L) ↦{fullShare} f8)
      ∗ ((rowF L h1).view.loc (tV d L) ↦[(rowF L h1).view.set]{fullShare} f9)
      ∗ semVal (tV d L, SemLoc.dma cc0_scratch16.sem) 0 ∗ semVal (tV d L, SemLoc.dma cc0_scoped0.sem) 0
      ∗ owes (tV d L) O W) : sProp (MM F))
     ⊢ wp frame (wpE (defs₀ (F := F)) 𝒱₀ (tV d L) none) Set.univ
      (k0_part51 L fpM (Memref.isWhole_whole _) intM (Memref.isWhole_whole _) xM (Memref.isWhole_whole _) outM (Memref.isWhole_whole _) s0M (Memref.isWhole_whole _) s1M (Memref.isWhole_whole _) s2M (Memref.isWhole_whole _) s3M (Memref.isWhole_whole _) s4M (Memref.isWhole_whole _) s5M (Memref.isWhole_whole _) s6M (Memref.isWhole_whole _) s7M (Memref.isWhole_whole _) s8M (Memref.isWhole_whole _) s9M (Memref.isWhole_whole _) s10M (Memref.isWhole_whole _) s11M (Memref.isWhole_whole _) s12M (Memref.isWhole_whole _) s13M (Memref.isWhole_whole _) s14M (Memref.isWhole_whole _) s15M (Memref.isWhole_whole _) cc0_scratch16 cc0_scratch17 cc0_scratch18 cc0_scratch19 cc0_scoped0 cc0_scoped1 cc0_scoped2 cc0_scoped3 cc0_scoped4 cc0_scoped5 cc0_scoped6 cc0_scoped7 cc0_scoped8 (BitVec.ofNat 32 (L 1).val) (iota .scVector S16 32 [0] iota_S16_d0_w32_scVector) k0_pay1 (k0_pay2 (F := F)) k0_pay4 h1) (fun _ => iprop(Transfers.MayWaits (tV d L) (none : HIx 1) O
      ∗ (fpM.view.loc (tV d L) ↦{q} fp) ∗ (intM.view.loc (tV d L) ↦{q} ints)
      ∗ (s0M.view.loc (tV d L) ↦{fullShare} (fwin fp (sidV L))) ∗ (s1M.view.loc (tV d L) ↦{fullShare} (ywin ints (sidV L)))
      ∗ (s5M.view.loc (tV d L) ↦{fullShare} (hitT fp ints (sidV L))) ∗ (s6M.view.loc (tV d L) ↦{fullShare} (hitG fp ints (sidV L)))
      ∗ (s7M.view.loc (tV d L) ↦[Finset.univ \ s7M.view.set]{fullShare} (bestF fp ints (sidV L))) ∗ (s8M.view.loc (tV d L) ↦{fullShare} (bestI fp ints (sidV L)))
      ∗ Transfers.Flight countersEmb (tV d L) (SemLoc.dma (sig := sig) cc0_scoped0.sem) (default : HIx 1) 8704
          iprop(((rowF L h1).view.loc (tV d L) ↦[(rowF L h1).view.set]{fullShare}
              (rowF L h1).view.writes (Elt F) f9 [⟨Rect.whole S272, bestF fp ints (sidV L)⟩])
            ∗ (s7M.view.loc (tV d L) ↦[s7M.view.set]{fullShare} (bestF fp ints (sidV L))))
      ∗ semVal (tV d L, SemLoc.dma cc0_scratch16.sem) 0
      ∗ ∃ W', ⌜∀ p ∈ W', p ∈ W ∨ p.2 = none⌝ ∗ owes (tV d L) O W')) := by
  have hcut := fun W' => part1_wp (F := F) d L q fp ints f0 f1 f5 f6 O W' _plan hy h1
  rw [k0_part51_eq_skeleton]; unfold k0_part51_skel
  iintro ⟨Hmw, Hfp, Hin, H0, H1, H5, H6, H7, H8, H9, Hs, Hr0, HO⟩
  sl_exec
  subst hk0_part1_0 hk0_part1_1 hk0_part1_2 hk0_part1_3 hk0_part1_4 hk0_part1_5
  ihave H7' := (pin (ℓ := s8M.view.loc (tV d L)) (g := bestI fp ints (sidV L))) $$ [H8]
  · iexists _; isplitr; swap; · iexact H8
    ipureintro
    refine Eq.trans (congrArg (s8M.view.writes (Elt F) f8) ?_) (writes_pieces8 f8 fun j hj => (mergeH (hitT fp ints (sidV L)) (hitG fp ints (sidV L)) j hj 15 (by decide)).2)
    sl_kernel_rfl
  ihave Hr0' := (pinE (F := F) (fun (w : S272.Idx → F .f32) (g : Buf (Elt F) (s7M.view.loc (tV d L))) => iprop(Transfers.Flight countersEmb (tV d L) (SemLoc.dma (sig := sig) cc0_scoped0.sem) (default : HIx 1) 8704
          iprop(((rowF L h1).view.loc (tV d L) ↦[(rowF L h1).view.set]{fullShare}
              (rowF L h1).view.writes (Elt F) f9 [⟨Rect.whole S272, w⟩])
            ∗ (s7M.view.loc (tV d L) ↦[s7M.view.set]{fullShare} g)) ∗ (s7M.view.loc (tV d L) ↦[Finset.univ \ s7M.view.set]{fullShare} g))) (bestF fp ints (sidV L)) (bestF fp ints (sidV L))) $$ [Hr0 H7]
  · iexists _, _; isplitr; swap; isplitr; swap
    · isplitl [Hr0]; · iexact Hr0
      iexact H7
    · ipureintro
      refine Eq.trans (congrArg (s7M.view.writes (Elt F) f7) ?_) (writes_pieces7 f7 fun j hj => (mergeH (hitT fp ints (sidV L)) (hitG fp ints (sidV L)) j hj 15 (by decide)).1)
      sl_kernel_rfl
    · ipureintro
      unfold part51_wp.sl.dma604
      refine dma_s7 ?_
      refine Eq.trans (congrArg (s7M.view.writes (Elt F) f7) ?_) (writes_pieces7 f7 fun j hj => (mergeH (hitT fp ints (sidV L)) (hitG fp ints (sidV L)) j hj 15 (by decide)).1)
      sl_kernel_rfl
  icases Hr0' with ⟨Hr0, H7⟩
  sl_step
  isplitl [Hk0_part1_6]; · iexact Hk0_part1_6
  isplitl [Hk0_part1_7]; · iexact Hk0_part1_7
  isplitl [Hk0_part1_8]; · iexact Hk0_part1_8
  isplitl [Hk0_part1_9]; · iexact Hk0_part1_9
  isplitl [Hk0_part1_10]; · iexact Hk0_part1_10
  isplitl [Hk0_part1_11]; · iexact Hk0_part1_11
  isplitl [Hk0_part1_12]; · iexact Hk0_part1_12
  isplitl [H7]; · iexact H7
  isplitl [H7']; · iexact H7'
  isplitl [Hr0]; · iexact Hr0
  isplitl [Hk0_part1_13]; · iexact Hk0_part1_13
  iexists _; isplitr; swap
  · iexact Hk0_part1_15
  ipureintro; assumption

end Cert.Proof.Sc

end
-- ==== Proof.Sc.Edges.lean ====
/-
  The body of a tile of the second SparseCore: the maximum over its edges, segment by segment.
-/
module

public import proofs.«01_k».proof.Proof.Sc.Base
public import proofs.«01_k».proof.Proof.Sc.Hits

@[expose] public section

set_option maxRecDepth 16384

noncomputable section

namespace Cert.Proof.Sc

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable (d : Dev nD) (L : grid0.Coords)

/-- Tile `w`'s window of the edges' first ends and of their second. -/
def iwin (ints : S102400.Idx → BitVec 32) (w : Fin 16) : IVec S2560 32 := fun x =>
  ints (i1 (20480 + 2560 * w.val + (x 0).val) (by have hx : (x 0).val < 2560 := (x 0).isLt; omega))
def jwin (ints : S102400.Idx → BitVec 32) (w : Fin 16) : IVec S2560 32 := fun x =>
  ints (i1 (61440 + 2560 * w.val + (x 0).val) (by have hx : (x 0).val < 2560 := (x 0).isLt; omega))

omit [FloatOps F] in
theorem off6_eq (b : BitVec 32) (hb : b.toNat ≤ 61440) : k0_off6 L b 0 = b.toNat + 2560 * (sidV L).val := by
  have h : (L 1).val < 16 := (L 1).isLt
  show (b + BitVec.ofNat 32 (L 1).val * 2560#32).toNat = b.toNat + 2560 * (L 1).val
  simp only [BitVec.toNat_add, BitVec.toNat_mul, BitVec.toNat_ofNat]
  omega

theorem iWin_eq (inb) (ints : Buf (Elt F) (intM.view.loc (tV d L))) :
    View.read (Elt F) (intM.slice (Rect.unit (k0_off6 L 20480#32) S2560.size inb) (fun _ => rfl)).view ints = iwin ints (sidV L) := by
  funext x
  refine congrArg ints (funext (β := fun _ : Fin 1 => _) fun a => ?_)
  obtain rfl : a = 0 := Subsingleton.elim _ _
  apply Fin.ext
  show k0_off6 L 20480#32 0 + 1 * (x 0).val = 20480 + 2560 * (sidV L).val + (x 0).val
  rw [off6_eq L _ (by decide), Nat.one_mul]; rfl
theorem jWin_eq (inb) (ints : Buf (Elt F) (intM.view.loc (tV d L))) :
    View.read (Elt F) (intM.slice (Rect.unit (k0_off6 L 61440#32) S2560.size inb) (fun _ => rfl)).view ints = jwin ints (sidV L) := by
  funext x
  refine congrArg ints (funext (β := fun _ : Fin 1 => _) fun a => ?_)
  obtain rfl : a = 0 := Subsingleton.elim _ _
  apply Fin.ext
  show k0_off6 L 61440#32 0 + 1 * (x 0).val = 61440 + 2560 * (sidV L).val + (x 0).val
  rw [off6_eq L _ (by decide), Nat.one_mul]; rfl

/-- The chunk a trip loads of the edges' ends. -/
theorem chunk8_i (k : Fin k0_t4_loop.trips) (hk : 16 * k.val + 16 ≤ 2560) (inb) (w : IVec S2560 32) :
    View.readAt (Elt F) s2M.view (Rect.unit (s := S2560) (k0_off8 k) S16.size inb).toLoadRect w = chunk w k hk := by
  funext x
  refine congrArg w (funext (β := fun _ : Fin 1 => _) fun a => ?_)
  obtain rfl : a = 0 := Subsingleton.elim _ _
  apply Fin.ext
  show k0_off8 k 0 + 1 * (x 0).val = 16 * k.val + (x 0).val
  rw [off8_eq, Nat.one_mul]
theorem chunk8_j (k : Fin k0_t4_loop.trips) (hk : 16 * k.val + 16 ≤ 2560) (inb) (w : IVec S2560 32) :
    View.readAt (Elt F) s3M.view (Rect.unit (s := S2560) (k0_off8 k) S16.size inb).toLoadRect w = chunk w k hk := by
  funext x
  refine congrArg w (funext (β := fun _ : Fin 1 => _) fun a => ?_)
  obtain rfl : a = 0 := Subsingleton.elim _ _
  apply Fin.ext
  show k0_off8 k 0 + 1 * (x 0).val = 16 * k.val + (x 0).val
  rw [off8_eq, Nat.one_mul]

section Step
variable (fa : Vec F S20480 .f32) (iw jw : IVec S2560 32) (hi : ∀ x, (iw x).toNat < 20480) (hj : ∀ x, (jw x).toNat < 272)
include hj

omit [FloatOps F] in
theorem edge_toNat (k : ℕ) (hk : 16 * k + 16 ≤ 2560) (x : S16.Idx) :
    (addi (k0_pay1 : IVec S16 32) (chunk jw k hk) x).toNat = 272 * (x 0).val + (chunk jw k hk x).toNat := by
  have hx : (x 0).val < 16 := (x 0).isLt
  have h1 : (chunk jw k hk x).toNat < 272 := hj _
  show ((k0_pay1 : IVec S16 32) x + chunk jw k hk x).toNat = _
  rw [BitVec.toNat_add, pay1_toNat]
  omega

omit [FloatOps F] in
theorem edge_chk (k : ℕ) (hk : 16 * k + 16 ≤ 2560) :
    ∀ a x, ((![addi (k0_pay1 : IVec S16 32) (chunk jw k hk)] : Fin 1 → IVec S16 32) a x).toNat < S4352.size a := by
  intro a x
  obtain rfl : a = 0 := Subsingleton.elim _ _
  have hx : (x 0).val < 16 := (x 0).isLt
  have h1 : (chunk jw k hk x).toNat < 272 := hj _
  exact lt_of_eq_of_lt (edge_toNat jw hj k hk x) (show 272 * (x 0).val + (chunk jw k hk x).toNat < 4352 by omega)

omit [FloatOps F] in
theorem edge_mask (k : ℕ) (hk : 16 * k + 16 ≤ 2560) (T : S4352.Idx → F .f32) (h) (j : S4352.Idx)
    (hb : (chunk jw k hk (lane j)).toNat = (j 0).val % 272) :
    loadIdx (F := F) (e := .f32) (s := S4352) T ![addi (k0_pay1 : IVec S16 32) (chunk jw k hk)] h (lane j) = T j := by
  unfold loadIdx
  congr 1
  funext a
  obtain rfl : a = 0 := Subsingleton.elim _ _
  apply Fin.ext
  show (addi (k0_pay1 : IVec S16 32) (chunk jw k hk) (lane j)).toNat = (j 0).val
  refine (edge_toNat jw hj k hk (lane j)).trans ?_
  rw [hb]
  exact Nat.div_add_mod _ _

include hi in
theorem edge_step (k : Fin k0_t4_loop.trips) (hk : 16 * k.val + 16 ≤ 2560) (hk' : k.val + 1 ≤ 160) (h h' h'') :
    (storeIdx (F := F) (e := .f32) (s := S4352) (edgeTab fa iw jw k.val (Nat.le_of_succ_le hk'))
        ![addi (k0_pay1 : IVec S16 32) (chunk jw k hk)] (loadIdx (F := F) (e := .f32) (s := S20480) fa ![chunk iw k hk] h')
        (k0_pay802 (loadIdx (F := F) (e := .f32) (s := S20480) fa ![chunk iw k hk] h') (loadIdx (F := F) (e := .f32) (s := S4352) (edgeTab fa iw jw k.val (Nat.le_of_succ_le hk'))
          ![addi (k0_pay1 : IVec S16 32) (chunk jw k hk)] h'')) false h
      = edgeTab fa iw jw (k.val + 1) hk') := by
  funext j
  have hf : loadIdx (F := F) (e := .f32) (s := S20480) fa ![chunk iw k hk] h' (lane j)
      = fa (i1 ((chunk iw k hk (lane j)).toNat % 20480) (Nat.mod_lt _ (by decide))) := by
    unfold loadIdx
    congr 1
    funext a
    obtain rfl : a = 0 := Subsingleton.elim _ _
    apply Fin.ext
    have h1 : (chunk iw k hk (lane j)).toNat < 20480 := hi _
    exact (Nat.mod_eq_of_lt h1).symm
  rw [storeIdx_lane _ _ (fun x => (chunk jw k hk x).toNat) (fun x => hj _) (fun x => edge_toNat jw hj k hk x)]
  show _ = if _ then _ else _
  by_cases hb : (chunk jw k hk (lane j)).toNat = (j 0).val % 272
  · have hm : k0_pay802 (loadIdx (F := F) (e := .f32) (s := S20480) fa ![chunk iw k hk] h') (loadIdx (F := F) (e := .f32) (s := S4352) (edgeTab fa iw jw k.val (Nat.le_of_succ_le hk'))
          ![addi (k0_pay1 : IVec S16 32) (chunk jw k hk)] h'') (lane j)
        = FloatOps.cmpf .ogt (fa (i1 ((chunk iw k hk (lane j)).toNat % 20480) (Nat.mod_lt _ (by decide)))) (edgeTab fa iw jw k.val (Nat.le_of_succ_le hk') j) :=
      congrArg₂ (FloatOps.cmpf .ogt) hf (edge_mask jw hj k hk _ h'' j hb)
    rw [hm, hf]
    by_cases hc : FloatOps.cmpf .ogt (fa (i1 ((chunk iw k hk (lane j)).toNat % 20480) (Nat.mod_lt _ (by decide)))) (edgeTab fa iw jw k.val (Nat.le_of_succ_le hk') j) = 1
    · rw [if_pos ⟨hc, hb⟩, if_pos ⟨hb, hc⟩]
    · rw [if_neg fun h => hc h.1, if_neg fun h => hc h.2]
  · rw [if_neg fun h => hb h.2, if_neg fun h => hb h.1]

end Step

/-- The edges' table after the whole window. -/
def edgeT (fp : S20480.Idx → F .f32) (ints : S102400.Idx → BitVec 32) (w : Fin 16) : S4352.Idx → F .f32 :=
  edgeTab fp (iwin ints w) (jwin ints w) 160 le_rfl

theorem edgeTab_end (fa : Vec F S20480 .f32) (iw jw : IVec S2560 32) (n : ℕ) (hn : n ≤ 160) (e : n = 160) :
    edgeTab fa iw jw n hn = edgeTab fa iw jw 160 le_rfl := by
  subst e; rfl

set_option maxHeartbeats 4000000 in
theorem part52_wp (q : PosShare TreeShare) (fp : Buf (Elt F) (fpM.view.loc (tV d L))) (ints : Buf (Elt F) (intM.view.loc (tV d L)))
    (f2 : Buf (Elt F) (s2M.view.loc (tV d L))) (f3 : Buf (Elt F) (s3M.view.loc (tV d L)))
    (f4 : Buf (Elt F) (s4M.view.loc (tV d L))) (f5 : Buf (Elt F) (s5M.view.loc (tV d L)))
    (O : CellTallies nD τ sig (HIx 1)) (W : Waits sig (HIx 1))
    (_plan : Transfers.BatchOf (tV d L) (SemLoc.dma (sig := sig) cc0_scratch17.sem) 2)
    (hi : ∀ x, (iwin ints (sidV L) x).toNat < 20480) (hj : ∀ x, (jwin ints (sidV L) x).toNat < 272) (h2 : k0_cond2 L = 1#1) :
    (iprop(Transfers.MayWaits (tV d L) (none : HIx 1) O
      ∗ (fpM.view.loc (tV d L) ↦{q} fp) ∗ (intM.view.loc (tV d L) ↦{q} ints)
      ∗ (s2M.view.loc (tV d L) ↦{fullShare} f2) ∗ (s3M.view.loc (tV d L) ↦{fullShare} f3)
      ∗ (s4M.view.loc (tV d L) ↦{fullShare} f4) ∗ (s5M.view.loc (tV d L) ↦{fullShare} f5)
      ∗ semVal (tV d L, SemLoc.dma cc0_scratch17.sem) 0 ∗ semVal (tV d L, SemLoc.dma cc0_scratch18.sem) 0 ∗ owes (tV d L) O W) : sProp (MM F))
     ⊢ wp frame (wpE (defs₀ (F := F)) 𝒱₀ (tV d L) none) Set.univ
      (k0_part52 L fpM (Memref.isWhole_whole _) intM (Memref.isWhole_whole _) xM (Memref.isWhole_whole _) outM (Memref.isWhole_whole _) s0M (Memref.isWhole_whole _) s1M (Memref.isWhole_whole _) s2M (Memref.isWhole_whole _) s3M (Memref.isWhole_whole _) s4M (Memref.isWhole_whole _) s5M (Memref.isWhole_whole _) s6M (Memref.isWhole_whole _) s7M (Memref.isWhole_whole _) s8M (Memref.isWhole_whole _) s9M (Memref.isWhole_whole _) s10M (Memref.isWhole_whole _) s11M (Memref.isWhole_whole _) s12M (Memref.isWhole_whole _) s13M (Memref.isWhole_whole _) s14M (Memref.isWhole_whole _) s15M (Memref.isWhole_whole _) cc0_scratch16 cc0_scratch17 cc0_scratch18 cc0_scratch19 cc0_scoped0 cc0_scoped1 cc0_scoped2 cc0_scoped3 cc0_scoped4 cc0_scoped5 cc0_scoped6 cc0_scoped7 cc0_scoped8 (BitVec.ofNat 32 (L 1).val) k0_pay1 (k0_pay3 (F := F)) h2) (fun r => iprop(⌜r = k0_pay803 (blk (edgeT fp ints (sidV L)) 0 0 (by decide) (by decide)) (blk (edgeT fp ints (sidV L)) 1 0 (by decide) (by decide)) (blk (edgeT fp ints (sidV L)) 2 0 (by decide) (by decide)) (blk (edgeT fp ints (sidV L)) 3 0 (by decide) (by decide)) (blk (edgeT fp ints (sidV L)) 4 0 (by decide) (by decide)) (blk (edgeT fp ints (sidV L)) 5 0 (by decide) (by decide)) (blk (edgeT fp ints (sidV L)) 6 0 (by decide) (by decide)) (blk (edgeT fp ints (sidV L)) 7 0 (by decide) (by decide)) (blk (edgeT fp ints (sidV L)) 8 0 (by decide) (by decide))⌝
        ∗ Transfers.MayWaits (tV d L) (none : HIx 1) O
        ∗ (fpM.view.loc (tV d L) ↦{q} fp) ∗ (intM.view.loc (tV d L) ↦{q} ints)
        ∗ (s2M.view.loc (tV d L) ↦{fullShare} iwin ints (sidV L)) ∗ (s3M.view.loc (tV d L) ↦{fullShare} jwin ints (sidV L))
        ∗ (s4M.view.loc (tV d L) ↦{fullShare} fp) ∗ (s5M.view.loc (tV d L) ↦{fullShare} edgeT fp ints (sidV L))
        ∗ semVal (tV d L, SemLoc.dma cc0_scratch17.sem) 0 ∗ semVal (tV d L, SemLoc.dma cc0_scratch18.sem) 0 ∗ ∃ W', ⌜∀ p ∈ W', p ∈ W ∨ p.2 = none⌝ ∗ owes (tV d L) O W')) := by
  iintro ⟨Hmw, Hfp, Hin, H2, H3, H4, H5, Hs, Ht, HO⟩
  ihave Hin' := (pointsTo_share (PosShare.mem_left_op_right q)).1 $$ [Hin]
  · iexact Hin
  icases Hin' with ⟨HinA, HinB⟩
  sl_exec
  sl_for (fun k _ => iprop(∃ g5, (s5M.view.loc (tV d L) ↦{fullShare} g5)
     ∗ ⌜∀ j : S4352.Idx, (j 0).val < 16 * k → (g5 j : F .f32) = zero1⌝ : sProp (MM F))) $$ [H5]
  case region =>
    intro k _
    iintro ⟨%g5, H5, %hg⟩
    sl_exec
    sl_step
    iexists _
    isplitl [H5]; · iexact H5
    ipureintro
    intro j hj
    have e5 := read_writes16 (F := F) s5M.view g5 (k0_off7 k) (k0_off7_inb L k h2) k0_pay3 (16 * k.val) (off7_eq k) j
    by_cases hh : 16 * k.val ≤ (j 0).val ∧ (j 0).val < 16 * k.val + 16
    · rw [dif_pos hh] at e5
      exact e5
    · rw [dif_neg hh] at e5
      exact e5.trans (hg j (by omega))
  · iexists _
    isplitl [H5]; · iexact H5
    ipureintro
    intro j hj
    exact absurd hj (by omega)
  iintro %_ HI
  icases HI with ⟨%g5, H5, %hg⟩
  sl_exec
  ihave H2' := (pin (ℓ := s2M.view.loc (tV d L)) (g := iwin ints (sidV L))) $$ [H2]
  · iexists _; isplitr; swap; · iexact H2
    ipureintro
    exact (View.write_whole_univ _ _ _).trans (iWin_eq d L _ ints)
  ihave H3' := (pin (ℓ := s3M.view.loc (tV d L)) (g := jwin ints (sidV L))) $$ [H3]
  · iexists _; isplitr; swap; · iexact H3
    ipureintro
    exact (View.write_whole_univ _ _ _).trans (jWin_eq d L _ ints)
  ihave H4' := (pin (ℓ := s4M.view.loc (tV d L)) (g := fp)) $$ [H4]
  · iexists _; isplitr; swap; · iexact H4
    ipureintro
    exact (View.write_whole_univ _ _ _).trans rfl
  sl_for (fun k _ => iprop(∃ hk : k ≤ 160, (s2M.view.loc (tV d L) ↦{fullShare} iwin ints (sidV L)) ∗ (s3M.view.loc (tV d L) ↦{fullShare} jwin ints (sidV L))
     ∗ (s4M.view.loc (tV d L) ↦{fullShare} fp)
     ∗ (s5M.view.loc (tV d L) ↦{fullShare} edgeTab fp (iwin ints (sidV L)) (jwin ints (sidV L)) k hk) : sProp (MM F))) $$ [H2' H3' H4' H5]
  case region =>
    intro k _
    iintro ⟨%hk, H2, H3, H4, H5⟩
    sl_exec
    have hk80 : k.val < 160 := lt_of_lt_of_eq k.isLt (by decide)
    have hkk : 16 * k.val + 16 ≤ 2560 := by omega
    have hci := chunk8_i (F := F) k hkk (k0_off8_inb L k h2) (iwin ints (sidV L))
    rw [hci]
    have hii : ∀ x, ((chunk (iwin ints (sidV L)) k.val hkk) x).toNat < 20480 := fun x => hi _
    have hc2 : ∀ a x, ((![chunk (iwin ints (sidV L)) k.val hkk] : Fin 1 → IVec S16 32) a x).toNat < S20480.size a := by
      intro a x
      obtain rfl : a = 0 := Subsingleton.elim _ _
      exact hii x
    rw [wp_assume_of _ _ _ _ (show k0_chk2 L _ from fun _ => hc2)]
    sl_exec
    rw [chunk8_j (F := F) k hkk]
    have hc3 := edge_chk (jwin ints (sidV L)) hj k.val hkk
    iapply (gather4 d L _) $$ H4; iintro H4
    sl_exec
    have hv : part52_wp.sl.v585 d L ints k hkk = addi (k0_pay1 : IVec S16 32) (chunk (jwin ints (sidV L)) k.val hkk) := rfl
    rw [hv]
    rw [wp_assume_of _ _ _ _ (show k0_chk3 L _ from ⟨fun _ => hc3, fun _ => hc3⟩)]
    iapply (gather5 d L _) $$ H5; iintro H5
    iapply (scatter5 d L _) $$ H5; iintro H5
    sl_step
    iexists hk80
    isplitl [H2]; · iexact H2
    isplitl [H3]; · iexact H3
    isplitl [H4]; · iexact H4
    iapply pin; iexists _; isplitr; swap; · iexact H5
    ipureintro; exact edge_step (F := F) fp (iwin ints (sidV L)) (jwin ints (sidV L)) hi hj k hkk hk80 hc3 hc2 hc3
  · iexists (Nat.zero_le 160)
    isplitl [H2']; · iexact H2'
    isplitl [H3']; · iexact H3'
    isplitl [H4']; · iexact H4'
    have h0 : ∀ j : S4352.Idx, (g5 j : F .f32) = zero1 := fun j => hg j (lt_of_lt_of_eq (j 0).isLt (by decide))
    iapply pin; iexists _; isplitr; swap; · iexact H5
    ipureintro; exact funext h0
  iintro %_ HI
  icases HI with ⟨%hk, H2, H3, H4, H5⟩
  rw [edgeTab_end _ _ _ _ hk (by decide)]
  sl_exec
  sl_step
  isplitr; · ipureintro; rfl
  isplitl [Hmw]; · iexact Hmw
  isplitl [Hfp]; · iexact Hfp
  isplitl [HinA HinB]
  · iapply (pointsTo_share (PosShare.mem_left_op_right q)).2
    isplitl [HinA]; · iexact HinA
    iexact HinB
  isplitl [H2]; · iexact H2
  isplitl [H3]; · iexact H3
  isplitl [H4]; · iexact H4
  isplitl [H5]; · iexact H5
  isplitl [Hs]; · iexact Hs
  isplitl [Ht]; · iexact Ht
  iexists _; isplitr; swap; · iexact HO
  ipureintro
  intro p hp
  simp only [Finset.mem_insert] at hp
  rcases hp with rfl | rfl | rfl | hp
  · exact .inr rfl
  · exact .inr rfl
  · exact .inr rfl
  · exact .inl hp

/-- The vector a tile leaves: for each group the greatest over the lanes. -/
def edgeBest (fp : S20480.Idx → F .f32) (ints : S102400.Idx → BitVec 32) (w : Fin 16) : S272.Idx → F .f32 :=
  ofBlocks fun j hj => mergeE (edgeT fp ints w) j hj 15 (by decide)

set_option maxHeartbeats 8000000 in
theorem part66_wp (q : PosShare TreeShare) (fp : Buf (Elt F) (fpM.view.loc (tV d L))) (ints : Buf (Elt F) (intM.view.loc (tV d L)))
    (f2 : Buf (Elt F) (s2M.view.loc (tV d L))) (f3 : Buf (Elt F) (s3M.view.loc (tV d L)))
    (f4 : Buf (Elt F) (s4M.view.loc (tV d L))) (f5 : Buf (Elt F) (s5M.view.loc (tV d L))) (f7 : Buf (Elt F) (s7M.view.loc (tV d L)))
    (O : CellTallies nD τ sig (HIx 1)) (W : Waits sig (HIx 1))
    (_plan : Transfers.BatchOf (tV d L) (SemLoc.dma (sig := sig) cc0_scratch17.sem) 2)
    (hi : ∀ x, (iwin ints (sidV L) x).toNat < 20480) (hj : ∀ x, (jwin ints (sidV L) x).toNat < 272) (h2 : k0_cond2 L = 1#1) :
    (iprop(Transfers.MayWaits (tV d L) (none : HIx 1) O
      ∗ (fpM.view.loc (tV d L) ↦{q} fp) ∗ (intM.view.loc (tV d L) ↦{q} ints)
      ∗ (s2M.view.loc (tV d L) ↦{fullShare} f2) ∗ (s3M.view.loc (tV d L) ↦{fullShare} f3)
      ∗ (s4M.view.loc (tV d L) ↦{fullShare} f4) ∗ (s5M.view.loc (tV d L) ↦{fullShare} f5)
      ∗ (s7M.view.loc (tV d L) ↦{fullShare} f7)
      ∗ semVal (tV d L, SemLoc.dma cc0_scratch17.sem) 0 ∗ semVal (tV d L, SemLoc.dma cc0_scratch18.sem) 0 ∗ owes (tV d L) O W) : sProp (MM F))
     ⊢ wp frame (wpE (defs₀ (F := F)) 𝒱₀ (tV d L) none) Set.univ
      (k0_part66 L fpM (Memref.isWhole_whole _) intM (Memref.isWhole_whole _) xM (Memref.isWhole_whole _) outM (Memref.isWhole_whole _) s0M (Memref.isWhole_whole _) s1M (Memref.isWhole_whole _) s2M (Memref.isWhole_whole _) s3M (Memref.isWhole_whole _) s4M (Memref.isWhole_whole _) s5M (Memref.isWhole_whole _) s6M (Memref.isWhole_whole _) s7M (Memref.isWhole_whole _) s8M (Memref.isWhole_whole _) s9M (Memref.isWhole_whole _) s10M (Memref.isWhole_whole _) s11M (Memref.isWhole_whole _) s12M (Memref.isWhole_whole _) s13M (Memref.isWhole_whole _) s14M (Memref.isWhole_whole _) s15M (Memref.isWhole_whole _) cc0_scratch16 cc0_scratch17 cc0_scratch18 cc0_scratch19 cc0_scoped0 cc0_scoped1 cc0_scoped2 cc0_scoped3 cc0_scoped4 cc0_scoped5 cc0_scoped6 cc0_scoped7 cc0_scoped8 (BitVec.ofNat 32 (L 1).val) k0_pay1 (k0_pay3 (F := F)) h2) (fun _ => iprop(Transfers.MayWaits (tV d L) (none : HIx 1) O
        ∗ (fpM.view.loc (tV d L) ↦{q} fp) ∗ (intM.view.loc (tV d L) ↦{q} ints)
        ∗ (s2M.view.loc (tV d L) ↦{fullShare} iwin ints (sidV L)) ∗ (s3M.view.loc (tV d L) ↦{fullShare} jwin ints (sidV L))
        ∗ (s4M.view.loc (tV d L) ↦{fullShare} fp) ∗ (s5M.view.loc (tV d L) ↦{fullShare} edgeT fp ints (sidV L))
        ∗ (s7M.view.loc (tV d L) ↦{fullShare} edgeBest fp ints (sidV L))
        ∗ semVal (tV d L, SemLoc.dma cc0_scratch17.sem) 0 ∗ semVal (tV d L, SemLoc.dma cc0_scratch18.sem) 0 ∗ ∃ W', ⌜∀ p ∈ W', p ∈ W ∨ p.2 = none⌝ ∗ owes (tV d L) O W')) := by
  have hcut := fun W' => part52_wp (F := F) d L q fp ints f2 f3 f4 f5 O W' _plan hi hj h2
  rw [k0_part66_eq_skeleton]; unfold k0_part66_skel
  iintro ⟨Hmw, Hfp, Hin, H2, H3, H4, H5, H7, Hs, Ht, HO⟩
  sl_exec
  subst hk0_part52_0
  ihave H7' := (pin (ℓ := s7M.view.loc (tV d L)) (g := edgeBest fp ints (sidV L))) $$ [H7]
  · iexists _; isplitr; swap; · iexact H7
    ipureintro
    refine Eq.trans (congrArg (s7M.view.writes (Elt F) f7) ?_) (writes_pieces7 f7 fun j hj => mergeE (edgeT fp ints (sidV L)) j hj 15 (by decide))
    sl_kernel_rfl
  sl_step
  isplitl [Hk0_part52_1]; · iexact Hk0_part52_1
  isplitl [Hk0_part52_2]; · iexact Hk0_part52_2
  isplitl [Hk0_part52_3]; · iexact Hk0_part52_3
  isplitl [Hk0_part52_4]; · iexact Hk0_part52_4
  isplitl [Hk0_part52_5]; · iexact Hk0_part52_5
  isplitl [Hk0_part52_6]; · iexact Hk0_part52_6
  isplitl [Hk0_part52_7]; · iexact Hk0_part52_7
  isplitl [H7']; · iexact H7'
  isplitl [Hk0_part52_8]; · iexact Hk0_part52_8
  isplitl [Hk0_part52_9]; · iexact Hk0_part52_9
  iexists _; isplitr; swap
  · iexact Hk0_part52_11
  ipureintro; assumption

end Cert.Proof.Sc

end
-- ==== Proof.Sc.Rows.lean ====
/-
  What the call's tiles exchange and leave, and the parts of the shared tables and of the result each owns.
-/
module

public import proofs.«01_k».proof.Proof.Sc.Merge
public import proofs.«01_k».proof.Proof.Sc.Edges

@[expose] public section

set_option maxRecDepth 16384

noncomputable section

namespace Cert.Proof.Sc

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable (d : Dev nD) (L : grid0.Coords)

/-! ## Inputs of the call, and what it leaves -/

/-- The contents of the call's three operands on a device, with the bounds its reads need. -/
structure Inp (F : FTy → Type) where
  fp : S20480.Idx → F .f32
  ints : S102400.Idx → BitVec 32
  x : S20480x16.Idx → F .f32
  hy : ∀ w x, (binOf (ywin ints w x)).toNat < 272
  hi : ∀ w x, (iwin ints w x).toNat < 20480
  hj : ∀ w x, (jwin ints w x).toNat < 272

/-- The shared tables: row `s` is tile `s`'s. -/
def shF (A : Inp F) (c : Fin τ.nSC) : S16x272.Idx → F .f32 := fun x =>
  if c.val = 0 then bestF A.fp A.ints (x 0) (i1 (x 1).val (x 1).isLt) else edgeBest A.fp A.ints (x 0) (i1 (x 1).val (x 1).isLt)
def shI (A : Inp F) : S16x272.Idx → BitVec 32 := fun x => bestI A.fp A.ints (x 0) (i1 (x 1).val (x 1).isLt)

/-- Tile `s`'s columns of a shared table. -/
def colW {α : Type} (T : S16x272.Idx → α) (s : Fin 16) : S16x16.Idx → α := fun x =>
  T (i2 (x 0).val (16 * s.val + (x 1).val) (x 0).isLt (by have h : (x 1).val < 16 := (x 1).isLt; have := s.isLt; omega))

theorem row_inb (n : ℕ) (h : n < 16) : ∀ a, (![n, 0] : Fin 2 → ℕ) a + S1x16.size a ≤ S16x16.size a := by
  intro a
  match a with
  | 0 => show n + 1 ≤ 16; omega
  | 1 => show 0 + 16 ≤ 16; omega

/-- Row `n` of the columns, as the kernel loads it. -/
def rowvF (A : S16x16.Idx → F .f32) (n : ℕ) (h : n < 16) : Vec F S16 .f32 :=
  shapeCast S16 (View.readAt (Elt F) s11M.view (Rect.unit (s := S16x16) ![n, 0] S1x16.size (row_inb n h)).toLoadRect A) shapeCasts_S1x16_S16
def rowvI (A : S16x16.Idx → BitVec 32) (n : ℕ) (h : n < 16) : IVec S16 32 :=
  shapeCast S16 (View.readAt (Elt F) s12M.view (Rect.unit (s := S16x16) ![n, 0] S1x16.size (row_inb n h)).toLoadRect A) shapeCasts_S1x16_S16

/-- The rows merged: the larger value, strictly, and its index. -/
def combF (A : S16x16.Idx → F .f32) : (n : ℕ) → n < 16 → Vec F S16 .f32
  | 0, h => rowvF A 0 h
  | n + 1, h => select (cmpf .ogt (rowvF A (n + 1) h) (combF A n (Nat.lt_of_succ_lt h))) (rowvF A (n + 1) h) (combF A n (Nat.lt_of_succ_lt h))
def combI (A : S16x16.Idx → F .f32) (G : S16x16.Idx → BitVec 32) : (n : ℕ) → n < 16 → IVec S16 32
  | 0, h => rowvI (F := F) G 0 h
  | n + 1, h => select (cmpf .ogt (rowvF A (n + 1) h) (combF A n (Nat.lt_of_succ_lt h))) (rowvI (F := F) G (n + 1) h) (combI A G n (Nat.lt_of_succ_lt h))
def combE (A : S16x16.Idx → F .f32) : (n : ℕ) → n < 16 → Vec F S16 .f32
  | 0, h => rowvF A 0 h
  | n + 1, h => maximumf (combE A n (Nat.lt_of_succ_lt h)) (rowvF A (n + 1) h)

def core0 : Fin τ.nSC := ⟨0, by decide⟩
def core1 : Fin τ.nSC := ⟨1, by decide⟩

/-- Tile `s`'s sixteen classes: the largest value, its index, the largest value of an edge. -/
def topF (A : Inp F) (s : Fin 16) : Vec F S16 .f32 := combF (colW (shF A core0) s) 15 (by decide)
def topI (A : Inp F) (s : Fin 16) : IVec S16 32 := combI (colW (shF A core0) s) (colW (shI A) s) 15 (by decide)
def topE (A : Inp F) (s : Fin 16) : Vec F S16 .f32 := combE (colW (shF A core1) s) 15 (by decide)

/-- The rows the call gathers, read through the tile's indices. -/
def gath (A : Inp F) (s : Fin 16) : S16x16.Idx → F .f32 := fun x =>
  A.x (i2 ((topI A s (i1 (x 0).val (x 0).isLt)).toNat % 20480) (x 1).val (Nat.mod_lt _ (by decide)) (x 1).isLt)

/-- The whole result. -/
def outF (A : Inp F) : S288x16.Idx → F .f32 := fun r =>
  if h : (r 0).val < 256 then gath A ⟨(r 0).val / 16, by omega⟩ (i2 ((r 0).val % 16) (r 1).val (Nat.mod_lt _ (by decide)) (r 1).isLt)
  else if h : (r 0).val < 272 then topF A ⟨(r 0).val - 256, by omega⟩ (i1 (r 1).val (r 1).isLt)
  else topE A ⟨(r 0).val - 272, by have h : (r 0).val < 288 := (r 0).isLt; omega⟩ (i1 (r 1).val (r 1).isLt)

/-! ## The parts of the shared tables and of the result a tile owns -/

abbrev rowSet (n : ℕ) : Finset S16x272.Idx := Finset.univ.filter fun x => (x 0).val = n
abbrev outBlk (n : ℕ) : Finset S288x16.Idx := Finset.univ.filter fun x => 16 * n ≤ (x 0).val ∧ (x 0).val < 16 * n + 16
abbrev outRow (n : ℕ) : Finset S288x16.Idx := Finset.univ.filter fun x => (x 0).val = n

omit [FloatOps F] in
theorem reshape_row {M : ℕ} (h : (⟨1, ![M]⟩ : Shape).numel = (⟨2, ![1, M]⟩ : Shape).numel) (y : (⟨1, ![M]⟩ : Shape).Idx) :
    Shape.reshapeEquiv h y = i2 0 (y 0).val Nat.one_pos (y 0).isLt := by
  refine Shape.reshapeEquiv_eq_of_rowMajor h ?_
  refine (Shape.rowMajor_val_two (d := ![1, M]) _).trans (Eq.trans ?_ (Shape.rowMajor_val_one (d := ![M]) y).symm)
  exact (congrArg (· + (y 0).val) (Nat.zero_mul M)).trans (Nat.zero_add _)

omit [FloatOps F] in
/-- A part written whole is held at any contents that have what was written. -/
theorem pts_written {sp : Space} {s : Shape} {e : EltTy} (v : View sig .scVector sp s e) (q : PosShare TreeShare)
    {f T : Buf (Elt F) (v.loc (tV d L))} {b : s.Idx → Elt F e} (hT : ∀ y, v.read (Elt F) T y = b y) :
    (v.loc (tV d L) ↦[v.set]{q} v.writes (Elt F) f [⟨Rect.whole s, b⟩] : sProp (MM F)) = (v.loc (tV d L) ↦[v.set]{q} T) := by
  refine pointsTo_congr fun i hi => ?_
  obtain ⟨y, -, rfl⟩ := Finset.mem_map.mp hi
  have h1 : v.read (Elt F) (v.writes (Elt F) f [⟨Rect.whole s, b⟩]) y = b y := by
    have := View.read_writes_cons_emb (Val := Elt F) v f (Rect.whole s) b [] y
    rwa [Rect.emb_whole_apply] at this
  have h2 := h1.trans (hT y).symm
  exact (cast_inj (congrArg (Elt F) v.elt_eq)).mp h2

section
omit [FloatOps F]
variable (h1 : k0_cond1 L = 1#1) (h2 : k0_cond2 L = 1#1) (h3 : k0_cond3 L = 1#1) (h4 : k0_cond4 L = 1#1)

abbrev rowE : Memref sig .scVector .shared S272 .f32 :=
  (s9M.slice (Rect.unit (s := S16x272) (k0_off9 L) S1x272.size (k0_off9_inb L h2)) (fun _ => rfl)).squeeze S272 squeezes_S1x272_S272
abbrev oRowF : Memref sig .scVector .hbm S16 .f32 :=
  (outM.slice (Rect.unit (s := S288x16) (k0_off11 L) S1x16.size (k0_off11_inb L h3)) (fun _ => rfl)).squeeze S16 squeezes_S1x16_S16
abbrev oRowE : Memref sig .scVector .hbm S16 .f32 :=
  (outM.slice (Rect.unit (s := S288x16) (k0_off14 L) S1x16.size (k0_off14_inb L h4)) (fun _ => rfl)).squeeze S16 squeezes_S1x16_S16
abbrev oBlk : Memref sig .scVector .hbm S16x16 .f32 :=
  outM.slice (Rect.unit (s := S288x16) (k0_off12 L) S16x16.size (k0_off12_inb L h3)) (fun _ => rfl)

theorem sid_lt : (L 1).val < 16 := (L 1).isLt

/-- A row of a matrix, squeezed: where its elements lie. -/
theorem row_idx {N M : ℕ} (off : Fin 2 → ℕ) (inb) (r : ℕ) (hr : r < N) (h0 : off 0 = r) (h1 : off 1 = 0) (b : ℕ) (hb : b < M) :
    (Rect.unit (s := ⟨2, ![N, M]⟩) off ![1, M] inb).emb (i2 0 b Nat.one_pos hb) = i2 r b hr hb := by
  refine funext fun a => Fin.ext ?_
  match a with
  | 0 => show off 0 + 1 * 0 = r; omega
  | 1 => show off 1 + 1 * b = b; omega

theorem emb_rowF (y : S272.Idx) : (rowF L h1).view.emb y = i2 (L 1).val (y 0).val (sid_lt L) (y 0).isLt := by
  show (Rect.unit (s := S16x272) (k0_off5 L) S1x272.size (k0_off5_inb L h1)).emb (Shape.reshapeEquiv _ y) = _
  rw [reshape_row]
  exact row_idx _ _ _ _ (by rw [k0_off5_eq]; rfl) (by rw [k0_off5_eq]; rfl) _ _
theorem emb_rowI (y : S272.Idx) : (rowI L h1).view.emb y = i2 (L 1).val (y 0).val (sid_lt L) (y 0).isLt := by
  show (Rect.unit (s := S16x272) (k0_off5 L) S1x272.size (k0_off5_inb L h1)).emb (Shape.reshapeEquiv _ y) = _
  rw [reshape_row]
  exact row_idx _ _ _ _ (by rw [k0_off5_eq]; rfl) (by rw [k0_off5_eq]; rfl) _ _
theorem emb_rowE (y : S272.Idx) : (rowE L h2).view.emb y = i2 (L 1).val (y 0).val (sid_lt L) (y 0).isLt := by
  show (Rect.unit (s := S16x272) (k0_off9 L) S1x272.size (k0_off9_inb L h2)).emb (Shape.reshapeEquiv _ y) = _
  rw [reshape_row]
  exact row_idx _ _ _ _ (by rw [k0_off9_eq]; rfl) (by rw [k0_off9_eq]; rfl) _ _
theorem emb_oRowF (y : S16.Idx) : (oRowF L h3).view.emb y = i2 ((L 1).val + 256) (y 0).val (by have := sid_lt L; omega) (y 0).isLt := by
  show (Rect.unit (s := S288x16) (k0_off11 L) S1x16.size (k0_off11_inb L h3)).emb (Shape.reshapeEquiv _ y) = _
  rw [reshape_row]
  exact row_idx _ _ _ _ (by rw [k0_off11_eq]; rfl) (by rw [k0_off11_eq]; rfl) _ _
theorem emb_oRowE (y : S16.Idx) : (oRowE L h4).view.emb y = i2 ((L 1).val + 272) (y 0).val (by have := sid_lt L; omega) (y 0).isLt := by
  show (Rect.unit (s := S288x16) (k0_off14 L) S1x16.size (k0_off14_inb L h4)).emb (Shape.reshapeEquiv _ y) = _
  rw [reshape_row]
  exact row_idx _ _ _ _ (by rw [k0_off14_eq]; rfl) (by rw [k0_off14_eq]; rfl) _ _
theorem emb_oBlk (y : S16x16.Idx) : (oBlk L h3).view.emb y
    = i2 (16 * (L 1).val + (y 0).val) (y 1).val (by have := sid_lt L; have h : (y 0).val < 16 := (y 0).isLt; omega) (y 1).isLt := by
  refine funext fun a => Fin.ext ?_
  match a with
  | 0 => show k0_off12 L 0 + 1 * (y 0).val = 16 * (L 1).val + (y 0).val; rw [k0_off12_eq, Nat.one_mul]; rfl
  | 1 => show k0_off12 L 1 + 1 * (y 1).val = (y 1).val; rw [k0_off12_eq, Nat.one_mul]; exact Nat.zero_add _

/-- The set of a row's elements. -/
theorem row_set {N M : ℕ} (v : (⟨1, ![M]⟩ : Shape).Idx ↪ (⟨2, ![N, M]⟩ : Shape).Idx) (r : ℕ) (hr : r < N)
    (hv : ∀ y, v y = i2 r (y 0).val hr (y 0).isLt) :
    Finset.univ.map v = Finset.univ.filter fun x : (⟨2, ![N, M]⟩ : Shape).Idx => (x 0).val = r := by
  ext x
  rw [Finset.mem_map, Finset.mem_filter]
  constructor
  · rintro ⟨y, -, rfl⟩; rw [hv]; exact ⟨Finset.mem_univ _, rfl⟩
  · rintro ⟨-, hx⟩
    refine ⟨i1 (x 1).val (x 1).isLt, Finset.mem_univ _, ?_⟩
    rw [hv]
    refine funext fun a => Fin.ext ?_
    match a with
    | 0 => exact hx.symm
    | 1 => rfl

theorem set_rowF : (rowF L h1).view.set = rowSet (L 1).val := row_set _ _ _ (emb_rowF L h1)
theorem set_rowI : (rowI L h1).view.set = rowSet (L 1).val := row_set _ _ _ (emb_rowI L h1)
theorem set_rowE : (rowE L h2).view.set = rowSet (L 1).val := row_set _ _ _ (emb_rowE L h2)
theorem set_oRowF : (oRowF L h3).view.set = outRow ((L 1).val + 256) := row_set _ _ _ (emb_oRowF L h3)
theorem set_oRowE : (oRowE L h4).view.set = outRow ((L 1).val + 272) := row_set _ _ _ (emb_oRowE L h4)
theorem set_oBlk : (oBlk L h3).view.set = outBlk (L 1).val := by
  ext x
  show x ∈ Finset.univ.map (oBlk L h3).view.emb ↔ _
  rw [Finset.mem_map, Finset.mem_filter]
  constructor
  · rintro ⟨y, -, rfl⟩
    rw [emb_oBlk]
    have h : (y 0).val < 16 := (y 0).isLt
    exact ⟨Finset.mem_univ _, Nat.le_add_right _ _, by show 16 * (L 1).val + (y 0).val < _; omega⟩
  · rintro ⟨-, hx, hx'⟩
    refine ⟨i2 ((x 0).val - 16 * (L 1).val) (x 1).val (by omega) (x 1).isLt, Finset.mem_univ _, ?_⟩
    rw [emb_oBlk]
    refine funext fun a => Fin.ext ?_
    match a with
    | 0 => show 16 * (L 1).val + ((x 0).val - 16 * (L 1).val) = (x 0).val; omega
    | 1 => rfl

/-- Where a block of columns lies. -/
theorem col_idx (off : Fin 2 → ℕ) (inb) (s : Fin 16) (h0 : off 0 = 0) (h1 : off 1 = 16 * s.val) (x : S16x16.Idx) :
    (Rect.unit (s := S16x272) off S16x16.size inb).emb x
      = i2 (x 0).val (16 * s.val + (x 1).val) (x 0).isLt (by have h : (x 1).val < 16 := (x 1).isLt; have := s.isLt; omega) := by
  refine funext fun a => Fin.ext ?_
  match a with
  | 0 => show off 0 + 1 * (x 0).val = (x 0).val; omega
  | 1 => show off 1 + 1 * (x 1).val = 16 * s.val + (x 1).val; omega

/-- The columns a tile reads of a shared table. -/
theorem colF_read (T : S16x272.Idx → F .f32) :
    View.read (Elt F) (s9M.slice (Rect.unit (s := S16x272) (k0_off10 L) S16x16.size (k0_off10_inb L h3)) (fun _ => rfl)).view T = colW T (sidV L) :=
  funext fun x => congrArg T (col_idx _ _ (sidV L) (by rw [k0_off10_eq]; rfl) (by rw [k0_off10_eq]; rfl) x)
theorem colI_read (T : S16x272.Idx → BitVec 32) :
    View.read (Elt F) (s10M.slice (Rect.unit (s := S16x272) (k0_off10 L) S16x16.size (k0_off10_inb L h3)) (fun _ => rfl)).view T = colW T (sidV L) :=
  funext fun x => congrArg T (col_idx _ _ (sidV L) (by rw [k0_off10_eq]; rfl) (by rw [k0_off10_eq]; rfl) x)
theorem colE_read (T : S16x272.Idx → F .f32) :
    View.read (Elt F) (s9M.slice (Rect.unit (s := S16x272) (k0_off13 L) S16x16.size (k0_off13_inb L h4)) (fun _ => rfl)).view T = colW T (sidV L) :=
  funext fun x => congrArg T (col_idx _ _ (sidV L) (by rw [k0_off13_eq]; rfl) (by rw [k0_off13_eq]; rfl) x)

end

/-! ## The pieces as the task leaves them -/

theorem outF_blk (A : Inp F) (s : Fin 16) (y : S16x16.Idx) (h) : outF A (i2 (16 * s.val + (y 0).val) (y 1).val h (y 1).isLt) = gath A s y := by
  have hy : (y 0).val < 16 := (y 0).isLt
  have hs := s.isLt
  unfold outF
  rw [dif_pos (show 16 * s.val + (y 0).val < 256 by omega)]
  have e1 : (⟨(16 * s.val + (y 0).val) / 16, by omega⟩ : Fin 16) = s := Fin.ext (by show (16 * s.val + (y 0).val) / 16 = s.val; omega)
  have e2 : (16 * s.val + (y 0).val) % 16 = (y 0).val := by omega
  have e3 : (i2 ((16 * s.val + (y 0).val) % 16) (y 1).val (Nat.mod_lt _ (by decide)) (y 1).isLt : S16x16.Idx) = y := by
    refine funext fun a => Fin.ext ?_
    match a with
    | 0 => exact e2
    | 1 => rfl
  exact congr (congrArg (gath A) e1) e3
omit [FloatOps F] in
theorem i1_eta {N : ℕ} (y : (⟨1, ![N]⟩ : Shape).Idx) : (i1 (y 0).val (y 0).isLt : (⟨1, ![N]⟩ : Shape).Idx) = y := by
  refine funext (β := fun _ : Fin 1 => _) fun a => ?_
  obtain rfl : a = 0 := Subsingleton.elim _ _
  rfl
theorem outF_topF (A : Inp F) (s : Fin 16) (y : S16.Idx) (h) : outF A (i2 (s.val + 256) (y 0).val h (y 0).isLt) = topF A s y := by
  have hs := s.isLt
  unfold outF
  rw [dif_neg (show ¬ s.val + 256 < 256 by omega), dif_pos (show s.val + 256 < 272 by omega)]
  exact congr (congrArg (topF A) (Fin.ext (by show s.val + 256 - 256 = s.val; omega))) (i1_eta y)
theorem outF_topE (A : Inp F) (s : Fin 16) (y : S16.Idx) (h) : outF A (i2 (s.val + 272) (y 0).val h (y 0).isLt) = topE A s y := by
  have hs := s.isLt
  unfold outF
  rw [dif_neg (show ¬ s.val + 272 < 256 by omega), dif_neg (show ¬ s.val + 272 < 272 by omega)]
  exact congr (congrArg (topE A) (Fin.ext (by show s.val + 272 - 272 = s.val; omega))) (i1_eta y)

end Cert.Proof.Sc

end
-- ==== Proof.Sc.Barrier.lean ====
/-
  The subcore barrier of a SparseCore's tiles: its cells, what its duties hand over, and the shares of the shared tables.
-/
module

public import proofs.«01_k».proof.Proof.Sc.Rows

@[expose] public section

set_option maxRecDepth 16384

noncomputable section

namespace Cert.Proof.Sc

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable (d : Dev nD) (L : grid0.Coords)
open Idealize.ShloMosaic.Rounds

/-! ## The barrier: cells, schedule, kit -/

/-- The barrier's counters: the middle component of the algebra. -/
def EB : Emb UB (MM F) :=
  ((Emb.inl : Emb UB (UB × (UP × Counters))).trans (Emb.inr : Emb (UB × (UP × Counters)) UU)).trans
    (uEmb (nD := nD) (sig := sig) (Ix := HIx 1) (Val := Elt F) (Name := ℕ) (U := UU) (Lvl := ℕ)).toEmb
omit [FloatOps F] in
instance EB_landsIn : (EB : Emb UB (MM F)).LandsIn (upEmb : UEmb _ (MM F)) := by unfold EB; infer_instance

abbrev sh9 (d : Dev nD) (c : Fin τ.nSC) : Loc nD τ sig := (d, ⟨.shared, ⟨0, by decide⟩, c⟩)
abbrev sh10 (d : Dev nD) (c : Fin τ.nSC) : Loc nD τ sig := (d, ⟨.shared, ⟨1, by decide⟩, c⟩)

theorem sh9_eq : s9M.view.loc (tV d L) = sh9 d (cV L) := rfl
theorem sh10_eq : s10M.view.loc (tV d L) = sh10 d (cV L) := rfl

abbrev bcell (d : Dev nD) (c : Fin τ.nSC) (j : Fin τ.nSub) : GSem nD τ sig := (V d c j, .reg sc_bar0)

/-- Is it a barrier cell. -/
def isBar : GSem nD τ sig → Bool
  | ((_, .scVector _ _), sm) => decide (sm = .reg sc_bar0)
  | _ => false

/-- The share of a shared table tile `j` reads after the barrier, and what stays with a row's owner. -/
abbrev tk (j : Fin 16) : PosShare TreeShare := Transfers.shareTok fullShare 16 j
abbrev dr : PosShare TreeShare := Transfers.shareDrop fullShare 16

variable (A : Dev nD → Inp F)

/-- A part of core `c`'s shared tables at a share: of the indices' table too on core 0. -/
def partAt (d : Dev nD) (c : Fin τ.nSC) (s : Finset S16x272.Idx) (q : PosShare TreeShare) : sProp (MM F) :=
  iprop((sh9 d c ↦[s]{q} shF (A d) c) ∗ (if c.val = 0 then (sh10 d c ↦[s]{q} shI (A d)) else iprop(emp)))
abbrev rowAt (d : Dev nD) (c : Fin τ.nSC) (n : ℕ) (q : PosShare TreeShare) : sProp (MM F) := partAt A d c (rowSet n) q
abbrev tabAt (d : Dev nD) (c : Fin τ.nSC) (q : PosShare TreeShare) : sProp (MM F) := partAt A d c Finset.univ q

/-- What tile `n`'s duty in tile `j`'s round hands over: its row, at `j`'s share. -/
def bPay (g : GSem nD τ sig) (n : ℕ) : sProp (MM F) :=
  match g with
  | ((d, .scVector c j), _) => rowAt A d c n (tk (j.cast (by decide)))
  | _ => iprop(emp)

def bRd : Rounds.Schedule (GSem nD τ sig) ℕ (MM F) where
  duties g r := if isBar g ∧ r = 0 then (Finset.univ : Finset (Fin τ.nSub)).image Fin.val else ∅
  amount _ _ _ := 1
  payload g _ n := bPay A g n
  amount_pos _ _ _ _ := Nat.one_pos

instance partAt_storable (d : Dev nD) (c : Fin τ.nSC) (s : Finset S16x272.Idx) (q : PosShare TreeShare) :
    BI.Storable (upEmb : UEmb _ (MM F)) (partAt A d c s q) := by
  unfold partAt; split <;> infer_instance
instance bRd_storable (g : GSem nD τ sig) (r n : ℕ) : BI.Storable (upEmb : UEmb _ (MM F)) ((bRd A).payload g r n) := by
  show BI.Storable upEmb (bPay A g n)
  unfold bPay
  rcases g with ⟨⟨d, _ | c | ⟨c, i⟩⟩, sm⟩ <;> dsimp only <;> infer_instance

theorem duties₀ (d : Dev nD) (c : Fin τ.nSC) (j : Fin τ.nSub) :
    (bRd A).duties (bcell d c j) 0 = (Finset.univ : Finset (Fin τ.nSub)).image Fin.val := by
  simp [bRd, isBar]
theorem duties_succ (g : GSem nD τ sig) (r : ℕ) (hr : 1 ≤ r) : (bRd A).duties g r = ∅ :=
  if_neg fun h => absurd h.2 (Nat.ne_of_gt hr)
theorem mem_duties (d : Dev nD) (c : Fin τ.nSC) (j i : Fin τ.nSub) : i.val ∈ (bRd A).duties (bcell d c j) 0 := by
  rw [duties₀]; exact Finset.mem_image_of_mem _ (Finset.mem_univ i)
theorem expect₀ (d : Dev nD) (c : Fin τ.nSC) (j : Fin τ.nSub) : 0 + grid0.bound 1 = (bRd A).expect (bcell d c j) 0 := by
  unfold Rounds.Schedule.expect; rw [duties₀]
  show 0 + 16 = ∑ x ∈ (Finset.univ : Finset (Fin 16)).image Fin.val, 1
  rw [Finset.sum_const, Finset.card_image_of_injective _ Fin.val_injective]; rfl

/-- A tile's debt for the barrier: one unit on every tile's cell of its core. -/
def oxV (d : Dev nD) (c : Fin τ.nSC) : CellTallies nD τ sig (HIx 1) :=
  ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]
omit [FloatOps F] in
theorem oxV_pos {d : Dev nD} {c : Fin τ.nSC} {g : GSem nD τ sig} {ι : HIx 1} (h : 0 < oxV d c g ι) :
    ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- What the launch gives a tile for the barrier. -/
def bkit (d : Dev nD) (c : Fin τ.nSC) (i : Fin τ.nSub) : sProp (MM F) :=
  iprop((∃ κ : GSem nD τ sig → ℕ, bigSep Finset.univ fun j : Fin (grid0.bound 1) =>
      cellInv EB (bRd A) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## The tables' shares -/

omit [FloatOps F] in
theorem bigSep_none {I : Type} (s : Finset I) : (bigSep s fun _ => iprop(emp)) = (iprop(emp) : sProp (MM F)) := bigSep_emp_const s

omit [FloatOps F] in
theorem rows_disj : ∀ t ∈ Finset.range 16, ∀ t' ∈ Finset.range 16, t ≠ t' → Disjoint (rowSet t) (rowSet t') := fun t _ t' _ h =>
  Finset.disjoint_filter.mpr fun _ _ h1 h2 => h (h1.symm.trans h2)
omit [FloatOps F] in
theorem rows_univ : (Finset.range 16).biUnion rowSet = Finset.univ := by
  ext x
  simp only [Finset.mem_biUnion, Finset.mem_range, Finset.mem_filter, Finset.mem_univ, true_and, iff_true]
  exact ⟨(x 0).val, (x 0).isLt, rfl⟩

/-- Row by row the tables are the tables. -/
theorem tab_rows (d : Dev nD) (c : Fin τ.nSC) (q : PosShare TreeShare) :
    (bigSep (Finset.range 16) fun n => rowAt A d c n q) = tabAt A d c q := by
  unfold rowAt tabAt partAt
  rw [bigSep_sep', ← pointsTo_biUnion (Finset.range 16) (ℓ := sh9 d c) rowSet rows_disj, rows_univ]
  split
  · rw [← pointsTo_biUnion (Finset.range 16) (ℓ := sh10 d c) rowSet rows_disj, rows_univ]
  · rw [bigSep_none]

/-- A part whole is what stays and the readers' shares. -/
theorem part_toks (d : Dev nD) (c : Fin τ.nSC) (s : Finset S16x272.Idx) :
    partAt A d c s fullShare ⊣⊢ iprop(partAt A d c s dr ∗ bigSep Finset.univ fun j : Fin 16 => partAt A d c s (tk j)) := by
  unfold partAt
  rw [bigSep_sep']
  split
  · constructor
    · iintro ⟨H, H'⟩
      ihave H := (Transfers.pointsTo_toks fullShare 16).1 $$ H
      ihave H' := (Transfers.pointsTo_toks fullShare 16).1 $$ H'
      icases H with ⟨Ha, Hb⟩
      icases H' with ⟨Ha', Hb'⟩
      isplitl [Ha Ha']
      · isplitl [Ha] <;> iassumption
      · isplitl [Hb] <;> iassumption
    · iintro ⟨⟨Ha, Ha'⟩, Hb, Hb'⟩
      isplitl [Ha Hb]
      · iapply (Transfers.pointsTo_toks fullShare 16).2; isplitl [Ha] <;> iassumption
      · iapply (Transfers.pointsTo_toks fullShare 16).2; isplitl [Ha'] <;> iassumption
  · rw [bigSep_none]
    constructor
    · iintro ⟨H, -⟩
      ihave H := (Transfers.pointsTo_toks fullShare 16).1 $$ H
      icases H with ⟨Ha, Hb⟩
      isplitl [Ha]
      · isplitl [Ha]; · iassumption
        iempintro
      · isplitl [Hb]; · iassumption
        iempintro
    · iintro ⟨⟨Ha, -⟩, Hb, -⟩
      isplitl [Ha Hb]
      · iapply (Transfers.pointsTo_toks fullShare 16).2; isplitl [Ha] <;> iassumption
      · iempintro

/-- Before the barrier a tile's row pays its duties; -/
theorem pays_intro : rowAt A d (cV L) (jV L).val fullShare
    ⊢ iprop(rowAt A d (cV L) (jV L).val dr
      ∗ bigSep Finset.univ fun j : Fin (grid0.bound 1) => (bRd A).payload (bcell d (cV L) (j.castLE hsub0)) 0 (jV L).val) :=
  (part_toks A d (cV L) _).1

/-- after it, its round has collected the tables at its share. -/
theorem pays_elim : (bigSep ((bRd A).duties (bcell d (cV L) (jV L)) 0 \ ∅) fun n => (bRd A).payload (bcell d (cV L) (jV L)) 0 n)
    ⊢ tabAt A d (cV L) (tk (sidV L)) := by
  rw [Finset.sdiff_empty, duties₀, ← tab_rows]
  rw [show (Finset.univ : Finset (Fin τ.nSub)).image Fin.val = Finset.range 16 by decide]
  exact BI.Entails.refl _

end Cert.Proof.Sc

end
-- ==== Proof.Sc.Combine.lean ====
/-
  The combination of the tiles' tables, and the parts of the result as written.
-/
module

public import proofs.«01_k».proof.Proof.Sc.Barrier

@[expose] public section

set_option maxRecDepth 16384

noncomputable section

namespace Cert.Proof.Sc

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable (d : Dev nD) (L : grid0.Coords)

omit [FloatOps F] in
theorem pts_rowF (h1 : k0_cond1 L = 1#1) (f : S16x272.Idx → F .f32) :
    (sh9 d (cV L) ↦[rowSet (L 1).val]{fullShare} f : sProp (MM F)) = ((rowF L h1).view.loc (tV d L) ↦[(rowF L h1).view.set]{fullShare} f) := by
  rw [set_rowF]; rfl
omit [FloatOps F] in
theorem pts_rowI (h1 : k0_cond1 L = 1#1) (f : S16x272.Idx → BitVec 32) :
    (sh10 d (cV L) ↦[rowSet (L 1).val]{fullShare} f : sProp (MM F)) = ((rowI L h1).view.loc (tV d L) ↦[(rowI L h1).view.set]{fullShare} f) := by
  rw [set_rowI]; rfl
omit [FloatOps F] in
theorem pts_rowE (h2 : k0_cond2 L = 1#1) (f : S16x272.Idx → F .f32) :
    (sh9 d (cV L) ↦[rowSet (L 1).val]{fullShare} f : sProp (MM F)) = ((rowE L h2).view.loc (tV d L) ↦[(rowE L h2).view.set]{fullShare} f) := by
  rw [set_rowE]; rfl
omit [FloatOps F] in
theorem pts_oBlk (h3 : k0_cond3 L = 1#1) (f : S288x16.Idx → F .f32) :
    (outM.view.loc (tV d L) ↦[outBlk (L 1).val]{fullShare} f : sProp (MM F)) = ((oBlk L h3).view.loc (tV d L) ↦[(oBlk L h3).view.set]{fullShare} f) := by
  rw [set_oBlk]
omit [FloatOps F] in
theorem pts_oRowF (h3 : k0_cond3 L = 1#1) (f : S288x16.Idx → F .f32) :
    (outM.view.loc (tV d L) ↦[outRow ((L 1).val + 256)]{fullShare} f : sProp (MM F)) = ((oRowF L h3).view.loc (tV d L) ↦[(oRowF L h3).view.set]{fullShare} f) := by
  rw [set_oRowF]
omit [FloatOps F] in
theorem pts_oRowE (h4 : k0_cond4 L = 1#1) (f : S288x16.Idx → F .f32) :
    (outM.view.loc (tV d L) ↦[outRow ((L 1).val + 272)]{fullShare} f : sProp (MM F)) = ((oRowE L h4).view.loc (tV d L) ↦[(oRowE L h4).view.set]{fullShare} f) := by
  rw [set_oRowE]

/-- The rows as written. -/
theorem done_rowF (h1 : k0_cond1 L = 1#1) (h0 : (cV L).val = 0) (I : Inp F) (f : S16x272.Idx → F .f32) :
    ((rowF L h1).view.loc (tV d L) ↦[(rowF L h1).view.set]{fullShare} (rowF L h1).view.writes (Elt F) f [⟨Rect.whole S272, bestF I.fp I.ints (sidV L)⟩] : sProp (MM F))
      = (sh9 d (cV L) ↦[rowSet (L 1).val]{fullShare} shF I (cV L)) := by
  rw [pts_rowF d L h1]
  refine pts_written d L (rowF L h1).view fullShare fun y => ?_
  show shF I (cV L) ((rowF L h1).view.emb y) = _
  rw [emb_rowF]
  unfold shF
  rw [if_pos h0]
  exact congrArg (bestF I.fp I.ints (sidV L)) (i1_eta y)
theorem done_rowI (h1 : k0_cond1 L = 1#1) (I : Inp F) (f : S16x272.Idx → BitVec 32) :
    ((rowI L h1).view.loc (tV d L) ↦[(rowI L h1).view.set]{fullShare} (rowI L h1).view.writes (Elt F) f [⟨Rect.whole S272, bestI I.fp I.ints (sidV L)⟩] : sProp (MM F))
      = (sh10 d (cV L) ↦[rowSet (L 1).val]{fullShare} shI I) := by
  rw [pts_rowI d L h1]
  refine pts_written d L (rowI L h1).view fullShare fun y => ?_
  show shI I ((rowI L h1).view.emb y) = _
  rw [emb_rowI]
  exact congrArg (bestI I.fp I.ints (sidV L)) (i1_eta y)
theorem done_rowE (h2 : k0_cond2 L = 1#1) (h0 : ¬ (cV L).val = 0) (I : Inp F) (f : S16x272.Idx → F .f32) :
    ((rowE L h2).view.loc (tV d L) ↦[(rowE L h2).view.set]{fullShare} (rowE L h2).view.writes (Elt F) f [⟨Rect.whole S272, edgeBest I.fp I.ints (sidV L)⟩] : sProp (MM F))
      = (sh9 d (cV L) ↦[rowSet (L 1).val]{fullShare} shF I (cV L)) := by
  rw [pts_rowE d L h2]
  refine pts_written d L (rowE L h2).view fullShare fun y => ?_
  show shF I (cV L) ((rowE L h2).view.emb y) = _
  rw [emb_rowE]
  unfold shF
  rw [if_neg h0]
  exact congrArg (edgeBest I.fp I.ints (sidV L)) (i1_eta y)
theorem done_oBlk (h3 : k0_cond3 L = 1#1) (I : Inp F) (f : S288x16.Idx → F .f32) :
    ((oBlk L h3).view.loc (tV d L) ↦[(oBlk L h3).view.set]{fullShare} (oBlk L h3).view.writes (Elt F) f [⟨Rect.whole S16x16, gath I (sidV L)⟩] : sProp (MM F))
      = (outM.view.loc (tV d L) ↦[outBlk (L 1).val]{fullShare} outF I) := by
  rw [pts_oBlk d L h3]
  refine pts_written d L (oBlk L h3).view fullShare fun y => ?_
  show outF I ((oBlk L h3).view.emb y) = _
  rw [emb_oBlk]
  exact outF_blk I (sidV L) y _
theorem done_oRowF (h3 : k0_cond3 L = 1#1) (I : Inp F) (f : S288x16.Idx → F .f32) :
    ((oRowF L h3).view.loc (tV d L) ↦[(oRowF L h3).view.set]{fullShare} (oRowF L h3).view.writes (Elt F) f [⟨Rect.whole S16, topF I (sidV L)⟩] : sProp (MM F))
      = (outM.view.loc (tV d L) ↦[outRow ((L 1).val + 256)]{fullShare} outF I) := by
  rw [pts_oRowF d L h3]
  refine pts_written d L (oRowF L h3).view fullShare fun y => ?_
  show outF I ((oRowF L h3).view.emb y) = _
  rw [emb_oRowF]
  exact outF_topF I (sidV L) y _
theorem done_oRowE (h4 : k0_cond4 L = 1#1) (I : Inp F) (f : S288x16.Idx → F .f32) :
    ((oRowE L h4).view.loc (tV d L) ↦[(oRowE L h4).view.set]{fullShare} (oRowE L h4).view.writes (Elt F) f [⟨Rect.whole S16, topE I (sidV L)⟩] : sProp (MM F))
      = (outM.view.loc (tV d L) ↦[outRow ((L 1).val + 272)]{fullShare} outF I) := by
  rw [pts_oRowE d L h4]
  refine pts_written d L (oRowE L h4).view fullShare fun y => ?_
  show outF I ((oRowE L h4).view.emb y) = _
  rw [emb_oRowE]
  exact outF_topE I (sidV L) y _
theorem bar_ne_go : (sc_bar0 : Sem sig) ≠ (K (F := F)).go := by
  show (sc_bar0 : Sem sig) ≠ sc_go
  decide

/-! ## The indices a tile gathers are hits -/

theorem sel_lt {c : BitVec 1} {a b : BitVec 32} (ha : a.toNat < 20480) (hb : b.toNat < 20480) : (Scalar.select c a b).toNat < 20480 := by
  unfold Scalar.select
  split <;> assumption

theorem hitTab_lt (w : ℕ) (hw : w < 16) (fw : Vec F S1280 .f32) (yw : IVec S1280 32) (k : ℕ) (hk : k ≤ 80) (j : S4352.Idx) :
    (hitTab w fw yw k hk j).2.toNat < 20480 := by
  induction k with
  | zero => show (0#32).toNat < 20480; decide
  | succ k ih =>
    have hj : (j 0).val < 4352 := (j 0).isLt
    unfold hitTab upd
    dsimp only
    split
    · show (BitVec.ofNat 32 (1280 * w + (16 * k + (j 0).val / 272))).toNat < 20480
      rw [BitVec.toNat_ofNat]
      refine lt_of_le_of_lt (Nat.mod_le _ _) ?_
      omega
    · exact ih _

theorem mergeH_lt (T : S4352.Idx → F .f32) (G : S4352.Idx → BitVec 32) (hG : ∀ x, (G x).toNat < 20480) (j : ℕ) (hj : j < 17) (n : ℕ) (hn : n < 16) (x : S16.Idx) :
    ((mergeH T G j hj n hn).2 x).toNat < 20480 := by
  induction n with
  | zero => exact hG _
  | succ n ih => exact sel_lt (hG _) (ih _)

theorem shI_lt (A : Inp F) (x : S16x272.Idx) : (shI A x).toNat < 20480 :=
  mergeH_lt _ _ (fun _ => hitTab_lt _ (x 0).isLt _ _ _ _ _) _ _ _ _ _

theorem combI_lt (A : S16x16.Idx → F .f32) (G : S16x16.Idx → BitVec 32) (hG : ∀ x, (G x).toNat < 20480) (n : ℕ) (hn : n < 16) (x : S16.Idx) :
    (combI A G n hn x).toNat < 20480 := by
  induction n with
  | zero => exact hG _
  | succ n ih => exact sel_lt (hG _) (ih _)

theorem topI_lt (A : Inp F) (s : Fin 16) (x : S16.Idx) : (topI A s x).toNat < 20480 :=
  combI_lt _ _ (fun _ => shI_lt A _) _ _ _

abbrev xAll : Memref sig .scVector .hbm S20480x16 .f32 :=
  xM.slice (Rect.unit (s := S20480x16) ![0, 0] S20480x16.size inb_S20480x16_S20480x16_0_0) (fun _ => rfl)

theorem hin_topI (A : Inp F) (s : Fin 16) : ∀ x, (s13M.view.read (Elt F) (topI A s) x).toNat < S20480x16.size gathers_S20480x16_S16x16.axis :=
  fun x => topI_lt A s x

/-- What the gather delivers. -/
theorem gath_eq (A : Inp F) (s : Fin 16) (hn : S16.numel = S16x16.size gathers_S20480x16_S16x16.axis') :
    SparseCore.gatherPayload gathers_S20480x16_S16x16 (xAll.view.read (Elt F) A.x)
      (SparseCore.rows (s13M.view.read (Elt F) (topI A s)) hn (hin_topI A s)) = gath A s := by
  funext x
  unfold SparseCore.gatherPayload gath
  show A.x (xAll.view.emb _) = _
  refine congrArg A.x (funext fun a => Fin.ext ?_)
  match a with
  | 0 =>
    show 0 + 1 * (topI A s (S16.rowMajor.symm ((x 0).cast hn.symm))).toNat = _
    rw [Nat.one_mul, Nat.zero_add]
    have e : S16.rowMajor.symm ((x 0).cast hn.symm) = i1 (x 0).val (x 0).isLt := by
      refine (Equiv.symm_apply_eq _).mpr (Fin.ext ?_)
      exact (Shape.rowMajor_val_one (d := ![16]) (i1 (x 0).val (x 0).isLt)).symm
    rw [e]
    exact (Nat.mod_eq_of_lt (topI_lt A s _)).symm
  | 1 => show 0 + 1 * (x 1).val = (x 1).val; omega

theorem core_eq (h0 : (cV L).val = 0) : cV L = core0 := Fin.ext h0

set_option maxHeartbeats 8000000 in
theorem part67_wp (q : PosShare TreeShare) (T : S16x272.Idx → F .f32) (G : S16x272.Idx → BitVec 32)
    (f11 : Buf (Elt F) (s11M.view.loc (tV d L))) (f12 : Buf (Elt F) (s12M.view.loc (tV d L)))
    (O : CellTallies nD τ sig (HIx 1)) (W : Waits sig (HIx 1)) (h3 : k0_cond3 L = 1#1) :
    (iprop(Transfers.MayWaits (tV d L) (none : HIx 1) O
      ∗ (s9M.view.loc (tV d L) ↦{q} T) ∗ (s10M.view.loc (tV d L) ↦{q} G)
      ∗ (s11M.view.loc (tV d L) ↦{fullShare} f11) ∗ (s12M.view.loc (tV d L) ↦{fullShare} f12)
      ∗ semVal (tV d L, SemLoc.dma cc0_scoped3.sem) 0 ∗ semVal (tV d L, SemLoc.dma cc0_scoped4.sem) 0
      ∗ owes (tV d L) O W) : sProp (MM F))
     ⊢ wp frame (wpE (defs₀ (F := F)) 𝒱₀ (tV d L) none) Set.univ
      (k0_part67 L fpM (Memref.isWhole_whole _) intM (Memref.isWhole_whole _) xM (Memref.isWhole_whole _) outM (Memref.isWhole_whole _) s0M (Memref.isWhole_whole _) s1M (Memref.isWhole_whole _) s2M (Memref.isWhole_whole _) s3M (Memref.isWhole_whole _) s4M (Memref.isWhole_whole _) s5M (Memref.isWhole_whole _) s6M (Memref.isWhole_whole _) s7M (Memref.isWhole_whole _) s8M (Memref.isWhole_whole _) s9M (Memref.isWhole_whole _) s10M (Memref.isWhole_whole _) s11M (Memref.isWhole_whole _) s12M (Memref.isWhole_whole _) s13M (Memref.isWhole_whole _) s14M (Memref.isWhole_whole _) s15M (Memref.isWhole_whole _) cc0_scratch16 cc0_scratch17 cc0_scratch18 cc0_scratch19 cc0_scoped0 cc0_scoped1 cc0_scoped2 cc0_scoped3 cc0_scoped4 cc0_scoped5 cc0_scoped6 cc0_scoped7 cc0_scoped8 h3) (fun r => iprop(
        ⌜r.1 = combF (colW T (sidV L)) 2 (by decide)⌝ ∗ ⌜r.2.1 = combI (colW T (sidV L)) (colW G (sidV L)) 2 (by decide)⌝
      ∗ ⌜r.2.2 = View.readAt (Elt F) s11M.view (Rect.unit (s := S16x16) ![3, 0] S1x16.size inb_S16x16_S1x16_3_0).toLoadRect (colW T (sidV L))⌝
      ∗ Transfers.MayWaits (tV d L) (none : HIx 1) O
      ∗ (s9M.view.loc (tV d L) ↦{q} T) ∗ (s10M.view.loc (tV d L) ↦{q} G)
      ∗ (s11M.view.loc (tV d L) ↦{fullShare} colW T (sidV L)) ∗ (s12M.view.loc (tV d L) ↦{fullShare} colW G (sidV L))
      ∗ semVal (tV d L, SemLoc.dma cc0_scoped3.sem) 0 ∗ semVal (tV d L, SemLoc.dma cc0_scoped4.sem) 0
      ∗ ∃ W', ⌜∀ p ∈ W', p ∈ W ∨ p.2 = none⌝ ∗ owes (tV d L) O W')) := by
  rw [k0_part67_eq_skeleton]; unfold k0_part67_skel
  iintro ⟨#Hmw, H9, H10, H11, H12, Hr3, Hr4, HO⟩
  sl_exec
  have e11 : View.write (Elt F) s11M.view f11 (part67_wp.sl.dma0 L T h3) Finset.univ = colW T (sidV L) :=
    (View.write_whole_univ _ _ _).trans (colF_read L h3 T)
  have e12 : View.write (Elt F) s12M.view f12 (part67_wp.sl.dma0_1 L G h3) Finset.univ = colW G (sidV L) :=
    (View.write_whole_univ _ _ _).trans (colI_read (F := F) L h3 G)
  rw [e11, e12]
  sl_step
  isplitr; · ipureintro; rfl
  isplitr; · ipureintro; rfl
  isplitr; · ipureintro; rfl
  isplitr; · iexact Hmw
  isplitl [H9]; · iexact H9
  isplitl [H10]; · iexact H10
  isplitl [H11]; · iexact H11
  isplitl [H12]; · iexact H12
  isplitl [Hr3]; · iexact Hr3
  isplitl [Hr4]; · iexact Hr4
  iexists _; isplitr; swap; · iexact HO
  ipureintro; intro p hp
  rcases Finset.mem_insert.mp hp with hp | hp; · exact .inr (hp ▸ rfl)
  rcases Finset.mem_insert.mp hp with hp | hp; · exact .inr (hp ▸ rfl)
  exact .inl hp

set_option maxHeartbeats 8000000 in
theorem part71_wp (q : PosShare TreeShare) (T : S16x272.Idx → F .f32)
    (f11 : Buf (Elt F) (s11M.view.loc (tV d L)))
    (O : CellTallies nD τ sig (HIx 1)) (W : Waits sig (HIx 1)) (h4 : k0_cond4 L = 1#1) :
    (iprop(Transfers.MayWaits (tV d L) (none : HIx 1) O
      ∗ (s9M.view.loc (tV d L) ↦{q} T)
      ∗ (s11M.view.loc (tV d L) ↦{fullShare} f11)
      ∗ semVal (tV d L, SemLoc.dma cc0_scoped7.sem) 0
      ∗ owes (tV d L) O W) : sProp (MM F))
     ⊢ wp frame (wpE (defs₀ (F := F)) 𝒱₀ (tV d L) none) Set.univ
      (k0_part71 L fpM (Memref.isWhole_whole _) intM (Memref.isWhole_whole _) xM (Memref.isWhole_whole _) outM (Memref.isWhole_whole _) s0M (Memref.isWhole_whole _) s1M (Memref.isWhole_whole _) s2M (Memref.isWhole_whole _) s3M (Memref.isWhole_whole _) s4M (Memref.isWhole_whole _) s5M (Memref.isWhole_whole _) s6M (Memref.isWhole_whole _) s7M (Memref.isWhole_whole _) s8M (Memref.isWhole_whole _) s9M (Memref.isWhole_whole _) s10M (Memref.isWhole_whole _) s11M (Memref.isWhole_whole _) s12M (Memref.isWhole_whole _) s13M (Memref.isWhole_whole _) s14M (Memref.isWhole_whole _) s15M (Memref.isWhole_whole _) cc0_scratch16 cc0_scratch17 cc0_scratch18 cc0_scratch19 cc0_scoped0 cc0_scoped1 cc0_scoped2 cc0_scoped3 cc0_scoped4 cc0_scoped5 cc0_scoped6 cc0_scoped7 cc0_scoped8 h4) (fun r => iprop(
        ⌜r = combE (colW T (sidV L)) 7 (by decide)⌝
      ∗ Transfers.MayWaits (tV d L) (none : HIx 1) O
      ∗ (s9M.view.loc (tV d L) ↦{q} T)
      ∗ (s11M.view.loc (tV d L) ↦{fullShare} colW T (sidV L))
      ∗ semVal (tV d L, SemLoc.dma cc0_scoped7.sem) 0
      ∗ ∃ W', ⌜∀ p ∈ W', p ∈ W ∨ p.2 = none⌝ ∗ owes (tV d L) O W')) := by
  rw [k0_part71_eq_skeleton]; unfold k0_part71_skel
  iintro ⟨#Hmw, H9, H11, Hr7, HO⟩
  sl_exec
  have e11 : View.write (Elt F) s11M.view f11 (part71_wp.sl.dma0 L T h4) Finset.univ = colW T (sidV L) :=
    (View.write_whole_univ _ _ _).trans (colE_read L h4 T)
  rw [e11]
  sl_step
  isplitr; · ipureintro; rfl
  isplitr; · iexact Hmw
  isplitl [H9]; · iexact H9
  isplitl [H11]; · iexact H11
  isplitl [Hr7]; · iexact Hr7
  iexists _; isplitr; swap; · iexact HO
  ipureintro; intro p hp
  rcases Finset.mem_insert.mp hp with hp | hp; · exact .inr (hp ▸ rfl)
  exact .inl hp

end Cert.Proof.Sc

end
-- ==== Proof.Sc.Body.lean ====
/-
  The kernel's task on a tile, of the first core and of the second.
-/
module

public import proofs.«01_k».proof.Proof.Sc.Combine

@[expose] public section

set_option maxRecDepth 16384

noncomputable section

namespace Cert.Proof.Sc

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable (d : Dev nD) (L : grid0.Coords)
omit [FloatOps F] in
theorem unit16 (y : S16.Idx) : (Rect.unit (s := S16) ![0] S16.size inb_S16_S16_0).emb y = y := by
  refine funext (β := fun _ : Fin 1 => _) fun a => Fin.ext ?_
  obtain rfl : a = 0 := Subsingleton.elim _ _
  show 0 + 1 * (y 0).val = (y 0).val
  omega
/-- A vector stored whole. -/
theorem whole13 (f : S16.Idx → BitVec 32) (b : S16.Idx → BitVec 32) :
    s13M.view.writes (Elt F) f [⟨Rect.unit (s := S16) ![0] S16.size inb_S16_S16_0, b⟩] = b := funext fun y => by
  have h := View.read_writes_cons_emb (Val := Elt F) s13M.view f (Rect.unit (s := S16) ![0] S16.size inb_S16_S16_0) b [] y
  rw [unit16] at h; exact h
theorem whole15 (f : S16.Idx → F .f32) (b : S16.Idx → F .f32) :
    s15M.view.writes (Elt F) f [⟨Rect.unit (s := S16) ![0] S16.size inb_S16_S16_0, b⟩] = b := funext fun y => by
  have h := View.read_writes_cons_emb (Val := Elt F) s15M.view f (Rect.unit (s := S16) ![0] S16.size inb_S16_S16_0) b [] y
  rw [unit16] at h; exact h
theorem of13 {f : S16.Idx → BitVec 32} {l} (b : S16.Idx → BitVec 32) (h : l = [⟨Rect.unit (s := S16) ![0] S16.size inb_S16_S16_0, b⟩]) :
    s13M.view.writes (Elt F) f l = b := h ▸ whole13 f b
theorem of15 {f : S16.Idx → F .f32} {l} (b : S16.Idx → F .f32) (h : l = [⟨Rect.unit (s := S16) ![0] S16.size inb_S16_S16_0, b⟩]) :
    s15M.view.writes (Elt F) f l = b := h ▸ whole15 f b
omit [FloatOps F] in
theorem pinV {α : Type} (Φ : α → sProp (MM F)) (a : α) : iprop(∃ x, ⌜x = a⌝ ∗ Φ x) ⊢ Φ a := by
  iintro ⟨%x, %h, H⟩; subst h; iexact H
theorem topF_of (A : Inp F) (s : Fin 16) (h0 : (cV L).val = 0) : combF (colW (shF A (cV L)) s) 15 (by decide) = topF A s := by
  rw [core_eq L h0]; rfl
theorem topI_of (A : Inp F) (s : Fin 16) (h0 : (cV L).val = 0) : combI (colW (shF A (cV L)) s) (colW (shI A) s) 15 (by decide) = topI A s := by
  rw [core_eq L h0]; rfl
theorem topE_of (A : Inp F) (s : Fin 16) (h0 : ¬ (cV L).val = 0) : combE (colW (shF A (cV L)) s) 15 (by decide) = topE A s := by
  have e : cV L = core1 := Fin.ext (by have h : (cV L).val < 2 := (cV L).isLt; show (cV L).val = 1; omega)
  rw [e]; rfl

omit [FloatOps F] in
theorem x_split (q : PosShare TreeShare) (x : Buf (Elt F) (xAll.view.loc (tV d L))) :
    (xM.view.loc (tV d L) ↦{q} x : sProp (MM F)) ⊣⊢ iprop((xAll.view.loc (tV d L) ↦[xAll.view.set]{q} x) ∗ (xAll.view.loc (tV d L) ↦[Finset.univ \ xAll.view.set]{q} x)) :=
  pointsTo_split_subset (ℓ := xAll.view.loc (tV d L)) (q := q) (f := x) (S := Finset.univ) (Finset.subset_univ (α := Idx (xAll.view.loc (tV d L))) xAll.view.set)

theorem insert_ok {W S : Waits sig (HIx 1)} {a : SemLoc sig × HIx 1} (h : a.2 = none ∨ a.2 = some (0 : Fin 1))
    (hS : ∀ p ∈ S, p ∈ W ∨ p.2 = none ∨ p.2 = some (0 : Fin 1)) : ∀ p ∈ insert a S, p ∈ W ∨ p.2 = none ∨ p.2 = some (0 : Fin 1) :=
  fun p hp => (Finset.mem_insert.mp hp).elim (fun e => .inr (e ▸ h)) (hS p)

set_option maxHeartbeats 16000000 in
theorem body0 (A : Dev nD → Inp F) (q : PosShare TreeShare)
    (f0 : Buf (Elt F) (s0M.view.loc (tV d L))) (f1 : Buf (Elt F) (s1M.view.loc (tV d L)))
    (f5 : Buf (Elt F) (s5M.view.loc (tV d L))) (f6 : Buf (Elt F) (s6M.view.loc (tV d L)))
    (f7 : Buf (Elt F) (s7M.view.loc (tV d L))) (f8 : Buf (Elt F) (s8M.view.loc (tV d L)))
    (f9 : Buf (Elt F) (s9M.view.loc (tV d L))) (f10 : Buf (Elt F) (s10M.view.loc (tV d L)))
    (f11 : Buf (Elt F) (s11M.view.loc (tV d L))) (f12 : Buf (Elt F) (s12M.view.loc (tV d L)))
    (f13 : Buf (Elt F) (s13M.view.loc (tV d L))) (f14 : Buf (Elt F) (s14M.view.loc (tV d L)))
    (f15 : Buf (Elt F) (s15M.view.loc (tV d L))) (fo fo' : Buf (Elt F) (outM.view.loc (tV d L)))
    (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι)
    (_plan : Transfers.BatchOf (tV d L) (SemLoc.dma (sig := sig) cc0_scratch16.sem) 2)
    (h0 : (cV L).val = 0) (h1 : k0_cond1 L = 1#1) (h2 : ¬ k0_cond2 L = 1#1) (h3 : k0_cond3 L = 1#1) (h4 : ¬ k0_cond4 L = 1#1) :
    (iprop(levAts (K (F := F)).L (K (F := F)).lev ∗ bkit A d (cV L) (jV L)
      ∗ (fpM.view.loc (tV d L) ↦{q} (A d).fp) ∗ (intM.view.loc (tV d L) ↦{q} (A d).ints) ∗ (xM.view.loc (tV d L) ↦{q} (A d).x)
      ∗ (s0M.view.loc (tV d L) ↦{fullShare} f0) ∗ (s1M.view.loc (tV d L) ↦{fullShare} f1)
      ∗ (s5M.view.loc (tV d L) ↦{fullShare} f5) ∗ (s6M.view.loc (tV d L) ↦{fullShare} f6)
      ∗ (s7M.view.loc (tV d L) ↦{fullShare} f7) ∗ (s8M.view.loc (tV d L) ↦{fullShare} f8)
      ∗ (s11M.view.loc (tV d L) ↦{fullShare} f11) ∗ (s12M.view.loc (tV d L) ↦{fullShare} f12)
      ∗ (s13M.view.loc (tV d L) ↦{fullShare} f13) ∗ (s14M.view.loc (tV d L) ↦{fullShare} f14) ∗ (s15M.view.loc (tV d L) ↦{fullShare} f15)
      ∗ (sh9 d (cV L) ↦[rowSet (L 1).val]{fullShare} f9) ∗ (sh10 d (cV L) ↦[rowSet (L 1).val]{fullShare} f10)
      ∗ (outM.view.loc (tV d L) ↦[outBlk (L 1).val]{fullShare} fo) ∗ (outM.view.loc (tV d L) ↦[outRow ((L 1).val + 256)]{fullShare} fo')
      ∗ semVal (tV d L, SemLoc.dma cc0_scratch16.sem) 0 ∗ semVal (tV d L, SemLoc.dma cc0_scratch19.sem) 0
      ∗ semVal (tV d L, SemLoc.dma cc0_scoped0.sem) 0 ∗ semVal (tV d L, SemLoc.dma cc0_scoped1.sem) 0
      ∗ semVal (tV d L, SemLoc.dma cc0_scoped3.sem) 0 ∗ semVal (tV d L, SemLoc.dma cc0_scoped4.sem) 0
      ∗ semVal (tV d L, SemLoc.dma cc0_scoped5.sem) 0 ∗ semVal (tV d L, SemLoc.dma cc0_scoped6.sem) 0
      ∗ owes (tV d L) (O + oxV d (cV L)) W) : sProp (MM F))
     ⊢ wp frame (wpE (defs₀ (F := F)) 𝒱₀ (tV d L) none) Set.univ
      (cc0__sc_body L fpM (Memref.isWhole_whole _) intM (Memref.isWhole_whole _) xM (Memref.isWhole_whole _) outM (Memref.isWhole_whole _) s0M (Memref.isWhole_whole _) s1M (Memref.isWhole_whole _) s2M (Memref.isWhole_whole _) s3M (Memref.isWhole_whole _) s4M (Memref.isWhole_whole _) s5M (Memref.isWhole_whole _) s6M (Memref.isWhole_whole _) s7M (Memref.isWhole_whole _) s8M (Memref.isWhole_whole _) s9M (Memref.isWhole_whole _) s10M (Memref.isWhole_whole _) s11M (Memref.isWhole_whole _) s12M (Memref.isWhole_whole _) s13M (Memref.isWhole_whole _) s14M (Memref.isWhole_whole _) s15M (Memref.isWhole_whole _) cc0_scratch16 cc0_scratch17 cc0_scratch18 cc0_scratch19 cc0_scoped0 cc0_scoped1 cc0_scoped2 cc0_scoped3 cc0_scoped4 cc0_scoped5 cc0_scoped6 cc0_scoped7 cc0_scoped8) (fun _ => iprop(
        ((fpM.view.loc (tV d L) ↦{q} (A d).fp) ∗ (intM.view.loc (tV d L) ↦{q} (A d).ints) ∗ (xM.view.loc (tV d L) ↦{q} (A d).x))
      ∗ ((∃ f, s0M.view.loc (tV d L) ↦{fullShare} f) ∗ (∃ f, s1M.view.loc (tV d L) ↦{fullShare} f)
        ∗ (∃ f, s5M.view.loc (tV d L) ↦{fullShare} f) ∗ (∃ f, s6M.view.loc (tV d L) ↦{fullShare} f)
        ∗ (∃ f, s7M.view.loc (tV d L) ↦{fullShare} f) ∗ (∃ f, s8M.view.loc (tV d L) ↦{fullShare} f)
        ∗ (∃ f, s11M.view.loc (tV d L) ↦{fullShare} f) ∗ (∃ f, s12M.view.loc (tV d L) ↦{fullShare} f)
        ∗ (∃ f, s13M.view.loc (tV d L) ↦{fullShare} f) ∗ (∃ f, s14M.view.loc (tV d L) ↦{fullShare} f) ∗ (∃ f, s15M.view.loc (tV d L) ↦{fullShare} f))
      ∗ (tabAt A d (cV L) (tk (sidV L)) ∗ rowAt A d (cV L) (L 1).val dr)
      ∗ ((outM.view.loc (tV d L) ↦[outBlk (L 1).val]{fullShare} outF (A d)) ∗ (outM.view.loc (tV d L) ↦[outRow ((L 1).val + 256)]{fullShare} outF (A d)))
      ∗ (semVal (bcell d (cV L) (jV L)) 0
        ∗ semVal (tV d L, SemLoc.dma cc0_scratch16.sem) 0 ∗ semVal (tV d L, SemLoc.dma cc0_scratch19.sem) 0
        ∗ semVal (tV d L, SemLoc.dma cc0_scoped0.sem) 0 ∗ semVal (tV d L, SemLoc.dma cc0_scoped1.sem) 0
        ∗ semVal (tV d L, SemLoc.dma cc0_scoped3.sem) 0 ∗ semVal (tV d L, SemLoc.dma cc0_scoped4.sem) 0
        ∗ semVal (tV d L, SemLoc.dma cc0_scoped5.sem) 0 ∗ semVal (tV d L, SemLoc.dma cc0_scoped6.sem) 0)
      ∗ ∃ W', ⌜∀ p ∈ W', p ∈ W ∨ p.2 = none ∨ p.2 = some (0 : Fin 1)⌝ ∗ owes (tV d L) O W')) := by
  have hcut := fun W' => part51_wp (F := F) d L q (A d).fp (A d).ints f0 f1 f5 f6 f7 f8 f9 (O + oxV d (cV L)) W' _plan (fun x => (A d).hy _ x) h1
  rw [cc0__sc_body_eq_skeleton]; unfold cc0__sc_body_skel bkit
  iintro ⟨#Hlv, ⟨⟨%κ, #Hinv⟩, Htoks, #Hrch, Hat, Hcred⟩, Hfp, Hin, Hx, H0, H1, H5, H6, H7, H8, H11, H12, H13, H14, H15, Hsh, Hsi, Hob, Hor, Hs, Hsg, Hr0, Hr1, Hr3, Hr4, Hr5, Hr6, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (tV d L) (none : HIx 1) (O + oxV d (cV L)) from
    (K (F := F)).mayWaits_none (thr := tV d L) hO') $$ Hlv
  ihave Hmw2 := (show levAts (K (F := F)).L (K (F := F)).lev ⊢ Transfers.MayWaits (tV d L) (none : HIx 1) O from
    (K (F := F)).mayWaits_none (thr := tV d L) hO) $$ Hlv
  ihave H9 := (Entails.of_eq (pts_rowF d L h1 f9)) $$ Hsh
  ihave H10 := (Entails.of_eq (pts_rowI d L h1 f10)) $$ Hsi
  sl_exec
  clear hcut
  ihave Hrow := (Entails.of_eq (done_rowF d L h1 h0 (A d) f9)) $$ [Hk0_part51_9_dst]
  · iexact Hk0_part51_9_dst
  ihave Hrowi := (show ((rowI L h1).view.loc (tV d L) ↦[(rowI L h1).view.set]{fullShare} (rowI L h1).view.writes (Elt F) f10 [⟨Rect.whole S272, body0.sl.dma0 d L A⟩] : sProp (MM F))
      ⊢ (sh10 d (cV L) ↦[rowSet (L 1).val]{fullShare} shI (A d)) from Entails.of_eq (done_rowI d L h1 (A d) f10)) $$ [H10]
  · iexact H10
  ihave Hpp := (pays_intro d L A) $$ [Hrow Hrowi]
  · unfold rowAt partAt; rw [if_pos h0]
    isplitl [Hrow]; · iexact Hrow
    iexact Hrowi
  icases Hpp with ⟨Hkept, Hpays⟩
  iapply (SparseCore.wp_subcoreBarrier 𝒱₀ none EB (bRd A) d (sc := cV L) (i := jV L) sc_bar0 (grid0.bound 1) hsub0 (L 1) rfl κ (fun _ => 0) (jV L).val
      (fun j => mem_duties A d _ _ _) (fun _ => rfl) (expect₀ A d _ _) (some 0) O _) $$ [Hk0_part51_12 Htoks Hpays Hcred Hat]
  · isplitr; · iexact Hinv
    isplitl [Hk0_part51_12]; · iexact Hk0_part51_12
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ bar_ne_go]; exact le_rfl)
      (fun g ι hg => lt_of_lt_of_le (by decide) (hOlev g ι hg)))
    iexact Hlv
  iintro ⟨HO, Hat, -, Hgot⟩
  imod (Rounds.cell_close EB (bRd A) (g := bcell d (cV L) (jV L)) (Set.mem_univ (κ _)) (fun h => h) (duties_succ A _)) $$ [Hat] with Hbar
  · isplitr
    · iapply (SparseCore.ent (bigSep_elim (Φ := fun j : Fin (grid0.bound 1) => (Rounds.cellInv EB (bRd A) (κ (bcell d (cV L) (j.castLE hsub0))) (bcell d (cV L) (j.castLE hsub0)) : sProp (MM F))) (Finset.mem_univ (L 1)))); iexact Hinv
    · iexact Hat
  ihave Htab := (pays_elim d L A) $$ Hgot
  ihave Htab := (show tabAt A d (cV L) (tk (sidV L)) ⊢ iprop((s9M.view.loc (tV d L) ↦{tk (sidV L)} shF (A d) (cV L)) ∗ (s10M.view.loc (tV d L) ↦{tk (sidV L)} shI (A d))) from by
    unfold tabAt partAt; rw [if_pos h0]; exact BI.Entails.refl _) $$ Htab
  icases Htab with ⟨H9, H10⟩
  ihave H16 := (Entails.of_eq (pts_oRowF d L h3 fo')) $$ Hor
  ihave H17 := (Entails.of_eq (pts_oBlk d L h3 fo)) $$ Hob
  have hcut67 := fun W' => part67_wp (F := F) d L (tk (sidV L)) (shF (A d) (cV L)) (shI (A d)) f11 f12 O W' h3
  sl_exec
  obtain rfl : v35 = _ := hk0_part67_0
  obtain rfl : v38 = _ := hk0_part67_1
  obtain rfl : v40_ld = _ := hk0_part67_2
  ihave H13' := (pin (ℓ := s13M.view.loc (tV d L)) (g := topI (A d) (sidV L))) $$ [H13]
  · iexists _; isplitr; swap; · iexact H13
    ipureintro
    refine (of13 (combI (colW (shF (A d) (cV L)) (sidV L)) (colW (shI (A d)) (sidV L)) 15 (by decide)) ?_).trans (topI_of L (A d) _ h0)
    sl_kernel_rfl
  ihave Hor := (pinV (fun w : S16.Idx → F .f32 => iprop((oRowF L h3).view.loc (tV d L) ↦[(oRowF L h3).view.set]{fullShare} (oRowF L h3).view.writes (Elt F) fo' [⟨Rect.whole S16, w⟩])) (topF (A d) (sidV L))) $$ [H16]
  · iexists _; isplitr; swap; · iexact H16
    ipureintro
    unfold body0.sl.dma27
    refine Eq.trans ?_ (topF_of L (A d) (sidV L) h0)
    refine of15 (combF (colW (shF (A d) (cV L)) (sidV L)) 15 (by decide)) ?_
    sl_kernel_rfl
  ihave Hor := (Entails.of_eq (done_oRowF d L h3 (A d) fo')) $$ Hor
  clear hcut67
  ihave Hxs := (x_split d L q (A d).x).1 $$ Hx
  icases Hxs with ⟨Hxs, Hxr⟩
  have hrs : s14M.view.set = Finset.univ := View.set_whole _
  have hss : s13M.view.set = Finset.univ := View.set_whole _
  ihave H14' := (Entails.of_eq (show (s14M.view.loc (tV d L) ↦{fullShare} f14 : sProp (MM F))
      = s14M.view.loc (tV d L) ↦[s14M.view.set]{fullShare} f14 by rw [hrs])) $$ H14
  ihave H13 := (Entails.of_eq (show (s13M.view.loc (tV d L) ↦{fullShare} topI (A d) (sidV L) : sProp (MM F))
      = s13M.view.loc (tV d L) ↦[s13M.view.set]{fullShare} topI (A d) (sidV L) by rw [hss])) $$ H13'
  have hN : ∀ h : S20480x16.Gathers 0 S16x16, ∑ j, (s14M.slice (S16x16.rowRect h.axis' j) (S16x16.stride_rowRect h.axis' j)).view.dmaCredit
      = s14M.view.dmaCredit := by decide
  iapply (SparseCore.wp_indirectGatherLocal countersEmb 𝒱₀ (tV d L) none (hg := gathers_S20480x16_S16x16) (default : HIx 1)
      s14M.view.dmaCredit (hN _) (by decide) (hin_topI (A d) (sidV L))) $$ [Hxs H14' H13 Hsg]
  · isplitl [Hxs]; · iexact Hxs
    isplitl [H14']; · iexact H14'
    isplitl [H13]; · iexact H13
    iexact Hsg
  iintro Hfl
  sl_exec
  iapply (Transfers.wp_waitLocalO countersEmb 𝒱₀ (tV d L) none (default : HIx 1) (rfl : s14M.view.dmaCredit = _)) $$ [Hfl Hk0_part67_11]
  · isplitl [Hfl]; · iexact Hfl
    isplitl [Hk0_part67_11]; · iexact Hk0_part67_11
    iapply (Transfers.MayWaits.elim (SemLoc.dma cc0_scratch19.sem)) $$ Hmw2
  iintro ⟨⟨H14', Hxs, H13⟩, Hsg, HO⟩
  ihave Hx := (x_split d L q (A d).x).2 $$ [Hxs Hxr]
  · isplitl [Hxs] <;> iassumption
  ihave H14 := (Entails.of_eq (show (s14M.view.loc (tV d L) ↦[s14M.view.set]{fullShare} _ : sProp (MM F))
      = s14M.view.loc (tV d L) ↦{fullShare} gath (A d) (sidV L) by
    rw [hrs]; exact congrArg (fun b => (s14M.view.loc (tV d L) ↦{fullShare} b : sProp (MM F))) ((View.write_whole_univ _ _ _).trans (gath_eq (A d) (sidV L) _)))) $$ H14'
  ihave H13 := (Entails.of_eq (show (s13M.view.loc (tV d L) ↦[s13M.view.set]{fullShare} topI (A d) (sidV L) : sProp (MM F))
      = s13M.view.loc (tV d L) ↦{fullShare} topI (A d) (sidV L) by rw [hss])) $$ H13
  sl_exec
  ihave Hob := (show ((oBlk L h3).view.loc (tV d L) ↦[(oBlk L h3).view.set]{fullShare} (oBlk L h3).view.writes (Elt F) fo [⟨Rect.whole S16x16, body0.sl.dma0_1 d L A⟩] : sProp (MM F))
      ⊢ (outM.view.loc (tV d L) ↦[outBlk (L 1).val]{fullShare} outF (A d)) from Entails.of_eq (done_oBlk d L h3 (A d) fo)) $$ [H17]
  · iexact H17
  ihave Htab := (show iprop((s9M.view.loc (tV d L) ↦{tk (sidV L)} shF (A d) (cV L)) ∗ (s10M.view.loc (tV d L) ↦{tk (sidV L)} shI (A d))) ⊢ tabAt A d (cV L) (tk (sidV L)) from by
    unfold tabAt partAt; rw [if_pos h0]; exact BI.Entails.refl _) $$ [Hk0_part67_4 Hk0_part67_5]
  · isplitl [Hk0_part67_4]; · iexact Hk0_part67_4
    iexact Hk0_part67_5
  sl_step
  isplitl [Hk0_part51_1 Hk0_part51_2 Hx]
  · isplitl [Hk0_part51_1]; · iexact Hk0_part51_1
    isplitl [Hk0_part51_2]; · iexact Hk0_part51_2
    iexact Hx
  isplitl [Hk0_part51_3 Hk0_part51_4 Hk0_part51_5 Hk0_part51_6 Hk0_part51_7 Hk0_part51_8 Hk0_part67_6 Hk0_part67_7 H13 H14 H15]
  · isplitl [Hk0_part51_3]; · iexists _; iexact Hk0_part51_3
    isplitl [Hk0_part51_4]; · iexists _; iexact Hk0_part51_4
    isplitl [Hk0_part51_5]; · iexists _; iexact Hk0_part51_5
    isplitl [Hk0_part51_6]; · iexists _; iexact Hk0_part51_6
    isplitl [Hk0_part51_7]; · iexists _; iexact Hk0_part51_7
    isplitl [Hk0_part51_8]; · iexists _; iexact Hk0_part51_8
    isplitl [Hk0_part67_6]; · iexists _; iexact Hk0_part67_6
    isplitl [Hk0_part67_7]; · iexists _; iexact Hk0_part67_7
    isplitl [H13]; · iexists _; iexact H13
    isplitl [H14]; · iexists _; iexact H14
    iexists _; iexact H15
  isplitl [Htab Hkept]
  · isplitl [Htab]; · iexact Htab
    iexact Hkept
  isplitl [Hob Hor]
  · isplitl [Hob]; · iexact Hob
    iexact Hor
  isplitl [Hbar Hk0_part51_10 Hsg Hk0_part51_9 Hr1 Hk0_part67_8 Hk0_part67_9 Hr5 Hr6]
  · isplitl [Hbar]; · iexact Hbar
    isplitl [Hk0_part51_10]; · iexact Hk0_part51_10
    isplitl [Hsg]; · iexact Hsg
    isplitl [Hk0_part51_9]; · iexact Hk0_part51_9
    isplitl [Hr1]; · iexact Hr1
    isplitl [Hk0_part67_8]; · iexact Hk0_part67_8
    isplitl [Hk0_part67_9]; · iexact Hk0_part67_9
    isplitl [Hr5]; · iexact Hr5
    iexact Hr6
  iexists _; isplitr; swap; · iexact HO
  ipureintro
  refine insert_ok (W := W) (a := (_, _)) (Or.inl rfl) (insert_ok (a := (_, _)) (Or.inl rfl) (insert_ok (a := (_, _)) (Or.inl rfl) fun p hp => ?_))
  rcases hk0_part67_10 p hp with hp | hp; swap; · exact .inr (.inl hp)
  refine insert_ok (W := W) (a := (_, _)) (Or.inr rfl) (insert_ok (a := (_, _)) (Or.inl rfl) (insert_ok (a := (_, _)) (Or.inl rfl) fun p hp => ?_)) p hp
  rcases hk0_part51_11 p hp with hp | hp
  · exact .inl hp
  · exact .inr (.inl hp)

set_option maxHeartbeats 16000000 in
theorem body1 (A : Dev nD → Inp F) (q : PosShare TreeShare)
    (f2 : Buf (Elt F) (s2M.view.loc (tV d L))) (f3 : Buf (Elt F) (s3M.view.loc (tV d L)))
    (f4 : Buf (Elt F) (s4M.view.loc (tV d L))) (f5 : Buf (Elt F) (s5M.view.loc (tV d L)))
    (f7 : Buf (Elt F) (s7M.view.loc (tV d L))) (f9 : Buf (Elt F) (s9M.view.loc (tV d L)))
    (f11 : Buf (Elt F) (s11M.view.loc (tV d L))) (f15 : Buf (Elt F) (s15M.view.loc (tV d L))) (fo : Buf (Elt F) (outM.view.loc (tV d L)))
    (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι)
    (_plan : Transfers.BatchOf (tV d L) (SemLoc.dma (sig := sig) cc0_scratch17.sem) 2)
    (h0 : ¬ (cV L).val = 0) (h1 : ¬ k0_cond1 L = 1#1) (h2 : k0_cond2 L = 1#1) (h3 : ¬ k0_cond3 L = 1#1) (h4 : k0_cond4 L = 1#1) :
    (iprop(levAts (K (F := F)).L (K (F := F)).lev ∗ bkit A d (cV L) (jV L)
      ∗ (fpM.view.loc (tV d L) ↦{q} (A d).fp) ∗ (intM.view.loc (tV d L) ↦{q} (A d).ints)
      ∗ (s2M.view.loc (tV d L) ↦{fullShare} f2) ∗ (s3M.view.loc (tV d L) ↦{fullShare} f3)
      ∗ (s4M.view.loc (tV d L) ↦{fullShare} f4) ∗ (s5M.view.loc (tV d L) ↦{fullShare} f5)
      ∗ (s7M.view.loc (tV d L) ↦{fullShare} f7) ∗ (s11M.view.loc (tV d L) ↦{fullShare} f11) ∗ (s15M.view.loc (tV d L) ↦{fullShare} f15)
      ∗ (sh9 d (cV L) ↦[rowSet (L 1).val]{fullShare} f9)
      ∗ (outM.view.loc (tV d L) ↦[outRow ((L 1).val + 272)]{fullShare} fo)
      ∗ semVal (tV d L, SemLoc.dma cc0_scratch17.sem) 0 ∗ semVal (tV d L, SemLoc.dma cc0_scratch18.sem) 0
      ∗ semVal (tV d L, SemLoc.dma cc0_scoped2.sem) 0 ∗ semVal (tV d L, SemLoc.dma cc0_scoped7.sem) 0
      ∗ semVal (tV d L, SemLoc.dma cc0_scoped8.sem) 0
      ∗ owes (tV d L) (O + oxV d (cV L)) W) : sProp (MM F))
     ⊢ wp frame (wpE (defs₀ (F := F)) 𝒱₀ (tV d L) none) Set.univ
      (cc0__sc_body L fpM (Memref.isWhole_whole _) intM (Memref.isWhole_whole _) xM (Memref.isWhole_whole _) outM (Memref.isWhole_whole _) s0M (Memref.isWhole_whole _) s1M (Memref.isWhole_whole _) s2M (Memref.isWhole_whole _) s3M (Memref.isWhole_whole _) s4M (Memref.isWhole_whole _) s5M (Memref.isWhole_whole _) s6M (Memref.isWhole_whole _) s7M (Memref.isWhole_whole _) s8M (Memref.isWhole_whole _) s9M (Memref.isWhole_whole _) s10M (Memref.isWhole_whole _) s11M (Memref.isWhole_whole _) s12M (Memref.isWhole_whole _) s13M (Memref.isWhole_whole _) s14M (Memref.isWhole_whole _) s15M (Memref.isWhole_whole _) cc0_scratch16 cc0_scratch17 cc0_scratch18 cc0_scratch19 cc0_scoped0 cc0_scoped1 cc0_scoped2 cc0_scoped3 cc0_scoped4 cc0_scoped5 cc0_scoped6 cc0_scoped7 cc0_scoped8) (fun _ => iprop(
        ((fpM.view.loc (tV d L) ↦{q} (A d).fp) ∗ (intM.view.loc (tV d L) ↦{q} (A d).ints))
      ∗ ((∃ f, s2M.view.loc (tV d L) ↦{fullShare} f) ∗ (∃ f, s3M.view.loc (tV d L) ↦{fullShare} f)
        ∗ (∃ f, s4M.view.loc (tV d L) ↦{fullShare} f) ∗ (∃ f, s5M.view.loc (tV d L) ↦{fullShare} f)
        ∗ (∃ f, s7M.view.loc (tV d L) ↦{fullShare} f) ∗ (∃ f, s11M.view.loc (tV d L) ↦{fullShare} f) ∗ (∃ f, s15M.view.loc (tV d L) ↦{fullShare} f))
      ∗ (tabAt A d (cV L) (tk (sidV L)) ∗ rowAt A d (cV L) (L 1).val dr)
      ∗ (outM.view.loc (tV d L) ↦[outRow ((L 1).val + 272)]{fullShare} outF (A d))
      ∗ (semVal (bcell d (cV L) (jV L)) 0
        ∗ semVal (tV d L, SemLoc.dma cc0_scratch17.sem) 0 ∗ semVal (tV d L, SemLoc.dma cc0_scratch18.sem) 0
        ∗ semVal (tV d L, SemLoc.dma cc0_scoped2.sem) 0 ∗ semVal (tV d L, SemLoc.dma cc0_scoped7.sem) 0
        ∗ semVal (tV d L, SemLoc.dma cc0_scoped8.sem) 0)
      ∗ ∃ W', ⌜∀ p ∈ W', p ∈ W ∨ p.2 = none ∨ p.2 = some (0 : Fin 1)⌝ ∗ owes (tV d L) O W')) := by
  have hcut := fun W' => part66_wp (F := F) d L q (A d).fp (A d).ints f2 f3 f4 f5 f7 (O + oxV d (cV L)) W' _plan (fun x => (A d).hi _ x) (fun x => (A d).hj _ x) h2
  rw [cc0__sc_body_eq_skeleton]; unfold cc0__sc_body_skel bkit
  iintro ⟨#Hlv, ⟨⟨%κ, #Hinv⟩, Htoks, #Hrch, Hat, Hcred⟩, Hfp, Hin, H2, H3, H4, H5, H7, H11, H15, Hsh, Hor, Hs, Ht, Hr2, Hr7, Hr8, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (tV d L) (none : HIx 1) (O + oxV d (cV L)) from
    (K (F := F)).mayWaits_none (thr := tV d L) hO') $$ Hlv
  ihave Hmw2 := (show levAts (K (F := F)).L (K (F := F)).lev ⊢ Transfers.MayWaits (tV d L) (none : HIx 1) O from
    (K (F := F)).mayWaits_none (thr := tV d L) hO) $$ Hlv
  ihave H9 := (Entails.of_eq (pts_rowE d L h2 f9)) $$ Hsh
  sl_exec
  clear hcut
  ihave Hrow := (show ((rowE L h2).view.loc (tV d L) ↦[(rowE L h2).view.set]{fullShare} (rowE L h2).view.writes (Elt F) f9 [⟨Rect.whole S272, body1.sl.dma0 d L A⟩] : sProp (MM F))
      ⊢ (sh9 d (cV L) ↦[rowSet (L 1).val]{fullShare} shF (A d) (cV L)) from Entails.of_eq (done_rowE d L h2 h0 (A d) f9)) $$ [H9]
  · iexact H9
  ihave Hpp := (pays_intro d L A) $$ [Hrow]
  · unfold rowAt partAt; rw [if_neg h0]
    isplitl [Hrow]; · iexact Hrow
    iempintro
  icases Hpp with ⟨Hkept, Hpays⟩
  iapply (SparseCore.wp_subcoreBarrier 𝒱₀ none EB (bRd A) d (sc := cV L) (i := jV L) sc_bar0 (grid0.bound 1) hsub0 (L 1) rfl κ (fun _ => 0) (jV L).val
      (fun j => mem_duties A d _ _ _) (fun _ => rfl) (expect₀ A d _ _) (some 0) O _) $$ [Hk0_part66_11 Htoks Hpays Hcred Hat]
  · isplitr; · iexact Hinv
    isplitl [Hk0_part66_11]; · iexact Hk0_part66_11
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ bar_ne_go]; exact le_rfl)
      (fun g ι hg => lt_of_lt_of_le (by decide) (hOlev g ι hg)))
    iexact Hlv
  iintro ⟨HO, Hat, -, Hgot⟩
  imod (Rounds.cell_close EB (bRd A) (g := bcell d (cV L) (jV L)) (Set.mem_univ (κ _)) (fun h => h) (duties_succ A _)) $$ [Hat] with Hbar
  · isplitr
    · iapply (SparseCore.ent (bigSep_elim (Φ := fun j : Fin (grid0.bound 1) => (Rounds.cellInv EB (bRd A) (κ (bcell d (cV L) (j.castLE hsub0))) (bcell d (cV L) (j.castLE hsub0)) : sProp (MM F))) (Finset.mem_univ (L 1)))); iexact Hinv
    · iexact Hat
  ihave Htab := (pays_elim d L A) $$ Hgot
  ihave Htab := (show tabAt A d (cV L) (tk (sidV L)) ⊢ iprop((s9M.view.loc (tV d L) ↦{tk (sidV L)} shF (A d) (cV L)) ∗ emp) from by
    unfold tabAt partAt; rw [if_neg h0]; exact BI.Entails.refl _) $$ Htab
  icases Htab with ⟨H9, -⟩
  ihave H16 := (Entails.of_eq (pts_oRowE d L h4 fo)) $$ Hor
  have hcut71 := fun W' => part71_wp (F := F) d L (tk (sidV L)) (shF (A d) (cV L)) f11 O W' h4
  sl_exec
  clear hcut71
  obtain rfl : k0_part71_r = _ := hk0_part71_0
  ihave Hor := (pinV (fun w : S16.Idx → F .f32 => iprop((oRowE L h4).view.loc (tV d L) ↦[(oRowE L h4).view.set]{fullShare} (oRowE L h4).view.writes (Elt F) fo [⟨Rect.whole S16, w⟩])) (topE (A d) (sidV L))) $$ [H16]
  · iexists _; isplitr; swap; · iexact H16
    ipureintro
    unfold body1.sl.dma10
    refine Eq.trans ?_ (topE_of L (A d) (sidV L) h0)
    refine of15 (combE (colW (shF (A d) (cV L)) (sidV L)) 15 (by decide)) ?_
    sl_kernel_rfl
  ihave Hor := (Entails.of_eq (done_oRowE d L h4 (A d) fo)) $$ Hor
  ihave Htab := (show iprop((s9M.view.loc (tV d L) ↦{tk (sidV L)} shF (A d) (cV L)) ∗ emp) ⊢ tabAt A d (cV L) (tk (sidV L)) from by
    unfold tabAt partAt; rw [if_neg h0]; exact BI.Entails.refl _) $$ [Hk0_part71_2]
  · isplitl [Hk0_part71_2]; · iexact Hk0_part71_2
    iempintro
  sl_step
  isplitl [Hk0_part66_1 Hk0_part66_2]
  · isplitl [Hk0_part66_1]; · iexact Hk0_part66_1
    iexact Hk0_part66_2
  isplitl [Hk0_part66_3 Hk0_part66_4 Hk0_part66_5 Hk0_part66_6 Hk0_part66_7 Hk0_part71_3 H15]
  · isplitl [Hk0_part66_3]; · iexists _; iexact Hk0_part66_3
    isplitl [Hk0_part66_4]; · iexists _; iexact Hk0_part66_4
    isplitl [Hk0_part66_5]; · iexists _; iexact Hk0_part66_5
    isplitl [Hk0_part66_6]; · iexists _; iexact Hk0_part66_6
    isplitl [Hk0_part66_7]; · iexists _; iexact Hk0_part66_7
    isplitl [Hk0_part71_3]; · iexists _; iexact Hk0_part71_3
    iexists _; iexact H15
  isplitl [Htab Hkept]
  · isplitl [Htab]; · iexact Htab
    iexact Hkept
  isplitl [Hor]; · iexact Hor
  isplitl [Hbar Hk0_part66_8 Hk0_part66_9 Hr2 Hk0_part71_4 Hr8]
  · isplitl [Hbar]; · iexact Hbar
    isplitl [Hk0_part66_8]; · iexact Hk0_part66_8
    isplitl [Hk0_part66_9]; · iexact Hk0_part66_9
    isplitl [Hr2]; · iexact Hr2
    isplitl [Hk0_part71_4]; · iexact Hk0_part71_4
    iexact Hr8
  iexists _; isplitr; swap; · iexact Hk0_part71_6
  ipureintro
  refine insert_ok (W := W) (a := (_, _)) (Or.inl rfl) fun p hp => ?_
  rcases hk0_part71_5 p hp with hp | hp; swap; · exact .inr (.inl hp)
  refine insert_ok (W := W) (a := (_, _)) (Or.inr rfl) (insert_ok (a := (_, _)) (Or.inl rfl) fun p hp => ?_) p hp
  rcases hk0_part66_10 p hp with hp | hp
  · exact .inl hp
  · exact .inr (.inl hp)

end Cert.Proof.Sc

end
-- ==== Proof.Sc.Tiles.lean ====
/-
  The launch of the SparseCore call: what each tile owns and is handed, and its obligation met by its body's run.
-/
module

public import proofs.«01_k».proof.Proof.Sc.Body

@[expose] public section

set_option maxRecDepth 16384

noncomputable section

namespace Cert.Proof.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds

variable {F : FTy → Type} [FloatOps F]
/-! ## The buffers and the semaphores a tile owns -/

/-- The scratch buffers a tile owns. -/
def tBuf : Fin 14 → Ref sig .scVector :=
  ![cc0_scratch0, cc0_scratch1, cc0_scratch2, cc0_scratch3, cc0_scratch4, cc0_scratch5, cc0_scratch6, cc0_scratch7, cc0_scratch8,
    cc0_scratch11, cc0_scratch12, cc0_scratch13, cc0_scratch14, cc0_scratch15]
/-- The semaphores of its transfers. -/
def tSem (k : Fin 13) : SemLoc sig := SemLoc.dma (k.castLE (by decide))

/-- The scratch buffers no proof reads, at some contents. -/
abbrev bufOf (d : Dev nD) (c : Fin τ.nSC) (j : Fin τ.nSub) (b : Ref sig .scVector) : sProp (MM F) := iprop(∃ f, (V d c j).loc b ↦{fullShare} f)

omit [FloatOps F] in
theorem tBuf_idx (c : Fin τ.nSC) (j : Fin τ.nSub) (k : Fin 14) : ((Proc.scVector c j).devRef (tBuf k)).idx.val = k.val := by
  fin_cases k <;> rfl
omit [FloatOps F] in
theorem tBuf_owner (c : Fin τ.nSC) (j : Fin τ.nSub) (k : Fin 14) : ((Proc.scVector c j).devRef (tBuf k)).owner = .proc (.scVector c j) := by
  fin_cases k <;> rfl
omit [FloatOps F] in
theorem tSem_scoped (k : Fin 13) : (tSem k).isScoped .scVector = true := by revert k; decide

/-- What is left of a tile's own buffers and semaphores once those are named. -/
def bufRest (d : Dev nD) (c : Fin τ.nSC) (j : Fin τ.nSub) : sProp (MM F) :=
  bigSep (ownRefs (.scVector c j) \ Finset.univ.image fun k => (Proc.scVector c j).devRef (tBuf k)) fun b => iprop(∃ f, ((d, b) : Loc nD τ sig) ↦{fullShare} f)
def semRest (d : Dev nD) (c : Fin τ.nSC) (j : Fin τ.nSub) : sProp (MM F) :=
  bigSep (ownCells (V d c j) \ Finset.univ.image fun k => ((V d c j, tSem k) : GSem nD τ sig)) fun g => semVal g 0

theorem ownBufs_V (d : Dev nD) (c : Fin τ.nSC) (j : Fin τ.nSub) :
    (ownBufs (V d c j) : sProp (MM F)) = iprop((bufOf d c j cc0_scratch0 ∗ bufOf d c j cc0_scratch1 ∗ bufOf d c j cc0_scratch2 ∗ bufOf d c j cc0_scratch3
      ∗ bufOf d c j cc0_scratch4 ∗ bufOf d c j cc0_scratch5 ∗ bufOf d c j cc0_scratch6 ∗ bufOf d c j cc0_scratch7 ∗ bufOf d c j cc0_scratch8
      ∗ bufOf d c j cc0_scratch11 ∗ bufOf d c j cc0_scratch12 ∗ bufOf d c j cc0_scratch13 ∗ bufOf d c j cc0_scratch14 ∗ bufOf d c j cc0_scratch15)
      ∗ bufRest d c j) := by
  unfold SparseCore.Cfg.ownBufs bufRest
  have hsub : (Finset.univ.image fun k => (Proc.scVector c j).devRef (tBuf k)) ⊆ ownRefs (.scVector c j) := by
    intro b hb
    obtain ⟨k, -, rfl⟩ := Finset.mem_image.mp hb
    exact SparseCore.Cfg.mem_ownRefs_of_owner (tBuf_owner c j k)
  rw [SparseCore.bigSep_sdiff_split' hsub, SparseCore.bigSep_image_of_injOn (fun a _ b _ e => Fin.ext (by
      rw [← tBuf_idx c j a, ← tBuf_idx c j b, show (Proc.scVector c j).devRef (tBuf a) = (Proc.scVector c j).devRef (tBuf b) from e])),
    bigSep_univ_eq_bigSepL [(0 : Fin 14), 1, 2, 3, 4, 5, 6, 7, 8, 9, 10, 11, 12, 13] (by decide) (by decide)]
  rfl

theorem ownSems0_V (d : Dev nD) (c : Fin τ.nSC) (j : Fin τ.nSub) :
    (ownSems0 (V d c j) : sProp (MM F)) = iprop((semVal (V d c j, .dma cc0_scratch16.sem) 0 ∗ semVal (V d c j, .dma cc0_scratch17.sem) 0
      ∗ semVal (V d c j, .dma cc0_scratch18.sem) 0 ∗ semVal (V d c j, .dma cc0_scratch19.sem) 0
      ∗ semVal (V d c j, .dma cc0_scoped0.sem) 0 ∗ semVal (V d c j, .dma cc0_scoped1.sem) 0 ∗ semVal (V d c j, .dma cc0_scoped2.sem) 0
      ∗ semVal (V d c j, .dma cc0_scoped3.sem) 0 ∗ semVal (V d c j, .dma cc0_scoped4.sem) 0 ∗ semVal (V d c j, .dma cc0_scoped5.sem) 0
      ∗ semVal (V d c j, .dma cc0_scoped6.sem) 0 ∗ semVal (V d c j, .dma cc0_scoped7.sem) 0 ∗ semVal (V d c j, .dma cc0_scoped8.sem) 0)
      ∗ semRest d c j) := by
  unfold SparseCore.Cfg.ownSems0 semRest
  have hsub : (Finset.univ.image fun k => ((V d c j, tSem k) : GSem nD τ sig)) ⊆ ownCells (V d c j) := by
    intro b hb
    obtain ⟨k, -, rfl⟩ := Finset.mem_image.mp hb
    exact mem_ownCells.mpr ⟨rfl, tSem_scoped k⟩
  rw [SparseCore.bigSep_sdiff_split' hsub, SparseCore.bigSep_image_of_injOn (fun a _ b _ e => Fin.ext (by
      have := Prod.mk.inj (show ((V d c j, tSem a) : GSem nD τ sig) = (V d c j, tSem b) from e)
      have h3 := congrArg Fin.val (SemLoc.dma.inj this.2); exact h3)),
    bigSep_univ_eq_bigSepL [(0 : Fin 13), 1, 2, 3, 4, 5, 6, 7, 8, 9, 10, 11, 12] (by decide) (by decide)]
  rfl

/-! ## What the call hands out and takes back -/

theorem nCore_zero : (K (F := F)).nCore 0 = 2 := rfl
theorem nSub_zero : (K (F := F)).nSub 0 = 16 := rfl
abbrev coreOf (c : Fin ((K (F := F)).nCore 0)) : Fin τ.nSC := (K (F := F)).core 0 c
abbrev subOf (i : Fin ((K (F := F)).nSub 0)) : Fin τ.nSub := (K (F := F)).sub 0 i

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The arrays of the call, as the host names them. -/
abbrev fpLoc (d : Dev nD) : Loc nD τ sig := (SparseCore.T d).loc main_v7
abbrev inLoc (d : Dev nD) : Loc nD τ sig := (SparseCore.T d).loc main_v19
abbrev xLoc (d : Dev nD) : Loc nD τ sig := (SparseCore.T d).loc main_v4
abbrev outLoc (d : Dev nD) : Loc nD τ sig := (SparseCore.T d).loc main_v20

variable (A : Dev nD → Inp F) (o : (d : Dev nD) → Buf (Elt F) (outLoc d))

/-- The three read arrays at share `q`. -/
def in3 (d : Dev nD) (q : PosShare TreeShare) : sProp (MM F) :=
  iprop((fpLoc d ↦{q} (A d).fp) ∗ (inLoc d ↦{q} (A d).ints) ∗ (xLoc d ↦{q} (A d).x))
/-- A core's share of a read array, a tile's share of its core's. -/
abbrev qc (c : Fin 2) : PosShare TreeShare := Transfers.shareTok fullShare 2 c
abbrev qt (c : Fin 2) (i : Fin 16) : PosShare TreeShare := Transfers.shareTok (qc c) 16 i
/-- The rows of the output a tile writes. -/
def outAt (d : Dev nD) (c : Fin 2) (i : Fin 16) (f : Buf (Elt F) (outLoc d)) : sProp (MM F) :=
  if c.val = 0 then iprop((outLoc d ↦[outBlk i.val]{fullShare} f) ∗ (outLoc d ↦[outRow (i.val + 256)]{fullShare} f))
  else iprop(outLoc d ↦[outRow (i.val + 272)]{fullShare} f)
/-- A tile's row of the second shared table, on the core that never writes it. -/
def idle (d : Dev nD) (c : Fin 2) (i : Fin 16) : sProp (MM F) :=
  if c.val = 0 then iprop(emp) else iprop(∃ f, sh10 d (c.castLE (by decide)) ↦[rowSet i.val]{fullShare} f)
abbrev bars (d : Dev nD) (c : Fin ((K (F := F)).nCore 0)) : sProp (MM F) :=
  bigSep Finset.univ fun i : Fin ((K (F := F)).nSub 0) => semVal (bcell d (coreOf c) (subOf i)) 0

def stP (d : Dev nD) (c : Fin ((K (F := F)).nCore 0)) : sProp (MM F) :=
  iprop(in3 A d (qc (c.cast nCore_zero)) ∗ bigSep Finset.univ fun i : Fin 16 => outAt d (c.cast nCore_zero) i (o d))
def dnP (d : Dev nD) (c : Fin ((K (F := F)).nCore 0)) : sProp (MM F) :=
  iprop(in3 A d (qc (c.cast nCore_zero)) ∗ (bigSep Finset.univ fun i : Fin 16 => outAt d (c.cast nCore_zero) i (outF (A d))) ∗ bars d c)
def goP (d : Dev nD) (c : Fin ((K (F := F)).nCore 0)) (i : Fin ((K (F := F)).nSub 0)) : sProp (MM F) :=
  iprop(in3 A d (qt (c.cast nCore_zero) (i.cast nSub_zero)) ∗ outAt d (c.cast nCore_zero) (i.cast nSub_zero) (o d)
    ∗ (∃ f, sh9 d (coreOf c) ↦[rowSet i.val]{fullShare} f) ∗ (∃ f, sh10 d (coreOf c) ↦[rowSet i.val]{fullShare} f))
def tdP (d : Dev nD) (c : Fin ((K (F := F)).nCore 0)) (i : Fin ((K (F := F)).nSub 0)) : sProp (MM F) :=
  iprop(in3 A d (qt (c.cast nCore_zero) (i.cast nSub_zero)) ∗ outAt d (c.cast nCore_zero) (i.cast nSub_zero) (outF (A d))
    ∗ (tabAt A d (coreOf c) (tk (i.cast nSub_zero)) ∗ rowAt A d (coreOf c) i.val dr) ∗ idle d (c.cast nCore_zero) (i.cast nSub_zero)
    ∗ semVal (bcell d (coreOf c) (subOf i)) 0)

omit [FloatOps F] in
theorem bar_ne : (sc_bar0 : Sem sig) ≠ sc_go := by decide

set_option backward.proofsInPublic true in
/-- The call's bookkeeping: what it hands each core and each tile, and what comes back. -/
def P : (K (F := F)).Pay (nD := nD) (Val := Elt F) (Name := ℕ) (U := UU) where
  st := fun q d c => match q with | 0 => stP A o d c
  dn := fun q d c => match q with | 0 => dnP A d c
  go := fun q d c i => match q with | 0 => goP A o d c i
  td := fun q d c i => match q with | 0 => tdP A d c i
  x := fun _ thr => match thr with
    | (d, .scVector c i) => bkit A d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · obtain ⟨j, rfl, rfl⟩ := oxV_pos h
      rw [(K (F := F)).lev_V_reg d c (j.castLE hsub0) bar_ne_go]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance in3_storable (d : Dev nD) (q : PosShare TreeShare) : BI.Storable (upEmb : UEmb _ (MM F)) (in3 A d q) := by
  unfold in3; infer_instance
instance outAt_storable (d : Dev nD) (c : Fin 2) (i : Fin 16) (f : Buf (Elt F) (outLoc d)) : BI.Storable (upEmb : UEmb _ (MM F)) (outAt d c i f) := by
  unfold outAt; split <;> infer_instance
instance idle_storable (d : Dev nD) (c : Fin 2) (i : Fin 16) : BI.Storable (upEmb : UEmb _ (MM F)) (idle (F := F) d c i) := by
  unfold idle; split <;> infer_instance

instance P_storable : (P A o).IsStorable where
  st q d c := match q with | 0 => by show BI.Storable (upEmb : UEmb _ (MM F)) (stP A o d c); unfold stP; infer_instance
  dn q d c := match q with | 0 => by show BI.Storable (upEmb : UEmb _ (MM F)) (dnP A d c); unfold dnP; infer_instance
  go q d c i := match q with | 0 => by show BI.Storable (upEmb : UEmb _ (MM F)) (goP A o d c i); unfold goP; infer_instance
  td q d c i := match q with | 0 => by show BI.Storable (upEmb : UEmb _ (MM F)) (tdP A d c i); unfold tdP; infer_instance

/-! ## The obligation of a tile -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s) fpM (Memref.isWhole_whole _) intM (Memref.isWhole_whole _) xM (Memref.isWhole_whole _) outM (Memref.isWhole_whole _) s0M (Memref.isWhole_whole _) s1M (Memref.isWhole_whole _) s2M (Memref.isWhole_whole _) s3M (Memref.isWhole_whole _) s4M (Memref.isWhole_whole _) s5M (Memref.isWhole_whole _) s6M (Memref.isWhole_whole _) s7M (Memref.isWhole_whole _) s8M (Memref.isWhole_whole _) s9M (Memref.isWhole_whole _) s10M (Memref.isWhole_whole _) s11M (Memref.isWhole_whole _) s12M (Memref.isWhole_whole _) s13M (Memref.isWhole_whole _) s14M (Memref.isWhole_whole _) s15M (Memref.isWhole_whole _) cc0_scratch16 cc0_scratch17 cc0_scratch18 cc0_scratch19 cc0_scoped0 cc0_scoped1 cc0_scoped2 cc0_scoped3 cc0_scoped4 cc0_scoped5 cc0_scoped6 cc0_scoped7 cc0_scoped8) ⟨⟩ c s := rfl

omit [FloatOps F] in
/-- Which branches the tiles of the first core take, -/
theorem conds0 (L : grid0.Coords) (h : (L 0).val = 0) : k0_cond1 L = 1#1 ∧ ¬ k0_cond2 L = 1#1 ∧ k0_cond3 L = 1#1 ∧ ¬ k0_cond4 L = 1#1 := by
  unfold k0_cond1 k0_cond2 k0_cond3 k0_cond4
  rw [h]; decide
omit [FloatOps F] in
/-- and those of the second. -/
theorem conds1 (L : grid0.Coords) (h : (L 0).val = 1) : ¬ k0_cond1 L = 1#1 ∧ k0_cond2 L = 1#1 ∧ ¬ k0_cond3 L = 1#1 ∧ k0_cond4 L = 1#1 := by
  unfold k0_cond1 k0_cond2 k0_cond3 k0_cond4
  rw [h]; decide

abbrev cL (L : grid0.Coords) : Fin 2 := (L 0).cast rfl

set_option maxHeartbeats 1000000 in
theorem tile_body (d : Dev nD) (L : grid0.Coords) (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι) :
    (iprop(levAts (K (F := F)).L (K (F := F)).lev ∗ bkit A d (cV L) (jV L)
      ∗ iprop(in3 A d (qt (cL L) (sidV L)) ∗ outAt d (cL L) (sidV L) (o d)
        ∗ (∃ f, sh9 d (cV L) ↦[rowSet (L 1).val]{fullShare} f) ∗ (∃ f, sh10 d (cV L) ↦[rowSet (L 1).val]{fullShare} f))
      ∗ scopedBufs (tV d L) ∗ scopedSems0 (tV d L) ∗ owes (tV d L) (O + oxV d (cV L)) W) : sProp (MM F))
     ⊢ wp frame (wpE (defs₀ (F := F)) 𝒱₀ (tV d L) none) Set.univ (cc0__sc_body L fpM (Memref.isWhole_whole _) intM (Memref.isWhole_whole _) xM (Memref.isWhole_whole _) outM (Memref.isWhole_whole _) s0M (Memref.isWhole_whole _) s1M (Memref.isWhole_whole _) s2M (Memref.isWhole_whole _) s3M (Memref.isWhole_whole _) s4M (Memref.isWhole_whole _) s5M (Memref.isWhole_whole _) s6M (Memref.isWhole_whole _) s7M (Memref.isWhole_whole _) s8M (Memref.isWhole_whole _) s9M (Memref.isWhole_whole _) s10M (Memref.isWhole_whole _) s11M (Memref.isWhole_whole _) s12M (Memref.isWhole_whole _) s13M (Memref.isWhole_whole _) s14M (Memref.isWhole_whole _) s15M (Memref.isWhole_whole _) cc0_scratch16 cc0_scratch17 cc0_scratch18 cc0_scratch19 cc0_scoped0 cc0_scoped1 cc0_scoped2 cc0_scoped3 cc0_scoped4 cc0_scoped5 cc0_scoped6 cc0_scoped7 cc0_scoped8) (fun _ => iprop(
        iprop(in3 A d (qt (cL L) (sidV L)) ∗ outAt d (cL L) (sidV L) (outF (A d))
          ∗ (tabAt A d (cV L) (tk (sidV L)) ∗ rowAt A d (cV L) (L 1).val dr) ∗ idle d (cL L) (sidV L)
          ∗ semVal (bcell d (cV L) (jV L)) 0)
        ∗ scopedBufs (tV d L) ∗ scopedSems0 (tV d L)
        ∗ ∃ W', ⌜∀ p ∈ W', p ∈ W ∨ p.2 = none ∨ p.2 = some (0 : Fin 1)⌝ ∗ owes (tV d L) O W')) := by
  rw [(K (F := F)).scopedBufs_V hF d (cV L) (jV L), SparseCore.Cfg.scopedSems0_V (Val := Elt F) d (cV L) (jV L), ownSems0_V, ownBufs_V]
  have hc2 : (L 0).val < 2 := (L 0).isLt
  rcases (show (L 0).val = 0 ∨ (L 0).val = 1 by omega) with h0 | h0
  · obtain ⟨c1, c2, c3, c4⟩ := conds0 L h0
    unfold in3 outAt idle
    rw [if_pos (show (cL L).val = 0 from h0), if_pos (show (cL L).val = 0 from h0), if_pos (show (cL L).val = 0 from h0)]
    iintro ⟨#Hlv, Hkit, ⟨⟨Hfp, Hin, Hx⟩, ⟨Hob, Hor⟩, ⟨%f9, H9⟩, ⟨%f10, H10⟩⟩,
      ⟨⟨⟨%f0, H0⟩, ⟨%f1, H1⟩, H2, H3, H4, ⟨%f5, H5⟩, ⟨%f6, H6⟩, ⟨%f7, H7⟩, ⟨%f8, H8⟩, ⟨%f11, H11⟩, ⟨%f12, H12⟩, ⟨%f13, H13⟩, ⟨%f14, H14⟩, ⟨%f15, H15⟩⟩, Hbr⟩,
      ⟨⟨S16, S17, S18, S19, R0, R1, R2, R3, R4, R5, R6, R7, R8⟩, Hsr⟩, HO⟩
    iapply (wp_wand_r frame _ _)
    isplitr [H2 H3 H4 Hbr S17 S18 R2 R7 R8 Hsr]
    · iapply (body0 d L A (qt (cL L) (sidV L)) f0 f1 f5 f6 f7 f8 f9 f10 f11 f12 f13 f14 f15 (o d) (o d) hF O W hO hOlev trivial h0 c1 c2 c3 c4)
      isplitr; · iexact Hlv
      isplitl [Hkit]; · iexact Hkit
      isplitl [Hfp]; · iexact Hfp
      isplitl [Hin]; · iexact Hin
      isplitl [Hx]; · iexact Hx
      isplitl [H0]; · iexact H0
      isplitl [H1]; · iexact H1
      isplitl [H5]; · iexact H5
      isplitl [H6]; · iexact H6
      isplitl [H7]; · iexact H7
      isplitl [H8]; · iexact H8
      isplitl [H11]; · iexact H11
      isplitl [H12]; · iexact H12
      isplitl [H13]; · iexact H13
      isplitl [H14]; · iexact H14
      isplitl [H15]; · iexact H15
      isplitl [H9]; · iexact H9
      isplitl [H10]; · iexact H10
      isplitl [Hob]; · iexact Hob
      isplitl [Hor]; · iexact Hor
      isplitl [S16]; · iexact S16
      isplitl [S19]; · iexact S19
      isplitl [R0]; · iexact R0
      isplitl [R1]; · iexact R1
      isplitl [R3]; · iexact R3
      isplitl [R4]; · iexact R4
      isplitl [R5]; · iexact R5
      isplitl [R6]; · iexact R6
      iexact HO
    iintro %_ ⟨⟨Hfp, Hin, Hx⟩, ⟨H0, H1, H5, H6, H7, H8, H11, H12, H13, H14, H15⟩, Htab, ⟨Hob, Hor⟩, ⟨Hbc, S16, S19, R0, R1, R3, R4, R5, R6⟩, HW⟩
    isplitl [Hfp Hin Hx Htab Hob Hor Hbc]
    · isplitl [Hfp Hin Hx]
      · isplitl [Hfp]; · iexact Hfp
        isplitl [Hin]; · iexact Hin
        iexact Hx
      isplitl [Hob Hor]
      · isplitl [Hob]; · iexact Hob
        iexact Hor
      isplitl [Htab]; · iexact Htab
      isplitr; · iempintro
      iexact Hbc
    isplitl [H0 H1 H2 H3 H4 H5 H6 H7 H8 H11 H12 H13 H14 H15 Hbr]
    · isplitr [Hbr]; swap; · iexact Hbr
      · skip
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H11]; · iexact H11
        isplitl [H12]; · iexact H12
        isplitl [H13]; · iexact H13
        isplitl [H14]; · iexact H14
        iexact H15
    isplitl [S16 S17 S18 S19 R0 R1 R2 R3 R4 R5 R6 R7 R8 Hsr]
    · isplitr [Hsr]; swap; · iexact Hsr
      · skip
        isplitl [S16]; · iexact S16
        isplitl [S17]; · iexact S17
        isplitl [S18]; · iexact S18
        isplitl [S19]; · iexact S19
        isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        iexact R8
    iexact HW
  · obtain ⟨c1, c2, c3, c4⟩ := conds1 L h0
    have hn : ¬ (L 0).val = 0 := by omega
    unfold in3 outAt idle
    rw [if_neg (show ¬ (cL L).val = 0 from hn), if_neg (show ¬ (cL L).val = 0 from hn), if_neg (show ¬ (cL L).val = 0 from hn)]
    iintro ⟨#Hlv, Hkit, ⟨⟨Hfp, Hin, Hx⟩, Ho, ⟨%f9, H9⟩, H10⟩,
      ⟨⟨H0, H1, ⟨%f2, H2⟩, ⟨%f3, H3⟩, ⟨%f4, H4⟩, ⟨%f5, H5⟩, H6, ⟨%f7, H7⟩, H8, ⟨%f11, H11⟩, H12, H13, H14, ⟨%f15, H15⟩⟩, Hbr⟩,
      ⟨⟨S16, S17, S18, S19, R0, R1, R2, R3, R4, R5, R6, R7, R8⟩, Hsr⟩, HO⟩
    iapply (wp_wand_r frame _ _)
    isplitr [Hx H10 H0 H1 H6 H8 H12 H13 H14 Hbr S16 S19 R0 R1 R3 R4 R5 R6 Hsr]
    · iapply (body1 d L A (qt (cL L) (sidV L)) f2 f3 f4 f5 f7 f9 f11 f15 (o d) hF O W hO hOlev trivial hn c1 c2 c3 c4)
      isplitr; · iexact Hlv
      isplitl [Hkit]; · iexact Hkit
      isplitl [Hfp]; · iexact Hfp
      isplitl [Hin]; · iexact Hin
      isplitl [H2]; · iexact H2
      isplitl [H3]; · iexact H3
      isplitl [H4]; · iexact H4
      isplitl [H5]; · iexact H5
      isplitl [H7]; · iexact H7
      isplitl [H11]; · iexact H11
      isplitl [H15]; · iexact H15
      isplitl [H9]; · iexact H9
      isplitl [Ho]; · iexact Ho
      isplitl [S17]; · iexact S17
      isplitl [S18]; · iexact S18
      isplitl [R2]; · iexact R2
      isplitl [R7]; · iexact R7
      isplitl [R8]; · iexact R8
      iexact HO
    iintro %_ ⟨⟨Hfp, Hin⟩, ⟨H2, H3, H4, H5, H7, H11, H15⟩, Htab, Ho, ⟨Hbc, S17, S18, R2, R7, R8⟩, HW⟩
    isplitl [Hfp Hin Hx Htab Ho H10 Hbc]
    · isplitl [Hfp Hin Hx]
      · isplitl [Hfp]; · iexact Hfp
        isplitl [Hin]; · iexact Hin
        iexact Hx
      isplitl [Ho]; · iexact Ho
      isplitl [Htab]; · iexact Htab
      isplitl [H10]; · iexact H10
      iexact Hbc
    isplitl [H0 H1 H2 H3 H4 H5 H6 H7 H8 H11 H12 H13 H14 H15 Hbr]
    · isplitr [Hbr]; swap; · iexact Hbr
      · skip
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H11]; · iexact H11
        isplitl [H12]; · iexact H12
        isplitl [H13]; · iexact H13
        isplitl [H14]; · iexact H14
        iexact H15
    isplitl [S16 S17 S18 S19 R0 R1 R2 R3 R4 R5 R6 R7 R8 Hsr]
    · isplitr [Hsr]; swap; · iexact Hsr
      · skip
        isplitl [S16]; · iexact S16
        isplitl [S17]; · iexact S17
        isplitl [S18]; · iexact S18
        isplitl [S19]; · iexact S19
        isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        iexact R8
    iexact HW

theorem tileObl (hF : (K (F := F)).Facts) : (K (F := F)).TileObl (D (F := F)) 𝒱 (P A o) v₀ 0 := by
  intro d c i O W hO hOlev _
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body A o d (coordsV ⟨_, hci.1⟩ ⟨_, hci.2⟩) hF O W hO hOlev

end Cert.Proof.Sc

end
-- ==== Proof.Sc.Launch.lean ====
/-
  The launch of the kernel's SparseCore call: how the payloads split between the cores and their tiles, the launch's ghost state — the handshakes', the barrier cells', the pipelined call's — and its dealing out.
-/
module

public import proofs.«01_k».proof.Proof.Sc.Tiles
public import proofs.«01_k».proof.Proof.Gen.KernelIdeal.Launch
public import proofs.«01_k».proof.Proof.Gen.KernelIdeal.Points

@[expose] public section

set_option maxRecDepth 16384

noncomputable section

namespace Cert.Proof.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds

variable {F : FTy → Type} [FloatOps F]
variable (A : Dev nD → Inp F) (o : (d : Dev nD) → Buf (Elt F) (outLoc d))

/-! ## Splitting and joining -/

/-- The read arrays at a share are what stays and the parts handed out. -/
theorem in3_toks (d : Dev nD) (q : PosShare TreeShare) (n : ℕ) :
    in3 A d q ⊣⊢ iprop(in3 A d (Transfers.shareDrop q n) ∗ bigSep Finset.univ fun j : Fin n => in3 A d (Transfers.shareTok q n j)) := by
  unfold in3
  rw [bigSep_sep', bigSep_sep']
  constructor
  · iintro ⟨H1, H2, H3⟩
    ihave H1 := (Transfers.pointsTo_toks q n).1 $$ H1
    ihave H2 := (Transfers.pointsTo_toks q n).1 $$ H2
    ihave H3 := (Transfers.pointsTo_toks q n).1 $$ H3
    icases H1 with ⟨A1, B1⟩
    icases H2 with ⟨A2, B2⟩
    icases H3 with ⟨A3, B3⟩
    isplitl [A1 A2 A3]
    · isplitl [A1]; · iexact A1
      isplitl [A2]; · iexact A2
      iexact A3
    · isplitl [B1]; · iexact B1
      isplitl [B2]; · iexact B2
      iexact B3
  · iintro ⟨⟨A1, A2, A3⟩, B1, B2, B3⟩
    isplitl [A1 B1]
    · iapply (Transfers.pointsTo_toks q n).2; isplitl [A1]; · iexact A1
      iexact B1
    isplitl [A2 B2]
    · iapply (Transfers.pointsTo_toks q n).2; isplitl [A2]; · iexact A2
      iexact B2
    · iapply (Transfers.pointsTo_toks q n).2; isplitl [A3]; · iexact A3
      iexact B3

omit [FloatOps F] in
theorem rows_disj' : ∀ t ∈ (Finset.univ : Finset (Fin 16)), ∀ t' ∈ (Finset.univ : Finset (Fin 16)), t ≠ t' → Disjoint (rowSet t.val) (rowSet t'.val) := fun t _ t' _ h =>
  Finset.disjoint_filter.mpr fun _ _ h1 h2 => h (Fin.ext (h1.symm.trans h2))
omit [FloatOps F] in
theorem rows_univ' : (Finset.univ : Finset (Fin 16)).biUnion (fun t => rowSet t.val) = Finset.univ := by
  ext x
  simp only [Finset.mem_biUnion, Finset.mem_filter, Finset.mem_univ, true_and, iff_true]
  exact ⟨x 0, rfl⟩
omit [FloatOps F] in
theorem sh9_rows (d : Dev nD) (c : Fin τ.nSC) (f : Buf (Elt F) (sh9 d c)) :
    (sh9 d c ↦{fullShare} f : sProp (MM F)) = bigSep Finset.univ fun i : Fin 16 => sh9 d c ↦[rowSet i.val]{fullShare} f := by
  rw [← pointsTo_biUnion Finset.univ (ℓ := sh9 d c) (fun i : Fin 16 => rowSet i.val) rows_disj', rows_univ']; try rfl
omit [FloatOps F] in
theorem sh10_rows (d : Dev nD) (c : Fin τ.nSC) (f : Buf (Elt F) (sh10 d c)) :
    (sh10 d c ↦{fullShare} f : sProp (MM F)) = bigSep Finset.univ fun i : Fin 16 => sh10 d c ↦[rowSet i.val]{fullShare} f := by
  rw [← pointsTo_biUnion Finset.univ (ℓ := sh10 d c) (fun i : Fin 16 => rowSet i.val) rows_disj', rows_univ']; try rfl
theorem sh10_join (d : Dev nD) (c : Fin τ.nSC) :
    (bigSep Finset.univ fun i : Fin 16 => iprop(∃ f, sh10 d c ↦[rowSet i.val]{fullShare} f)) ⊢ (iprop(∃ f, sh10 d c ↦{fullShare} f) : sProp (MM F)) := by
  refine (bigSep_exists_pi Finset.univ (fun (i : Fin 16) (f : Buf (Elt F) (sh10 d c)) => sh10 d c ↦[rowSet i.val]{fullShare} f)).trans ?_
  iintro ⟨%fs, H⟩
  ihave H' := (pointsTo_biUnion_join Finset.univ (fun i : Fin 16 => rowSet i.val) fs (fs 0) rows_disj') $$ H
  icases H' with ⟨%g, -, Hg⟩
  rw [rows_univ']
  iexists g; iexact Hg

theorem bigSep_tasks (Φ : Fin 16 → sProp (MM F)) :
    (bigSep Finset.univ fun i : Fin ((K (F := F)).nSub 0) => Φ (i.cast nSub_zero)) = bigSep Finset.univ Φ := rfl

abbrev shRef9 (c : Fin τ.nSC) : DevRef τ sig := ⟨.shared, ⟨0, by decide⟩, c⟩
abbrev shRef10 (c : Fin τ.nSC) : DevRef τ sig := ⟨.shared, ⟨1, by decide⟩, c⟩
/-- The shared tables are among the sequencer's own buffers. -/
theorem ownBufs_S (d : Dev nD) (c : Fin τ.nSC) :
    (ownBufs (S d c) : sProp (MM F))
      = iprop((∃ f, sh9 d c ↦{fullShare} f) ∗ (∃ f, sh10 d c ↦{fullShare} f)
        ∗ bigSep (((ownRefs (τ := τ) (.scScalar c)).erase (shRef9 c)).erase (shRef10 c)) fun b => iprop(∃ f, ((d, b) : Loc nD τ sig) ↦{fullShare} f)) := by
  unfold SparseCore.Cfg.ownBufs
  have h : shRef9 c ∈ ownRefs (τ := τ) (sig := sig) (.scScalar c) := (mem_ownRefs (p := Proc.scScalar c) (b := shRef9 c)).mpr rfl
  have h' : shRef10 c ∈ ownRefs (τ := τ) (sig := sig) (.scScalar c) := (mem_ownRefs (p := Proc.scScalar c) (b := shRef10 c)).mpr rfl
  have hne : shRef10 c ≠ shRef9 c := fun e => by
    have := congrArg (fun b : DevRef τ sig => b.idx.val) e
    exact absurd this (by show ¬ (1 : ℕ) = 0; decide)
  rw [SparseCore.bigSep_erase' h, SparseCore.bigSep_erase' (Finset.mem_erase.mpr ⟨hne, h'⟩)]

theorem tab_join (d : Dev nD) (c : Fin τ.nSC) :
    iprop((bigSep Finset.univ fun i : Fin 16 => tabAt A d c (tk i)) ∗ bigSep Finset.univ fun i : Fin 16 => rowAt A d c i.val dr) ⊢ tabAt A d c fullShare := by
  have e : (bigSep Finset.univ fun i : Fin 16 => rowAt A d c i.val dr) = tabAt A d c dr := by
    rw [← tab_rows A d c dr, show Finset.range 16 = (Finset.univ : Finset (Fin 16)).image Fin.val by decide,
      SparseCore.bigSep_image_of_injOn (fun a _ b _ e => Fin.ext e)]
  rw [e]
  iintro ⟨H1, H2⟩
  iapply (part_toks A d c Finset.univ).2
  isplitl [H2]; · iexact H2
  iexact H1

set_option maxHeartbeats 1000000 in
theorem vecSplit : (K (F := F)).VecSplit (P A o) 0 := by
  intro d c
  show iprop(stP A o d c ∗ ownBufs (S d (coreOf c))) ⊢ |={Set.univ}=> iprop(
      (bigSep Finset.univ fun i : Fin ((K (F := F)).nSub 0) => goP A o d c i)
      ∗ ((bigSep Finset.univ fun i : Fin ((K (F := F)).nSub 0) => tdP A d c i) -∗ iprop(dnP A d c ∗ ownBufs (S d (coreOf c)))))
  unfold stP dnP goP tdP
  rw [bigSep_sep', bigSep_sep', bigSep_sep', bigSep_sep', bigSep_sep', bigSep_sep', bigSep_sep', bigSep_sep', ownBufs_S]
  iintro ⟨⟨Hin, Hout⟩, ⟨%f9, H9⟩, ⟨%f10, H10⟩, Hrest⟩
  ihave Hin := (in3_toks A d (qc (c.cast nCore_zero)) 16).1 $$ Hin
  icases Hin with ⟨Hkeep, Hin⟩
  imodintro
  isplitl [Hin Hout H9 H10]
  · isplitl [Hin]; · iexact Hin
    isplitl [Hout]; · iexact Hout
    isplitl [H9]
    · ihave H := ((Entails.of_eq (sh9_rows d (coreOf c) f9)).trans (SparseCore.ent (bigSep_mono (Φ := fun i : Fin 16 => (sh9 d (coreOf c) ↦[rowSet i.val]{fullShare} f9 : sProp (MM F)))
        (Ψ := fun i : Fin 16 => iprop(∃ f, sh9 d (coreOf c) ↦[rowSet i.val]{fullShare} f))
        fun i _ => BI.BIClass.exists_intro (Φ := fun f => (sh9 d (coreOf c) ↦[rowSet i.val]{fullShare} f : sProp (MM F))) f9))) $$ H9
      iexact H
    · ihave H := ((Entails.of_eq (sh10_rows d (coreOf c) f10)).trans (SparseCore.ent (bigSep_mono (Φ := fun i : Fin 16 => (sh10 d (coreOf c) ↦[rowSet i.val]{fullShare} f10 : sProp (MM F)))
        (Ψ := fun i : Fin 16 => iprop(∃ f, sh10 d (coreOf c) ↦[rowSet i.val]{fullShare} f))
        fun i _ => BI.BIClass.exists_intro (Φ := fun f => (sh10 d (coreOf c) ↦[rowSet i.val]{fullShare} f : sProp (MM F))) f10))) $$ H10
      iexact H
  iintro ⟨Hin, Hout, ⟨Ht, Hr⟩, Hidle, Hbars⟩
  isplitl [Hin Hkeep Hout Hbars]
  · isplitl [Hin Hkeep]
    · iapply (in3_toks A d (qc (c.cast nCore_zero)) 16).2
      isplitl [Hkeep]; · iexact Hkeep
      iexact Hin
    isplitl [Hout]; · iexact Hout
    iexact Hbars
  ihave Htab := (tab_join A d (coreOf c)) $$ [Ht Hr]
  · isplitl [Ht]; · iexact Ht
    iexact Hr
  have hc2 : c.val < 2 := c.isLt
  unfold tabAt partAt idle
  by_cases h0 : c.val = 0
  · rw [if_pos (show (coreOf c).val = 0 from h0)]
    icases Htab with ⟨H9, H10⟩
    isplitl [H9]; · iexists _; iexact H9
    isplitl [H10]; · iexists _; iexact H10
    iexact Hrest
  · rw [if_neg (show ¬ (coreOf c).val = 0 from h0)]
    icases Htab with ⟨H9, -⟩
    isplitl [H9]; · iexists _; iexact H9
    isplitl [Hidle]
    · iapply (sh10_join d (coreOf c))
      ihave H := (Entails.of_eq (bigSep_congr (s := (Finset.univ : Finset (Fin 16))) (Φ := fun i : Fin 16 => if (c.cast (nCore_zero (F := F))).val = 0 then (iprop(emp) : sProp (MM F)) else iprop(∃ f, sh10 d ((c.cast (nCore_zero (F := F))).castLE (by decide)) ↦[rowSet i.val]{fullShare} f))
        (fun i _ => if_neg (show ¬ (c.cast (nCore_zero (F := F))).val = 0 from h0)))) $$ [Hidle]
      · iexact Hidle
      iexact H
    iexact Hrest

/-! ## The launch's ghost state -/

abbrev DCI : Type := Dev nD × Fin τ.nSC × Fin τ.nSub
abbrev bcell₃ (x : DCI) : GSem nD τ sig := bcell x.1 x.2.1 x.2.2
/-- The barrier cells the call takes at the launch: every tile's. -/
def bCells : Finset (GSem nD τ sig) := (Finset.univ : Finset DCI).image bcell₃
/-- Each tile's token in each cell of its core. -/
def bToks : Finset (GSem nD τ sig × ℕ × ℕ) :=
  ((Finset.univ : Finset DCI) ×ˢ Finset.univ).image fun x : DCI × Fin (grid0.bound 1) => (bcell x.1.1 x.1.2.1 (x.2.castLE hsub0), 0, x.1.2.2.val)
/-- No pipelined call of the program is prefetched: its tables are empty. -/
abbrev adm : (p : Fin 1) → (pcfgs (F := F) p).Adm := fun p => (cfgs p).toPCfg_adm

variable (F) in
/-- The launch's ghost state: the handshakes', the barrier cells', the pipelined call's. -/
def u₀ : UU := (initOf (K (F := F)).hsCells (K (F := F)).hsToks, (initOf bCells bToks,
  (initOf (Pipeline.cells (Pipeline.pin (pcfgs (F := F)) adm) cellOf_inj) (Pipeline.launchToks (Pipeline.pin (pcfgs (F := F)) adm) cellOf_inj), 1)))
abbrev EH : Emb UH (MM F) := embL

/-- The pipelined call's rounds: the third component of the algebra. -/
def EP : Emb UP (MM F) :=
  (((Emb.inl : Emb UP (UP × Counters)).trans (Emb.inr : Emb (UP × Counters) (UB × (UP × Counters)))).trans (Emb.inr : Emb (UB × (UP × Counters)) UU)).trans
    (uEmb (nD := nD) (sig := sig) (Ix := HIx 1) (Val := Elt F) (Name := ℕ) (U := UU) (Lvl := ℕ)).toEmb
omit [FloatOps F] in
instance EP_landsIn : (EP : Emb UP (MM F)).LandsIn (upEmb : UEmb _ (MM F)) := by unfold EP; infer_instance

/-- The pipelined call's ghost state on one device. -/
def gP (d : Dev nD) : sProp (MM F) :=
  iprop(Pipeline.cellsGhost (Pipeline.pin (pcfgs (F := F)) adm) EP 0 d ∗ Pipeline.toksInit (Pipeline.pin (pcfgs (F := F)) adm) EP 0 d)

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
theorem ownU_split (a : UH) (b : UB) (c : UP) : (ownU ((a, (b, (c, 1))) : UU) : sProp (MM F)) ⊢ iprop(BI.own (EH a) ∗ BI.own (EB b) ∗ BI.own (EP c)) := by
  have h1 : (ownU ((a, (b, (c, 1))) : UU) : sProp (MM F)) ⊢ iprop(BI.own (EH a) ∗ ownU ((1, (b, (c, 1))) : UU)) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op (b, (c, (1 : Counters))))))
  have h2 : (ownU ((1, (b, (c, 1))) : UU) : sProp (MM F)) ⊢ iprop(BI.own (EB b) ∗ BI.own (EP c)) :=
    BI.own_op_elim ((uEmb (nD := nD) (sig := sig) (Ix := HIx 1) (Val := Elt F) (Name := ℕ) (U := UU) (Lvl := ℕ)).toEmb.op_of_mem
      (Prod.mk_mem_op (URA.mem_op_one (1 : UH)) (Prod.mk_mem_op (URA.mem_op_one b) (URA.mem_one_op (c, (1 : Counters))))))
  exact h1.trans (sep_mono_right h2)

/-- The barrier semaphores at zero, out of the free ones. -/
theorem sems_b : ((K (F := F)).freeOn (· ∈ bCells) : sProp (MM F)) ⊢ bigSep bCells fun g => semVal g 0 := by
  unfold SparseCore.Cfg.freeOn bCells
  rw [SparseCore.bigSep_image_of_injOn (fun a _ b _ e => bcell₃_injective e)]
  refine sep_elim_right.trans (bigSep_mono fun dci _ => ?_)
  exact bigSep_elim (Φ := fun sm : SemLoc sig => (semVal (V dci.1 dci.2.1 dci.2.2, sm) 0 : sProp (MM F))) (Finset.mem_filter.mpr
      ⟨Finset.mem_erase.mpr ⟨fun h => bar_ne (SemLoc.reg.inj h), Finset.mem_filter.mpr ⟨Finset.mem_univ _, by decide⟩⟩,
        Finset.mem_image_of_mem bcell₃ (Finset.mem_univ _)⟩)

theorem invs_b : iprop((bigSep bCells fun g => (semVal g 0 : sProp (MM F))) ∗ bigSep bCells fun g => roundState EB (bRd A) g 0)
    ⊢ |={Set.univ}=> iprop(∃ κ : GSem nD τ sig → ℕ, bigSep bCells fun g => cellInv EB (bRd A) (κ g) g) := by
  refine (Rounds.bodies_intro EB (bRd A) bCells).trans ((inv_alloc_family bCells (Rounds.body EB (bRd A)) ∅ (E := Set.univ)).trans ?_)
  iintro H
  imod H with ⟨%κ, -, Hinv⟩
  imodintro; iexists κ; iexact Hinv

omit [FloatOps F] in
theorem sum_tallyAt_one (g : GSem nD τ sig) (ι : HIx 1) (n : ℕ) : ∑ _ : Fin n, tallyAt g ι 1 = (tallyAt g ι n : CellTallies nD τ sig (HIx 1)) := by
  induction n with
  | zero => rw [Finset.sum_eq_zero fun j _ => j.elim0, tallyAt_zero]
  | succ n ih => rw [Fin.sum_univ_castSucc, ih, tallyAt_add]

/-- The credit for the tiles' debts, by cell. -/
theorem creds_b : ((P A o).oxCred : sProp (MM F)) ⊢ bigSep Finset.univ fun dci : DCI => cred (tallyAt (bcell₃ dci) (some 0) (grid0.bound 1)) := by
  unfold SparseCore.Cfg.Pay.oxCred
  rw [SparseCore.Cfg.bigSep_threads (fun thr : Thread nD τ => (cred ((P A o).oxFrom 0 thr) : sProp (MM F)))]
  refine sep_elim_right.trans (sep_elim_right.trans ?_)
  rw [bigSep_univ_prod, bigSep_univ_prod (fun dci : DCI => (cred (tallyAt (bcell₃ dci) (some 0) (grid0.bound 1)) : sProp (MM F)))]
  refine bigSep_mono fun d _ => ?_
  rw [bigSep_univ_prod, bigSep_univ_prod (fun ci : Fin τ.nSC × Fin τ.nSub => (cred (tallyAt (bcell₃ (d, ci)) (some 0) (grid0.bound 1)) : sProp (MM F)))]
  refine bigSep_mono fun c _ => ?_
  dsimp only
  have hox : ∀ i, (P A o).oxFrom 0 (V d c i) = oxV d c := fun i => by
    rw [show (0 : ℕ) = (0 : Fin 1).val from rfl, (P A o).oxFrom_step, (P A o).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in
/-- A persistent resource goes to each conjunct beside its own. -/
theorem bigSep_mono_frame {I : Type} [DecidableEq I] {R : sProp (MM F)} [BI.Persistent R] (s : Finset I) {Φ Ψ : I → sProp (MM F)}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp (MM F)))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, SparseCore.bigSep_product]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  obtain rfl : j = j' := Fin.ext (congrArg Fin.val hj)
  obtain rfl : i = i' := Fin.ext e2
  rfl

omit [FloatOps F] in
theorem bCells_eq (Φ : GSem nD τ sig → sProp (MM F)) : bigSep bCells Φ = bigSep Finset.univ fun x : DCI => Φ (bcell₃ x) := by
  unfold bCells; exact SparseCore.bigSep_image_of_injOn (fun a _ b _ e => bcell₃_injective e) Φ

/-- What every tile is handed alike, -/
abbrev shared : sProp (MM F) :=
  iprop((∃ κ : GSem nD τ sig → ℕ, bigSep Finset.univ fun x : DCI => cellInv EB (bRd A) (κ (bcell₃ x)) (bcell₃ x))
    ∗ bigSep Finset.univ fun x : DCI => reached EB (bcell₃ x) 0)
/-- and of its own. -/
abbrev mine (dci : DCI) : sProp (MM F) :=
  iprop(atPos EB (bcell₃ dci) 0 ∅ 0
    ∗ (bigSep Finset.univ fun j : Fin (grid0.bound 1) => dutyTok EB (bcell dci.1 dci.2.1 (j.castLE hsub0)) 0 dci.2.2.val)
    ∗ cred (tallyAt (bcell₃ dci) (some 0) (grid0.bound 1)))

/-- A persistent family over every tile gives the one over a tile's own core. -/
theorem core_of_all (Φ : DCI → sProp (MM F)) [∀ x, BI.Persistent (Φ x)] (d : Dev nD) (c : Fin τ.nSC) :
    bigSep Finset.univ Φ ⊢ bigSep Finset.univ fun j : Fin (grid0.bound 1) => Φ (d, c, j.castLE hsub0) := by
  iintro #H
  iapply (SparseCore.ent (bigSep_mono_frame (Finset.univ : Finset (Fin (grid0.bound 1))) (Φ := fun _ => iprop(emp))
    (R := bigSep Finset.univ Φ) fun j _ => sep_elim_left.trans (bigSep_elim (Φ := Φ) (Finset.mem_univ (d, c, Fin.castLE hsub0 j)))))
  isplitl; · iexact H
  rw [bigSep_none]; iempintro

theorem kit_intro (dci : DCI) : iprop(shared A ∗ mine dci) ⊢ (bkit A dci.1 dci.2.1 dci.2.2 : sProp (MM F)) := by
  obtain ⟨d, c, i⟩ := dci
  iintro ⟨⟨#Hinv, #Hr⟩, Hat, Htok, Hcred⟩
  unfold bkit
  isplitr
  · icases Hinv with ⟨%κ, Hinv⟩
    iexists κ
    iapply (core_of_all (fun x : DCI => cellInv EB (bRd A) (κ (bcell₃ x)) (bcell₃ x)) d c); iexact Hinv
  isplitl [Htok]; · iexact Htok
  isplitr
  · iapply (core_of_all (fun x : DCI => reached EB (bcell₃ x) 0) d c); iexact Hr
  isplitl [Hat]; · iexact Hat
  iexact Hcred

theorem Px_T (d : Dev nD) : (bigSep Finset.univ fun q : Fin 1 => (P A o).x q (SparseCore.T d)) = iprop(emp) :=
  bigSep_univ_of_subsingleton (0 : Fin 1)
theorem Px_S (d : Dev nD) (c : Fin τ.nSC) : (bigSep Finset.univ fun q : Fin 1 => (P A o).x q (S d c)) = iprop(emp) :=
  bigSep_univ_of_subsingleton (0 : Fin 1)
theorem Px_V (d : Dev nD) (c : Fin τ.nSC) (i : Fin τ.nSub) :
    (bigSep Finset.univ fun q : Fin 1 => (P A o).x q (V d c i)) = bkit A d c i :=
  bigSep_univ_of_subsingleton (0 : Fin 1)

theorem kits_deal :
    iprop(shared A ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => cred (tallyAt (bcell₃ dci) (some 0) (grid0.bound 1))))
      ⊢ (bigSep Finset.univ fun thr : Thread nD τ => bigSep Finset.univ fun q : Fin 1 => (P A o).x q thr : sProp (MM F)) := by
  rw [SparseCore.Cfg.bigSep_threads (fun thr : Thread nD τ => bigSep Finset.univ fun q : Fin 1 => (P A o).x q thr)]
  simp only [Px_T, Px_S, Px_V, bigSep_none]
  iintro ⟨#Hsh, Hat, Htok, Hcred⟩
  isplitr; · iempintro
  isplitr; · iempintro
  iapply (SparseCore.ent (bigSep_mono_frame (R := shared A) (Finset.univ : Finset DCI) (Φ := mine (F := F)) (Ψ := fun x => bkit A x.1 x.2.1 x.2.2) fun dci _ => kit_intro A dci))
  isplitr; · iexact Hsh
  unfold mine
  rw [bigSep_sep', bigSep_sep']
  isplitl [Hat]; · iexact Hat
  isplitl [Htok]; · iexact Htok
  iexact Hcred

/-- The launch's ghost state, dealt. -/
theorem hu₀ : iprop(ownU (u₀ F) ∗ (P A o).oxCred ∗ (K (F := F)).freeOn (· ∈ bCells))
    ⊢ |={Set.univ}=> iprop(BI.own (EH (initOf (K (F := F)).hsCells (K (F := F)).hsToks)) ∗ (bigSep Finset.univ fun d : Dev nD => gP d)
        ∗ (bigSep Finset.univ fun thr : Thread nD τ => bigSep Finset.univ fun q : Fin 1 => (P A o).x q thr) : sProp (MM F)) := by
  unfold u₀
  iintro ⟨Hu, Hcred, Hfree⟩
  ihave H := (ownU_split _ _ _) $$ Hu
  icases H with ⟨HH, HB, HP⟩
  imod (Pipeline.fund_ghost (Pipeline.pin (pcfgs (F := F)) adm) EP cellOf_inj) $$ HP with ⟨Hcg, Hti⟩
  imod (Rounds.fund EB (bRd A) bCells bToks) $$ HB with ⟨Hst, #Hr, Hat, Htok⟩
  ihave Hsems := (sems_b (F := F)) $$ Hfree
  imod (invs_b A) $$ [Hsems Hst] with ⟨%κ, #Hinv⟩
  · isplitl [Hsems] <;> iassumption
  ihave Hcred' := (creds_b A o) $$ Hcred
  ihave Hinv' := (Entails.of_eq (bCells_eq (F := F) fun g => cellInv EB (bRd A) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitl [Hcg Hti]
  · unfold gP
    rw [bigSep_sep']
    simp only [bigSep_univ_of_subsingleton (0 : Fin 1)]
    isplitl [Hcg] <;> iassumption
  iapply (kits_deal A o)
  isplitr
  · isplitl; · iexists κ; iexact Hinv'
    iexact Hr'
  isplitl [Hat']; · iexact Hat'
  isplitl [Htok']; · iexact Htok'
  iexact Hcred'

end Cert.Proof.Sc

end
-- ==== Proof.Sc.TcBody.lean ====
/-
  The TensorCore kernel's body at one grid point: what it leaves in its three-word accumulator and, at the last
  point, in the result's block, over what the staged blocks hold.
-/
module

public import proofs.«01_k».proof.Proof.Sc.Launch

@[expose] public section

set_option maxRecDepth 16384

noncomputable section

namespace Cert.Proof.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.TcCoe
open Idealize.ShloMosaic.Pipeline (Dat Cfg Window BodyObligation cellOf)
open Idealize.ShloMosaic.Rounds

variable {F : FTy → Type} [FloatOps F]

/-! ## The pipelined call's body, on any staging buffers -/

section Body

variable (c : Dev nD)

/-- A TensorCore buffer held whole at given contents. -/
abbrev Bt {sp : Space} {s : Shape} {e : EltTy} (M : Memref sig .tc sp s e) : Type := Buf (Elt F) (M.view.loc (c : Thread nD τ))
abbrev ptt {sp : Space} {s : Shape} {e : EltTy} (M : Memref sig .tc sp s e) (f : Bt (F := F) c M) : sProp (MM F) :=
  M.view.loc (c : Thread nD τ) ↦{fullShare} f

omit [FloatOps F] in
/-- Reading a whole buffer through a rectangle that covers it. -/
theorem read_full {s : Shape} {e : EltTy} {sp : Space} (M : Memref sig .tc sp s e) (h : M.IsWhole) {off : Fin s.rank → ℕ} (h0 : off = fun _ => 0)
    (inb : ∀ a, off a + s.size a ≤ s.size a) (f : Bt (F := F) c M) :
    M.view.readAt (Elt F) (Rect.unit off s.size inb).toLoadRect f = M.view.read (Elt F) f := by
  obtain ⟨b, rfl, rfl, rfl, h⟩ := h
  cases eq_of_heq h
  exact Memref.readAt_unit_zero (Elt F) b h0 inb f

omit [FloatOps F] in
/-- Writing a whole buffer through a rectangle that covers it. -/
theorem write_full {s : Shape} {e : EltTy} {sp : Space} (M : Memref sig .tc sp s e) (h : M.IsWhole) {off : Fin s.rank → ℕ} (h0 : off = fun _ => 0)
    (inb : ∀ a, off a + s.size a ≤ s.size a) (f : Bt (F := F) c M) (w : s.Idx → Elt F e) :
    M.view.read (Elt F) ((M.access (Rect.unit off s.size inb) : View sig .tc _ _ _).write (Elt F) f w Finset.univ) = w := by
  obtain ⟨b, rfl, rfl, rfl, h⟩ := h
  cases eq_of_heq h
  exact Memref.write_access_unit_zero_univ (Elt F) b h0 inb f w

/-- The three words of the accumulators' buffer. -/
abbrev sM : Memref sig .tc .smem S3 .f32 := Memref.whole cc1_scratch0
abbrev r0 : Rect S3 := Rect.unit (s := S3) ![0] S1.size inb_S3_S1_0
abbrev r1 : Rect S3 := Rect.unit (s := S3) ![1] S1.size inb_S3_S1_1
abbrev r2 : Rect S3 := Rect.unit (s := S3) ![2] S1.size inb_S3_S1_2

variable (i : grid1.Coords)
  (M1 : Memref sig .tc .vmem S16x4096 .f32) (h1 : M1.IsWhole) (M2 : Memref sig .tc .vmem S4096x1 .i32) (h2 : M2.IsWhole)
  (M3 : Memref sig .tc .vmem S1x1x4096 .f32) (h3 : M3.IsWhole) (M4 : Memref sig .tc .vmem S1x1x4096 .i32) (h4 : M4.IsWhole)
  (M5 : Memref sig .tc .vmem S16x256 .f32) (h5 : M5.IsWhole) (M6 : Memref sig .tc .vmem S1x256 .f32) (h6 : M6.IsWhole)
  (M7 : Memref sig .tc .vmem S1x256 .f32) (h7 : M7.IsWhole) (M8 : Memref sig .tc .vmem S1x1 .f32) (h8 : M8.IsWhole)
  (h9 : sM.IsWhole)

abbrev bodyPre (f1 : Bt (F := F) c M1) (f2 : Bt (F := F) c M2) (f3 : Bt (F := F) c M3) (f4 : Bt (F := F) c M4) (f5 : Bt (F := F) c M5)
    (f6 : Bt (F := F) c M6) (f7 : Bt (F := F) c M7) (f8 : Bt (F := F) c M8) (f9 : Bt (F := F) c sM) : sProp (MM F) :=
  iprop(ptt c M1 f1 ∗ ptt c M2 f2 ∗ ptt c M3 f3 ∗ ptt c M4 f4 ∗ ptt c M5 f5 ∗ ptt c M6 f6 ∗ ptt c M7 f7 ∗ ptt c M8 f8 ∗ ptt c sM f9)

/-- The word of that number. -/
abbrev ix3 (k : ℕ) (h : k < 3 := by decide) : S3.Idx := i1 k h
abbrev ixo : S1.Idx := i1 0 (by decide)

/-- The accumulators' buffer holding three words. -/
def mk3 (a0 a1 a2 : F .f32) : Bt (F := F) c sM := fun (j : S3.Idx) => if (j 0).val = 0 then a0 else if (j 0).val = 1 then a1 else a2

omit [FloatOps F] in
theorem mk3_eta (f : Bt (F := F) c sM) : mk3 c (f (ix3 0)) (f (ix3 1)) (f (ix3 2)) = f := by
  funext (j : S3.Idx)
  have hj : j = ix3 (j 0).val (j 0).isLt := funext (β := fun _ : Fin 1 => _) fun a => by obtain rfl : a = 0 := Subsingleton.elim _ _; rfl
  have hl : (j 0).val < 3 := (j 0).isLt
  rcases (by omega : (j 0).val = 0 ∨ (j 0).val = 1 ∨ (j 0).val = 2) with h | h | h
  · obtain rfl : j = ix3 0 := hj.trans (funext (β := fun _ : Fin 1 => _) fun a => by
      obtain rfl : a = 0 := Subsingleton.elim _ _; exact Fin.ext h)
    rfl
  · obtain rfl : j = ix3 1 := hj.trans (funext (β := fun _ : Fin 1 => _) fun a => by
      obtain rfl : a = 0 := Subsingleton.elim _ _; exact Fin.ext h)
    rfl
  · obtain rfl : j = ix3 2 := hj.trans (funext (β := fun _ : Fin 1 => _) fun a => by
      obtain rfl : a = 0 := Subsingleton.elim _ _; exact Fin.ext h)
    rfl

omit [FloatOps F] in
theorem writes3 (f : Bt (F := F) c sM) (a b d : S1.Idx → F .f32) (l) :
    sM.view.writes (Elt F) f (⟨r2, d⟩ :: ⟨r1, b⟩ :: ⟨r0, a⟩ :: l) = mk3 c (a ixo) (b ixo) (d ixo) := by
  have e0 : r0.emb ixo = ix3 0 := by decide
  have e1 : r1.emb ixo = ix3 1 := by decide
  have e2 : r2.emb ixo = ix3 2 := by decide
  have m21 : ix3 1 ∉ r2.set := by decide
  have m20 : ix3 0 ∉ r2.set := by decide
  have m10 : ix3 0 ∉ r1.set := by decide
  have g2 : sM.view.read (Elt F) (sM.view.writes (Elt F) f (⟨r2, d⟩ :: ⟨r1, b⟩ :: ⟨r0, a⟩ :: l)) (ix3 2) = d ixo :=
    View.read_writes_cons_hit (v := sM.view) (f := f) r2 d _ ixo _ e2
  have g1 : sM.view.read (Elt F) (sM.view.writes (Elt F) f (⟨r2, d⟩ :: ⟨r1, b⟩ :: ⟨r0, a⟩ :: l)) (ix3 1) = b ixo :=
    (View.read_writes_cons_miss (v := sM.view) (f := f) ⟨r2, d⟩ _ _ m21).trans (View.read_writes_cons_hit (v := sM.view) (f := f) r1 b _ ixo _ e1)
  have g0 : sM.view.read (Elt F) (sM.view.writes (Elt F) f (⟨r2, d⟩ :: ⟨r1, b⟩ :: ⟨r0, a⟩ :: l)) (ix3 0) = a ixo :=
    (View.read_writes_cons_miss (v := sM.view) (f := f) ⟨r2, d⟩ _ _ m20).trans
      ((View.read_writes_cons_miss (v := sM.view) (f := f) ⟨r1, b⟩ _ _ m10).trans (View.read_writes_cons_hit (v := sM.view) (f := f) r0 a _ ixo _ e0))
  rw [← mk3_eta c (sM.view.writes (Elt F) f (⟨r2, d⟩ :: ⟨r1, b⟩ :: ⟨r0, a⟩ :: l))]
  exact congr (congr (congrArg (mk3 c) g0) g1) g2

omit [FloatOps F] in
theorem rdw0 (f : Bt (F := F) c sM) (h : 0 < S1.numel) : sM.view.readAt (Elt F) (Rect.unit (s := S3) ![0] S1.size inb_S3_S1_0).toLoadRect f (Shape.Idx.first h) = f (ix3 0) :=
  congrArg f (show r0.toLoadRect.idx (Shape.Idx.first (s := S1) (by decide)) = ix3 0 by decide)

omit [FloatOps F] in
theorem rdw1 (f : Bt (F := F) c sM) (h : 0 < S1.numel) : sM.view.readAt (Elt F) (Rect.unit (s := S3) ![1] S1.size inb_S3_S1_1).toLoadRect f (Shape.Idx.first h) = f (ix3 1) :=
  congrArg f (show r1.toLoadRect.idx (Shape.Idx.first (s := S1) (by decide)) = ix3 1 by decide)

omit [FloatOps F] in
theorem rdw2 (f : Bt (F := F) c sM) (h : 0 < S1.numel) : sM.view.readAt (Elt F) (Rect.unit (s := S3) ![2] S1.size inb_S3_S1_2).toLoadRect f (Shape.Idx.first h) = f (ix3 2) :=
  congrArg f (show r2.toLoadRect.idx (Shape.Idx.first (s := S1) (by decide)) = ix3 2 by decide)

/-- A whole block as a load through its covering rectangle reads it. -/
abbrev ld1 (f : Bt (F := F) c M1) : Vec F S16x4096 .f32 := M1.view.readAt (Elt F) (Rect.unit (s := S16x4096) ![0, 0] S16x4096.size inb_S16x4096_S16x4096_0_0).toLoadRect f
abbrev ld2 (f : Bt (F := F) c M2) : Vec F S4096x1 .i32 := M2.view.readAt (Elt F) (Rect.unit (s := S4096x1) ![0, 0] S4096x1.size inb_S4096x1_S4096x1_0_0).toLoadRect f
abbrev ld3 (f : Bt (F := F) c M3) : Vec F S1x1x4096 .f32 := M3.view.readAt (Elt F) (Rect.unit (s := S1x1x4096) ![0, 0, 0] S1x1x4096.size inb_S1x1x4096_S1x1x4096_0_0_0).toLoadRect f
abbrev ld4 (f : Bt (F := F) c M4) : Vec F S1x1x4096 .i32 := M4.view.readAt (Elt F) (Rect.unit (s := S1x1x4096) ![0, 0, 0] S1x1x4096.size inb_S1x1x4096_S1x1x4096_0_0_0).toLoadRect f
abbrev ld5 (f : Bt (F := F) c M5) : Vec F S16x256 .f32 := M5.view.readAt (Elt F) (Rect.unit (s := S16x256) ![0, 0] S16x256.size inb_S16x256_S16x256_0_0).toLoadRect f
abbrev ld6 (f : Bt (F := F) c M6) : Vec F S1x256 .f32 := M6.view.readAt (Elt F) (Rect.unit (s := S1x256) ![0, 0] S1x256.size inb_S1x256_S1x256_0_0).toLoadRect f
abbrev ld7 (f : Bt (F := F) c M7) : Vec F S1x256 .f32 := M7.view.readAt (Elt F) (Rect.unit (s := S1x256) ![0, 0] S1x256.size inb_S1x256_S1x256_0_0).toLoadRect f

/-- What one point adds to the first accumulator, -/
def tc0 (x : Vec F S16x4096 .f32) (y : Vec F S4096x1 .i32) (f' : Vec F S1x1x4096 .f32) (y' : Vec F S1x1x4096 .i32)
    (xa : Vec F S16x256 .f32) (fa : Vec F S1x256 .f32) (z : F .f32) : F .f32 :=
  k1_pay15 (k1_pay10 (k1_pay8 fa) (k1_pay9 fa) (Scalar.ofBits .f32 0x00000000#32)) (k1_pay11 (k1_pay2 x) (k1_pay3 y) (k1_pay6 xa))
    (k1_pay12 (k1_pay5 y')) (k1_pay13 (k1_pay4 f')) k1_pay14 z
/-- to the second, -/
def tc1 (f' : Vec F S1x1x4096 .f32) (y' : Vec F S1x1x4096 .i32) (z : F .f32) : F .f32 := k1_pay16 (k1_pay4 f') (k1_pay5 y') z
/-- to the third; -/
def tc2 (y' : Vec F S1x1x4096 .i32) (z : F .f32) : F .f32 := k1_pay17 (k1_pay5 y') z
/-- and what the last point stores. -/
def tcOut (fc : Vec F S1x256 .f32) (a0 a1 a2 : F .f32) : FVec F S1x1 .f32 := k1_pay1 fc a1 a2 a0

/-- The three words after a point, over the ones before. -/
def accStep (f1 : Bt (F := F) c M1) (f2 : Bt (F := F) c M2) (f3 : Bt (F := F) c M3) (f4 : Bt (F := F) c M4) (f5 : Bt (F := F) c M5)
    (f6 : Bt (F := F) c M6) (a0 a1 a2 : F .f32) : Bt (F := F) c sM :=
  mk3 c (tc0 (ld1 c M1 f1) (ld2 c M2 f2) (ld3 c M3 f3) (ld4 c M4 f4) (ld5 c M5 f5) (ld6 c M6 f6) a0)
    (tc1 (ld3 c M3 f3) (ld4 c M4 f4) a1) (tc2 (ld4 c M4 f4) a2)

abbrev cond1 : BitVec 1 := Scalar.cmpi .ne (Scalar.extui (Scalar.cmpi .eq (BitVec.ofNat 32 (i 0).val) 0#32) : BitVec 32) 0#32

theorem runMid (hc1 : ¬ cond1 i = 1#1) (hc2 : ¬ k1_cond2 i = 1#1)
    (f1 : Bt (F := F) c M1) (f2 : Bt (F := F) c M2) (f3 : Bt (F := F) c M3) (f4 : Bt (F := F) c M4) (f5 : Bt (F := F) c M5)
    (f6 : Bt (F := F) c M6) (f7 : Bt (F := F) c M7) (f8 : Bt (F := F) c M8) (f9 : Bt (F := F) c sM) (E : Set ℕ) (Q : PUnit → sProp (MM F)) :
      iprop(bodyPre c M1 M2 M3 M4 M5 M6 M7 M8 f1 f2 f3 f4 f5 f6 f7 f8 f9 ∗ (bodyPre c M1 M2 M3 M4 M5 M6 M7 M8 f1 f2 f3 f4 f5 f6 f7 f8 (accStep c M1 M2 M3 M4 M5 M6 f1 f2 f3 f4 f5 f6 (f9 (ix3 0)) (f9 (ix3 1)) (f9 (ix3 2))) -∗ Q ⟨⟩))
        ⊢ wp frame (wpE (defs₀ (F := F)) 𝒱₀ (c : Thread nD τ) none) E (cc1__tc_body i M1 h1 M2 h2 M3 h3 M4 h4 M5 h5 M6 h6 M7 h7 M8 h8 sM h9) Q := by
  rw [cc1__tc_body_eq_skeleton]; unfold cc1__tc_body_skel
  rw [k1_part1_eq_skeleton, k1_part2_eq_skeleton, k1_part3_eq_skeleton]; unfold k1_part1_skel k1_part2_skel k1_part3_skel
  iintro ⟨⟨H1, H2, H3, H4, H5, H6, H7, H8, H9⟩, Hk⟩
  sl_exec
  sl_step
  rw [writes3]
  rw [show runMid.sl.r c f9 = f9 (ix3 0) from rdw0 c f9 _, show runMid.sl.r_1 c f9 = f9 (ix3 1) from rdw1 c f9 _,
    show runMid.sl.r_2 c f9 = f9 (ix3 2) from rdw2 c f9 _]
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem runFirst (hc1 : cond1 i = 1#1) (hc2 : ¬ k1_cond2 i = 1#1)
    (f1 : Bt (F := F) c M1) (f2 : Bt (F := F) c M2) (f3 : Bt (F := F) c M3) (f4 : Bt (F := F) c M4) (f5 : Bt (F := F) c M5)
    (f6 : Bt (F := F) c M6) (f7 : Bt (F := F) c M7) (f8 : Bt (F := F) c M8) (f9 : Bt (F := F) c sM) (E : Set ℕ) (Q : PUnit → sProp (MM F)) :
      iprop(bodyPre c M1 M2 M3 M4 M5 M6 M7 M8 f1 f2 f3 f4 f5 f6 f7 f8 f9 ∗ (bodyPre c M1 M2 M3 M4 M5 M6 M7 M8 f1 f2 f3 f4 f5 f6 f7 f8 (accStep c M1 M2 M3 M4 M5 M6 f1 f2 f3 f4 f5 f6 (Scalar.ofBits .f32 0x00000000#32) (Scalar.ofBits .f32 0x00000000#32) (Scalar.ofBits .f32 0x00000000#32)) -∗ Q ⟨⟩))
        ⊢ wp frame (wpE (defs₀ (F := F)) 𝒱₀ (c : Thread nD τ) none) E (cc1__tc_body i M1 h1 M2 h2 M3 h3 M4 h4 M5 h5 M6 h6 M7 h7 M8 h8 sM h9) Q := by
  rw [cc1__tc_body_eq_skeleton]; unfold cc1__tc_body_skel
  rw [k1_part1_eq_skeleton, k1_part2_eq_skeleton, k1_part3_eq_skeleton]; unfold k1_part1_skel k1_part2_skel k1_part3_skel
  iintro ⟨⟨H1, H2, H3, H4, H5, H6, H7, H8, H9⟩, Hk⟩
  sl_exec
  sl_step
  rw [writes3]
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem runLast (hc1 : ¬ cond1 i = 1#1) (hc2 : k1_cond2 i = 1#1)
    (f1 : Bt (F := F) c M1) (f2 : Bt (F := F) c M2) (f3 : Bt (F := F) c M3) (f4 : Bt (F := F) c M4) (f5 : Bt (F := F) c M5)
    (f6 : Bt (F := F) c M6) (f7 : Bt (F := F) c M7) (f8 : Bt (F := F) c M8) (f9 : Bt (F := F) c sM) (E : Set ℕ) (Q : PUnit → sProp (MM F)) :
      iprop(bodyPre c M1 M2 M3 M4 M5 M6 M7 M8 f1 f2 f3 f4 f5 f6 f7 f8 f9 ∗ (∀ g8, ⌜M8.view.read (Elt F) g8 = (let g := accStep c M1 M2 M3 M4 M5 M6 f1 f2 f3 f4 f5 f6 (f9 (ix3 0)) (f9 (ix3 1)) (f9 (ix3 2)); tcOut (ld7 c M7 f7) (g (ix3 0)) (g (ix3 1)) (g (ix3 2)))⌝ -∗ bodyPre c M1 M2 M3 M4 M5 M6 M7 M8 f1 f2 f3 f4 f5 f6 f7 g8 (accStep c M1 M2 M3 M4 M5 M6 f1 f2 f3 f4 f5 f6 (f9 (ix3 0)) (f9 (ix3 1)) (f9 (ix3 2))) -∗ Q ⟨⟩))
        ⊢ wp frame (wpE (defs₀ (F := F)) 𝒱₀ (c : Thread nD τ) none) E (cc1__tc_body i M1 h1 M2 h2 M3 h3 M4 h4 M5 h5 M6 h6 M7 h7 M8 h8 sM h9) Q := by
  rw [cc1__tc_body_eq_skeleton]; unfold cc1__tc_body_skel
  rw [k1_part1_eq_skeleton, k1_part2_eq_skeleton, k1_part3_eq_skeleton]; unfold k1_part1_skel k1_part2_skel k1_part3_skel
  iintro ⟨⟨H1, H2, H3, H4, H5, H6, H7, H8, H9⟩, Hk⟩
  sl_exec
  sl_step
  rw [writes3]
  rw [show runLast.sl.r c f9 = f9 (ix3 0) from rdw0 c f9 _, show runLast.sl.r_1 c f9 = f9 (ix3 1) from rdw1 c f9 _,
    show runLast.sl.r_2 c f9 = f9 (ix3 2) from rdw2 c f9 _]
  have e0 : runLast.sl.r_5 c M1 M2 M3 M4 M5 M6 f1 f2 f3 f4 f5 f6 f9 = tc0 (ld1 c M1 f1) (ld2 c M2 f2) (ld3 c M3 f3) (ld4 c M4 f4) (ld5 c M5 f5) (ld6 c M6 f6) (f9 (ix3 0)) := by
    unfold runLast.sl.r_5
    rw [show runLast.sl.r c f9 = f9 (ix3 0) from rdw0 c f9 _]; rfl
  have e1 : runLast.sl.r_3 c M3 M4 f3 f4 f9 = tc1 (ld3 c M3 f3) (ld4 c M4 f4) (f9 (ix3 1)) := by
    unfold runLast.sl.r_3
    rw [show runLast.sl.r_1 c f9 = f9 (ix3 1) from rdw1 c f9 _]; rfl
  have e2 : runLast.sl.r_4 c M4 f4 f9 = tc2 (ld4 c M4 f4) (f9 (ix3 2)) := by
    unfold runLast.sl.r_4
    rw [show runLast.sl.r_2 c f9 = f9 (ix3 2) from rdw2 c f9 _]; rfl
  rw [e0, e1, e2]
  iapply Hk $$ []
  · ipureintro
    exact write_full c M8 h8 (off := ![0, 0]) (by funext k; fin_cases k <;> rfl) inb_S1x1_S1x1_0_0 f8
      (tcOut (ld7 c M7 f7) (tc0 (ld1 c M1 f1) (ld2 c M2 f2) (ld3 c M3 f3) (ld4 c M4 f4) (ld5 c M5 f5) (ld6 c M6 f6) (f9 (ix3 0))) (tc1 (ld3 c M3 f3) (ld4 c M4 f4) (f9 (ix3 1))) (tc2 (ld4 c M4 f4) (f9 (ix3 2))))
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

omit [FloatOps F] in
theorem z2 : (![0, 0] : Fin 2 → ℕ) = fun _ => 0 := by funext k; fin_cases k <;> rfl
omit [FloatOps F] in
theorem z3 : (![0, 0, 0] : Fin 3 → ℕ) = fun _ => 0 := by funext k; fin_cases k <;> rfl

abbrev T3 (F : FTy → Type) : Type := F .f32 × F .f32 × F .f32
/-- The accumulators after one more point, over the point's blocks. -/
def tstep (X1 : Vec F S16x4096 .f32) (X2 : Vec F S4096x1 .i32) (X3 : Vec F S1x1x4096 .f32) (X4 : Vec F S1x1x4096 .i32)
    (X5 : Vec F S16x256 .f32) (X6 : Vec F S1x256 .f32) (a : T3 F) : T3 F :=
  (tc0 X1 X2 X3 X4 X5 X6 a.1, tc1 X3 X4 a.2.1, tc2 X4 a.2.2)
def mkT (a : T3 F) : Bt (F := F) c sM := mk3 c a.1 a.2.1 a.2.2
def tz : T3 F := (Scalar.ofBits .f32 0x00000000#32, Scalar.ofBits .f32 0x00000000#32, Scalar.ofBits .f32 0x00000000#32)
def tout (X7 : Vec F S1x256 .f32) (a : T3 F) : FVec F S1x1 .f32 := tcOut X7 a.1 a.2.1 a.2.2

include h1 h2 h3 h4 h5 h6 in
theorem accStep_eq (f1 : Bt (F := F) c M1) (f2 : Bt (F := F) c M2) (f3 : Bt (F := F) c M3) (f4 : Bt (F := F) c M4) (f5 : Bt (F := F) c M5)
    (f6 : Bt (F := F) c M6) (a : T3 F) :
    accStep c M1 M2 M3 M4 M5 M6 f1 f2 f3 f4 f5 f6 a.1 a.2.1 a.2.2 = mkT c (tstep (M1.view.read (Elt F) f1) (M2.view.read (Elt F) f2) (M3.view.read (Elt F) f3)
      (M4.view.read (Elt F) f4) (M5.view.read (Elt F) f5) (M6.view.read (Elt F) f6) a) := by
  unfold accStep mkT tstep
  rw [show ld1 c M1 f1 = _ from read_full c M1 h1 z2 _ f1, show ld2 c M2 f2 = _ from read_full c M2 h2 z2 _ f2, show ld3 c M3 f3 = _ from read_full c M3 h3 z3 _ f3,
    show ld4 c M4 f4 = _ from read_full c M4 h4 z3 _ f4, show ld5 c M5 f5 = _ from read_full c M5 h5 z2 _ f5, show ld6 c M6 f6 = _ from read_full c M6 h6 z2 _ f6]

omit [FloatOps F] in
/-- A whole buffer owned at what it reads, as held whole at some contents that read so. -/
theorem owns_ptt {sp : Space} {s : Shape} {e : EltTy} (M : Memref sig .tc sp s e) (h : M.IsWhole) (X : s.Idx → Elt F e) :
    (owns (c : Thread nD τ) M fullShare X : sProp (MM F)) = iprop(∃ f, ⌜M.view.read (Elt F) f = X⌝ ∗ ptt c M f) := by
  unfold owns ptt; rw [h.set_eq_univ]

/-- The eight staged blocks, owned at what they read. -/
abbrev oPre (X1 : Vec F S16x4096 .f32) (X2 : Vec F S4096x1 .i32) (X3 : Vec F S1x1x4096 .f32) (X4 : Vec F S1x1x4096 .i32)
    (X5 : Vec F S16x256 .f32) (X6 X7 : Vec F S1x256 .f32) (X8 : Vec F S1x1 .f32) : sProp (MM F) :=
  iprop(owns (c : Thread nD τ) M1 fullShare X1 ∗ owns (c : Thread nD τ) M2 fullShare X2 ∗ owns (c : Thread nD τ) M3 fullShare X3 ∗ owns (c : Thread nD τ) M4 fullShare X4
    ∗ owns (c : Thread nD τ) M5 fullShare X5 ∗ owns (c : Thread nD τ) M6 fullShare X6 ∗ owns (c : Thread nD τ) M7 fullShare X7 ∗ owns (c : Thread nD τ) M8 fullShare X8)

theorem ownMid (hc1 : ¬ cond1 i = 1#1) (hc2 : ¬ k1_cond2 i = 1#1)
    (X1 : Vec F S16x4096 .f32) (X2 : Vec F S4096x1 .i32) (X3 : Vec F S1x1x4096 .f32) (X4 : Vec F S1x1x4096 .i32)
    (X5 : Vec F S16x256 .f32) (X6 X7 : Vec F S1x256 .f32) (X8 : Vec F S1x1 .f32) (a : T3 F) (E : Set ℕ) (Q : PUnit → sProp (MM F)) :
      iprop(oPre c M1 M2 M3 M4 M5 M6 M7 M8 X1 X2 X3 X4 X5 X6 X7 X8 ∗ ptt c sM (mkT c a)
        ∗ (oPre c M1 M2 M3 M4 M5 M6 M7 M8 X1 X2 X3 X4 X5 X6 X7 X8 -∗ ptt c sM (mkT c (tstep X1 X2 X3 X4 X5 X6 a)) -∗ Q ⟨⟩))
        ⊢ wp frame (wpE (defs₀ (F := F)) 𝒱₀ (c : Thread nD τ) none) E (cc1__tc_body i M1 h1 M2 h2 M3 h3 M4 h4 M5 h5 M6 h6 M7 h7 M8 h8 sM h9) Q := by
  unfold oPre
  rw [owns_ptt c M1 h1, owns_ptt c M2 h2, owns_ptt c M3 h3, owns_ptt c M4 h4, owns_ptt c M5 h5, owns_ptt c M6 h6, owns_ptt c M7 h7, owns_ptt c M8 h8]
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩⟩, H9, Hk⟩
  subst e1 e2 e3 e4 e5 e6 e7 e8
  iapply (runMid c i M1 h1 M2 h2 M3 h3 M4 h4 M5 h5 M6 h6 M7 h7 M8 h8 h9 hc1 hc2 f1 f2 f3 f4 f5 f6 f7 f8 (mkT c a) E Q)
  isplitl [H1 H2 H3 H4 H5 H6 H7 H8 H9]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  rw [show accStep c M1 M2 M3 M4 M5 M6 f1 f2 f3 f4 f5 f6 (mkT c a (ix3 0)) (mkT c a (ix3 1)) (mkT c a (ix3 2)) = _ from accStep_eq c M1 h1 M2 h2 M3 h3 M4 h4 M5 h5 M6 h6 f1 f2 f3 f4 f5 f6 a]
  iintro ⟨H1, H2, H3, H4, H5, H6, H7, H8, H9⟩
  iapply Hk $$ [H1 H2 H3 H4 H5 H6 H7 H8] H9
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  iexists _; isplitr; swap; (· iexact H8); ipureintro; exact rfl

theorem ownFirst (hc1 : cond1 i = 1#1) (hc2 : ¬ k1_cond2 i = 1#1)
    (X1 : Vec F S16x4096 .f32) (X2 : Vec F S4096x1 .i32) (X3 : Vec F S1x1x4096 .f32) (X4 : Vec F S1x1x4096 .i32)
    (X5 : Vec F S16x256 .f32) (X6 X7 : Vec F S1x256 .f32) (X8 : Vec F S1x1 .f32) (f9 : Bt (F := F) c sM) (E : Set ℕ) (Q : PUnit → sProp (MM F)) :
      iprop(oPre c M1 M2 M3 M4 M5 M6 M7 M8 X1 X2 X3 X4 X5 X6 X7 X8 ∗ ptt c sM f9
        ∗ (oPre c M1 M2 M3 M4 M5 M6 M7 M8 X1 X2 X3 X4 X5 X6 X7 X8 -∗ ptt c sM (mkT c (tstep X1 X2 X3 X4 X5 X6 tz)) -∗ Q ⟨⟩))
        ⊢ wp frame (wpE (defs₀ (F := F)) 𝒱₀ (c : Thread nD τ) none) E (cc1__tc_body i M1 h1 M2 h2 M3 h3 M4 h4 M5 h5 M6 h6 M7 h7 M8 h8 sM h9) Q := by
  unfold oPre
  rw [owns_ptt c M1 h1, owns_ptt c M2 h2, owns_ptt c M3 h3, owns_ptt c M4 h4, owns_ptt c M5 h5, owns_ptt c M6 h6, owns_ptt c M7 h7, owns_ptt c M8 h8]
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩⟩, H9, Hk⟩
  subst e1 e2 e3 e4 e5 e6 e7 e8
  iapply (runFirst c i M1 h1 M2 h2 M3 h3 M4 h4 M5 h5 M6 h6 M7 h7 M8 h8 h9 hc1 hc2 f1 f2 f3 f4 f5 f6 f7 f8 f9 E Q)
  isplitl [H1 H2 H3 H4 H5 H6 H7 H8 H9]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  rw [show accStep c M1 M2 M3 M4 M5 M6 f1 f2 f3 f4 f5 f6 (Scalar.ofBits .f32 0x00000000#32) (Scalar.ofBits .f32 0x00000000#32) (Scalar.ofBits .f32 0x00000000#32) = _ from accStep_eq c M1 h1 M2 h2 M3 h3 M4 h4 M5 h5 M6 h6 f1 f2 f3 f4 f5 f6 tz]
  iintro ⟨H1, H2, H3, H4, H5, H6, H7, H8, H9⟩
  iapply Hk $$ [H1 H2 H3 H4 H5 H6 H7 H8] H9
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  iexists _; isplitr; swap; (· iexact H8); ipureintro; exact rfl

theorem ownLast (hc1 : ¬ cond1 i = 1#1) (hc2 : k1_cond2 i = 1#1)
    (X1 : Vec F S16x4096 .f32) (X2 : Vec F S4096x1 .i32) (X3 : Vec F S1x1x4096 .f32) (X4 : Vec F S1x1x4096 .i32)
    (X5 : Vec F S16x256 .f32) (X6 X7 : Vec F S1x256 .f32) (X8 : Vec F S1x1 .f32) (a : T3 F) (E : Set ℕ) (Q : PUnit → sProp (MM F)) :
      iprop(oPre c M1 M2 M3 M4 M5 M6 M7 M8 X1 X2 X3 X4 X5 X6 X7 X8 ∗ ptt c sM (mkT c a)
        ∗ (oPre c M1 M2 M3 M4 M5 M6 M7 M8 X1 X2 X3 X4 X5 X6 X7 (tout X7 (tstep X1 X2 X3 X4 X5 X6 a)) -∗ ptt c sM (mkT c (tstep X1 X2 X3 X4 X5 X6 a)) -∗ Q ⟨⟩))
        ⊢ wp frame (wpE (defs₀ (F := F)) 𝒱₀ (c : Thread nD τ) none) E (cc1__tc_body i M1 h1 M2 h2 M3 h3 M4 h4 M5 h5 M6 h6 M7 h7 M8 h8 sM h9) Q := by
  unfold oPre
  rw [owns_ptt c M1 h1, owns_ptt c M2 h2, owns_ptt c M3 h3, owns_ptt c M4 h4, owns_ptt c M5 h5, owns_ptt c M6 h6, owns_ptt c M7 h7, owns_ptt c M8 h8, owns_ptt c M8 h8]
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩⟩, H9, Hk⟩
  subst e1 e2 e3 e4 e5 e6 e7 e8
  iapply (runLast c i M1 h1 M2 h2 M3 h3 M4 h4 M5 h5 M6 h6 M7 h7 M8 h8 h9 hc1 hc2 f1 f2 f3 f4 f5 f6 f7 f8 (mkT c a) E Q)
  isplitl [H1 H2 H3 H4 H5 H6 H7 H8 H9]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  rw [show accStep c M1 M2 M3 M4 M5 M6 f1 f2 f3 f4 f5 f6 (mkT c a (ix3 0)) (mkT c a (ix3 1)) (mkT c a (ix3 2)) = _ from accStep_eq c M1 h1 M2 h2 M3 h3 M4 h4 M5 h5 M6 h6 f1 f2 f3 f4 f5 f6 a]
  iintro %g8 %hg ⟨H1, H2, H3, H4, H5, H6, H7, H8, H9⟩
  rw [show ld7 c M7 f7 = _ from read_full c M7 h7 z2 _ f7] at hg
  iapply Hk $$ [H1 H2 H3 H4 H5 H6 H7 H8] H9
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  iexists _; isplitr; swap; (· iexact H8); ipureintro; exact hg

end Body

end Cert.Proof.Sc

end
-- ==== Proof.Sc.Region.lean ====
/-
  The TensorCore's pipelined call as one region of the program: its proof data, its body's obligation, and the
  region's triple over the thread's buffers.
-/
module

public import proofs.«01_k».proof.Proof.Sc.TcBody
public import Idealize.ShloMosaic.Lib.Pipeline.FrameBody
public import Idealize.ShloMosaic.Lib.Pipeline.Regions
public import Idealize.ShloMosaic.Lib.Pipeline.ValueKit

@[expose] public section

set_option maxRecDepth 16384

noncomputable section

namespace Cert.Proof.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.TcCoe
open Idealize.ShloMosaic.Pipeline (Dat Cfg Window BodyObligation cellOf)
open Idealize.ShloMosaic.Rounds

variable {F : FTy → Type} [FloatOps F]

variable (V : (c : Dev nD) → (b : Ref sig .tc) → Buf (Elt F) ((c : Thread nD τ).loc b)) (c : Dev nD)

/-! ## The blocks the points stage, and the accumulators point by point -/

abbrev blk0 (t : Fin cfg1.N) : Vec F S16x4096 .f32 := ((cfg1.win 0).blk t).view.read (Elt F) (V c main_v26)
abbrev blk1 (t : Fin cfg1.N) : Vec F S4096x1 .i32 := ((cfg1.win 1).blk t).view.read (Elt F) (V c main_v27)
abbrev blk2 (t : Fin cfg1.N) : Vec F S1x1x4096 .f32 := ((cfg1.win 2).blk t).view.read (Elt F) (V c main_v28)
abbrev blk3 (t : Fin cfg1.N) : Vec F S1x1x4096 .i32 := ((cfg1.win 3).blk t).view.read (Elt F) (V c main_v29)
abbrev blk4 (t : Fin cfg1.N) : Vec F S16x256 .f32 := ((cfg1.win 4).blk t).view.read (Elt F) (V c main_v30)
abbrev blk5 (t : Fin cfg1.N) : Vec F S1x256 .f32 := ((cfg1.win 5).blk t).view.read (Elt F) (V c main_v23)
abbrev blk6 (t : Fin cfg1.N) : Vec F S1x256 .f32 := ((cfg1.win 6).blk t).view.read (Elt F) (V c main_v25)

/-- The accumulators before point `n`. -/
def tacc : ℕ → T3 F
  | 0 => tz
  | n + 1 => if h : n < grid1.N then tstep (blk0 V c ⟨n, h⟩) (blk1 V c ⟨n, h⟩) (blk2 V c ⟨n, h⟩) (blk3 V c ⟨n, h⟩) (blk4 V c ⟨n, h⟩) (blk5 V c ⟨n, h⟩) (tacc n)
    else tacc n

/-- The accumulators' buffer before point `n`: anything before the first, the sums so far afterwards. -/
def PhiS (n : ℕ) (_ : n ≤ grid1.N) : sProp (MM F) := iprop(∃ f, ⌜n ≠ 0 → f = mkT c (tacc V c n)⌝ ∗ ptt c sM f)

/-- The thread's wait records that sit no higher than the calls before. -/
abbrev recs : Set (SemLoc sig × HIx 1) := {p | (K (F := F)).lev (SparseCore.T c, p.1) p.2 ≤ 8}

def dat : Dat τ (Elt F) (HIx 1) ℕ UU ℕ cfg1 c where
  A w := V c (Pipeline.arrRef spec1 w)
  after w t := match w with
    | ⟨0, _⟩ => blk0 V c t
    | ⟨1, _⟩ => blk1 V c t
    | ⟨2, _⟩ => blk2 V c t
    | ⟨3, _⟩ => blk3 V c t
    | ⟨4, _⟩ => blk4 V c t
    | ⟨5, _⟩ => blk5 V c t
    | ⟨6, _⟩ => blk6 V c t
    | ⟨7, _⟩ => tout (blk6 V c t) (tacc V c (t.val + 1))
  Φ t := PhiS V c t.val (Nat.le_of_lt_succ t.isLt)
  q _ := fullShare
  owed _ := 0
  recorded _ := recs (F := F) c

theorem bef0 (t : Fin cfg1.N) (d) : (dat V c).before 0 t d = blk0 V c t :=
  (Dat.before_in_eq_fetched (dat V c) 0 rfl (fun _ => rfl) (fun _ _ _ => rfl) (fun t => by dsimp only [dat]; rfl) t d).trans (by unfold Dat.fetched Dat.blockOf; dsimp only [dat]; rfl)
theorem bef1 (t : Fin cfg1.N) (d) : (dat V c).before 1 t d = blk1 V c t :=
  (Dat.before_in_eq_fetched (dat V c) 1 rfl (fun _ => rfl) (fun _ _ _ => rfl) (fun t => by dsimp only [dat]; rfl) t d).trans (by unfold Dat.fetched Dat.blockOf; dsimp only [dat]; rfl)
theorem bef2 (t : Fin cfg1.N) (d) : (dat V c).before 2 t d = blk2 V c t :=
  (Dat.before_in_eq_fetched (dat V c) 2 rfl (fun _ => rfl) (fun _ _ _ => rfl) (fun t => by dsimp only [dat]; rfl) t d).trans (by unfold Dat.fetched Dat.blockOf; dsimp only [dat]; rfl)
theorem bef3 (t : Fin cfg1.N) (d) : (dat V c).before 3 t d = blk3 V c t :=
  (Dat.before_in_eq_fetched (dat V c) 3 rfl (fun _ => rfl) (fun _ _ _ => rfl) (fun t => by dsimp only [dat]; rfl) t d).trans (by unfold Dat.fetched Dat.blockOf; dsimp only [dat]; rfl)
theorem bef4 (t : Fin cfg1.N) (d) : (dat V c).before 4 t d = blk4 V c t :=
  (Dat.before_in_eq_fetched (dat V c) 4 rfl (fun _ => rfl) (fun _ _ _ => rfl) (fun t => by dsimp only [dat]; rfl) t d).trans (by unfold Dat.fetched Dat.blockOf; dsimp only [dat]; rfl)
theorem bef5 (t : Fin cfg1.N) (d) : (dat V c).before 5 t d = blk5 V c t :=
  (Dat.before_in_eq_fetched (dat V c) 5 rfl (fun _ => rfl) (fun _ _ _ => rfl) (fun t => by dsimp only [dat]; rfl) t d).trans (by unfold Dat.fetched Dat.blockOf; dsimp only [dat]; rfl)
theorem bef6 (t : Fin cfg1.N) (d) : (dat V c).before 6 t d = blk6 V c t :=
  (Dat.before_in_eq_fetched (dat V c) 6 rfl (fun _ => rfl) (fun _ _ _ => rfl) (fun t => by dsimp only [dat]; rfl) t d).trans (by unfold Dat.fetched Dat.blockOf; dsimp only [dat]; rfl)

theorem tacc_succ (t : Fin grid1.N) : tacc V c (t.val + 1) = tstep (blk0 V c t) (blk1 V c t) (blk2 V c t) (blk3 V c t) (blk4 V c t) (blk5 V c t) (tacc V c t.val) := by
  show (if h : t.val < grid1.N then _ else _) = _
  rw [dif_pos t.isLt]

/-- The conditions, at a point. -/
theorem conds (t : Fin grid1.N) : (cond1 (grid1.coords t) = 1#1 ↔ t.val = 0) ∧ (k1_cond2 (grid1.coords t) = 1#1 ↔ t.val = 4) := by
  revert t; decide

theorem idle7 (t : Fin grid1.N) : (cfg1.idle 7 (grid1.coords t) = true ↔ t.val ≠ 4) := by
  revert t; decide

theorem flush7 (t : Fin cfg1.N) (h : t.val ≠ 4) : (cfg1.win 7).flush t = false := by
  have := (flush1_7 t).not
  have ht : t.val < 5 := t.isLt
  rw [Bool.eq_false_iff]; exact this.mpr (by omega)

theorem body_obligation : BodyObligation (dat V c) (defs₀ (F := F)) 𝒱₀ none Set.univ := fun t => by
  have ht : t.val < 5 := t.isLt
  have hΦ0 : (dat V c).Φ t.castSucc = iprop(∃ f, ⌜t.val ≠ 0 → f = mkT c (tacc V c t.val)⌝ ∗ ptt c sM f) := by
    dsimp only [dat]; exact Dat.Φ_castSucc (PhiS V c) t
  have hΦ1 : (dat V c).Φ t.succ = iprop(∃ f, ⌜t.val + 1 ≠ 0 → f = mkT c (tacc V c (t.val + 1))⌝ ∗ ptt c sM f) := rfl
  rw [bigSep_W1, bigSep_W1, hΦ0, hΦ1, show (dat V c).owesAt none t.succ = (dat V c).owesAt none t.castSucc from rfl]
  simp only [bef0, bef1, bef2, bef3, bef4, bef5, bef6]
  rw [show (dat V c).after 0 t = blk0 V c t by dsimp only [dat], show (dat V c).after 1 t = blk1 V c t by dsimp only [dat],
    show (dat V c).after 2 t = blk2 V c t by dsimp only [dat], show (dat V c).after 3 t = blk3 V c t by dsimp only [dat],
    show (dat V c).after 4 t = blk4 V c t by dsimp only [dat], show (dat V c).after 5 t = blk5 V c t by dsimp only [dat],
    show (dat V c).after 6 t = blk6 V c t by dsimp only [dat], show (dat V c).after 7 t = tout (blk6 V c t) (tacc V c (t.val + 1)) by dsimp only [dat]]
  have hc := conds t
  iintro ⟨⟨%f9, %h9, HM⟩, Howes, ⟨%d0, H0⟩, ⟨%d1, H1⟩, ⟨%d2, H2⟩, ⟨%d3, H3⟩, ⟨%d4, H4⟩, ⟨%d5, H5⟩, ⟨%d6, H6⟩, ⟨%d7, H7⟩⟩
  by_cases hl : t.val = 4
  · rw [show idle1 7 (grid1.coords t) = false from Bool.eq_false_iff.mpr fun h => (idle7 t).mp h hl]
    obtain rfl := h9 (by omega)
    iapply (ownLast c (grid1.coords t) (stage1_0 (cfg1.slots t 0)) (hstage1_0 ((cfg1.slots t 0).cast nbuf1_0)) (stage1_1 (cfg1.slots t 1)) (hstage1_1 ((cfg1.slots t 1).cast nbuf1_1)) (stage1_2 (cfg1.slots t 2)) (hstage1_2 ((cfg1.slots t 2).cast nbuf1_2)) (stage1_3 (cfg1.slots t 3)) (hstage1_3 ((cfg1.slots t 3).cast nbuf1_3)) (stage1_4 (cfg1.slots t 4)) (hstage1_4 ((cfg1.slots t 4).cast nbuf1_4)) (stage1_5 (cfg1.slots t 5)) (hstage1_5 ((cfg1.slots t 5).cast nbuf1_5)) (stage1_6 (cfg1.slots t 6)) (hstage1_6 ((cfg1.slots t 6).cast nbuf1_6)) (stage1_7 (cfg1.slots t 7)) (hstage1_7 ((cfg1.slots t 7).cast nbuf1_7)) (Memref.isWhole_whole _) (fun h => by have := hc.1.mp h; omega) (hc.2.mpr hl) (blk0 V c t) (blk1 V c t) (blk2 V c t) (blk3 V c t) (blk4 V c t) (blk5 V c t) (blk6 V c t) _ (tacc V c t.val) Set.univ _)
    isplitl [H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [HM]; · iexact HM
    iintro ⟨H0, H1, H2, H3, H4, H5, H6, H7⟩ HM
    isplitl [HM]
    · iexists _; isplitr; swap; (· iexact HM); ipureintro; intro _; rw [tacc_succ]
    isplitl [Howes]; · iexact Howes
    isplitl [H0]; · iexact H0
    isplitl [H1]; · iexact H1
    isplitl [H2]; · iexact H2
    isplitl [H3]; · iexact H3
    isplitl [H4]; · iexact H4
    isplitl [H5]; · iexact H5
    isplitl [H6]; · iexact H6
    rw [tacc_succ]; iexact H7

  · have hi : idle1 7 (grid1.coords t) = true := (idle7 t).mpr hl
    have hf : (win1 7).flush t = false := flush7 t hl
    rw [hi, hf]
    by_cases h0 : t.val = 0
    · iapply (ownFirst c (grid1.coords t) (stage1_0 (cfg1.slots t 0)) (hstage1_0 ((cfg1.slots t 0).cast nbuf1_0)) (stage1_1 (cfg1.slots t 1)) (hstage1_1 ((cfg1.slots t 1).cast nbuf1_1)) (stage1_2 (cfg1.slots t 2)) (hstage1_2 ((cfg1.slots t 2).cast nbuf1_2)) (stage1_3 (cfg1.slots t 3)) (hstage1_3 ((cfg1.slots t 3).cast nbuf1_3)) (stage1_4 (cfg1.slots t 4)) (hstage1_4 ((cfg1.slots t 4).cast nbuf1_4)) (stage1_5 (cfg1.slots t 5)) (hstage1_5 ((cfg1.slots t 5).cast nbuf1_5)) (stage1_6 (cfg1.slots t 6)) (hstage1_6 ((cfg1.slots t 6).cast nbuf1_6)) (stage1_7 (cfg1.slots t 7)) (hstage1_7 ((cfg1.slots t 7).cast nbuf1_7)) (Memref.isWhole_whole _) (hc.1.mpr h0) (fun h => hl (hc.2.mp h)) (blk0 V c t) (blk1 V c t) (blk2 V c t) (blk3 V c t) (blk4 V c t) (blk5 V c t) (blk6 V c t) _ f9 Set.univ _)
      isplitl [H0 H1 H2 H3 H4 H5 H6 H7]
      · isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      isplitl [HM]; · iexact HM
      iintro ⟨H0, H1, H2, H3, H4, H5, H6, H7⟩ HM
      isplitl [HM]
      · iexists _; isplitr; swap; (· iexact HM); ipureintro; intro _; rw [tacc_succ]; rw [h0]; rfl
      isplitl [Howes]; · iexact Howes
      isplitl [H0]; · iexact H0
      isplitl [H1]; · iexact H1
      isplitl [H2]; · iexact H2
      isplitl [H3]; · iexact H3
      isplitl [H4]; · iexact H4
      isplitl [H5]; · iexact H5
      isplitl [H6]; · iexact H6
      iexists d7; iexact H7

    · obtain rfl := h9 h0
      iapply (ownMid c (grid1.coords t) (stage1_0 (cfg1.slots t 0)) (hstage1_0 ((cfg1.slots t 0).cast nbuf1_0)) (stage1_1 (cfg1.slots t 1)) (hstage1_1 ((cfg1.slots t 1).cast nbuf1_1)) (stage1_2 (cfg1.slots t 2)) (hstage1_2 ((cfg1.slots t 2).cast nbuf1_2)) (stage1_3 (cfg1.slots t 3)) (hstage1_3 ((cfg1.slots t 3).cast nbuf1_3)) (stage1_4 (cfg1.slots t 4)) (hstage1_4 ((cfg1.slots t 4).cast nbuf1_4)) (stage1_5 (cfg1.slots t 5)) (hstage1_5 ((cfg1.slots t 5).cast nbuf1_5)) (stage1_6 (cfg1.slots t 6)) (hstage1_6 ((cfg1.slots t 6).cast nbuf1_6)) (stage1_7 (cfg1.slots t 7)) (hstage1_7 ((cfg1.slots t 7).cast nbuf1_7)) (Memref.isWhole_whole _) (fun h => h0 (hc.1.mp h)) (fun h => hl (hc.2.mp h)) (blk0 V c t) (blk1 V c t) (blk2 V c t) (blk3 V c t) (blk4 V c t) (blk5 V c t) (blk6 V c t) _ (tacc V c t.val) Set.univ _)
      isplitl [H0 H1 H2 H3 H4 H5 H6 H7]
      · isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      isplitl [HM]; · iexact HM
      iintro ⟨H0, H1, H2, H3, H4, H5, H6, H7⟩ HM
      isplitl [HM]
      · iexists _; isplitr; swap; (· iexact HM); ipureintro; intro _; rw [tacc_succ]
      isplitl [Howes]; · iexact Howes
      isplitl [H0]; · iexact H0
      isplitl [H1]; · iexact H1
      isplitl [H2]; · iexact H2
      isplitl [H3]; · iexact H3
      isplitl [H4]; · iexact H4
      isplitl [H5]; · iexact H5
      isplitl [H6]; · iexact H6
      iexists d7; iexact H7

/-! ## The region over the thread state -/

/-- The pipelines' proof data: the one pipeline's. -/
def pdats : (p : Fin 1) → (c : Dev nD) → Dat τ (Elt F) (HIx 1) ℕ UU ℕ (Pipeline.pin (pcfgs (F := F)) adm p) c
  | ⟨0, _⟩ => fun c => dat V c

/-- The result's array after the region. -/
def regOut : Buf (Elt F) ((c : Thread nD τ).loc main_v31) := (dat V c).arrAt 7 cfg1.N

variable (Vp : (c : Dev nD) → (b : Ref sig .tc) → Buf (Elt F) ((c : Thread nD τ).loc b))

/-- What the region's thread holds besides its buffers: its debts, none, its recorded waits no higher than the calls before. -/
abbrev owesR : sProp (MM F) := iprop(∃ W, ⌜∀ p ∈ W, (K (F := F)).lev (SparseCore.T c, p.1) p.2 ≤ 8⌝ ∗ owes (SparseCore.T c) (0 : CellTallies nD τ sig (HIx 1)) W)

set_option backward.isDefEq.respectTransparency.types false in
def reg (hVp_out : ∀ c, Vp c main_v31 = regOut V c) (hVp_ne : ∀ c (b : Ref sig .tc), b ≠ main_v31 → Vp c b = V c b) :
    Pipeline.RegionSeg (pcfgs (F := F)) adm (pdats V) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ _ _ 0 fun _ _ => rfl
  pre c := iprop(unscopedBufs c (V c) ∗ owesR c)
  post c := iprop(unscopedBufs c (Vp c) ∗ owesR c)
  X _ := BI.emp
  Y _ := BI.emp
  Z c := iprop(Pipeline.unscopedRest (Ix := HIx 1) (Name := ℕ) (U := UU) (Lvl := ℕ) spec1 c (V c))
  hentry c := by
    rw [Pipeline.ownSems0_none]
    have hsplit := Pipeline.arrays_of_unscopedBufs (p := 0) (pcfgs (F := F)) adm (pdats V) launch1.win launch1.arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V 0 c).Φ 0 = iprop(∃ f, ⌜0 ≠ 0 → f = mkT c (tacc V c 0)⌝ ∗ ptt c sM f) from rfl, scopedRest1_eq]
    iintro ⟨-, -, %f, Hr⟩; iexists f; isplitr; · ipureintro; intro h; exact absurd rfl h
    iexact Hr
  hout c := by
    rw [Pipeline.ownSems0_none, show (pdats V 0 c).Φ (Fin.last _) = iprop(∃ f, ⌜5 ≠ 0 → f = mkT c (tacc V c 5)⌝ ∗ ptt c sM f) from rfl, scopedRest1_eq]
    iintro ⟨%f, -, Hr⟩
    isplitr; · iempintro
    isplitr; · iempintro
    iexists f; iexact Hr
  hexit c := by
    have hjoin := Pipeline.unscopedBufs_of_arrays (p := 0) (pcfgs (F := F)) adm (Ix := HIx 1) (Name := ℕ) (U := UU) (Lvl := ℕ) launch1.win launch1.arr_whole c
      (pdats V) ((pdats V 0 c).share_full fun _ => rfl) (V c) (Vp c) ((pdats V 0 c).arrAt · cfg1.N)
      (fun w => by
        fin_cases w
        · exact ((pdats V 0 c).arrAt_in 0 rfl _).trans (hVp_ne c main_v26 (by decide)).symm
        · exact ((pdats V 0 c).arrAt_in 1 rfl _).trans (hVp_ne c main_v27 (by decide)).symm
        · exact ((pdats V 0 c).arrAt_in 2 rfl _).trans (hVp_ne c main_v28 (by decide)).symm
        · exact ((pdats V 0 c).arrAt_in 3 rfl _).trans (hVp_ne c main_v29 (by decide)).symm
        · exact ((pdats V 0 c).arrAt_in 4 rfl _).trans (hVp_ne c main_v30 (by decide)).symm
        · exact ((pdats V 0 c).arrAt_in 5 rfl _).trans (hVp_ne c main_v23 (by decide)).symm
        · exact ((pdats V 0 c).arrAt_in 6 rfl _).trans (hVp_ne c main_v25 (by decide)).symm
        · exact (hVp_out c).symm)
      (fun b hb => hVp_ne c b fun h => hb (h ▸ Finset.mem_image.mpr ⟨7, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro; intro p hp; rcases hW hp with h | ⟨w, s, rfl⟩
      · exact h
      · exact Nat.zero_le _
    iexact HO

/-- The result: one word, from the accumulators after the last point. -/
theorem regOut_eq (j : S1x1.Idx) : regOut V c j = tout (blk6 V c t1_4) (tacc V c 5) j := by
  have h := Dat.arrAt_eq_of_after_last (dat V c) 7 t1_4 (by decide +kernel) (fun j => tout (blk6 V c t1_4) (tacc V c 5) j) (fun j => by
    dsimp only [dat]
    blk_simp
    rfl)
  exact congrFun h j

end Cert.Proof.Sc

end
-- ==== Proof.Sc.Main.lean ====
/-
  @main on the TensorCore: host operations, the SparseCore call, host operations, the pipelined call; the program's run.
-/
module

public import proofs.«01_k».proof.Proof.Sc.Region
public import Idealize.ShloMosaic.Lib.Pipeline.Frame
public import Idealize.ShloMosaic.Lib.Pipeline.FrameBody
public import Idealize.ShloMosaic.Lib.Pipeline.Regions
public import Idealize.ShloMosaic.Lib.Pipeline.ValueKit

@[expose] public section

set_option maxRecDepth 16384

noncomputable section

namespace Cert.Proof.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.TcCoe
open Idealize.ShloMosaic.Pipeline (Dat Cfg Window BodyObligation cellOf)
open Idealize.ShloMosaic.Rounds

variable {F : FTy → Type} [FloatOps F]

/-! ## The program as lines of host operations around its two calls -/

/-- The host operations before the SparseCore call: the padded arrays. -/
def ops0 : List (HloOp τ sig (Elt F)) :=
  [ StableHlo.nullary main_cst (constant S_ .f32 0x00000000#32),
    StableHlo.unary main_cst main_v0 (broadcastInDim S20480x16 ![] bcast_S_S20480x16 : (⟨S_, .f32⟩ : BufTy).Contents (Elt F) → (⟨S20480x16, .f32⟩ : BufTy).Contents (Elt F)),
    StableHlo.nullary main_c (constantI S_ 32 0#32),
    StableHlo.unary main_c main_v1 (broadcastInDim S1 ![] bcast_S_S1 : (⟨S_, .i32⟩ : BufTy).Contents (Elt F) → (⟨S1, .i32⟩ : BufTy).Contents (Elt F)),
    StableHlo.nullary main_c_0 (constantI S_ 32 0#32),
    StableHlo.unary main_c_0 main_v2 (broadcastInDim S1 ![] bcast_S_S1 : (⟨S_, .i32⟩ : BufTy).Contents (Elt F) → (⟨S1, .i32⟩ : BufTy).Contents (Elt F)),
    StableHlo.binary main_v1 main_v2 main_v3 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v0 main_v3 main_arg0 main_v4 ((fun x i u => Host.scatter scatter_S20480x16_S2_S20000x4_01_n_01_0 (fun _ b => b) x i u) : (⟨S20480x16, .f32⟩ : BufTy).Contents (Elt F) → (⟨S2, .i32⟩ : BufTy).Contents (Elt F) → (⟨S20000x4, .f32⟩ : BufTy).Contents (Elt F) → (⟨S20480x16, .f32⟩ : BufTy).Contents (Elt F)),
    StableHlo.nullary main_cst_1 (constant S_ .f32 0x00000000#32),
    StableHlo.unary main_cst_1 main_v5 (broadcastInDim S20480 ![] bcast_S_S20480 : (⟨S_, .f32⟩ : BufTy).Contents (Elt F) → (⟨S20480, .f32⟩ : BufTy).Contents (Elt F)),
    StableHlo.nullary main_c_2 (constantI S_ 32 0#32),
    StableHlo.unary main_c_2 main_v6 (broadcastInDim S1 ![] bcast_S_S1 : (⟨S_, .i32⟩ : BufTy).Contents (Elt F) → (⟨S1, .i32⟩ : BufTy).Contents (Elt F)),
    StableHlo.ternary main_v5 main_v6 main_arg1 main_v7 ((fun x i u => Host.scatter scatter_S20480_S1_S20000_0_n_0_0 (fun _ b => b) x i u) : (⟨S20480, .f32⟩ : BufTy).Contents (Elt F) → (⟨S1, .i32⟩ : BufTy).Contents (Elt F) → (⟨S20000, .f32⟩ : BufTy).Contents (Elt F) → (⟨S20480, .f32⟩ : BufTy).Contents (Elt F)),
    StableHlo.nullary main_c_3 (constantI S_ 32 4294967294#32),
    StableHlo.unary main_c_3 main_v8 (broadcastInDim S20480 ![] bcast_S_S20480 : (⟨S_, .i32⟩ : BufTy).Contents (Elt F) → (⟨S20480, .i32⟩ : BufTy).Contents (Elt F)),
    StableHlo.nullary main_c_4 (constantI S_ 32 0#32),
    StableHlo.unary main_c_4 main_v9 (broadcastInDim S1 ![] bcast_S_S1 : (⟨S_, .i32⟩ : BufTy).Contents (Elt F) → (⟨S1, .i32⟩ : BufTy).Contents (Elt F)),
    StableHlo.ternary main_v8 main_v9 main_arg2 main_v10 ((fun x i u => Host.scatter scatter_S20480_S1_S20000_0_n_0_0 (fun _ b => b) x i u) : (⟨S20480, .i32⟩ : BufTy).Contents (Elt F) → (⟨S1, .i32⟩ : BufTy).Contents (Elt F) → (⟨S20000, .i32⟩ : BufTy).Contents (Elt F) → (⟨S20480, .i32⟩ : BufTy).Contents (Elt F)),
    StableHlo.unary main_arg3 main_v11 ((extractStridedSlice S1x40000 ![0, 0] · slices_S2x40000_S1x40000_0_0) : (⟨S2x40000, .i32⟩ : BufTy).Contents (Elt F) → (⟨S1x40000, .i32⟩ : BufTy).Contents (Elt F)),
    StableHlo.reshape main_v11 main_v12 (rfl : (.i32 : EltTy) = .i32) shapeCasts_S1x40000_S40000,
    StableHlo.nullary main_c_5 (constantI S_ 32 0#32),
    StableHlo.unary main_c_5 main_v13 (broadcastInDim S960 ![] bcast_S_S960 : (⟨S_, .i32⟩ : BufTy).Contents (Elt F) → (⟨S960, .i32⟩ : BufTy).Contents (Elt F)),
    StableHlo.binary main_v12 main_v13 main_v14 ((fun a b => concatenate S40960 0 [⟨S40000, a⟩, ⟨S960, b⟩] concatenates_S40000_S960_S40960_d0) : (⟨S40000, .i32⟩ : BufTy).Contents (Elt F) → (⟨S960, .i32⟩ : BufTy).Contents (Elt F) → (⟨S40960, .i32⟩ : BufTy).Contents (Elt F)),
    StableHlo.unary main_arg3 main_v15 ((extractStridedSlice S1x40000 ![1, 0] · slices_S2x40000_S1x40000_1_0) : (⟨S2x40000, .i32⟩ : BufTy).Contents (Elt F) → (⟨S1x40000, .i32⟩ : BufTy).Contents (Elt F)),
    StableHlo.reshape main_v15 main_v16 (rfl : (.i32 : EltTy) = .i32) shapeCasts_S1x40000_S40000,
    StableHlo.nullary main_c_6 (constantI S_ 32 256#32),
    StableHlo.unary main_c_6 main_v17 (broadcastInDim S960 ![] bcast_S_S960 : (⟨S_, .i32⟩ : BufTy).Contents (Elt F) → (⟨S960, .i32⟩ : BufTy).Contents (Elt F)),
    StableHlo.binary main_v16 main_v17 main_v18 ((fun a b => concatenate S40960 0 [⟨S40000, a⟩, ⟨S960, b⟩] concatenates_S40000_S960_S40960_d0) : (⟨S40000, .i32⟩ : BufTy).Contents (Elt F) → (⟨S960, .i32⟩ : BufTy).Contents (Elt F) → (⟨S40960, .i32⟩ : BufTy).Contents (Elt F)),
    StableHlo.nary ![main_v10, main_v14, main_v18] main_v19 (fun u => (concatenate S102400 0 [⟨S20480, (u 0 : (⟨S20480, .i32⟩ : BufTy).Contents (Elt F))⟩, ⟨S40960, (u 1 : (⟨S40960, .i32⟩ : BufTy).Contents (Elt F))⟩, ⟨S40960, (u 2 : (⟨S40960, .i32⟩ : BufTy).Contents (Elt F))⟩] concatenates_S20480_S40960_S40960_S102400_d0 : (⟨S102400, .i32⟩ : BufTy).Contents (Elt F))) ]

/-- The host operations between the two calls. -/
def ops1 : List (HloOp τ sig (Elt F)) :=
  [ StableHlo.unary main_v20 main_v21 ((extractStridedSlice S256x16 ![0, 0] · slices_S288x16_S256x16_0_0) : (⟨S288x16, .f32⟩ : BufTy).Contents (Elt F) → (⟨S256x16, .f32⟩ : BufTy).Contents (Elt F)),
    StableHlo.unary main_v20 main_v22 ((extractStridedSlice S16x16 ![256, 0] · slices_S288x16_S16x16_256_0) : (⟨S288x16, .f32⟩ : BufTy).Contents (Elt F) → (⟨S16x16, .f32⟩ : BufTy).Contents (Elt F)),
    StableHlo.reshape main_v22 main_v23 (rfl : (.f32 : EltTy) = .f32) shapeCasts_S16x16_S1x256,
    StableHlo.unary main_v20 main_v24 ((extractStridedSlice S16x16 ![272, 0] · slices_S288x16_S16x16_272_0) : (⟨S288x16, .f32⟩ : BufTy).Contents (Elt F) → (⟨S16x16, .f32⟩ : BufTy).Contents (Elt F)),
    StableHlo.reshape main_v24 main_v25 (rfl : (.f32 : EltTy) = .f32) shapeCasts_S16x16_S1x256,
    StableHlo.unary main_v4 main_v26 ((transpose S16x20480 [1, 0] · transposes_S20480x16_S16x20480_1_0) : (⟨S20480x16, .f32⟩ : BufTy).Contents (Elt F) → (⟨S16x20480, .f32⟩ : BufTy).Contents (Elt F)),
    StableHlo.unary main_v10 main_v27 (broadcastInDim S20480x1 ![0] bcast_S20480_S20480x1_0 : (⟨S20480, .i32⟩ : BufTy).Contents (Elt F) → (⟨S20480x1, .i32⟩ : BufTy).Contents (Elt F)),
    StableHlo.reshape main_v7 main_v28 (rfl : (.f32 : EltTy) = .f32) shapeCasts_S20480_S5x1x4096,
    StableHlo.reshape main_v10 main_v29 (rfl : (.i32 : EltTy) = .i32) shapeCasts_S20480_S5x1x4096,
    StableHlo.unary main_v21 main_v30 ((transpose S16x256 [1, 0] · transposes_S256x16_S16x256_1_0) : (⟨S256x16, .f32⟩ : BufTy).Contents (Elt F) → (⟨S16x256, .f32⟩ : BufTy).Contents (Elt F)) ]

/-- The host operation after the pipelined call. -/
def ops2 : List (HloOp τ sig (Elt F)) :=
  [ StableHlo.reshape main_v31 main_v32 (rfl : (.f32 : EltTy) = .f32) shapeCasts_S1x1_S_ ]

/-- The buffers each line writes. -/
abbrev wr0 : List (Ref sig .tc) := [main_cst, main_v0, main_c, main_v1, main_c_0, main_v2, main_v3, main_v4, main_cst_1, main_v5, main_c_2, main_v6, main_v7, main_c_3, main_v8, main_c_4, main_v9, main_v10, main_v11, main_v12, main_c_5, main_v13, main_v14, main_v15, main_v16, main_c_6, main_v17, main_v18, main_v19]
abbrev wr1 : List (Ref sig .tc) := [main_v21, main_v22, main_v23, main_v24, main_v25, main_v26, main_v27, main_v28, main_v29, main_v30]
abbrev wr2 : List (Ref sig .tc) := [main_v32]
theorem ops0_writes : (ops0 (F := F)).Forall fun op => op.writes ⊆ (wr0.map (Proc.devRef (τ := τ) .tc)).toFinset := StableHlo.forall_writes_sub_of_map rfl
theorem ops1_writes : (ops1 (F := F)).Forall fun op => op.writes ⊆ (wr1.map (Proc.devRef (τ := τ) .tc)).toFinset := StableHlo.forall_writes_sub_of_map rfl
theorem ops2_writes : (ops2 (F := F)).Forall fun op => op.writes ⊆ (wr2.map (Proc.devRef (τ := τ) .tc)).toFinset := StableHlo.forall_writes_sub_of_map rfl

theorem main_eq (d : Dev nD) : main (F := F) d
    = (StableHlo.seq ops0 >>= fun _ => (sc (F := F)).run d 0 >>= fun _ => StableHlo.seq ops1 >>= fun _ =>
        Prog.lift (.customCall (SparseCore.inner (Pipeline.entry 0)) ()) >>= fun _ => StableHlo.seq ops2 >>= fun _ => pure ⟨⟩) := by
  rfl

theorem ops0_sub : ∀ op ∈ ops0 (F := F), op.bufs ⊆ Pipeline.ucRefs τ sig := fun op h =>
  Pipeline.sub_ucRefs op ((List.forall_iff_forall_mem.mp (show (ops0 (F := F)).Forall fun op => op.bufs ⊆ StableHlo.tcRefs τ sig from
    ⟨StableHlo.nullary_bufs_sub .., StableHlo.unary_bufs_sub .., StableHlo.nullary_bufs_sub .., StableHlo.unary_bufs_sub .., StableHlo.nullary_bufs_sub .., StableHlo.unary_bufs_sub .., StableHlo.binary_bufs_sub .., StableHlo.ternary_bufs_sub .., StableHlo.nullary_bufs_sub .., StableHlo.unary_bufs_sub .., StableHlo.nullary_bufs_sub .., StableHlo.unary_bufs_sub .., StableHlo.ternary_bufs_sub .., StableHlo.nullary_bufs_sub .., StableHlo.unary_bufs_sub .., StableHlo.nullary_bufs_sub .., StableHlo.unary_bufs_sub .., StableHlo.ternary_bufs_sub .., StableHlo.unary_bufs_sub .., StableHlo.reshape_bufs_sub .., StableHlo.nullary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.nary_bufs_sub ..⟩)) op h)
theorem ops1_sub : ∀ op ∈ ops1 (F := F), op.bufs ⊆ Pipeline.ucRefs τ sig := fun op h =>
  Pipeline.sub_ucRefs op ((List.forall_iff_forall_mem.mp (show (ops1 (F := F)).Forall fun op => op.bufs ⊆ StableHlo.tcRefs τ sig from
    ⟨StableHlo.unary_bufs_sub .., StableHlo.unary_bufs_sub .., StableHlo.reshape_bufs_sub .., StableHlo.unary_bufs_sub .., StableHlo.reshape_bufs_sub .., StableHlo.unary_bufs_sub .., StableHlo.unary_bufs_sub .., StableHlo.reshape_bufs_sub .., StableHlo.reshape_bufs_sub .., StableHlo.unary_bufs_sub ..⟩)) op h)
theorem ops2_sub : ∀ op ∈ ops2 (F := F), op.bufs ⊆ Pipeline.ucRefs τ sig := fun op h =>
  Pipeline.sub_ucRefs op ((List.forall_iff_forall_mem.mp (show (ops2 (F := F)).Forall fun op => op.bufs ⊆ StableHlo.tcRefs τ sig from
    StableHlo.reshape_bufs_sub ..)) op h)
theorem ops0_fresh : ∀ op ∈ ops0 (F := F), op.fresh = ∅ := by
  intro op h; fin_cases h <;> rfl
theorem ops1_fresh : ∀ op ∈ ops1 (F := F), op.fresh = ∅ := by
  intro op h; fin_cases h <;> rfl
theorem ops2_fresh : ∀ op ∈ ops2 (F := F), op.fresh = ∅ := by
  intro op h; fin_cases h <;> rfl

/-! ## The output array as the tiles' rows -/

omit [FloatOps F] in
theorem blk_disj : ∀ t ∈ (Finset.univ : Finset (Fin 16)), ∀ t' ∈ (Finset.univ : Finset (Fin 16)), t ≠ t' → Disjoint (outBlk t.val) (outBlk t'.val) := fun t _ t' _ h =>
  Finset.disjoint_filter.mpr fun _ _ h1 h2 => h (Fin.ext (by omega))
omit [FloatOps F] in
theorem row_disj (n : ℕ) : ∀ t ∈ (Finset.univ : Finset (Fin 16)), ∀ t' ∈ (Finset.univ : Finset (Fin 16)), t ≠ t' → Disjoint (outRow (t.val + n)) (outRow (t'.val + n)) := fun t _ t' _ h =>
  Finset.disjoint_filter.mpr fun _ _ h1 h2 => h (Fin.ext (by omega))

/-- The three parts of the output: the table of classes' rows, the second table's, the third's. -/
abbrev part (k : Fin 3) : Finset S288x16.Idx := Finset.univ.filter fun x =>
  if k.val = 0 then (x 0).val < 256 else if k.val = 1 then 256 ≤ (x 0).val ∧ (x 0).val < 272 else 272 ≤ (x 0).val
omit [FloatOps F] in
theorem part_disj : ∀ t ∈ (Finset.univ : Finset (Fin 3)), ∀ t' ∈ (Finset.univ : Finset (Fin 3)), t ≠ t' → Disjoint (part t) (part t') := by
  intro t _ t' _ h
  refine Finset.disjoint_filter.mpr fun x _ h1 h2 => h ?_
  fin_cases t <;> fin_cases t' <;> simp at h1 h2 ⊢ <;> omega
omit [FloatOps F] in
theorem part_univ : (Finset.univ : Finset (Fin 3)).biUnion part = Finset.univ := by
  ext x
  simp only [Finset.mem_biUnion, Finset.mem_filter, Finset.mem_univ, true_and, iff_true]
  rcases Nat.lt_or_ge (x 0).val 256 with h | h
  · exact ⟨0, h⟩
  rcases Nat.lt_or_ge (x 0).val 272 with h' | h'
  · exact ⟨1, h, h'⟩
  · exact ⟨2, h'⟩
omit [FloatOps F] in
theorem part0 : part 0 = (Finset.univ : Finset (Fin 16)).biUnion fun i => outBlk i.val := by
  ext x
  simp only [Finset.mem_biUnion, Finset.mem_filter, Finset.mem_univ, true_and]
  constructor
  · intro h
    have h' : (x 0).val < 256 := h
    exact ⟨⟨(x 0).val / 16, by omega⟩, by show 16 * ((x 0).val / 16) ≤ _ ∧ _ < 16 * ((x 0).val / 16) + 16; omega⟩
  · rintro ⟨i, h1, h2⟩
    show (x 0).val < 256
    omega
omit [FloatOps F] in
theorem part1 : part 1 = (Finset.univ : Finset (Fin 16)).biUnion fun i => outRow (i.val + 256) := by
  ext x
  simp only [Finset.mem_biUnion, Finset.mem_filter, Finset.mem_univ, true_and]
  constructor
  · intro h
    have h' : 256 ≤ (x 0).val ∧ (x 0).val < 272 := h
    exact ⟨⟨(x 0).val - 256, by omega⟩, by show _ = (x 0).val - 256 + 256; omega⟩
  · rintro ⟨i, h1⟩
    show 256 ≤ (x 0).val ∧ (x 0).val < 272
    omega
omit [FloatOps F] in
theorem part2 : part 2 = (Finset.univ : Finset (Fin 16)).biUnion fun i => outRow (i.val + 272) := by
  ext x
  have hx : (x 0).val < 288 := (x 0).isLt
  simp only [Finset.mem_biUnion, Finset.mem_filter, Finset.mem_univ, true_and]
  constructor
  · intro h
    have h' : 272 ≤ (x 0).val := h
    exact ⟨⟨(x 0).val - 272, by omega⟩, by show _ = (x 0).val - 272 + 272; omega⟩
  · rintro ⟨i, h1⟩
    show 272 ≤ (x 0).val
    omega

omit [FloatOps F] in
theorem out_split (d : Dev nD) (f : Buf (Elt F) (outLoc d)) :
    (outLoc d ↦{fullShare} f : sProp (MM F)) = bigSep Finset.univ fun c : Fin 2 => bigSep Finset.univ fun i : Fin 16 => outAt d c i f := by
  have e : (bigSep Finset.univ fun c : Fin 2 => bigSep Finset.univ fun i : Fin 16 => outAt d c i f)
      = (iprop((outLoc d ↦[part 0]{fullShare} f) ∗ (outLoc d ↦[part 1]{fullShare} f) ∗ (outLoc d ↦[part 2]{fullShare} f)) : sProp (MM F)) := by
    rw [part0, part1, part2, pointsTo_biUnion _ _ blk_disj, pointsTo_biUnion _ _ (row_disj 256), pointsTo_biUnion _ _ (row_disj 272),
      bigSep_univ_eq_bigSepL [(0 : Fin 2), 1] (by decide) (by decide)]
    show iprop((bigSep Finset.univ fun i : Fin 16 => iprop((outLoc d ↦[outBlk i.val]{fullShare} f) ∗ (outLoc d ↦[outRow (i.val + 256)]{fullShare} f)))
      ∗ (bigSep Finset.univ fun i : Fin 16 => iprop(outLoc d ↦[outRow (i.val + 272)]{fullShare} f))) = _
    rw [bigSep_sep']
    exact BI.equiv_iff.mp ⟨BI.sep_assoc, BI.sep_assoc'⟩
  rw [e]
  have h := pointsTo_biUnion (Ix := HIx 1) (Name := ℕ) (U := UU) (Lvl := ℕ) (ℓ := outLoc d) (q := fullShare) (f := f) (Finset.univ : Finset (Fin 3)) part part_disj
  rw [part_univ, bigSep_univ_eq_bigSepL [(0 : Fin 3), 1, 2] (by decide) (by decide)] at h
  exact h

/-! ## @main on the TensorCore -/

/-- What the call names among the unscoped buffers. -/
abbrev callRefs : Finset (DevRef τ sig) :=
  {Proc.devRef .tc main_v7, Proc.devRef .tc main_v19, Proc.devRef .tc main_v4, Proc.devRef .tc main_v20}

omit [FloatOps F] in
theorem held_call (d : Dev nD) (W : Valuation τ sig (Elt F)) :
    (StableHlo.held (d.tc : Thread nD τ) (Pipeline.ucRefs τ sig) W : sProp (MM F))
      = iprop(((fpLoc d ↦{fullShare} W (Proc.devRef .tc main_v7)) ∗ (inLoc d ↦{fullShare} W (Proc.devRef .tc main_v19))
        ∗ (xLoc d ↦{fullShare} W (Proc.devRef .tc main_v4)) ∗ (outLoc d ↦{fullShare} W (Proc.devRef .tc main_v20)))
        ∗ StableHlo.held (d.tc : Thread nD τ) (Pipeline.ucRefs τ sig \ callRefs) W) := by
  rw [StableHlo.held_sub_split (d.tc : Thread nD τ) (show callRefs ⊆ Pipeline.ucRefs τ sig by decide) W]
  congr 1
  unfold StableHlo.held callRefs
  rw [SparseCore.bigSep_insert' (by decide), SparseCore.bigSep_insert' (by decide), SparseCore.bigSep_insert' (by decide), bigSep_singleton]

variable (m : (ℓ : Loc nD τ sig) → Buf (Elt F) ℓ) (ρ : Dev nD → PrngReg) (A : Dev nD → Inp F)

/-- The device's buffers at the SparseCore call, -/
def V0 (d : Dev nD) : Valuation τ sig (Elt F) := StableHlo.after ops0 fun b => m (d, b)
/-- after it, -/
def V1 (d : Dev nD) : Valuation τ sig (Elt F) := Function.update (V0 m d) (Proc.devRef .tc main_v20) (outF (A d))
/-- at the pipelined call, -/
def V2 (d : Dev nD) : Valuation τ sig (Elt F) := StableHlo.after ops1 (V1 m A d)
abbrev V2r (d : Dev nD) (b : Ref sig .tc) : Buf (Elt F) ((d : Thread nD τ).loc b) := V2 m A d (Proc.devRef .tc b)
/-- after it, -/
def V3 (d : Dev nD) : Valuation τ sig (Elt F) := Function.update (V2 m A d) (Proc.devRef .tc main_v31) (regOut (V2r m A) d)
abbrev V3r (d : Dev nD) (b : Ref sig .tc) : Buf (Elt F) ((d : Thread nD τ).loc b) := V3 m A d (Proc.devRef .tc b)
/-- and at the end. -/
def V4 (d : Dev nD) : Valuation τ sig (Elt F) := StableHlo.after ops2 (V3 m A d)

theorem V3_out (d : Dev nD) : V3r m A d main_v31 = regOut (V2r m A) d := Function.update_self ..
theorem V3_ne (d : Dev nD) (b : Ref sig .tc) (h : b ≠ main_v31) : V3r m A d b = V2r m A d b :=
  Function.update_of_ne (fun e => h (Proc.devRef_injective _ e)) ..

/-- The call's inputs are what the host operations before it made. -/
structure Feeds (d : Dev nD) : Prop where
  fp : (A d).fp = V0 m d (Proc.devRef .tc main_v7)
  ints : (A d).ints = V0 m d (Proc.devRef .tc main_v19)
  x : (A d).x = V0 m d (Proc.devRef .tc main_v4)

abbrev o₀ (d : Dev nD) : Buf (Elt F) (outLoc d) := V0 m d (Proc.devRef .tc main_v20)
abbrev PP : (K (F := F)).Pay (nD := nD) (Val := Elt F) (Name := ℕ) (U := UU) := P A (o₀ m)

theorem st0_eq (d : Dev nD) : (bigSep Finset.univ fun c : Fin ((K (F := F)).nCore 0) => (PP m A).st 0 d c)
    = iprop((bigSep Finset.univ fun c : Fin 2 => in3 A d (qc c)) ∗ (outLoc d ↦{fullShare} o₀ m d)) := by
  rw [out_split, ← bigSep_sep']; rfl
theorem dn0_eq (d : Dev nD) : (bigSep Finset.univ fun c : Fin ((K (F := F)).nCore 0) => (PP m A).dn 0 d c)
    = iprop((bigSep Finset.univ fun c : Fin 2 => in3 A d (qc c)) ∗ (outLoc d ↦{fullShare} outF (A d)) ∗ bigSep Finset.univ fun c : Fin ((K (F := F)).nCore 0) => bars d c) := by
  rw [out_split, ← bigSep_sep', ← bigSep_sep']; rfl

theorem held_before (d : Dev nD) (h : Feeds m A d) :
    (StableHlo.held (d.tc : Thread nD τ) (Pipeline.ucRefs τ sig) (V0 m d) : sProp (MM F))
      ⊢ iprop(in3 A d fullShare ∗ (outLoc d ↦{fullShare} o₀ m d) ∗ StableHlo.held (d.tc : Thread nD τ) (Pipeline.ucRefs τ sig \ callRefs) (V0 m d)) := by
  rw [held_call]
  unfold in3
  rw [h.fp, h.ints, h.x]
  iintro ⟨⟨H1, H2, H3, H4⟩, Hr⟩
  isplitl [H1 H2 H3]
  · isplitl [H1]; · iexact H1
    isplitl [H2] <;> iassumption
  isplitl [H4] <;> iassumption

theorem held_after (d : Dev nD) (h : Feeds m A d) :
    iprop(in3 A d fullShare ∗ (outLoc d ↦{fullShare} outF (A d)) ∗ StableHlo.held (d.tc : Thread nD τ) (Pipeline.ucRefs τ sig \ callRefs) (V0 m d))
      ⊢ (StableHlo.held (d.tc : Thread nD τ) (Pipeline.ucRefs τ sig) (V1 m A d) : sProp (MM F)) := by
  rw [held_call]
  have e7 : V1 m A d (Proc.devRef .tc main_v7) = (A d).fp := (Function.update_of_ne (by decide) ..).trans h.fp.symm
  have e19 : V1 m A d (Proc.devRef .tc main_v19) = (A d).ints := (Function.update_of_ne (by decide) ..).trans h.ints.symm
  have e4 : V1 m A d (Proc.devRef .tc main_v4) = (A d).x := (Function.update_of_ne (by decide) ..).trans h.x.symm
  have e20 : V1 m A d (Proc.devRef .tc main_v20) = outF (A d) := Function.update_self ..
  rw [e7, e19, e4, e20, StableHlo.held_congr (d.tc : Thread nD τ) (V := V1 m A d) (V' := V0 m d) fun b hb =>
    Function.update_of_ne (fun e => (Finset.mem_sdiff.mp hb).2 (by rw [e]; decide)) ..]
  unfold in3
  iintro ⟨⟨H1, H2, H3⟩, H4, Hr⟩
  isplitr [Hr]
  · isplitl [H1]; · iexact H1
    isplitl [H2]; · iexact H2
    isplitl [H3] <;> iassumption
  iexact Hr

/-- What @main ends with: every unscoped buffer at its last contents, the tiles' barrier semaphores at zero. -/
abbrev FIN (d : Dev nD) : sProp (MM F) :=
  iprop(StableHlo.held (d.tc : Thread nD τ) (Pipeline.ucRefs τ sig) (V4 m A d) ∗ bigSep Finset.univ fun c : Fin ((K (F := F)).nCore 0) => bars d c)

theorem hmain [∀ e, Nonempty (Elt F e)] (hA : ∀ d, Feeds m A d) (κ : GSem nD τ sig → ℕ) (d : Dev nD) :
    iprop((K (F := F)).ctx EH (PP m A) κ ∗ (K (F := F)).tcSt EH d 0 ∗ (K (F := F)).tcRes m ρ d ∗ gP d)
      ⊢ wp frame (wpE ((K (F := F)).defs (D (F := F))) 𝒱 (SparseCore.T d) none) Set.univ (main d)
          fun _ => iprop((K (F := F)).tcSt EH d 1 ∗ FIN m A d ∗ (K (F := F)).tcEnd d) := by
  unfold SparseCore.Cfg.tcRes SparseCore.Cfg.tcEnd gP
  rw [main_eq, show (unscopedBufs d (fun b => m ((SparseCore.T d).loc b)) : sProp (MM F))
    = StableHlo.held (d.tc : Thread nD τ) (Pipeline.ucRefs τ sig) (fun b => m (d, b)) from Pipeline.unscopedBufs_held d fun b => m (d, b)]
  iintro ⟨#Hctx, Hst, ⟨Hb, Hbufs, Hts, -⟩, Hcg, Hti⟩
  iapply (StableHlo.wp_seq 𝒱 none Set.univ d (Pipeline.ucRefs τ sig) _ ops0 ops0_sub ops0_fresh (fun b => m (d, b))) $$ [Hb Hbufs]
  · isplitl [Hb] <;> iassumption
  iintro ⟨Hb, Hh⟩
  ihave Hh := (show _ ⊢ _ from held_before m A d (hA d)) $$ [Hh]
  · iexact Hh
  icases Hh with ⟨Hin, Hout, Hrest⟩
  ihave Hin := (in3_toks A d fullShare 2).1 $$ Hin
  icases Hin with ⟨Hdrop, Htok⟩
  rw [wp_bind]
  iapply ((K (F := F)).wp_run (D (F := F)) 𝒱 (EH := EH) (P := PP m A) κ d 0) $$ [Hst Htok Hout Hdrop Hrest Hb Hts Hcg Hti]
  isplitr; · iexact Hctx
  isplitl [Hst]; · iexact Hst
  isplitl [Htok Hout]
  · rw [st0_eq]
    isplitl [Htok] <;> iassumption
  iintro ⟨Hst, Hdn⟩
  ihave Hdn' := (Entails.of_eq (dn0_eq m A d)) $$ Hdn
  icases Hdn' with ⟨Htok, Hout, Hbars⟩
  ihave Hin := (in3_toks A d fullShare 2).2 $$ [Hdrop Htok]
  · isplitl [Hdrop] <;> iassumption
  ihave Hh := (held_after m A d (hA d)) $$ [Hin Hout Hrest]
  · isplitl [Hin]; · iexact Hin
    isplitl [Hout] <;> iassumption
  iapply (StableHlo.wp_seq 𝒱 none Set.univ d (Pipeline.ucRefs τ sig) _ ops1 ops1_sub ops1_fresh (V1 m A d)) $$ [Hb Hh]
  · isplitl [Hb] <;> iassumption
  iintro ⟨Hb, Hh⟩
  ihave Hh := (Entails.of_eq (Pipeline.unscopedBufs_held (Ix := HIx 1) (Name := ℕ) (U := UU) (Lvl := ℕ) d (V2 m A d)).symm) $$ [Hh]
  · iexact Hh
  rw [wp_bind]
  iapply ((K (F := F)).wp_liftProg (D (F := F)) 𝒱 (SparseCore.T d) Set.univ none (.op (.customCall (Pipeline.entry 0) ()) fun x => .ret x) _)
  ihave Hlev := (SparseCore.Cfg.ctx_levAts κ) $$ Hctx
  unfold SparseCore.Cfg.tcSt
  rw [(K (F := F)).Otc_end d (show 1 ≤ (0 : Fin 1).val + 1 from le_refl _), (K (F := F)).Otc_end d (le_refl 1)]
  icases Hst with ⟨HO, Hst⟩
  iapply (Pipeline.RegionSeg.wp (pcfgs (F := F)) adm (pdats (V2r m A)) none cellOf_inj EP defs₀ 𝒱₀ (K (F := F)).L (K (F := F)).lev
    (reg (V2r m A) (V3r m A) (V3_out m A) (V3_ne m A)) d none (fun _ h => nomatch h) (fun x => .ret x) _) $$ [Hst Hb Hh Hts Hcg Hti HO Hbars Hlev]
  isplitr [Hb Hh Hcg Hti HO Hlev]
  · iintro ⟨Hb, Hpost⟩
    ihave Hpost := (show (reg (V2r m A) (V3r m A) (V3_out m A) (V3_ne m A)).post d ⊢ iprop(unscopedBufs d (V3r m A d) ∗ owesR d) from .rfl) $$ [Hpost]
    · iexact Hpost
    icases Hpost with ⟨Hh, HO⟩
    rw [wp_ret]; imodintro
    ihave Hh := (Entails.of_eq (Pipeline.unscopedBufs_held (Ix := HIx 1) (Name := ℕ) (U := UU) (Lvl := ℕ) d (V3 m A d))) $$ [Hh]
    · iexact Hh
    iapply (StableHlo.wp_seq 𝒱 none Set.univ d (Pipeline.ucRefs τ sig) _ ops2 ops2_sub ops2_fresh (V3 m A d)) $$ [Hb Hh]
    · isplitl [Hb] <;> iassumption
    iintro ⟨Hb, Hh⟩
    rw [wp_pure]; imodintro
    isplitl [HO Hst]
    · isplitl [HO]; · iexact HO
      iexact Hst
    isplitl [Hh Hbars]
    · isplitl [Hh]; · iexact Hh
      iexact Hbars
    isplitl [Hb] <;> iassumption
  isplitl [Hb]; · iexact Hb
  isplitl [Hh HO]
  · iapply (show iprop(unscopedBufs d (V2r m A d) ∗ owesR d) ⊢ (reg (V2r m A) (V3r m A) (V3_out m A) (V3_ne m A)).pre d from .rfl)
    isplitl [Hh]; · iexact Hh
    iexact HO
  isplitl [Hlev]; · iexact Hlev
  isplitl [Hcg] <;> iassumption

/-! ## The run -/

/-- What a final state has: every unscoped buffer of the TensorCore at its last contents, the barrier cells at zero. -/
def fq (d : Dev nD) (s' : Phys nD τ sig (Elt F)) : Prop :=
  (∀ b ∈ Pipeline.ucRefs τ sig, s'.mem.mem (d, b) = V4 m A d b)
    ∧ ∀ (c : Fin ((K (F := F)).nCore 0)) (i : Fin ((K (F := F)).nSub 0)), s'.mem.sem (bcell d (coreOf (F := F) c) (subOf (F := F) i)) = 0

theorem hfin_b (d : Dev nD) (b : DevRef τ sig) (hb : b ∈ Pipeline.ucRefs τ sig) (s' : Phys nD τ sig (Elt F)) :
    iprop(StableHlo.held (d.tc : Thread nD τ) (Pipeline.ucRefs τ sig) (V4 m A d) ∗ SI s') ⊢ (⌜s'.mem.mem (d, b) = V4 m A d b⌝ : sProp (MM F)) := by
  refine (sep_mono_left (show _ ⊢ iprop((d, b) ↦{fullShare} V4 m A d b) from bigSep_elim hb)).trans ?_
  iintro ⟨Hx, HSI⟩
  ihave H := (SI_pointsTo_agree (st := s') (ℓ := (d, b)) (I := Finset.univ) (q := fullShare) (f := V4 m A d b)) $$ [HSI Hx]
  · isplitl [HSI] <;> iassumption
  icases H with %hx
  ipureintro; exact funext fun i => hx i (Finset.mem_univ i)

theorem hfin (d : Dev nD) (s' : Phys nD τ sig (Elt F)) : iprop(FIN m A d ∗ SI s') ⊢ (⌜fq m A d s'⌝ : sProp (MM F)) :=
  fun x hx => ⟨fun b hb => ((sep_mono_left sep_elim_left).trans (hfin_b m A d b hb s')) x hx, fun c i =>
    ((sep_mono_left (sep_elim_right.trans ((SparseCore.ent (bigSep_elim (Finset.mem_univ c))).trans (SparseCore.ent (bigSep_elim (Finset.mem_univ i)))))).trans
      (SparseCore.Cfg.semVal_zero_read _ s')) x hx⟩

theorem hcells (s' : Phys nD τ sig (Elt F)) (h : ∀ d, fq m A d s') (g : GSem nD τ sig) (hg : g ∈ bCells) : s'.mem.sem g = 0 := by
  obtain ⟨⟨d, c, i⟩, hx, rfl⟩ := Finset.mem_image.mp hg
  exact (h d).2 ⟨c.val, c.isLt⟩ ⟨i.val, i.isLt⟩

/-- The run of the program over any float values: every unscoped buffer ends at its last contents, every counter at zero. -/
theorem run_main [∀ e, Nonempty (Elt F e)] (hA : ∀ d, Feeds m A d) :
    θ_run (defs (F := F)) (threads (F := F)) ⟨m, fun _ => 0, ρ⟩ fun r =>
      (∀ d, ∀ b ∈ Pipeline.ucRefs τ sig, r.2.mem (d, b) = V4 m A d b) ∧ r.2.sem = fun _ => 0 :=
  SparseCore.Cfg.θ_run_sc_quiescent (K := K (F := F)) (D := D (F := F)) (𝒱 := 𝒱) (EH := EH) (P := PP m A) (hA := hcells m A) facts v₀
    (fun q hq => match q with | 0 => nomatch hq)
    (fun q _ => match q with | 0 => tileObl A (o₀ m) facts)
    (fun q _ => match q with | 0 => vecSplit A (o₀ m))
    m ρ main gP (FIN m A) (u₀ F) (hu₀ A (o₀ m)) (hmain m ρ A hA) (fq m A) (hfin m A) _ (fun _ h hz => ⟨fun d => (h d).1, hz⟩)

end Cert.Proof.Sc

end
-- ==== Proof.Sc.Pads.lean ====
/-
  The padded inputs, read at an index.
-/
module

public import proofs.«01_k».proof.Proof.Sc.Main
public import Idealize.ShloMosaic.Lib.Pipeline.Frame
public import Idealize.ShloMosaic.Lib.Routing.OpsSet
public import Idealize.ShloMosaic.Lib.StableHlo.ReadAt
public import Idealize.ShloMosaic.Lib.ReduceAll
public import Idealize.ShloMosaic.Lib.Pipeline.FrameBody
public import Idealize.ShloMosaic.Lib.Pipeline.Regions
public import Idealize.ShloMosaic.Lib.Pipeline.ValueKit

@[expose] public section

set_option maxRecDepth 16384

noncomputable section

namespace Cert.Proof.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.TcCoe
open Idealize.ShloMosaic.Pipeline (Dat Cfg Window BodyObligation cellOf)
open Idealize.ShloMosaic.Rounds

variable {F : FTy → Type} [FloatOps F]

/-! ## The padded arrays -/

omit [FloatOps F] in
theorem lands1 (idx : IVec S1 32) (h0 : ∀ j, (idx j).toInt = 0) (k : S20000.Idx) (ι : S20480.Idx) :
    scatter_S20480_S1_S20000_0_n_0_0.resultIdx? k idx = some ι ↔ (k 0).val = (ι 0).val := by
  rw [Routing.resultIdx?_eq_some]
  have hs : scatter_S20480_S1_S20000_0_n_0_0.start k idx 0 = 0 := (dif_pos (by decide)).trans (h0 _)
  have hw : scatter_S20480_S1_S20000_0_n_0_0.window k 0 = (k 0).val := by
    unfold ScatterDims.window
    rw [dif_pos (by decide)]; rfl
  constructor
  · intro h
    have := h 0
    rw [hs, hw] at this
    omega
  · intro h a
    obtain rfl : a = 0 := Subsingleton.elim _ _
    rw [hs, hw]; omega

omit [FloatOps F] in
theorem lands2 (idx : IVec S2 32) (h0 : ∀ j, (idx j).toInt = 0) (k : S20000x4.Idx) (ι : S20480x16.Idx) :
    scatter_S20480x16_S2_S20000x4_01_n_01_0.resultIdx? k idx = some ι ↔ (k 0).val = (ι 0).val ∧ (k 1).val = (ι 1).val := by
  rw [Routing.resultIdx?_eq_some]
  have hs : ∀ a, scatter_S20480x16_S2_S20000x4_01_n_01_0.start k idx a = 0 := fun a => by
    unfold ScatterDims.start
    split
    · exact h0 _
    · rfl
  have hw0 : scatter_S20480x16_S2_S20000x4_01_n_01_0.window k 0 = (k 0).val := by
    unfold ScatterDims.window
    rw [dif_pos (by decide)]; rfl
  have hw1 : scatter_S20480x16_S2_S20000x4_01_n_01_0.window k 1 = (k 1).val := by
    unfold ScatterDims.window
    rw [dif_pos (by decide)]; rfl
  constructor
  · intro h
    have e0 := h 0
    have e1 := h 1
    rw [hs, hw0] at e0
    rw [hs, hw1] at e1
    omega
  · intro h a
    match a with
    | 0 => rw [hs, hw0]; omega
    | 1 => rw [hs, hw1]; omega

/-- A vector padded behind with `z`, read at an index. -/
theorem pad1 {α : Type} (z : S20480.Idx → α) (idx : IVec S1 32) (h0 : ∀ j, (idx j).toInt = 0) (u : S20000.Idx → α) (ι : S20480.Idx) :
    Host.scatter scatter_S20480_S1_S20000_0_n_0_0 (fun _ b => b) z idx u ι = if h : (ι 0).val < 20000 then u (i1 (ι 0).val h) else z ι := by
  split
  · rename_i h
    refine Routing.scatter_set_hit _ _ _ _ _ _ (fun k hk => congrArg u ?_) (i1 (ι 0).val h) ((lands1 idx h0 _ _).mpr rfl)
    funext a
    obtain rfl : a = 0 := Subsingleton.elim _ _
    exact Fin.ext ((lands1 idx h0 _ _).mp hk)
  · rename_i h
    refine Routing.scatter_set_miss _ _ _ _ _ fun k hk => h ?_
    have := (lands1 idx h0 _ _).mp hk
    have hk : (k 0).val < 20000 := (k 0).isLt
    omega

/-- A matrix padded below and to the right with `z`, read at an index. -/
theorem pad2 {α : Type} (z : S20480x16.Idx → α) (idx : IVec S2 32) (h0 : ∀ j, (idx j).toInt = 0) (u : S20000x4.Idx → α) (ι : S20480x16.Idx) :
    Host.scatter scatter_S20480x16_S2_S20000x4_01_n_01_0 (fun _ b => b) z idx u ι
      = if h : (ι 0).val < 20000 ∧ (ι 1).val < 4 then u (i2 (ι 0).val (ι 1).val h.1 h.2) else z ι := by
  split
  · rename_i h
    refine Routing.scatter_set_hit _ _ _ _ _ _ (fun k hk => congrArg u ?_) (i2 (ι 0).val (ι 1).val h.1 h.2) ((lands2 idx h0 _ _).mpr ⟨rfl, rfl⟩)
    have e := (lands2 idx h0 _ _).mp hk
    refine funext fun a => Fin.ext ?_
    match a with
    | 0 => exact e.1
    | 1 => exact e.2
  · rename_i h
    refine Routing.scatter_set_miss _ _ _ _ _ fun k hk => h ?_
    have e := (lands2 idx h0 _ _).mp hk
    have h0 : (k 0).val < 20000 := (k 0).isLt
    have h1 : (k 1).val < 4 := (k 1).isLt
    omega

variable (m : (ℓ : Loc nD τ sig) → Buf (Elt F) ℓ) (d : Dev nD)

abbrev zf : F .f32 := FloatOps.ofBits .f32 0x00000000#32

theorem V0_v7 (ι : S20480.Idx) : V0 m d (Proc.devRef .tc main_v7) ι
    = if h : (ι 0).val < 20000 then m ((SparseCore.T d).loc main_arg1) (i1 (ι 0).val h) else zf := by
  have e : V0 m d (Proc.devRef .tc main_v7) = Host.scatter scatter_S20480_S1_S20000_0_n_0_0 (fun _ b => b)
      (broadcastInDim S20480 ![] bcast_S_S20480 (constant S_ .f32 0x00000000#32)) (broadcastInDim S1 ![] bcast_S_S1 (constantI S_ 32 0#32)) (m ((SparseCore.T d).loc main_arg1)) := by
    unfold V0 ops0
    after_reads_simp
  rw [e, pad1 _ _ fun _ => rfl]; rfl

theorem V0_v4 (ι : S20480x16.Idx) : V0 m d (Proc.devRef .tc main_v4) ι
    = if h : (ι 0).val < 20000 ∧ (ι 1).val < 4 then m ((SparseCore.T d).loc main_arg0) (i2 (ι 0).val (ι 1).val h.1 h.2) else zf := by
  unfold V0 ops0
  after_reads_simp
  rw [pad2]
  · rfl
  · intro j
    rw [concatenate_pair_apply]
    after_reads_simp
    split <;> rfl

theorem V0_v10 (ι : S20480.Idx) : V0 m d (Proc.devRef .tc main_v10) ι
    = if h : (ι 0).val < 20000 then m ((SparseCore.T d).loc main_arg2) (i1 (ι 0).val h) else 4294967294#32 := by
  have e : V0 m d (Proc.devRef .tc main_v10) = Host.scatter scatter_S20480_S1_S20000_0_n_0_0 (fun _ b => b)
      (broadcastInDim S20480 ![] bcast_S_S20480 (constantI S_ 32 4294967294#32)) (broadcastInDim S1 ![] bcast_S_S1 (constantI S_ 32 0#32)) (m ((SparseCore.T d).loc main_arg2)) := by
    unfold V0 ops0
    after_reads_simp
  rw [e, pad1 _ _ fun _ => rfl]; rfl

theorem V0_v12 (n : ℕ) (hn : n < 40000) : V0 m d (Proc.devRef .tc main_v12) (i1 n hn)
    = m ((SparseCore.T d).loc main_arg3) (i2 0 n (by decide) hn) := by
  unfold V0 ops0
  after_reads_simp
  pointwise
  refine congrArg _ ?_
  refine funext fun a => Fin.ext ?_
  match a with
  | 0 => rfl
  | 1 => simp [i1, i2]

theorem V0_v16 (n : ℕ) (hn : n < 40000) : V0 m d (Proc.devRef .tc main_v16) (i1 n hn)
    = m ((SparseCore.T d).loc main_arg3) (i2 1 n (by decide) hn) := by
  unfold V0 ops0
  after_reads_simp
  pointwise
  refine congrArg _ ?_
  refine funext fun a => Fin.ext ?_
  match a with
  | 0 => rfl
  | 1 => simp [i1, i2]

theorem cat2 {α : Type} (x : S40000.Idx → α) (y : S960.Idx → α) (n : ℕ) (hn : n < 40960) :
    concatenate S40960 0 [⟨S40000, x⟩, ⟨S960, y⟩] concatenates_S40000_S960_S40960_d0 (i1 n hn)
    = if h : n < 40000 then x (i1 n h) else y (i1 (n - 40000) (by omega)) := by
  rw [concatenate_pair_apply]
  split
  · rename_i h
    rw [dif_pos (show n < 40000 from h)]; refine congrArg x ?_
    funext a; obtain rfl : a = 0 := Subsingleton.elim _ _; rfl
  · rename_i h
    rw [dif_neg (show ¬ n < 40000 from h)]; refine congrArg y ?_
    funext a; obtain rfl : a = 0 := Subsingleton.elim _ _; rfl

theorem cat3 {α : Type} (x : S20480.Idx → α) (y z : S40960.Idx → α) (ι : S102400.Idx) :
    concatenate S102400 0 [⟨S20480, x⟩, ⟨S40960, y⟩, ⟨S40960, z⟩] concatenates_S20480_S40960_S40960_S102400_d0 ι
    = if h : (ι 0).val < 20480 then x (i1 (ι 0).val h)
    else if h' : (ι 0).val < 61440 then y (i1 ((ι 0).val - 20480) (by omega))
    else z (i1 ((ι 0).val - 61440) (by have : (ι 0).val < 102400 := (ι 0).isLt; omega)) := by
  rw [concatenate_apply]
  pointwise
  split
  · refine congrArg x ?_
    funext a; obtain rfl : a = 0 := Subsingleton.elim _ _; rfl
  · split
    · rw [dif_pos (by omega)]; refine congrArg y ?_
      funext a; obtain rfl : a = 0 := Subsingleton.elim _ _; rfl
    · rw [dif_neg (by omega)]; refine congrArg z ?_
      funext a; obtain rfl : a = 0 := Subsingleton.elim _ _; refine Fin.ext ?_; simp [i1]; omega

theorem V0_v14 (n : ℕ) (hn : n < 40960) : V0 m d (Proc.devRef .tc main_v14) (i1 n hn)
    = if h : n < 40000 then m ((SparseCore.T d).loc main_arg3) (i2 0 n (by decide) h) else 0#32 := by
  have e : V0 m d (Proc.devRef .tc main_v14) (i1 n hn) = if h : n < 40000 then V0 m d (Proc.devRef .tc main_v12) (i1 n h) else 0#32 := by
    unfold V0 ops0
    after_reads_simp
    rw [cat2]
    split <;> rfl
  rw [e]
  split
  · exact V0_v12 m d n _
  · rfl

theorem V0_v18 (n : ℕ) (hn : n < 40960) : V0 m d (Proc.devRef .tc main_v18) (i1 n hn)
    = if h : n < 40000 then m ((SparseCore.T d).loc main_arg3) (i2 1 n (by decide) h) else 256#32 := by
  have e : V0 m d (Proc.devRef .tc main_v18) (i1 n hn) = if h : n < 40000 then V0 m d (Proc.devRef .tc main_v16) (i1 n h) else 256#32 := by
    unfold V0 ops0
    after_reads_simp
    rw [cat2]
    split <;> rfl
  rw [e]
  split
  · exact V0_v16 m d n _
  · rfl

theorem V0_v19 (ι : S102400.Idx) : V0 m d (Proc.devRef .tc main_v19) ι = if h : (ι 0).val < 20480 then V0 m d (Proc.devRef .tc main_v10) (i1 (ι 0).val h)
    else if h' : (ι 0).val < 61440 then V0 m d (Proc.devRef .tc main_v14) (i1 ((ι 0).val - 20480) (by omega))
    else V0 m d (Proc.devRef .tc main_v18) (i1 ((ι 0).val - 61440) (by have : (ι 0).val < 102400 := (ι 0).isLt; omega)) := by
  obtain ⟨W, hW⟩ : ∃ W, V0 m d = StableHlo.after [StableHlo.nary ![main_v10, main_v14, main_v18] main_v19
      (fun u => concatenate S102400 0 [⟨S20480, u 0⟩, ⟨S40960, u 1⟩, ⟨S40960, u 2⟩] concatenates_S20480_S40960_S40960_S102400_d0) (by decide) (by decide)] W :=
    ⟨StableHlo.after (ops0.take 28) _, rfl⟩
  have e0 : V0 m d (Proc.devRef .tc main_v10) = W (Proc.devRef .tc main_v10) := by rw [hW]; after_reads_simp
  have e1 : V0 m d (Proc.devRef .tc main_v14) = W (Proc.devRef .tc main_v14) := by rw [hW]; after_reads_simp
  have e2 : V0 m d (Proc.devRef .tc main_v18) = W (Proc.devRef .tc main_v18) := by rw [hW]; after_reads_simp
  have e : V0 m d (Proc.devRef .tc main_v19) = concatenate S102400 0 [⟨S20480, W (Proc.devRef .tc main_v10)⟩, ⟨S40960, W (Proc.devRef .tc main_v14)⟩,
      ⟨S40960, W (Proc.devRef .tc main_v18)⟩] concatenates_S20480_S40960_S40960_S102400_d0 := by
    rw [hW]; after_reads_simp; rfl
  rw [e, e0, e1, e2]
  exact cat3 _ _ _ ι

end Cert.Proof.Sc

end
-- ==== Proof.Sc.Range.lean ====
/-
  What the ranges say of the arguments, and the program's run from them.
-/
module

public import proofs.«01_k».proof.Proof.Sc.Pads
public import proofs.«01_k».proof.Pre_in_range
public import Idealize.ShloMosaic.Lib.Pipeline.Frame
public import Idealize.ShloMosaic.Lib.Pipeline.FrameTail
public import Idealize.ShloMosaic.Lib.Routing.OpsSet
public import Idealize.ShloMosaic.Lib.StableHlo.ReadAt
public import Idealize.ShloMosaic.Lib.ReduceAll
public import Idealize.ShloMosaic.Lib.Pipeline.FrameBody
public import Idealize.ShloMosaic.Lib.Pipeline.Regions
public import Idealize.ShloMosaic.Lib.Pipeline.ValueKit

@[expose] public section

set_option maxRecDepth 16384

noncomputable section

namespace Cert.Proof.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.TcCoe
open Idealize.ShloMosaic.Pipeline (Dat Cfg Window BodyObligation cellOf)
open Idealize.ShloMosaic.Rounds

variable {F : FTy → Type} [FloatOps F]

/-! ## What the preconditions say -/

instance preFacts : Cert.Pre_in_range.Facts where
  bcast_S_S20000 := by decide
  reducesTo_S20000_S_d0 := by decide
  h_S_ := by decide
  slices_S2x40000_S1x40000_0_0 := by decide
  shapeCasts_S1x40000_S40000 := by decide
  bcast_S_S40000 := by decide
  reducesTo_S40000_S_d0 := by decide
  slices_S2x40000_S1x40000_1_0 := by decide

/-- The integer arguments are in their ranges: a class number or −1; a row number; a class number. -/
structure InRange (y : S20000.Idx → BitVec 32) (ed : S2x40000.Idx → BitVec 32) : Prop where
  y : ∀ n, -1 ≤ (y n).toInt ∧ (y n).toInt < 256
  i : ∀ n (h : n < 40000), 0 ≤ (ed (i2 0 n (by decide) h)).toInt ∧ (ed (i2 0 n (by decide) h)).toInt < 20000
  j : ∀ n (h : n < 40000), 0 ≤ (ed (i2 1 n (by decide) h)).toInt ∧ (ed (i2 1 n (by decide) h)).toInt < 256

instance : Subsingleton (Shape.Idx S_) := ⟨fun a b => funext fun i => i.elim0⟩

omit [FloatOps F] in
theorem row_read (r : Fin 2) (hs : S2x40000.Slices ![r.val, 0] S1x40000) (hc : S1x40000.ShapeCasts S40000) (ed : S2x40000.Idx → BitVec 32) (n : ℕ) (h : n < 40000) :
    shapeCast S40000 (extractStridedSlice S1x40000 ![r.val, 0] ed hs) hc (i1 n h) = ed (i2 r.val n r.isLt h) := by
  pointwise
  refine congrArg _ ?_
  refine funext fun a => Fin.ext ?_
  match a with
  | 0 => simp [i2]
  | 1 => simp [i1, i2]

theorem inRange_of {a0 : FVec F S20000x4 .f32} {a1 : FVec F S20000 .f32} {a2 : IVec S20000 32} {a3 : IVec S2x40000 32}
    (h : Cert.Pre_in_range.fn (F := F) a0 a1 a2 a3 = fun _ => 1#1) : InRange a2 a3 := by
  have h0 := congrFun h (fun i => i.elim0)
  unfold Cert.Pre_in_range.fn Cert.Pre_in_range.fn_part1 at h0
  obtain ⟨h12, hj⟩ := IntOp.andi_eq_one.mp h0
  obtain ⟨hy, hi⟩ := IntOp.andi_eq_one.mp h12
  refine ⟨fun n => ?_, fun n hn => ?_, fun n hn => ?_⟩
  · obtain ⟨p, q⟩ := IntOp.andi_eq_one.mp (Host.reduce_andi_all _ _ _ _ _ hy n)
    exact ⟨IntOp.cmpi_sge.mp p, IntOp.cmpi_slt.mp q⟩
  · obtain ⟨p, q⟩ := IntOp.andi_eq_one.mp (Host.reduce_andi_all _ _ _ _ _ hi (i1 n hn))
    have e := congrArg BitVec.toInt (row_read 0 slices_S2x40000_S1x40000_0_0 shapeCasts_S1x40000_S40000 a3 n hn)
    exact ⟨(IntOp.cmpi_sge.mp p).trans_eq e, e.symm.trans_lt (IntOp.cmpi_slt.mp q)⟩
  · obtain ⟨p, q⟩ := IntOp.andi_eq_one.mp (Host.reduce_andi_all _ _ _ _ _ hj (i1 n hn))
    have e := congrArg BitVec.toInt (row_read 1 slices_S2x40000_S1x40000_1_0 shapeCasts_S1x40000_S40000 a3 n hn)
    exact ⟨(IntOp.cmpi_sge.mp p).trans_eq e, e.symm.trans_lt (IntOp.cmpi_slt.mp q)⟩

/-! ## The call's operands are in their ranges -/

variable (m : (ℓ : Loc nD τ sig) → Buf (Elt F) ℓ) (d : Dev nD)

variable (hr : ∀ d, InRange (m ((SparseCore.T d).loc main_arg2)) (m ((SparseCore.T d).loc main_arg3)))

omit [FloatOps F] in
theorem small_of {b : BitVec 32} {k : ℕ} (h : 0 ≤ b.toInt ∧ b.toInt < (k : ℤ)) : b.toNat < k := by
  obtain ⟨h1, h2⟩ := h
  rw [BitVec.toInt_eq_toNat_cond] at h1 h2
  have := b.isLt
  split at h1 <;> omega

omit [FloatOps F] in
theorem binOf_lt {b : BitVec 32} (h : b.toInt < 256) : (binOf b).toNat < 272 := by
  unfold binOf Scalar.select
  split
  · rename_i hc
    have := small_of (k := 256) ⟨IntOp.cmpi_sge.mp hc, h⟩
    omega
  · decide

include hr

theorem y_lt (w : Fin 16) (x : S1280.Idx) : (binOf (ywin (V0 m d (Proc.devRef .tc main_v19)) w x)).toNat < 272 := by
  have hx : (x 0).val < 1280 := (x 0).isLt
  have hw := w.isLt
  refine binOf_lt ?_
  unfold ywin
  rw [V0_v19, dif_pos (show 1280 * w.val + (x 0).val < 20480 by omega), V0_v10]
  split
  · exact ((hr d).y _).2
  · decide

theorem i_lt (w : Fin 16) (x : S2560.Idx) : (iwin (V0 m d (Proc.devRef .tc main_v19)) w x).toNat < 20480 := by
  have hx : (x 0).val < 2560 := (x 0).isLt
  have hw := w.isLt
  unfold iwin
  rw [V0_v19, dif_neg (show ¬ 20480 + 2560 * w.val + (x 0).val < 20480 by omega), dif_pos (show 20480 + 2560 * w.val + (x 0).val < 61440 by omega), V0_v14]
  split
  · exact lt_trans (small_of (k := 20000) ((hr d).i _ _)) (by decide)
  · decide

theorem j_lt (w : Fin 16) (x : S2560.Idx) : (jwin (V0 m d (Proc.devRef .tc main_v19)) w x).toNat < 272 := by
  have hx : (x 0).val < 2560 := (x 0).isLt
  have hw := w.isLt
  unfold jwin
  rw [V0_v19, dif_neg (show ¬ 61440 + 2560 * w.val + (x 0).val < 20480 by omega), dif_neg (show ¬ 61440 + 2560 * w.val + (x 0).val < 61440 by omega), V0_v18]
  split
  · exact lt_trans (small_of (k := 256) ((hr d).j _ _)) (by decide)
  · decide

/-- The call's operands on a device. -/
def inpOf : Dev nD → Inp F := fun d => ⟨V0 m d (Proc.devRef .tc main_v7), V0 m d (Proc.devRef .tc main_v19), V0 m d (Proc.devRef .tc main_v4), y_lt m d hr, i_lt m d hr, j_lt m d hr⟩

theorem feeds_of (d : Dev nD) : Feeds m (inpOf m hr) d := by
  constructor <;> dsimp only [inpOf]

omit hr in
/-- An argument's array is as it was. -/
theorem V4_arg (A : Dev nD → Inp F) (r : Ref sig .tc) (h0 : r ∉ wr0) (h1 : r ∉ wr1) (h2 : r ∉ wr2) (h20 : r ≠ main_v20) (h31 : r ≠ main_v31) :
    V4 m A d (Proc.devRef .tc r) = m ((SparseCore.T d).loc r) := by
  unfold V4
  rw [StableHlo.after_of_writes_sub ops2 _ ops2_writes h2]
  unfold V3
  rw [Function.update_of_ne (fun e => h31 (Proc.devRef_injective _ e))]
  unfold V2
  rw [StableHlo.after_of_writes_sub ops1 _ ops1_writes h1]
  unfold V1
  rw [Function.update_of_ne (fun e => h20 (Proc.devRef_injective _ e))]
  unfold V0
  rw [StableHlo.after_of_writes_sub ops0 _ ops0_writes h0]

/-- The program runs, leaves its arguments as they were and its semaphores at zero; and its result is `V4`'s. -/
theorem run_args (ρ : Dev nD → PrngReg) [∀ e, Nonempty (Elt F e)] :
    θ_run (defs (F := F)) (threads (F := F)) ⟨m, fun _ => 0, ρ⟩ fun r =>
      ((∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0)
      ∧ ∀ c : Dev nD, r.2.mem ((c.tc : Thread nD τ).loc main_v32) = V4 m (inpOf m hr) c (Proc.devRef .tc main_v32) := by
  refine (θ_run _ _ _).mono (fun r h => ?_) (run_main m ρ (inpOf m hr) (feeds_of m hr))
  have k : ∀ (c : Dev nD) (b : Ref sig .tc), b.isScoped = false → r.2.mem ((c.tc : Thread nD τ).loc b) = V4 m (inpOf m hr) c (Proc.devRef .tc b) := fun c b hb =>
    h.1 c _ (Pipeline.devRef_mem_ucRefs hb)
  refine ⟨⟨fun c => ⟨?_, ?_, ?_, ?_⟩, h.2⟩, fun c => k c _ rfl⟩ <;>
  · rw [k c _ rfl]
    exact V4_arg m c _ _ (by decide) (by decide) (by decide) (by decide) (by decide)

end Cert.Proof.Sc

end
-- ==== Proof.Same.A.lean ====
/-
  The two printed programs have one text: parts 1 to 12 of the SparseCore kernel's body.
-/
module

public import proofs.«01_k».proof.Defs
public import proofs.«01_k».proof.Proof.Gen.Kernel
public import proofs.«01_k».proof.Proof.Gen.KernelIdeal

@[expose] public section

set_option maxRecDepth 16384

noncomputable section

namespace Cert.Proof.Same

open Idealize.ShloMosaic Idealize.SL.Sem

variable {F : FTy → Type} [FloatOps F]

theorem part1 : @Cert.Kernel.k0_part1 F _ Cert.Kernel.Gen.facts = @Cert.KernelIdeal.k0_part1 F _ Cert.KernelIdeal.Gen.facts := rfl
theorem part2 : @Cert.Kernel.k0_part2 F _ Cert.Kernel.Gen.facts = @Cert.KernelIdeal.k0_part2 F _ Cert.KernelIdeal.Gen.facts := rfl
theorem part3 : @Cert.Kernel.k0_part3 F _ Cert.Kernel.Gen.facts = @Cert.KernelIdeal.k0_part3 F _ Cert.KernelIdeal.Gen.facts := rfl
theorem part4 : @Cert.Kernel.k0_part4 F _ Cert.Kernel.Gen.facts = @Cert.KernelIdeal.k0_part4 F _ Cert.KernelIdeal.Gen.facts := rfl
theorem part5 : @Cert.Kernel.k0_part5 F _ Cert.Kernel.Gen.facts = @Cert.KernelIdeal.k0_part5 F _ Cert.KernelIdeal.Gen.facts := rfl
theorem part6 : @Cert.Kernel.k0_part6 F _ Cert.Kernel.Gen.facts = @Cert.KernelIdeal.k0_part6 F _ Cert.KernelIdeal.Gen.facts := rfl
theorem part7 : @Cert.Kernel.k0_part7 F _ Cert.Kernel.Gen.facts = @Cert.KernelIdeal.k0_part7 F _ Cert.KernelIdeal.Gen.facts := rfl
theorem part8 : @Cert.Kernel.k0_part8 F _ Cert.Kernel.Gen.facts = @Cert.KernelIdeal.k0_part8 F _ Cert.KernelIdeal.Gen.facts := rfl
theorem part9 : @Cert.Kernel.k0_part9 F _ Cert.Kernel.Gen.facts = @Cert.KernelIdeal.k0_part9 F _ Cert.KernelIdeal.Gen.facts := rfl
theorem part10 : @Cert.Kernel.k0_part10 F _ Cert.Kernel.Gen.facts = @Cert.KernelIdeal.k0_part10 F _ Cert.KernelIdeal.Gen.facts := rfl
theorem part11 : @Cert.Kernel.k0_part11 F _ Cert.Kernel.Gen.facts = @Cert.KernelIdeal.k0_part11 F _ Cert.KernelIdeal.Gen.facts := rfl
theorem part12 : @Cert.Kernel.k0_part12 F _ Cert.Kernel.Gen.facts = @Cert.KernelIdeal.k0_part12 F _ Cert.KernelIdeal.Gen.facts := rfl

end Cert.Proof.Same

end
-- ==== Proof.Same.B.lean ====
/-
  The two printed programs have one text: parts 13 to 24 of the SparseCore kernel's body.
-/
module

public import proofs.«01_k».proof.Defs
public import proofs.«01_k».proof.Proof.Gen.Kernel
public import proofs.«01_k».proof.Proof.Gen.KernelIdeal

@[expose] public section

set_option maxRecDepth 16384

noncomputable section

namespace Cert.Proof.Same

open Idealize.ShloMosaic Idealize.SL.Sem

variable {F : FTy → Type} [FloatOps F]

theorem part13 : @Cert.Kernel.k0_part13 F _ Cert.Kernel.Gen.facts = @Cert.KernelIdeal.k0_part13 F _ Cert.KernelIdeal.Gen.facts := rfl
theorem part14 : @Cert.Kernel.k0_part14 F _ Cert.Kernel.Gen.facts = @Cert.KernelIdeal.k0_part14 F _ Cert.KernelIdeal.Gen.facts := rfl
theorem part15 : @Cert.Kernel.k0_part15 F _ Cert.Kernel.Gen.facts = @Cert.KernelIdeal.k0_part15 F _ Cert.KernelIdeal.Gen.facts := rfl
theorem part16 : @Cert.Kernel.k0_part16 F _ Cert.Kernel.Gen.facts = @Cert.KernelIdeal.k0_part16 F _ Cert.KernelIdeal.Gen.facts := rfl
theorem part17 : @Cert.Kernel.k0_part17 F _ Cert.Kernel.Gen.facts = @Cert.KernelIdeal.k0_part17 F _ Cert.KernelIdeal.Gen.facts := rfl
theorem part18 : @Cert.Kernel.k0_part18 F _ Cert.Kernel.Gen.facts = @Cert.KernelIdeal.k0_part18 F _ Cert.KernelIdeal.Gen.facts := rfl
theorem part19 : @Cert.Kernel.k0_part19 F _ Cert.Kernel.Gen.facts = @Cert.KernelIdeal.k0_part19 F _ Cert.KernelIdeal.Gen.facts := rfl
theorem part20 : @Cert.Kernel.k0_part20 F _ Cert.Kernel.Gen.facts = @Cert.KernelIdeal.k0_part20 F _ Cert.KernelIdeal.Gen.facts := rfl
theorem part21 : @Cert.Kernel.k0_part21 F _ Cert.Kernel.Gen.facts = @Cert.KernelIdeal.k0_part21 F _ Cert.KernelIdeal.Gen.facts := rfl
theorem part22 : @Cert.Kernel.k0_part22 F _ Cert.Kernel.Gen.facts = @Cert.KernelIdeal.k0_part22 F _ Cert.KernelIdeal.Gen.facts := rfl
theorem part23 : @Cert.Kernel.k0_part23 F _ Cert.Kernel.Gen.facts = @Cert.KernelIdeal.k0_part23 F _ Cert.KernelIdeal.Gen.facts := rfl
theorem part24 : @Cert.Kernel.k0_part24 F _ Cert.Kernel.Gen.facts = @Cert.KernelIdeal.k0_part24 F _ Cert.KernelIdeal.Gen.facts := rfl

end Cert.Proof.Same

end
-- ==== Proof.Same.C.lean ====
/-
  The two printed programs have one text: parts 25 to 36 of the SparseCore kernel's body.
-/
module

public import proofs.«01_k».proof.Defs
public import proofs.«01_k».proof.Proof.Gen.Kernel
public import proofs.«01_k».proof.Proof.Gen.KernelIdeal

@[expose] public section

set_option maxRecDepth 16384

noncomputable section

namespace Cert.Proof.Same

open Idealize.ShloMosaic Idealize.SL.Sem

variable {F : FTy → Type} [FloatOps F]

theorem part25 : @Cert.Kernel.k0_part25 F _ Cert.Kernel.Gen.facts = @Cert.KernelIdeal.k0_part25 F _ Cert.KernelIdeal.Gen.facts := rfl
theorem part26 : @Cert.Kernel.k0_part26 F _ Cert.Kernel.Gen.facts = @Cert.KernelIdeal.k0_part26 F _ Cert.KernelIdeal.Gen.facts := rfl
theorem part27 : @Cert.Kernel.k0_part27 F _ Cert.Kernel.Gen.facts = @Cert.KernelIdeal.k0_part27 F _ Cert.KernelIdeal.Gen.facts := rfl
theorem part28 : @Cert.Kernel.k0_part28 F _ Cert.Kernel.Gen.facts = @Cert.KernelIdeal.k0_part28 F _ Cert.KernelIdeal.Gen.facts := rfl
theorem part29 : @Cert.Kernel.k0_part29 F _ Cert.Kernel.Gen.facts = @Cert.KernelIdeal.k0_part29 F _ Cert.KernelIdeal.Gen.facts := rfl
theorem part30 : @Cert.Kernel.k0_part30 F _ Cert.Kernel.Gen.facts = @Cert.KernelIdeal.k0_part30 F _ Cert.KernelIdeal.Gen.facts := rfl
theorem part31 : @Cert.Kernel.k0_part31 F _ Cert.Kernel.Gen.facts = @Cert.KernelIdeal.k0_part31 F _ Cert.KernelIdeal.Gen.facts := rfl
theorem part32 : @Cert.Kernel.k0_part32 F _ Cert.Kernel.Gen.facts = @Cert.KernelIdeal.k0_part32 F _ Cert.KernelIdeal.Gen.facts := rfl
theorem part33 : @Cert.Kernel.k0_part33 F _ Cert.Kernel.Gen.facts = @Cert.KernelIdeal.k0_part33 F _ Cert.KernelIdeal.Gen.facts := rfl
theorem part34 : @Cert.Kernel.k0_part34 F _ Cert.Kernel.Gen.facts = @Cert.KernelIdeal.k0_part34 F _ Cert.KernelIdeal.Gen.facts := rfl
theorem part35 : @Cert.Kernel.k0_part35 F _ Cert.Kernel.Gen.facts = @Cert.KernelIdeal.k0_part35 F _ Cert.KernelIdeal.Gen.facts := rfl
theorem part36 : @Cert.Kernel.k0_part36 F _ Cert.Kernel.Gen.facts = @Cert.KernelIdeal.k0_part36 F _ Cert.KernelIdeal.Gen.facts := rfl

end Cert.Proof.Same

end
-- ==== Proof.Same.D.lean ====
/-
  The two printed programs have one text: parts 37 to 48 of the SparseCore kernel's body.
-/
module

public import proofs.«01_k».proof.Defs
public import proofs.«01_k».proof.Proof.Gen.Kernel
public import proofs.«01_k».proof.Proof.Gen.KernelIdeal

@[expose] public section

set_option maxRecDepth 16384

noncomputable section

namespace Cert.Proof.Same

open Idealize.ShloMosaic Idealize.SL.Sem

variable {F : FTy → Type} [FloatOps F]

theorem part37 : @Cert.Kernel.k0_part37 F _ Cert.Kernel.Gen.facts = @Cert.KernelIdeal.k0_part37 F _ Cert.KernelIdeal.Gen.facts := rfl
theorem part38 : @Cert.Kernel.k0_part38 F _ Cert.Kernel.Gen.facts = @Cert.KernelIdeal.k0_part38 F _ Cert.KernelIdeal.Gen.facts := rfl
theorem part39 : @Cert.Kernel.k0_part39 F _ Cert.Kernel.Gen.facts = @Cert.KernelIdeal.k0_part39 F _ Cert.KernelIdeal.Gen.facts := rfl
theorem part40 : @Cert.Kernel.k0_part40 F _ Cert.Kernel.Gen.facts = @Cert.KernelIdeal.k0_part40 F _ Cert.KernelIdeal.Gen.facts := rfl
theorem part41 : @Cert.Kernel.k0_part41 F _ Cert.Kernel.Gen.facts = @Cert.KernelIdeal.k0_part41 F _ Cert.KernelIdeal.Gen.facts := rfl
theorem part42 : @Cert.Kernel.k0_part42 F _ Cert.Kernel.Gen.facts = @Cert.KernelIdeal.k0_part42 F _ Cert.KernelIdeal.Gen.facts := rfl
theorem part43 : @Cert.Kernel.k0_part43 F _ Cert.Kernel.Gen.facts = @Cert.KernelIdeal.k0_part43 F _ Cert.KernelIdeal.Gen.facts := rfl
theorem part44 : @Cert.Kernel.k0_part44 F _ Cert.Kernel.Gen.facts = @Cert.KernelIdeal.k0_part44 F _ Cert.KernelIdeal.Gen.facts := rfl
theorem part45 : @Cert.Kernel.k0_part45 F _ Cert.Kernel.Gen.facts = @Cert.KernelIdeal.k0_part45 F _ Cert.KernelIdeal.Gen.facts := rfl
theorem part46 : @Cert.Kernel.k0_part46 F _ Cert.Kernel.Gen.facts = @Cert.KernelIdeal.k0_part46 F _ Cert.KernelIdeal.Gen.facts := rfl
theorem part47 : @Cert.Kernel.k0_part47 F _ Cert.Kernel.Gen.facts = @Cert.KernelIdeal.k0_part47 F _ Cert.KernelIdeal.Gen.facts := rfl
theorem part48 : @Cert.Kernel.k0_part48 F _ Cert.Kernel.Gen.facts = @Cert.KernelIdeal.k0_part48 F _ Cert.KernelIdeal.Gen.facts := rfl

end Cert.Proof.Same

end
-- ==== Proof.Same.E.lean ====
/-
  The two printed programs have one text: parts 49 to 60 of the SparseCore kernel's body.
-/
module

public import proofs.«01_k».proof.Defs
public import proofs.«01_k».proof.Proof.Gen.Kernel
public import proofs.«01_k».proof.Proof.Gen.KernelIdeal

@[expose] public section

set_option maxRecDepth 16384

noncomputable section

namespace Cert.Proof.Same

open Idealize.ShloMosaic Idealize.SL.Sem

variable {F : FTy → Type} [FloatOps F]

theorem part49 : @Cert.Kernel.k0_part49 F _ Cert.Kernel.Gen.facts = @Cert.KernelIdeal.k0_part49 F _ Cert.KernelIdeal.Gen.facts := rfl
theorem part50 : @Cert.Kernel.k0_part50 F _ Cert.Kernel.Gen.facts = @Cert.KernelIdeal.k0_part50 F _ Cert.KernelIdeal.Gen.facts := rfl
theorem part51 : @Cert.Kernel.k0_part51 F _ Cert.Kernel.Gen.facts = @Cert.KernelIdeal.k0_part51 F _ Cert.KernelIdeal.Gen.facts := rfl
theorem part52 : @Cert.Kernel.k0_part52 F _ Cert.Kernel.Gen.facts = @Cert.KernelIdeal.k0_part52 F _ Cert.KernelIdeal.Gen.facts := rfl
theorem part53 : @Cert.Kernel.k0_part53 F _ Cert.Kernel.Gen.facts = @Cert.KernelIdeal.k0_part53 F _ Cert.KernelIdeal.Gen.facts := rfl
theorem part54 : @Cert.Kernel.k0_part54 F _ Cert.Kernel.Gen.facts = @Cert.KernelIdeal.k0_part54 F _ Cert.KernelIdeal.Gen.facts := rfl
theorem part55 : @Cert.Kernel.k0_part55 F _ Cert.Kernel.Gen.facts = @Cert.KernelIdeal.k0_part55 F _ Cert.KernelIdeal.Gen.facts := rfl
theorem part56 : @Cert.Kernel.k0_part56 F _ Cert.Kernel.Gen.facts = @Cert.KernelIdeal.k0_part56 F _ Cert.KernelIdeal.Gen.facts := rfl
theorem part57 : @Cert.Kernel.k0_part57 F _ Cert.Kernel.Gen.facts = @Cert.KernelIdeal.k0_part57 F _ Cert.KernelIdeal.Gen.facts := rfl
theorem part58 : @Cert.Kernel.k0_part58 F _ Cert.Kernel.Gen.facts = @Cert.KernelIdeal.k0_part58 F _ Cert.KernelIdeal.Gen.facts := rfl
theorem part59 : @Cert.Kernel.k0_part59 F _ Cert.Kernel.Gen.facts = @Cert.KernelIdeal.k0_part59 F _ Cert.KernelIdeal.Gen.facts := rfl
theorem part60 : @Cert.Kernel.k0_part60 F _ Cert.Kernel.Gen.facts = @Cert.KernelIdeal.k0_part60 F _ Cert.KernelIdeal.Gen.facts := rfl

end Cert.Proof.Same

end
-- ==== Proof.Same.F.lean ====
/-
  The two printed programs have one text: parts 61 to 72 of the SparseCore kernel's body.
-/
module

public import proofs.«01_k».proof.Defs
public import proofs.«01_k».proof.Proof.Gen.Kernel
public import proofs.«01_k».proof.Proof.Gen.KernelIdeal

@[expose] public section

set_option maxRecDepth 16384

noncomputable section

namespace Cert.Proof.Same

open Idealize.ShloMosaic Idealize.SL.Sem

variable {F : FTy → Type} [FloatOps F]

theorem part61 : @Cert.Kernel.k0_part61 F _ Cert.Kernel.Gen.facts = @Cert.KernelIdeal.k0_part61 F _ Cert.KernelIdeal.Gen.facts := rfl
theorem part62 : @Cert.Kernel.k0_part62 F _ Cert.Kernel.Gen.facts = @Cert.KernelIdeal.k0_part62 F _ Cert.KernelIdeal.Gen.facts := rfl
theorem part63 : @Cert.Kernel.k0_part63 F _ Cert.Kernel.Gen.facts = @Cert.KernelIdeal.k0_part63 F _ Cert.KernelIdeal.Gen.facts := rfl
theorem part64 : @Cert.Kernel.k0_part64 F _ Cert.Kernel.Gen.facts = @Cert.KernelIdeal.k0_part64 F _ Cert.KernelIdeal.Gen.facts := rfl
theorem part65 : @Cert.Kernel.k0_part65 F _ Cert.Kernel.Gen.facts = @Cert.KernelIdeal.k0_part65 F _ Cert.KernelIdeal.Gen.facts := rfl
theorem part66 : @Cert.Kernel.k0_part66 F _ Cert.Kernel.Gen.facts = @Cert.KernelIdeal.k0_part66 F _ Cert.KernelIdeal.Gen.facts := rfl
theorem part67 : @Cert.Kernel.k0_part67 F _ Cert.Kernel.Gen.facts = @Cert.KernelIdeal.k0_part67 F _ Cert.KernelIdeal.Gen.facts := rfl
theorem part68 : @Cert.Kernel.k0_part68 F _ Cert.Kernel.Gen.facts = @Cert.KernelIdeal.k0_part68 F _ Cert.KernelIdeal.Gen.facts := rfl
theorem part69 : @Cert.Kernel.k0_part69 F _ Cert.Kernel.Gen.facts = @Cert.KernelIdeal.k0_part69 F _ Cert.KernelIdeal.Gen.facts := rfl
theorem part70 : @Cert.Kernel.k0_part70 F _ Cert.Kernel.Gen.facts = @Cert.KernelIdeal.k0_part70 F _ Cert.KernelIdeal.Gen.facts := rfl
theorem part71 : @Cert.Kernel.k0_part71 F _ Cert.Kernel.Gen.facts = @Cert.KernelIdeal.k0_part71 F _ Cert.KernelIdeal.Gen.facts := rfl
theorem part72 : @Cert.Kernel.k0_part72 F _ Cert.Kernel.Gen.facts = @Cert.KernelIdeal.k0_part72 F _ Cert.KernelIdeal.Gen.facts := rfl

end Cert.Proof.Same

end
-- ==== Proof.Same.Body.lean ====
/-
  The two printed programs have one text: the two kernels' bodies and the table of the bodies.
-/
module

public import proofs.«01_k».proof.Proof.Same.A
public import proofs.«01_k».proof.Proof.Same.B
public import proofs.«01_k».proof.Proof.Same.C
public import proofs.«01_k».proof.Proof.Same.D
public import proofs.«01_k».proof.Proof.Same.E
public import proofs.«01_k».proof.Proof.Same.F

@[expose] public section

set_option maxRecDepth 16384

noncomputable section

namespace Cert.Proof.Same

open Idealize.ShloMosaic Idealize.SL.Sem

variable {F : FTy → Type} [FloatOps F]

theorem body : @Cert.Kernel.cc0__sc_body F _ Cert.Kernel.Gen.facts = @Cert.KernelIdeal.cc0__sc_body F _ Cert.KernelIdeal.Gen.facts := by
  unfold Cert.Kernel.cc0__sc_body Cert.KernelIdeal.cc0__sc_body
  simp only [part51, part66, part67, part68, part69, part70, part71, part72]
  rfl

theorem tc1 : @Cert.Kernel.k1_part1 F _ Cert.Kernel.Gen.facts = @Cert.KernelIdeal.k1_part1 F _ Cert.KernelIdeal.Gen.facts := rfl
theorem tc2 : @Cert.Kernel.k1_part2 F _ Cert.Kernel.Gen.facts = @Cert.KernelIdeal.k1_part2 F _ Cert.KernelIdeal.Gen.facts := rfl
theorem tc3 : @Cert.Kernel.k1_part3 F _ Cert.Kernel.Gen.facts = @Cert.KernelIdeal.k1_part3 F _ Cert.KernelIdeal.Gen.facts := rfl

theorem tcBody : @Cert.Kernel.cc1__tc_body F _ Cert.Kernel.Gen.facts = @Cert.KernelIdeal.cc1__tc_body F _ Cert.KernelIdeal.Gen.facts := by
  unfold Cert.Kernel.cc1__tc_body Cert.KernelIdeal.cc1__tc_body
  simp only [tc1, tc2, tc3]
  rfl

theorem win : Cert.Kernel.win1 = Cert.KernelIdeal.win1 := rfl
theorem labels : Cert.Kernel.Λ₀ = Cert.KernelIdeal.Λ₀ := rfl
theorem pcfgs : @Cert.Kernel.pcfgs F Cert.Kernel.Gen.facts = @Cert.KernelIdeal.pcfgs F Cert.KernelIdeal.Gen.facts := rfl
theorem sc : @Cert.Kernel.sc F Cert.Kernel.Gen.facts = @Cert.KernelIdeal.sc F Cert.KernelIdeal.Gen.facts := rfl

set_option maxHeartbeats 2000000 in
theorem defs0 : @Cert.Kernel.defs₀ F _ Cert.Kernel.Gen.facts = @Cert.KernelIdeal.defs₀ F _ Cert.KernelIdeal.Gen.facts := by
  funext p l a
  match p, l, a with
  | .scVector c s, 0, a =>
    dsimp only [Cert.Kernel.defs₀, Cert.KernelIdeal.defs₀]
    rw [body]
    rfl
  | .tc, 1, (t, s) =>
    dsimp only [Cert.Kernel.defs₀, Cert.KernelIdeal.defs₀]
    rw [tcBody]
    rfl
  | .scVector c s, 1, a => rfl
  | .tc, 0, a => rfl
  | .scScalar c, l, a => rfl

set_option maxHeartbeats 2000000 in
theorem defs : @Cert.Kernel.defs F _ Cert.Kernel.Gen.facts = @Cert.KernelIdeal.defs F _ Cert.KernelIdeal.Gen.facts := by
  unfold Cert.Kernel.defs Cert.KernelIdeal.defs
  rw [defs0]
  rfl

end Cert.Proof.Same

end
-- ==== Proof.Same.Main.lean ====
/-
  The two printed programs have one text: the host's operations around the two kernels, and the threads.
-/
module

public import proofs.«01_k».proof.Proof.Same.Body
public import proofs.«01_k».proof.Proof.Gen.Kernel
public import proofs.«01_k».proof.Proof.Gen.KernelIdeal

@[expose] public section

set_option maxRecDepth 16384

noncomputable section

namespace Cert.Proof.Same

open Idealize.ShloMosaic Idealize.SL.Sem

variable {F : FTy → Type} [FloatOps F]

theorem bind_same {E : Type → Type} {α β : Type} {x x' : Prog E α} {f f' : α → Prog E β} (hx : x = x') (hf : f = f') :
    (x >>= f) = (x' >>= f') := by subst hx; subst hf; rfl

set_option maxHeartbeats 20000000 in
theorem main : @Cert.Kernel.main F _ Cert.Kernel.Gen.facts = @Cert.KernelIdeal.main F _ Cert.KernelIdeal.Gen.facts := by
  funext d
  unfold Cert.Kernel.main Cert.KernelIdeal.main
  refine bind_same rfl (funext fun _ => ?_)
  refine bind_same rfl (funext fun _ => ?_)
  refine bind_same rfl (funext fun _ => ?_)
  iterate 38 refine bind_same rfl (funext fun _ => ?_)
  rfl

set_option maxHeartbeats 20000000 in
theorem threads : @Cert.Kernel.threads F _ Cert.Kernel.Gen.facts = @Cert.KernelIdeal.threads F _ Cert.KernelIdeal.Gen.facts := by
  unfold Cert.Kernel.threads Cert.KernelIdeal.threads
  rw [main]
  rfl

end Cert.Proof.Same

end
-- ==== Proof.Frames.lean ====
/-
  The claims that speak of no value: each program terminates without a fault, leaves its arguments as they were and
  every semaphore at zero.
-/
module

public import proofs.«01_k».proof.Defs
public import proofs.«01_k».proof.Proof.Sc.Range
public import proofs.«01_k».proof.Proof.Same.Main
public import proofs.«01_k».proof.Proof.Gen.ReferenceIdeal
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-- The idealized kernel, for class numbers, edge ends and segments in range. -/
theorem ideal_frame : Cert.quiescent_KernelIdeal (hKernelIdeal := Cert.KernelIdeal.Gen.facts)
    (hPre_in_range := Sc.preFacts) := fun m g hP =>
  (θ_run (Cert.KernelIdeal.defs (F := Ideal)) _ _).mono (fun _ h => h.1)
    (Sc.run_args (F := Ideal) m (fun d => Sc.inRange_of (F := Ideal) (hP d)) g)

/-- The kernel as printed: its text is the idealized one's, read at the machine's floats. -/
theorem kernel_frame : Cert.quiescent_Kernel (hKernel := Cert.Kernel.Gen.facts)
    (hPre_in_range := Sc.preFacts) := by
  intro m g hP
  have h := (θ_run (Cert.KernelIdeal.defs (F := Bits)) _ _).mono (fun _ h => h.1)
    (Sc.run_args (F := Bits) m (fun d => Sc.inRange_of (F := Bits) (hP d)) g)
  rw [Same.defs, Same.threads]
  exact h

/-- The reference, for any arguments. -/
theorem reference_frame : Cert.quiescent_ReferenceIdeal (hReferenceIdeal := Cert.ReferenceIdeal.Gen.facts) := by
  intro m g _
  hlo_run
  · exact fun _ => ⟨trivial, trivial, trivial, trivial⟩
  · exact Idealize.ShloMosaic.sem_eq_zero_of_no_sems (sig := Cert.ReferenceIdeal.sig) (by decide) _

end Cert.Proof

end
-- ==== Proof.Sc.Valid.lean ====
/-
  What the equation's precondition says of the arguments.
-/
module

public import proofs.«01_k».proof.Proof.Sc.Range
public import proofs.«01_k».proof.Pre_valid
public import Idealize.ShloMosaic.Lib.Pipeline.Frame
public import Idealize.ShloMosaic.Lib.Pipeline.FrameTail
public import Idealize.ShloMosaic.Lib.Routing.OpsSet
public import Idealize.ShloMosaic.Lib.StableHlo.ReadAt
public import Idealize.ShloMosaic.Lib.ReduceAll
public import Idealize.ShloMosaic.Lib.Pipeline.FrameBody
public import Idealize.ShloMosaic.Lib.Pipeline.Regions
public import Idealize.ShloMosaic.Lib.Pipeline.ValueKit

@[expose] public section

set_option maxRecDepth 16384

noncomputable section

namespace Cert.Proof.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.TcCoe
open Idealize.ShloMosaic.Pipeline (Dat Cfg Window BodyObligation cellOf)
open Idealize.ShloMosaic.Rounds

variable {F : FTy → Type} [FloatOps F]
instance validFacts : Cert.Pre_valid.Facts where
  bcast_S_S20000 := by decide
  reducesTo_S20000_S_d0 := by decide
  h_S_ := by decide
  slices_S2x40000_S1x40000_0_0 := by decide
  shapeCasts_S1x40000_S40000 := by decide
  bcast_S_S40000 := by decide
  reducesTo_S40000_S_d0 := by decide
  slices_S2x40000_S1x40000_1_0 := by decide
  bcast_S_S20000x4 := by decide
  reducesTo_S20000x4_S_d0_1 := by decide

omit [FloatOps F] in
theorem foldl_ori {ι : Type} (f : ι → BitVec 1) :
    ∀ (l : List ι) (init : BitVec 1), l.foldl (fun r n => IntOp.ori r (f n)) init = 1#1 → init = 1#1 ∨ ∃ n ∈ l, f n = 1#1
  | [], _, h => .inl h
  | a :: l, init, h => by
    obtain h1 | ⟨n, hn, h2⟩ := foldl_ori f l _ h
    · obtain h3 | h3 := IntOp.ori_eq_one.mp h1
      · exact .inl h3
      · exact .inr ⟨a, List.mem_cons_self, h3⟩
    · exact .inr ⟨n, List.mem_cons_of_mem _ hn, h2⟩

/-- The precondition of the value claim: the ranges, the confidences in `[0, 0.95]`, finite coordinates, one noise point at least. -/
structure Valid (x : FVec F S20000x4 .f32) (f : FVec F S20000 .f32) (cl : IVec S20000 32) (ed : IVec S2x40000 32) : Prop extends InRange cl ed where
  f : ∀ n, FloatOps.cmpf .oge (f n) (FloatOps.ofBits .f32 0x00000000#32) = 1#1 ∧ FloatOps.cmpf .ole (f n) (FloatOps.ofBits .f32 0x3F733333#32) = 1#1
  x : ∀ n, FloatOps.cmpf .olt (Host.absf x n) (FloatOps.ofBits .f32 0x7F800000#32) = 1#1
  bkg : ∃ n, cl n = 4294967295#32

theorem valid_of {a0 : FVec F S20000x4 .f32} {a1 : FVec F S20000 .f32} {a2 : IVec S20000 32} {a3 : IVec S2x40000 32}
    (h : Cert.Pre_valid.fn (F := F) a0 a1 a2 a3 = fun _ => 1#1) : Valid a0 a1 a2 a3 := by
  have h0 := congrFun h (fun i => i.elim0)
  unfold Cert.Pre_valid.fn Cert.Pre_valid.fn_part1 Cert.Pre_valid.fn_part2 at h0
  obtain ⟨h1, hb⟩ := IntOp.andi_eq_one.mp h0
  obtain ⟨h2, hx⟩ := IntOp.andi_eq_one.mp h1
  obtain ⟨h3, hf⟩ := IntOp.andi_eq_one.mp h2
  have hr : InRange a2 a3 := inRange_of (F := F) (a0 := a0) (a1 := a1) (funext fun j => (congrArg _ (Subsingleton.elim j _)).trans h3)
  refine ⟨hr, fun n => ?_, fun n => ?_, ?_⟩
  · obtain ⟨p, q⟩ := IntOp.andi_eq_one.mp (Host.reduce_andi_all _ _ _ _ _ hf n)
    exact ⟨p, q⟩
  · exact Host.reduce_andi_all _ _ _ _ _ hx n
  · beta_reduce at hb
    rw [Host.reduce_eq_foldl] at hb
    obtain h | ⟨n, _, h⟩ := foldl_ori _ _ _ hb
    · exact absurd h (by decide)
    · refine ⟨n, ?_⟩
      have h' : BitVec.ofBool (a2 n == 4294967295#32) = 1#1 := h
      revert h'
      cases hh : (a2 n == 4294967295#32)
      · exact fun h => absurd h (by decide)
      · exact fun _ => by simpa using hh

end Cert.Proof.Sc

end
-- ==== Proof.FramesValid.lean ====
/-
  The claims that speak of no value, under the equation's precondition.
-/
module

public import proofs.«01_k».proof.Defs
public import proofs.«01_k».proof.Proof.Sc.Valid
public import proofs.«01_k».proof.Proof.Frames
public import proofs.«01_k».proof.Proof.Gen.ReferenceIdeal
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-- The idealized kernel, under the precondition of the equation. -/
theorem ideal_frame_valid : Cert.quiescent_KernelIdeal_pre_valid (hKernelIdeal := Cert.KernelIdeal.Gen.facts)
    (hPre_valid := Sc.validFacts) := fun m g hP =>
  (θ_run (Cert.KernelIdeal.defs (F := Ideal)) _ _).mono (fun _ h => h.1)
    (Sc.run_args (F := Ideal) m (fun d => (Sc.valid_of (F := Ideal) (hP d)).toInRange) g)

/-- The reference, under the precondition of the equation. -/
theorem reference_frame_valid : Cert.quiescent_ReferenceIdeal_pre_valid
    (hReferenceIdeal := Cert.ReferenceIdeal.Gen.facts) (hPre_valid := Sc.validFacts) :=
  fun m g _ => reference_frame m g trivial

end Cert.Proof

end
-- ==== Proof.Sc.Best.lean ====
/-
  What the SparseCore call's tables hold over the extended reals: of every class the largest confidence, its first row, and the largest confidence at the end of one of its edges.
-/
module

public import proofs.«01_k».proof.Proof.Sc.Range
public import Idealize.ShloMosaic.Lib.Pipeline.Frame
public import Idealize.ShloMosaic.Lib.Pipeline.FrameTail
public import Idealize.ShloMosaic.Lib.Routing.OpsSet
public import Idealize.ShloMosaic.Lib.StableHlo.ReadAt
public import Idealize.ShloMosaic.Lib.ReduceAll
public import Idealize.ShloMosaic.Lib.Pipeline.FrameBody
public import Idealize.ShloMosaic.Lib.Pipeline.Regions
public import Idealize.ShloMosaic.Lib.Pipeline.ValueKit

@[expose] public section

set_option maxRecDepth 16384

noncomputable section

namespace Cert.Proof.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.TcCoe
open Idealize.ShloMosaic.Pipeline (Dat Cfg Window BodyObligation cellOf)
open Idealize.ShloMosaic.Rounds

variable {F : FTy → Type} [FloatOps F]
/-! ## The constants -/

theorem ofB0 : Ideal.ofBits .f32 0x00000000#32 = (0 : EReal) := by simp [Ideal.ofBits, Ideal.ieee]
theorem ofB1 : Ideal.ofBits .f32 0x3F800000#32 = (1 : EReal) := by simp [Ideal.ofBits, Ideal.ieee, -EReal.coe_mul]; norm_num
theorem ofBhalf : Ideal.ofBits .f32 0x3F000000#32 = ((1 / 2 : ℝ) : EReal) := by simp [Ideal.ofBits, Ideal.ieee, -EReal.coe_mul]; norm_num
theorem ofBm2 : Ideal.ofBits .f32 0xC0000000#32 = ((-2 : ℝ) : EReal) := by simp [Ideal.ofBits, Ideal.ieee, -EReal.coe_mul]; norm_num
theorem ofB256 : Ideal.ofBits .f32 0x43800000#32 = ((256 : ℝ) : EReal) := by simp [Ideal.ofBits, Ideal.ieee, -EReal.coe_mul]; norm_num
theorem ofB20000 : Ideal.ofBits .f32 0x469C4000#32 = ((20000 : ℝ) : EReal) := by simp [Ideal.ofBits, Ideal.ieee, -EReal.coe_mul]; norm_num
theorem ofBcap : Ideal.ofBits .f32 0x3F733333#32 = ((15938355 / 16777216 : ℝ) : EReal) := by simp [Ideal.ofBits, Ideal.ieee, -EReal.coe_mul]; norm_num
theorem ofBtop : Ideal.ofBits .f32 0x7F800000#32 = (⊤ : EReal) := by simp [Ideal.ofBits, Ideal.ieee]
theorem ofBbot : Ideal.ofBits .f32 0xFF800000#32 = (⊥ : EReal) := by simp [Ideal.ofBits, Ideal.ieee]

/-! ## The order of the extended reals, as the comparisons read it -/

theorem ogt_iff (a b : EReal) : FloatOps.cmpf (F := Ideal) (φ := .f32) .ogt a b = 1#1 ↔ b < a := by
  show BitVec.ofBool (decide (b < a)) = 1#1 ↔ _
  by_cases h : b < a <;> simp [h]
theorem oeq_iff (a b : EReal) : FloatOps.cmpf (F := Ideal) (φ := .f32) .oeq a b = 1#1 ↔ a = b := by
  show BitVec.ofBool (decide (a = b)) = 1#1 ↔ _
  by_cases h : a = b <;> simp [h]

/-- `v` at `b` is the largest of `g` over `S`, the first of equal ones; `-1` at `0` of none. -/
structure Best (g : ℕ → EReal) (S : Set ℕ) (v : EReal) (b : BitVec 32) : Prop where
  le : ∀ n ∈ S, g n ≤ v
  at' : (S = ∅ ∧ v = -1 ∧ b = 0#32) ∨ (b.toNat ∈ S ∧ g b.toNat = v ∧ ∀ n ∈ S, g n = v → b.toNat ≤ n)

variable {g : ℕ → EReal}

theorem Best.congr {S S' : Set ℕ} {v : EReal} {b : BitVec 32} (h : Best g S v b) (e : S = S') : Best g S' v b := e ▸ h

theorem neg1_lt {a : EReal} (h : 0 ≤ a) : (-1 : EReal) < a := lt_of_lt_of_le (by
  rw [show (-1 : EReal) = ((-1 : ℝ) : EReal) by norm_num]
  exact_mod_cast (by norm_num : (-1 : ℝ) < 0)) h

/-- The better of two, over the union. -/
theorem Best.merge (hg : ∀ n, 0 ≤ g n) {S T : Set ℕ} {v w : EReal} {b c : BitVec 32} (hS : Best g S v b) (hT : Best g T w c)
    (u : Prop) [Decidable u] (hu : u ↔ v < w ∨ (v = w ∧ c.toNat < b.toNat)) :
    Best g (S ∪ T) (if u then w else v) (if u then c else b) := by
  obtain ⟨l1, a1⟩ := hS
  obtain ⟨l2, a2⟩ := hT
  by_cases h : u
  · rw [if_pos h, if_pos h]
    have hvw : v ≤ w := by rcases hu.mp h with h | h; exacts [h.le, h.1.le]
    refine ⟨fun n hn => hn.elim (fun k => (l1 n k).trans hvw) (l2 n), ?_⟩
    rcases a2 with ⟨rfl, rfl, rfl⟩ | ⟨hc, hv, hf⟩
    · exfalso
      rcases a1 with ⟨rfl, rfl, rfl⟩ | ⟨hb, hv, hf⟩
      · simp at hu; exact hu h
      · exact absurd (neg1_lt (hg b.toNat)) (not_lt.mpr (hv ▸ hvw))
    · refine .inr ⟨.inr hc, hv, fun n hn e => hn.elim (fun k => ?_) (fun k => hf n k e)⟩
      rcases hu.mp h with h | h
      · exact absurd (l1 n k) (not_le.mpr (e ▸ h))
      · rcases a1 with ⟨rfl, rfl, rfl⟩ | ⟨hb, hv', hf'⟩
        · exact absurd k (Set.notMem_empty _)
        · exact h.2.le.trans (hf' n k (e.trans h.1.symm))
  · rw [if_neg h, if_neg h]
    have hn := fun k => h (hu.mpr k)
    have hwv : w ≤ v := not_lt.mp fun k => hn (.inl k)
    refine ⟨fun n hn => hn.elim (l1 n) (fun k => (l2 n k).trans hwv), ?_⟩
    rcases a1 with ⟨rfl, rfl, rfl⟩ | ⟨hc, hv, hf⟩
    · rcases a2 with ⟨rfl, rfl, rfl⟩ | ⟨hb, hv, hf⟩
      · exact .inl ⟨by simp, rfl, rfl⟩
      · exact absurd (neg1_lt (hg c.toNat)) (not_lt.mpr (hv ▸ hwv))
    · refine .inr ⟨.inl hc, hv, fun n hn' e => hn'.elim (fun k => hf n k e) (fun k => ?_)⟩
      have hwv' : v = w := le_antisymm (e ▸ l2 n k) hwv
      rcases a2 with ⟨rfl, rfl, rfl⟩ | ⟨hb, hv', hf'⟩
      · exact absurd k (Set.notMem_empty _)
      · exact (not_lt.mp fun q => hn (.inr ⟨hwv', q⟩)).trans (hf' n k (e.trans hwv'))

/-- The same where the second set lies after the first: the strictly larger wins. -/
theorem Best.after (hg : ∀ n, 0 ≤ g n) {S T : Set ℕ} {v w : EReal} {b c : BitVec 32} (hS : Best g S v b) (hT : Best g T w c)
    (hlt : ∀ s ∈ S, ∀ t ∈ T, s < t) : Best g (S ∪ T) (if v < w then w else v) (if v < w then c else b) := by
  refine Best.merge hg hS hT _ ⟨.inl, fun h => h.resolve_right fun ⟨e, q⟩ => ?_⟩
  rcases hS.at' with ⟨rfl, rfl, rfl⟩ | ⟨hb, hv, hf⟩
  · simp at q
  · rcases hT.at' with ⟨rfl, rfl, rfl⟩ | ⟨hc, hv', hf'⟩
    · exact absurd (neg1_lt (hg b.toNat)) (not_lt.mpr (hv.le.trans e.le))
    · exact absurd (hlt _ hb _ hc) (by omega)

theorem Best.single (n : ℕ) (hn : n < 2 ^ 32) : Best g {n} (g n) (BitVec.ofNat 32 n) := by
  have e : (BitVec.ofNat 32 n).toNat = n := by rw [BitVec.toNat_ofNat]; omega
  refine ⟨fun k hk => (congrArg g hk).le, .inr ?_⟩
  rw [e]
  exact ⟨rfl, rfl, fun k hk _ => (show k = n from hk).ge⟩

theorem Best.none : Best g ∅ (-1) 0#32 := ⟨fun n h => absurd h (Set.notMem_empty _), .inl ⟨rfl, rfl, rfl⟩⟩

/-! ## The hits' tables -/

variable (fp : S20480.Idx → Ideal .f32) (ints : S102400.Idx → BitVec 32)

/-- The padded confidences and the bins by row number. -/
def gOf (n : ℕ) : EReal := if h : n < 20480 then fp (i1 n h) else 0
def binAt (n : ℕ) : ℕ := if h : n < 20480 then (binOf (ints (i1 n (by omega)))).toNat else 0

theorem neg1_ideal : (neg1 (F := Ideal)) = (-1 : EReal) := by
  show (Ideal.ofBits .f32 0x00000000#32 - Ideal.ofBits .f32 0x3F800000#32 : EReal) = -1
  rw [ofB0, ofB1, zero_sub]

theorem zero1_ideal : (zero1 (F := Ideal)) = (0 : EReal) := ofB0

theorem hitTab_best (hg : ∀ n, 0 ≤ gOf fp n) (w : Fin 16) (j : S4352.Idx) :
    ∀ (k : ℕ) (hk : k ≤ 80), Best (gOf fp) {n | 1280 * w.val ≤ n ∧ n < 1280 * w.val + 16 * k ∧ n % 16 = (j 0).val / 272 ∧ binAt ints n = (j 0).val % 272}
      (hitTab w (fwin fp w) (ywin ints w) k hk j).1 (hitTab w (fwin fp w) (ywin ints w) k hk j).2
  | 0, _ => by
    have e : {n | 1280 * w.val ≤ n ∧ n < 1280 * w.val + 16 * 0 ∧ n % 16 = (j 0).val / 272 ∧ binAt ints n = (j 0).val % 272} = (∅ : Set ℕ) :=
      Set.eq_empty_of_forall_notMem fun n h => absurd h.1 (by have := h.2.1; omega)
    rw [e]
    show Best _ _ (neg1 (F := Ideal)) 0#32
    rw [neg1_ideal]
    exact Best.none
  | k + 1, hk => by
    have ih := hitTab_best hg w j k (Nat.le_of_succ_le hk)
    have hj : (j 0).val < 4352 := (j 0).isLt
    have hw := w.isLt
    set x := (j 0).val / 272 with hx
    have hx16 : x < 16 := by omega
    have hgn : gOf fp (1280 * w.val + (16 * k + x)) = fwin fp w (i1 (16 * k + x) (by omega)) := by
      unfold gOf; rw [dif_pos (by omega)]; rfl
    have hbn : binAt ints (1280 * w.val + (16 * k + x)) = (binOf (ywin ints w (i1 (16 * k + x) (by omega)))).toNat := by
      unfold binAt; rw [dif_pos (by omega)]; rfl
    rw [show hitTab w (fwin fp w) (ywin ints w) (k + 1) hk j = upd ((binOf (ywin ints w (i1 (16 * k + x) (by omega)))).toNat = (j 0).val % 272)
      (fwin fp w (i1 (16 * k + x) (by omega))) (BitVec.ofNat 32 (1280 * w.val + (16 * k + x))) (hitTab w (fwin fp w) (ywin ints w) k (Nat.le_of_succ_le hk) j) from rfl,
      ← hgn, ← hbn]
    unfold upd
    by_cases hb : binAt ints (1280 * w.val + (16 * k + x)) = (j 0).val % 272
    · have h := (ih.after hg (Best.single (g := gOf fp) (1280 * w.val + (16 * k + x)) (by omega)) (fun s hs t ht => by
        have := hs.2.1; rw [show t = _ from ht]; omega)).congr (S' := {n | 1280 * w.val ≤ n ∧ n < 1280 * w.val + 16 * (k + 1) ∧ n % 16 = x ∧ binAt ints n = (j 0).val % 272}) (by
        ext n
        simp only [Set.mem_union, Set.mem_setOf_eq, Set.mem_singleton_iff]
        constructor
        · rintro (⟨h1, h2, h3, h4⟩ | rfl)
          · exact ⟨h1, by omega, h3, h4⟩
          · exact ⟨by omega, by omega, by omega, hb⟩
        · rintro ⟨h1, h2, h3, h4⟩
          by_cases hlt : n < 1280 * w.val + 16 * k
          · exact .inl ⟨h1, hlt, h3, h4⟩
          · exact .inr (by omega))
      have e : (binAt ints (1280 * w.val + (16 * k + x)) = (j 0).val % 272 ∧ FloatOps.cmpf (F := Ideal) .ogt (gOf fp (1280 * w.val + (16 * k + x)))
          (hitTab w (fwin fp w) (ywin ints w) k (Nat.le_of_succ_le hk) j).1 = 1) ↔ (hitTab w (fwin fp w) (ywin ints w) k (Nat.le_of_succ_le hk) j).1 < gOf fp (1280 * w.val + (16 * k + x)) :=
        ⟨fun h => (ogt_iff _ _).mp h.2, fun h => ⟨hb, (ogt_iff _ _).mpr h⟩⟩
      by_cases hu : (hitTab w (fwin fp w) (ywin ints w) k (Nat.le_of_succ_le hk) j).1 < gOf fp (1280 * w.val + (16 * k + x))
      · rw [if_pos (e.mpr hu)]; rwa [if_pos hu, if_pos hu] at h
      · rw [if_neg (fun q => hu (e.mp q))]; rwa [if_neg hu, if_neg hu] at h
    · rw [if_neg (fun q => hb q.1)]
      refine ih.congr ?_
      ext n
      simp only [Set.mem_setOf_eq]
      constructor
      · rintro ⟨h1, h2, h3, h4⟩
        exact ⟨h1, by omega, h3, h4⟩
      · rintro ⟨h1, h2, h3, h4⟩
        refine ⟨h1, ?_, h3, h4⟩
        by_contra hlt
        exact hb (by rw [show 1280 * w.val + (16 * k + x) = n by omega]; exact h4)

theorem blk_read {α : Type} (T : S4352.Idx → α) (l j : ℕ) (hl : l < 16) (hj : j < 17) (x : S16.Idx) :
    blk T l j hl hj x = T (i1 (272 * l + 16 * j + (x 0).val) (by have hx : (x 0).val < 16 := (x 0).isLt; omega)) := by
  refine congrArg T (funext fun a => Fin.ext ?_)
  obtain rfl : a = 0 := Subsingleton.elim _ _
  show 272 * l + 16 * j + 1 * (x 0).val = 272 * l + 16 * j + (x 0).val
  omega

theorem Best.small {S : Set ℕ} {v : EReal} {b : BitVec 32} (h : Best g S v b) (hS : ∀ n ∈ S, n < 20480) : b.toNat < 20480 := by
  rcases h.at' with ⟨_, _, rfl⟩ | ⟨hb, _⟩
  · decide
  · exact hS _ hb

theorem slt_iff {b c : BitVec 32} (hb : b.toNat < 20480) (hc : c.toNat < 20480) : IntOp.cmpi .slt c b = 1#1 ↔ c.toNat < b.toNat := by
  rw [IntOp.cmpi_slt, BitVec.toInt_eq_toNat_cond, BitVec.toInt_eq_toNat_cond, if_pos (by omega), if_pos (by omega)]
  omega

theorem mergeH_best (hg : ∀ n, 0 ≤ gOf fp n) (w : Fin 16) (j : ℕ) (hj : j < 17) (x : S16.Idx) :
    ∀ (l : ℕ) (hl : l < 16), Best (gOf fp) {n | 1280 * w.val ≤ n ∧ n < 1280 * w.val + 1280 ∧ n % 16 ≤ l ∧ binAt ints n = 16 * j + (x 0).val}
      ((mergeH (hitT fp ints w) (hitG fp ints w) j hj l hl).1 x) ((mergeH (hitT fp ints w) (hitG fp ints w) j hj l hl).2 x) := by
  have hx : (x 0).val < 16 := (x 0).isLt
  have hw := w.isLt
  have lane : ∀ (l : ℕ) (hl : l < 16), Best (gOf fp) {n | 1280 * w.val ≤ n ∧ n < 1280 * w.val + 1280 ∧ n % 16 = l ∧ binAt ints n = 16 * j + (x 0).val}
      (blk (hitT fp ints w) l j hl hj x) (blk (hitG fp ints w) l j hl hj x) := fun l hl => by
    rw [blk_read, blk_read]
    refine (hitTab_best fp ints hg w (i1 (272 * l + 16 * j + (x 0).val) (by omega)) 80 le_rfl).congr ?_
    ext n
    have e1 : (272 * l + 16 * j + (x 0).val) / 272 = l := by omega
    have e2 : (272 * l + 16 * j + (x 0).val) % 272 = 16 * j + (x 0).val := by omega
    simp only [Set.mem_setOf_eq, e1, e2]
  intro l
  induction l with
  | zero =>
    intro hl
    refine (lane 0 hl).congr ?_
    ext n
    simp only [Set.mem_setOf_eq, Nat.le_zero]
  | succ l ih =>
    intro hl
    have h1 := ih (Nat.lt_of_succ_lt hl)
    have h2 := lane (l + 1) hl
    have s1 := h1.small (fun n hn => by have := hn.2.1; omega)
    have s2 := h2.small (fun n hn => by have := hn.2.1; omega)
    have h := (h1.merge hg h2 (IntOp.ori (FloatOps.cmpf (F := Ideal) .ogt (blk (hitT fp ints w) (l + 1) j hl hj x) ((mergeH (hitT fp ints w) (hitG fp ints w) j hj l (Nat.lt_of_succ_lt hl)).1 x))
      (IntOp.andi (FloatOps.cmpf (F := Ideal) .oeq (blk (hitT fp ints w) (l + 1) j hl hj x) ((mergeH (hitT fp ints w) (hitG fp ints w) j hj l (Nat.lt_of_succ_lt hl)).1 x))
        (IntOp.cmpi .slt (blk (hitG fp ints w) (l + 1) j hl hj x) ((mergeH (hitT fp ints w) (hitG fp ints w) j hj l (Nat.lt_of_succ_lt hl)).2 x))) = 1#1) (by
      rw [IntOp.ori_eq_one, IntOp.andi_eq_one, ogt_iff, oeq_iff, slt_iff s1 s2]
      exact or_congr Iff.rfl (and_congr eq_comm Iff.rfl))).congr (S' := {n | 1280 * w.val ≤ n ∧ n < 1280 * w.val + 1280 ∧ n % 16 ≤ l + 1 ∧ binAt ints n = 16 * j + (x 0).val}) (by
      ext n
      simp only [Set.mem_union, Set.mem_setOf_eq]
      constructor
      · rintro (⟨a, b, c, d⟩ | ⟨a, b, c, d⟩) <;> exact ⟨a, b, by omega, d⟩
      · rintro ⟨a, b, c, d⟩
        by_cases q : n % 16 ≤ l
        · exact .inl ⟨a, b, q, d⟩
        · exact .inr ⟨a, b, by omega, d⟩)
    exact h

theorem best_tile (hg : ∀ n, 0 ≤ gOf fp n) (w : Fin 16) (c : ℕ) (hc : c < 272) :
    Best (gOf fp) {n | 1280 * w.val ≤ n ∧ n < 1280 * w.val + 1280 ∧ binAt ints n = c} (bestF fp ints w (i1 c hc)) (bestI fp ints w (i1 c hc)) := by
  refine (mergeH_best fp ints hg w (c / 16) (by omega) (i1 (c % 16) (Nat.mod_lt _ (by decide))) 15 (by decide)).congr ?_
  ext n
  have e : 16 * (c / 16) + c % 16 = c := by omega
  simp only [Set.mem_setOf_eq, e]
  constructor
  · rintro ⟨a, b, _, d⟩; exact ⟨a, b, d⟩
  · rintro ⟨a, b, d⟩; exact ⟨a, b, by omega, d⟩

theorem rowvF_read (A : S16x16.Idx → Ideal .f32) (n : ℕ) (h : n < 16) (x : S16.Idx) : rowvF A n h x = A (i2 n (x 0).val h (x 0).isLt) := by
  unfold rowvF
  pointwise
  refine congrArg A (funext fun a => Fin.ext ?_)
  match a with
  | 0 => simp; rfl
  | 1 => simp; rfl
theorem rowvI_read (A : S16x16.Idx → BitVec 32) (n : ℕ) (h : n < 16) (x : S16.Idx) : rowvI (F := Ideal) A n h x = A (i2 n (x 0).val h (x 0).isLt) := by
  unfold rowvI
  pointwise
  refine congrArg A (funext fun a => Fin.ext ?_)
  match a with
  | 0 => simp; rfl
  | 1 => simp; rfl

/-- A class's largest confidence and its first row. -/
theorem top_best (A : Inp Ideal) (hg : ∀ n, 0 ≤ gOf A.fp n) (s : Fin 16) (x : S16.Idx) :
    Best (gOf A.fp) {n | n < 20480 ∧ binAt A.ints n = 16 * s.val + (x 0).val} (topF A s x) (topI A s x) := by
  have hx : (x 0).val < 16 := (x 0).isLt
  have hs := s.isLt
  have row : ∀ (n : ℕ) (h : n < 16), Best (gOf A.fp) {k | 1280 * n ≤ k ∧ k < 1280 * n + 1280 ∧ binAt A.ints k = 16 * s.val + (x 0).val}
      (rowvF (colW (shF A core0) s) n h x) (rowvI (F := Ideal) (colW (shI A) s) n h x) := fun n h => by
    rw [rowvF_read, rowvI_read]
    exact best_tile A.fp A.ints hg ⟨n, h⟩ (16 * s.val + (x 0).val) (by omega)
  have all : ∀ (n : ℕ) (h : n < 16), Best (gOf A.fp) {k | k < 1280 * n + 1280 ∧ binAt A.ints k = 16 * s.val + (x 0).val}
      (combF (colW (shF A core0) s) n h x) (combI (colW (shF A core0) s) (colW (shI A) s) n h x) := by
    intro n
    induction n with
    | zero =>
      intro h
      refine (row 0 h).congr ?_
      ext k
      simp
    | succ n ih =>
      intro h
      have h1 := ((ih (Nat.lt_of_succ_lt h)).after hg (row (n + 1) h) (fun a ha b hb => by have := ha.1; have := hb.1; omega)).congr
        (S' := {k | k < 1280 * (n + 1) + 1280 ∧ binAt A.ints k = 16 * s.val + (x 0).val}) (by
        ext k
        simp only [Set.mem_union, Set.mem_setOf_eq]
        constructor
        · rintro (⟨a, b⟩ | ⟨a, b, c⟩)
          · exact ⟨by omega, b⟩
          · exact ⟨by omega, c⟩
        · rintro ⟨a, b⟩
          by_cases q : k < 1280 * n + 1280
          · exact .inl ⟨q, b⟩
          · exact .inr ⟨by omega, by omega, b⟩)
      have e := ogt_iff (rowvF (colW (shF A core0) s) (n + 1) h x) (combF (colW (shF A core0) s) n (Nat.lt_of_succ_lt h) x)
      show Best _ _ (if FloatOps.cmpf (F := Ideal) .ogt (rowvF (colW (shF A core0) s) (n + 1) h x) (combF (colW (shF A core0) s) n (Nat.lt_of_succ_lt h) x) = 1#1 then
          rowvF (colW (shF A core0) s) (n + 1) h x else combF (colW (shF A core0) s) n (Nat.lt_of_succ_lt h) x)
        (if FloatOps.cmpf (F := Ideal) .ogt (rowvF (colW (shF A core0) s) (n + 1) h x) (combF (colW (shF A core0) s) n (Nat.lt_of_succ_lt h) x) = 1#1 then
          rowvI (F := Ideal) (colW (shI A) s) (n + 1) h x else combI (colW (shF A core0) s) (colW (shI A) s) n (Nat.lt_of_succ_lt h) x)
      simp only [e]
      exact h1
  exact all 15 (by decide)

/-! ## The edges' table -/

/-- `v` is the largest of `g` over `S`, or `0`. -/
structure Big (g : ℕ → EReal) (S : Set ℕ) (v : EReal) : Prop where
  le : ∀ n ∈ S, g n ≤ v
  nn : 0 ≤ v
  at' : v = 0 ∨ ∃ n ∈ S, g n = v

theorem Big.congr {S S' : Set ℕ} {v : EReal} (h : Big g S v) (e : S = S') : Big g S' v := e ▸ h

theorem Big.merge {S T : Set ℕ} {v w : EReal} (hS : Big g S v) (hT : Big g T w) : Big g (S ∪ T) (max v w) := by
  refine ⟨fun n h => h.elim (fun k => (hS.le n k).trans (le_max_left _ _)) (fun k => (hT.le n k).trans (le_max_right _ _)), hS.nn.trans (le_max_left _ _), ?_⟩
  rcases max_choice v w with e | e <;> rw [e]
  · exact hS.at'.imp_right fun ⟨n, h, k⟩ => ⟨n, .inl h, k⟩
  · exact hT.at'.imp_right fun ⟨n, h, k⟩ => ⟨n, .inr h, k⟩

/-- The confidence of an edge's one end, and its other end, by edge number. -/
def gE (e : ℕ) : EReal := if h : e < 40960 then fp (i1 ((ints (i1 (20480 + e) (by omega))).toNat % 20480) (Nat.mod_lt _ (by decide))) else 0
def jAt (e : ℕ) : ℕ := if h : e < 40960 then (ints (i1 (61440 + e) (by omega))).toNat else 0

theorem edgeTab_big (w : Fin 16) (j : S4352.Idx) :
    ∀ (k : ℕ) (hk : k ≤ 160), Big (gE fp ints) {n | 2560 * w.val ≤ n ∧ n < 2560 * w.val + 16 * k ∧ n % 16 = (j 0).val / 272 ∧ jAt ints n = (j 0).val % 272}
      (edgeTab (F := Ideal) fp (iwin ints w) (jwin ints w) k hk j)
  | 0, _ => by
    show Big _ _ (zero1 (F := Ideal))
    rw [zero1_ideal]
    exact ⟨fun n h => absurd h.1 (by have := h.2.1; omega), le_rfl, .inl rfl⟩
  | k + 1, hk => by
    have ih := edgeTab_big w j k (Nat.le_of_succ_le hk)
    have hj : (j 0).val < 4352 := (j 0).isLt
    have hw := w.isLt
    set x := (j 0).val / 272 with hx
    have hx16 : x < 16 := by omega
    have hgn : gE fp ints (2560 * w.val + (16 * k + x)) = fp (i1 ((iwin ints w (i1 (16 * k + x) (by omega))).toNat % 20480) (Nat.mod_lt _ (by decide))) := by
      unfold gE; rw [dif_pos (by omega)]
      refine congrArg fp (funext fun a => Fin.ext ?_)
      obtain rfl : a = 0 := Subsingleton.elim _ _
      show (ints _).toNat % 20480 = (ints _).toNat % 20480
      refine congrArg (fun i => (ints i).toNat % 20480) (funext fun a => Fin.ext ?_)
      obtain rfl : a = 0 := Subsingleton.elim _ _
      exact (Nat.add_assoc _ _ _).symm
    have hbn : jAt ints (2560 * w.val + (16 * k + x)) = (jwin ints w (i1 (16 * k + x) (by omega))).toNat := by
      unfold jAt; rw [dif_pos (by omega)]
      refine congrArg (fun i => (ints i).toNat) (funext fun a => Fin.ext ?_)
      obtain rfl : a = 0 := Subsingleton.elim _ _
      exact (Nat.add_assoc _ _ _).symm
    rw [show edgeTab (F := Ideal) fp (iwin ints w) (jwin ints w) (k + 1) hk j = if (jwin ints w (i1 (16 * k + x) (by omega))).toNat = (j 0).val % 272
        ∧ FloatOps.cmpf .ogt (fp (i1 ((iwin ints w (i1 (16 * k + x) (by omega))).toNat % 20480) (Nat.mod_lt _ (by decide)))) (edgeTab (F := Ideal) fp (iwin ints w) (jwin ints w) k (Nat.le_of_succ_le hk) j) = 1
        then fp (i1 ((iwin ints w (i1 (16 * k + x) (by omega))).toNat % 20480) (Nat.mod_lt _ (by decide))) else edgeTab (F := Ideal) fp (iwin ints w) (jwin ints w) k (Nat.le_of_succ_le hk) j from rfl,
      ← hgn, ← hbn]
    have stay : ∀ (h : jAt ints (2560 * w.val + (16 * k + x)) = (j 0).val % 272 → gE fp ints (2560 * w.val + (16 * k + x)) ≤ edgeTab (F := Ideal) fp (iwin ints w) (jwin ints w) k (Nat.le_of_succ_le hk) j),
        Big (gE fp ints) {n | 2560 * w.val ≤ n ∧ n < 2560 * w.val + 16 * (k + 1) ∧ n % 16 = x ∧ jAt ints n = (j 0).val % 272} (edgeTab (F := Ideal) fp (iwin ints w) (jwin ints w) k (Nat.le_of_succ_le hk) j) := fun h => by
      refine ⟨?_, ih.nn, ih.at'.imp_right fun ⟨n, ⟨a, b, c, d⟩, e⟩ => ⟨n, ⟨a, by omega, c, d⟩, e⟩⟩
      rintro n ⟨a, b, c, d⟩
      by_cases hlt : n < 2560 * w.val + 16 * k
      · exact ih.le n ⟨a, hlt, c, d⟩
      · obtain rfl : n = 2560 * w.val + (16 * k + x) := by omega
        exact h d
    split
    · rename_i hc
      have hlt := (ogt_iff _ _).mp hc.2
      refine ⟨?_, ih.nn.trans hlt.le, .inr ⟨_, ⟨by omega, by omega, by omega, hc.1⟩, rfl⟩⟩
      rintro n ⟨a, b, c, d⟩
      by_cases hn : n < 2560 * w.val + 16 * k
      · exact (ih.le n ⟨a, hn, c, d⟩).trans hlt.le
      · obtain rfl : n = 2560 * w.val + (16 * k + x) := by omega
        exact le_rfl
    · rename_i hc
      exact stay fun h => not_lt.mp fun q => hc ⟨h, (ogt_iff _ _).mpr q⟩

theorem mergeE_big (w : Fin 16) (j : ℕ) (hj : j < 17) (x : S16.Idx) :
    ∀ (l : ℕ) (hl : l < 16), Big (gE fp ints) {n | 2560 * w.val ≤ n ∧ n < 2560 * w.val + 2560 ∧ n % 16 ≤ l ∧ jAt ints n = 16 * j + (x 0).val}
      (mergeE (edgeT fp ints w) j hj l hl x) := by
  have hx : (x 0).val < 16 := (x 0).isLt
  have lane : ∀ (l : ℕ) (hl : l < 16), Big (gE fp ints) {n | 2560 * w.val ≤ n ∧ n < 2560 * w.val + 2560 ∧ n % 16 = l ∧ jAt ints n = 16 * j + (x 0).val}
      (blk (edgeT fp ints w) l j hl hj x) := fun l hl => by
    rw [blk_read]
    refine (edgeTab_big fp ints w (i1 (272 * l + 16 * j + (x 0).val) (by omega)) 160 le_rfl).congr ?_
    ext n
    have e1 : (272 * l + 16 * j + (x 0).val) / 272 = l := by omega
    have e2 : (272 * l + 16 * j + (x 0).val) % 272 = 16 * j + (x 0).val := by omega
    simp only [Set.mem_setOf_eq, e1, e2]
  intro l
  induction l with
  | zero =>
    intro hl
    refine (lane 0 hl).congr ?_
    ext n
    simp only [Set.mem_setOf_eq, Nat.le_zero]
  | succ l ih =>
    intro hl
    refine ((ih (Nat.lt_of_succ_lt hl)).merge (lane (l + 1) hl)).congr ?_
    ext n
    simp only [Set.mem_union, Set.mem_setOf_eq]
    constructor
    · rintro (⟨a, b, c, d⟩ | ⟨a, b, c, d⟩) <;> exact ⟨a, b, by omega, d⟩
    · rintro ⟨a, b, c, d⟩
      by_cases q : n % 16 ≤ l
      · exact .inl ⟨a, b, q, d⟩
      · exact .inr ⟨a, b, by omega, d⟩

theorem big_tile (w : Fin 16) (c : ℕ) (hc : c < 272) :
    Big (gE fp ints) {n | 2560 * w.val ≤ n ∧ n < 2560 * w.val + 2560 ∧ jAt ints n = c} (edgeBest fp ints w (i1 c hc)) := by
  refine (mergeE_big fp ints w (c / 16) (by omega) (i1 (c % 16) (Nat.mod_lt _ (by decide))) 15 (by decide)).congr ?_
  ext n
  have e : 16 * (c / 16) + c % 16 = c := by omega
  simp only [Set.mem_setOf_eq, e]
  constructor
  · rintro ⟨a, b, _, d⟩; exact ⟨a, b, d⟩
  · rintro ⟨a, b, d⟩; exact ⟨a, b, by omega, d⟩

/-- A class's largest edge, or `0`. -/
theorem top_big (A : Inp Ideal) (s : Fin 16) (x : S16.Idx) :
    Big (gE A.fp A.ints) {n | n < 40960 ∧ jAt A.ints n = 16 * s.val + (x 0).val} (topE A s x) := by
  have hx : (x 0).val < 16 := (x 0).isLt
  have hs := s.isLt
  have row : ∀ (n : ℕ) (h : n < 16), Big (gE A.fp A.ints) {k | 2560 * n ≤ k ∧ k < 2560 * n + 2560 ∧ jAt A.ints k = 16 * s.val + (x 0).val}
      (rowvF (colW (shF A core1) s) n h x) := fun n h => by
    rw [rowvF_read]
    exact big_tile A.fp A.ints ⟨n, h⟩ (16 * s.val + (x 0).val) (by omega)
  have all : ∀ (n : ℕ) (h : n < 16), Big (gE A.fp A.ints) {k | k < 2560 * n + 2560 ∧ jAt A.ints k = 16 * s.val + (x 0).val}
      (combE (colW (shF A core1) s) n h x) := by
    intro n
    induction n with
    | zero =>
      intro h
      refine (row 0 h).congr ?_
      ext k
      simp
    | succ n ih =>
      intro h
      refine ((ih (Nat.lt_of_succ_lt h)).merge (row (n + 1) h)).congr ?_
      ext k
      simp only [Set.mem_union, Set.mem_setOf_eq]
      constructor
      · rintro (⟨a, b⟩ | ⟨a, b, c⟩)
        · exact ⟨by omega, b⟩
        · exact ⟨by omega, c⟩
      · rintro ⟨a, b⟩
        by_cases q : k < 2560 * n + 2560
        · exact .inl ⟨q, b⟩
        · exact .inr ⟨by omega, by omega, b⟩
  exact all 15 (by decide)

end Cert.Proof.Sc

end
-- ==== Proof.Sc.TcVal.lean ====
/-
  What the TensorCore call adds to its three words and stores, read over the extended reals as plain sums.
-/
module

public import proofs.«01_k».proof.Proof.Sc.Best
public import Idealize.ShloMosaic.Lib.Pipeline.Frame
public import Idealize.ShloMosaic.Lib.Pipeline.FrameTail
public import Idealize.ShloMosaic.Lib.Routing.OpsSet
public import Idealize.ShloMosaic.Lib.StableHlo.ReadAt
public import Idealize.ShloMosaic.Lib.ReduceAll
public import Idealize.ShloMosaic.Lib.Pipeline.FrameBody
public import Idealize.ShloMosaic.Lib.Pipeline.Regions
public import Idealize.ShloMosaic.Lib.Pipeline.ValueKit

@[expose] public section

set_option maxRecDepth 16384

noncomputable section

namespace Cert.Proof.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.TcCoe
open Idealize.ShloMosaic.Pipeline (Dat Cfg Window BodyObligation cellOf)
open Idealize.ShloMosaic.Rounds
open Idealize.ShloMosaic.ValueIdx (contrEquiv1 contrEquiv1_symm_val)

/-! ## The TensorCore call's arithmetic, read over the extended reals -/

/-- `arctanh(f)² + ½` as the TensorCore computes it: the argument clipped, the logarithm of a quotient halved. -/
def qq (f : EReal) : EReal :=
  let c := min (Ideal.ofBits .f32 0x3F733333#32) (max (Ideal.ofBits .f32 0x00000000#32) f)
  let a := Ideal.ofBits .f32 0x3F000000#32 * Ideal.log (Ideal.div (Ideal.ofBits .f32 0x3F800000#32 + c) (Ideal.ofBits .f32 0x3F800000#32 - c))
  a * a + Ideal.ofBits .f32 0x3F000000#32

/-- The squared distance of a point and a centre, as the product of the two widened matrices gives it. -/
def dst (x : Vec Ideal S16x4096 .f32) (xa : Vec Ideal S16x256 .f32) (i : Fin 4096) (k : Fin 256) : EReal :=
  (∑ r : Fin 16, x (ix2 r i) * (Ideal.ofBits .f32 0xC0000000#32 * xa (ix2 r k)))
    + (∑ r : Fin 16, x (ix2 r i) * x (ix2 r i)) * (Ideal.ofBits .f32 0x00000000#32 + Ideal.ofBits .f32 0x3F800000#32)
    + (Ideal.ofBits .f32 0x00000000#32 + Ideal.ofBits .f32 0x3F800000#32) * (∑ r : Fin 16, xa (ix2 r k) * xa (ix2 r k))

theorem cat18 {N : ℕ} {α : Type} (x : (⟨2, ![16, N]⟩ : Shape).Idx → α) (y z : (⟨2, ![1, N]⟩ : Shape).Idx → α)
    (h : Shape.Concatenates [⟨2, ![16, N]⟩, ⟨2, ![1, N]⟩, ⟨2, ![1, N]⟩] ⟨2, ![18, N]⟩ 0) (r : Fin 18) (i : Fin N) :
    concatenate ⟨2, ![18, N]⟩ 0 [⟨⟨2, ![16, N]⟩, x⟩, ⟨⟨2, ![1, N]⟩, y⟩, ⟨⟨2, ![1, N]⟩, z⟩] h (ix2 r i)
      = if hr : r.val < 16 then x (ix2 ⟨r.val, hr⟩ i) else if r.val < 17 then y (ix2 0 i) else z (ix2 0 i) := by
  rw [concatenate_apply]
  pointwise
  have hr := r.isLt
  split
  · refine congrArg x ?_
    refine funext fun a => Fin.ext ?_
    match a with
    | 0 => rfl
    | 1 => rfl
  · split
    · rename_i h1 h2
      rw [if_pos (show r.val < 17 by have : (ix2 r i 0).val = r.val := rfl; omega)]; refine congrArg y ?_
      refine funext fun a => Fin.ext ?_
      match a with
      | 0 => have := h2; have : (ix2 r i 0).val = r.val := rfl; simp
      | 1 => rfl
    · rename_i h1 h2
      rw [if_neg (show ¬ r.val < 17 by have : (ix2 r i 0).val = r.val := rfl; omega)]; refine congrArg z ?_
      refine funext fun a => Fin.ext ?_
      match a with
      | 0 => have : (ix2 r i 0).val = r.val := rfl; simp
      | 1 => rfl

theorem mm_apply (l : FVec Ideal S18x4096 .f32) (r : FVec Ideal S18x256 .f32) (i : Fin 4096) (k : Fin 256) :
    FloatOps.matmul dot_S18x4096_S18x256_S4096x256_0_0_1_1_n_n none l r (constant S4096x256 .f32 0x00000000#32) (ix2 i k)
      = ∑ c : Fin 18, l (ix2 c i) * r (ix2 c k) := by
  rw [Ideal.matmul_constant_zero_apply, ← Equiv.sum_comp (contrEquiv1 dot_S18x4096_S18x256_S4096x256_0_0_1_1_n_n 18 rfl rfl).symm]
  refine Finset.sum_congr rfl fun c _ => ?_
  have hk := contrEquiv1_symm_val dot_S18x4096_S18x256_S4096x256_0_0_1_1_n_n 18 rfl rfl c
  congr 1
  · refine congrArg l ?_
    refine funext fun a => Fin.ext ?_
    match a with
    | 0 => exact hk
    | 1 => rfl
  · refine congrArg r ?_
    refine funext fun a => Fin.ext ?_
    match a with
    | 0 => exact hk
    | 1 => rfl

theorem ix3_eta {N : ℕ} (i : (⟨3, ![1, 1, N]⟩ : Shape).Idx) : (Idealize.ShloMosaic.ix3 0 0 (i 2) : (⟨3, ![1, 1, N]⟩ : Shape).Idx) = i := by
  refine funext fun a => ?_
  match a with
  | 0 => exact Subsingleton.elim (α := Fin 1) _ _
  | 1 => exact Subsingleton.elim (α := Fin 1) _ _
  | 2 => rfl

theorem total256 (v : FVec Ideal S1x1x256 .f32) (h hφ hacc j) :
    multiReduction .add [1, 2] S1 v 0x00000000#32 h hφ hacc j = ∑ k : Fin 256, v (Idealize.ShloMosaic.ix3 0 0 k) := by
  rw [Ideal.multiReduction_add_total v _ h (by decide)]
  refine Fintype.sum_equiv ⟨fun i => i 2, fun k => Idealize.ShloMosaic.ix3 0 0 k, fun i => ix3_eta i, fun k => rfl⟩ _ _ fun i => congrArg v (ix3_eta i).symm

theorem total4096 (v : FVec Ideal S1x1x4096 .f32) (h hφ hacc j) :
    multiReduction .add [1, 2] S1 v 0x00000000#32 h hφ hacc j = ∑ k : Fin 4096, v (Idealize.ShloMosaic.ix3 0 0 k) := by
  rw [Ideal.multiReduction_add_total v _ h (by decide)]
  refine Fintype.sum_equiv ⟨fun i => i 2, fun k => Idealize.ShloMosaic.ix3 0 0 k, fun i => ix3_eta i, fun k => rfl⟩ _ _ fun i => congrArg v (ix3_eta i).symm

theorem col256 (v : FVec Ideal S16x256 .f32) (h hφ hacc) (k : Fin 256) :
    multiReduction .add [0] S256 v 0x00000000#32 h hφ hacc (ix1 k) = ∑ r : Fin 16, v (ix2 r k) := by
  rw [Ideal.multiReduction_add_single v _ h]
  refine Finset.sum_congr rfl fun r _ => congrArg v ?_
  refine funext fun a => Fin.ext ?_
  match a with
  | 0 => rfl
  | 1 => rfl

theorem col4096 (v : FVec Ideal S16x4096 .f32) (h hφ hacc) (k : Fin 4096) :
    multiReduction .add [0] S4096 v 0x00000000#32 h hφ hacc (ix1 k) = ∑ r : Fin 16, v (ix2 r k) := by
  rw [Ideal.multiReduction_add_single v _ h]
  refine Finset.sum_congr rfl fun r _ => congrArg v ?_
  refine funext fun a => Fin.ext ?_
  match a with
  | 0 => rfl
  | 1 => rfl

theorem colBig (v : FVec Ideal S4096x256 .f32) (h hφ hacc) (k : Fin 256) :
    multiReduction .add [0] S256 v 0x00000000#32 h hφ hacc (ix1 k) = ∑ r : Fin 4096, v (ix2 r k) := by
  rw [Ideal.multiReduction_add_single v _ h]
  refine Finset.sum_congr rfl fun r _ => congrArg v ?_
  refine funext fun a => Fin.ext ?_
  match a with
  | 0 => rfl
  | 1 => rfl

theorem ofb {n : ℕ} (a b : BitVec n) : BitVec.ofBool (a == b) = 1#1 ↔ a = b := by
  by_cases h : a = b
  · simp [h]
  · have e : (a == b) = false := by simpa using h
    rw [e]; simp [h]

theorem pay9_apply (fa : Vec Ideal S1x256 .f32) (k : Fin 256) : k1_pay9 (F := Ideal) fa (ix2 0 k) = qq (fa (ix2 0 k)) := by
  have e : k1_pay7 (F := Ideal) fa (ix2 0 k) = fa (ix2 0 k) := by unfold k1_pay7; pointwise
  unfold k1_pay9
  show qq (k1_pay7 (F := Ideal) fa (ix2 0 k)) = _
  rw [e]

theorem pay10_apply (fa : Vec Ideal S1x256 .f32) (k : Fin 256) :
    k1_pay10 (F := Ideal) (k1_pay8 fa) (k1_pay9 fa) (Scalar.ofBits .f32 0x00000000#32) (ix2 0 k)
      = if fa (ix2 0 k) < 0 then 0 else qq (fa (ix2 0 k)) := by
  have e : k1_pay7 (F := Ideal) fa (ix2 0 k) = fa (ix2 0 k) := by unfold k1_pay7; pointwise
  unfold k1_pay10
  show (if BitVec.ofBool (decide (k1_pay7 (F := Ideal) fa (ix2 0 k) < Ideal.ofBits .f32 0x00000000#32)) = 1#1 then Ideal.ofBits .f32 0x00000000#32
    else k1_pay9 (F := Ideal) fa (ix2 0 k)) = _
  rw [pay9_apply, e, ofB0]
  by_cases h : fa (ix2 0 k) < 0
  · rw [if_pos h, if_pos (by simp [h])]
  · rw [if_neg h, if_neg (by simp [h])]

theorem pay4_apply (f : Vec Ideal S1x1x4096 .f32) (i : Fin 4096) : k1_pay4 (F := Ideal) f (ix2 0 i) = f (Idealize.ShloMosaic.ix3 0 0 i) := by
  unfold k1_pay4; pointwise
theorem pay5_apply (y : Vec Ideal S1x1x4096 .i32) (i : Fin 4096) : k1_pay5 (F := Ideal) y (ix2 0 i) = y (Idealize.ShloMosaic.ix3 0 0 i) := by
  unfold k1_pay5; pointwise
theorem pay2_eq (x : Vec Ideal S16x4096 .f32) : k1_pay2 (F := Ideal) x = x := by unfold k1_pay2; funext ι; pointwise
theorem pay3_eq (x : Vec Ideal S4096x1 .i32) : k1_pay3 (F := Ideal) x = x := by unfold k1_pay3; funext ι; pointwise
theorem pay6_whole (x : Vec Ideal S16x256 .f32) : k1_pay6 (F := Ideal) x = x := by unfold k1_pay6; funext ι; pointwise

/-- The potential of a centre at a point. -/
def pot (x : Vec Ideal S16x4096 .f32) (y : Vec Ideal S4096x1 .i32) (xa : Vec Ideal S16x256 .f32) (i : Fin 4096) (k : Fin 256) : EReal :=
  if y (ix2 i 0) = BitVec.ofNat 32 k.val then dst x xa i k
  else max (Ideal.ofBits .f32 0x3F800000#32 - dst x xa i k) (Ideal.ofBits .f32 0x00000000#32)

theorem pay11_apply (x : Vec Ideal S16x4096 .f32) (y : Vec Ideal S4096x1 .i32) (xa : Vec Ideal S16x256 .f32) (i : Fin 4096) (k : Fin 256) :
    k1_pay11 (F := Ideal) x y xa (ix2 i k) = pot x y xa i k := by
  have e : ∀ (l : FVec Ideal S18x4096 .f32) (r : FVec Ideal S18x256 .f32)
      (hl : ∀ c : Fin 18, l (ix2 c i) = if hr : c.val < 16 then x (ix2 ⟨c.val, hr⟩ i) else if c.val < 17 then ∑ r : Fin 16, x (ix2 r i) * x (ix2 r i) else (Ideal.ofBits .f32 0x00000000#32 + Ideal.ofBits .f32 0x3F800000#32))
      (hr : ∀ c : Fin 18, r (ix2 c k) = if hr : c.val < 16 then Ideal.ofBits .f32 0xC0000000#32 * xa (ix2 ⟨c.val, hr⟩ k) else if c.val < 17 then (Ideal.ofBits .f32 0x00000000#32 + Ideal.ofBits .f32 0x3F800000#32) else ∑ r : Fin 16, xa (ix2 r k) * xa (ix2 r k)),
      FloatOps.matmul dot_S18x4096_S18x256_S4096x256_0_0_1_1_n_n none l r (constant S4096x256 .f32 0x00000000#32) (ix2 i k) = dst x xa i k := by
    intro l r hl hr
    rw [mm_apply, Fin.sum_univ_castSucc, Fin.sum_univ_castSucc]
    simp only [hl, hr]
    rfl
  unfold k1_pay11
  simp only []
  show (if BitVec.ofBool (broadcastTo S4096x256 y broadcasts_S4096x1_S4096x256 (ix2 i k) == iota .tc S4096x256 32 [1] iota_S4096x256_d1_w32 (ix2 i k)) = 1#1
    then FloatOps.matmul dot_S18x4096_S18x256_S4096x256_0_0_1_1_n_n none _ _ (constant S4096x256 .f32 0x00000000#32) (ix2 i k)
    else max (Ideal.ofBits .f32 0x3F800000#32 - FloatOps.matmul dot_S18x4096_S18x256_S4096x256_0_0_1_1_n_n none _ _ (constant S4096x256 .f32 0x00000000#32) (ix2 i k)) (Ideal.ofBits .f32 0x00000000#32)) = _
  rw [e]
  · unfold pot
    have h1 : broadcastTo S4096x256 y broadcasts_S4096x1_S4096x256 (ix2 i k) = y (ix2 i 0) := by pointwise
    have h2 : iota .tc S4096x256 32 [1] iota_S4096x256_d1_w32 (ix2 i k) = BitVec.ofNat 32 k.val := by pointwise
    rw [h1, h2]
    by_cases h : y (ix2 i 0) = BitVec.ofNat 32 k.val
    · rw [if_pos h, if_pos ((ofb _ _).mpr h)]
    · rw [if_neg h, if_neg (fun e => h ((ofb _ _).mp e))]
  · intro c
    rw [cat18]
    split
    · rfl
    · split
      · rw [show ∀ v : FVec Ideal S4096 .f32, shapeCast S1x4096 v shapeCasts_S4096_S1x4096 (ix2 0 i) = v (ix1 i) from fun v => by pointwise]
        exact col4096 _ _ _ _ _
      · rfl
  · intro c
    rw [cat18]
    split
    · rfl
    · split
      · rfl
      · rw [show ∀ v : FVec Ideal S256 .f32, shapeCast S1x256 v shapeCasts_S256_S1x256 (ix2 0 k) = v (ix1 k) from fun v => by pointwise]
        exact col256 _ _ _ _ _

/-- What a point's block adds to the first word, -/
theorem tc0_apply (x : Vec Ideal S16x4096 .f32) (y : Vec Ideal S4096x1 .i32) (f : Vec Ideal S1x1x4096 .f32) (y' : Vec Ideal S1x1x4096 .i32)
    (xa : Vec Ideal S16x256 .f32) (fa : Vec Ideal S1x256 .f32) (z : EReal) :
    tc0 (F := Ideal) x y f y' xa fa z = z + ∑ k : Fin 256, (∑ i : Fin 4096, pot x y xa i k * (if y' (Idealize.ShloMosaic.ix3 0 0 i) = 4294967294#32 then 0 else qq (f (Idealize.ShloMosaic.ix3 0 0 i))))
      * (if fa (ix2 0 k) < 0 then 0 else qq (fa (ix2 0 k))) := by
  unfold tc0 k1_pay15
  simp only []
  show z + shapeCast S1x1x1 _ shapeCasts_S1_S1x1x1 _ = _
  rw [show ∀ v : FVec Ideal S1 .f32, shapeCast S1x1x1 v shapeCasts_S1_S1x1x1 (fun a => ⟨(![0, 0, 0] : Fin 3 → ℕ) a, inpos_S1x1x1_p0_0_0 a⟩) = v (ix1 0) from fun v => by pointwise]
  refine congrArg (z + ·) ((total256 _ _ _ _ _).trans (Finset.sum_congr rfl fun k _ => ?_))
  rw [show ∀ v : FVec Ideal S1x256 .f32, shapeCast S1x1x256 v shapeCasts_S1x256_S1x1x256 (Idealize.ShloMosaic.ix3 0 0 k) = v (ix2 0 k) from fun v => by pointwise]
  show shapeCast S1x256 _ shapeCasts_S256_S1x256 (ix2 0 k) * k1_pay10 (F := Ideal) _ _ _ (ix2 0 k) = _
  rw [pay10_apply, show ∀ v : FVec Ideal S256 .f32, shapeCast S1x256 v shapeCasts_S256_S1x256 (ix2 0 k) = v (ix1 k) from fun v => by pointwise]
  refine congrArg (fun u : EReal => u * _) ((colBig _ _ _ _ _).trans (Finset.sum_congr rfl fun i _ => ?_))
  show k1_pay11 (F := Ideal) _ _ _ (ix2 i k) * broadcastTo S4096x256 _ broadcasts_S4096x1_S4096x256 (ix2 i k) = _
  rw [pay11_apply, pay2_eq, pay3_eq, pay6_whole]
  refine congrArg (fun u : EReal => pot x y xa i k * u) ?_
  rw [show ∀ v : FVec Ideal S1x4096 .f32, broadcastTo S4096x256 (shapeCast S4096x1 v shapeCasts_S1x4096_S4096x1) broadcasts_S4096x1_S4096x256 (ix2 i k) = v (ix2 0 i) from fun v => by pointwise]
  show (if BitVec.ofBool (k1_pay5 (F := Ideal) y' (ix2 0 i) == 4294967294#32) = 1#1 then Ideal.ofBits .f32 0x00000000#32 else qq (k1_pay4 (F := Ideal) f (ix2 0 i))) = _
  rw [pay4_apply, pay5_apply, ofB0]
  by_cases h : y' (Idealize.ShloMosaic.ix3 0 0 i) = 4294967294#32
  · rw [if_pos h, if_pos ((ofb _ _).mpr h)]
  · rw [if_neg h, if_neg (fun e => h ((ofb _ _).mp e))]

/-- to the second, -/
theorem tc1_apply (f : Vec Ideal S1x1x4096 .f32) (y' : Vec Ideal S1x1x4096 .i32) (z : EReal) :
    tc1 (F := Ideal) f y' z = z + ∑ i : Fin 4096, if y' (Idealize.ShloMosaic.ix3 0 0 i) = 4294967295#32 then f (Idealize.ShloMosaic.ix3 0 0 i) else 0 := by
  unfold tc1 k1_pay16
  simp only []
  show z + shapeCast S1x1x1 _ shapeCasts_S1_S1x1x1 _ = _
  rw [show ∀ v : FVec Ideal S1 .f32, shapeCast S1x1x1 v shapeCasts_S1_S1x1x1 (fun a => ⟨(![0, 0, 0] : Fin 3 → ℕ) a, inpos_S1x1x1_p0_0_0 a⟩) = v (ix1 0) from fun v => by pointwise]
  refine congrArg (z + ·) ((total4096 _ _ _ _ _).trans (Finset.sum_congr rfl fun k _ => ?_))
  rw [show ∀ v : FVec Ideal S1x4096 .f32, shapeCast S1x1x4096 v shapeCasts_S1x4096_S1x1x4096 (Idealize.ShloMosaic.ix3 0 0 k) = v (ix2 0 k) from fun v => by pointwise]
  show (if BitVec.ofBool (k1_pay5 (F := Ideal) y' (ix2 0 k) == 4294967295#32) = 1#1 then k1_pay4 (F := Ideal) f (ix2 0 k) else Ideal.ofBits .f32 0x00000000#32) = _
  rw [pay4_apply, pay5_apply, ofB0]
  by_cases h : y' (Idealize.ShloMosaic.ix3 0 0 k) = 4294967295#32
  · rw [if_pos h, if_pos ((ofb _ _).mpr h)]
  · rw [if_neg h, if_neg (fun e => h ((ofb _ _).mp e))]

/-- to the third; -/
theorem tc2_apply (y' : Vec Ideal S1x1x4096 .i32) (z : EReal) :
    tc2 (F := Ideal) y' z = z + ∑ i : Fin 4096, if y' (Idealize.ShloMosaic.ix3 0 0 i) = 4294967295#32 then (1 : EReal) else 0 := by
  unfold tc2 k1_pay17
  simp only []
  show z + shapeCast S1x1x1 _ shapeCasts_S1_S1x1x1 _ = _
  rw [show ∀ v : FVec Ideal S1 .f32, shapeCast S1x1x1 v shapeCasts_S1_S1x1x1 (fun a => ⟨(![0, 0, 0] : Fin 3 → ℕ) a, inpos_S1x1x1_p0_0_0 a⟩) = v (ix1 0) from fun v => by pointwise]
  refine congrArg (z + ·) ((total4096 _ _ _ _ _).trans (Finset.sum_congr rfl fun k _ => ?_))
  rw [show ∀ v : FVec Ideal S1x4096 .f32, shapeCast S1x1x4096 v shapeCasts_S1x4096_S1x1x4096 (Idealize.ShloMosaic.ix3 0 0 k) = v (ix2 0 k) from fun v => by pointwise]
  show (((BitVec.zeroExtend 32 (BitVec.ofBool (k1_pay5 (F := Ideal) y' (ix2 0 k) == 4294967295#32))).toInt : ℝ) : EReal) = _
  rw [pay5_apply]
  by_cases h : y' (Idealize.ShloMosaic.ix3 0 0 k) = 4294967295#32
  · rw [if_pos h, (ofb _ _).mpr h]; simp
  · rw [if_neg h, show (y' (Idealize.ShloMosaic.ix3 0 0 k) == 4294967295#32) = false from by simpa using h]; simp

/-- and what the last point stores. -/
theorem tcOut_apply (fc : Vec Ideal S1x256 .f32) (a0 a1 a2 : EReal) (j : S1x1.Idx) :
    tcOut (F := Ideal) fc a0 a1 a2 j = ((1 - Ideal.div (∑ k : Fin 256, fc (ix2 0 k)) ((256 : ℝ) : EReal)) + Ideal.div (1 * a1) a2)
      + Ideal.div a0 ((20000 : ℝ) : EReal) := by
  unfold tcOut k1_pay1
  simp only []
  show Ideal.ofBits .f32 0x00000000#32 + (((Ideal.ofBits .f32 0x3F800000#32 - Ideal.div (shapeCast S1x1x1 _ shapeCasts_S1_S1x1x1 _) (Ideal.ofBits .f32 0x43800000#32))
    + Ideal.div (Ideal.ofBits .f32 0x3F800000#32 * a1) a2) + Ideal.div a0 (Ideal.ofBits .f32 0x469C4000#32)) = _
  rw [show ∀ v : FVec Ideal S1 .f32, shapeCast S1x1x1 v shapeCasts_S1_S1x1x1 (fun a => ⟨(![0, 0, 0] : Fin 3 → ℕ) a, inpos_S1x1x1_p0_0_0 a⟩) = v (ix1 0) from fun v => by pointwise]
  have e := total256 (shapeCast S1x1x256 (shapeCast S1x256 fc shapeCasts_S1x256_S1x256) shapeCasts_S1x256_S1x1x256) reduces_S1x1x256_S1 (.inl rfl) rfl (ix1 0)
  simp only [show ∀ (v : FVec Ideal S1x256 .f32) k, shapeCast S1x1x256 v shapeCasts_S1x256_S1x1x256 (Idealize.ShloMosaic.ix3 0 0 k) = v (ix2 0 k) from fun v k => by pointwise,
    show ∀ (v : FVec Ideal S1x256 .f32) (k : Fin 256), shapeCast S1x256 v shapeCasts_S1x256_S1x256 (ix2 0 k) = v (ix2 0 k) from fun v k => by pointwise] at e
  refine (congrArg (fun u => Ideal.ofBits .f32 0x00000000#32 + (((Ideal.ofBits .f32 0x3F800000#32 - Ideal.div u (Ideal.ofBits .f32 0x43800000#32))
    + Ideal.div (Ideal.ofBits .f32 0x3F800000#32 * a1) a2) + Ideal.div a0 (Ideal.ofBits .f32 0x469C4000#32))) e).trans ?_
  simp only [ofB0, ofB1, ofB256, ofB20000, zero_add]

end Cert.Proof.Sc

end
-- ==== Proof.Sc.Blocks.lean ====
/-
  What each window of the TensorCore call reads, position by position.
-/
module

public import proofs.«01_k».proof.Proof.Sc.TcVal
public import Idealize.ShloMosaic.Lib.Pipeline.Frame
public import Idealize.ShloMosaic.Lib.Pipeline.FrameTail
public import Idealize.ShloMosaic.Lib.Routing.OpsSet
public import Idealize.ShloMosaic.Lib.StableHlo.ReadAt
public import Idealize.ShloMosaic.Lib.ReduceAll
public import Idealize.ShloMosaic.Lib.Pipeline.FrameBody
public import Idealize.ShloMosaic.Lib.Pipeline.Regions
public import Idealize.ShloMosaic.Lib.Pipeline.ValueKit

@[expose] public section

set_option maxRecDepth 16384

noncomputable section

namespace Cert.Proof.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.TcCoe
open Idealize.ShloMosaic.Pipeline (Dat Cfg Window BodyObligation cellOf)
open Idealize.ShloMosaic.Rounds
open Idealize.ShloMosaic.ValueIdx (contrEquiv1 contrEquiv1_symm_val)

variable (m : (ℓ : Loc nD τ sig) → Buf (Elt Ideal) ℓ) (A : Dev nD → Inp Ideal) (d : Dev nD)

/-! ## What each window of the TensorCore call reads, row by row -/

/-- The row a position of a block stands for. -/
abbrev nrow (t : Fin grid1.N) (i : Fin 4096) : Fin 20480 := ⟨t.val * 4096 + i.val, by have : t.val < 5 := t.isLt; have := i.isLt; omega⟩

theorem V1_ne (b : Ref sig .tc) (h : b ≠ main_v20) : V1 m A d (Proc.devRef .tc b) = V0 m d (Proc.devRef .tc b) :=
  Function.update_of_ne (fun e => h (Proc.devRef_injective _ e)) ..
theorem V1_out : V1 m A d (Proc.devRef .tc main_v20) = outF (A d) := Function.update_self ..

theorem V2_v26 (r : Fin 16) (n : Fin 20480) : V2r m A d main_v26 (ix2 r n) = V0 m d (Proc.devRef .tc main_v4) (ix2 n r) := by
  have e : V2 m A d (Proc.devRef .tc main_v26) = transpose S16x20480 [1, 0] (V1 m A d (Proc.devRef .tc main_v4)) transposes_S20480x16_S16x20480_1_0 := by
    unfold V2 ops1
    after_reads_simp
  rw [show V2r m A d main_v26 (ix2 r n) = V2 m A d (Proc.devRef .tc main_v26) (ix2 r n) from rfl, e, V1_ne m A d main_v4 (by decide)]
  pointwise

theorem V2_v27 (n : Fin 20480) : V2r m A d main_v27 (ix2 n 0) = V0 m d (Proc.devRef .tc main_v10) (ix1 n) := by
  have e : V2 m A d (Proc.devRef .tc main_v27) = broadcastInDim S20480x1 ![0] bcast_S20480_S20480x1_0 (V1 m A d (Proc.devRef .tc main_v10)) := by
    unfold V2 ops1
    after_reads_simp
  rw [show V2r m A d main_v27 (ix2 n 0) = V2 m A d (Proc.devRef .tc main_v27) (ix2 n 0) from rfl, e, V1_ne m A d main_v10 (by decide)]
  pointwise

theorem cast5 {α : Type} (v : S20480.Idx → α) (h) (t : Fin 5) (i : Fin 4096) :
    shapeCast S5x1x4096 v h (Idealize.ShloMosaic.ix3 t 0 i) = v (ix1 (nrow t i)) := by
  pointwise

theorem V2_v28 (t : Fin 5) (i : Fin 4096) : V2r m A d main_v28 (Idealize.ShloMosaic.ix3 t 0 i) = V0 m d (Proc.devRef .tc main_v7) (ix1 (nrow t i)) := by
  have e : V2 m A d (Proc.devRef .tc main_v28) = shapeCast S5x1x4096 (V1 m A d (Proc.devRef .tc main_v7)) shapeCasts_S20480_S5x1x4096 := by
    unfold V2 ops1
    after_reads_simp
    try rfl
  rw [show V2r m A d main_v28 (Idealize.ShloMosaic.ix3 t 0 i) = V2 m A d (Proc.devRef .tc main_v28) (Idealize.ShloMosaic.ix3 t 0 i) from rfl, e, V1_ne m A d main_v7 (by decide)]
  exact cast5 _ _ t i

theorem V2_v29 (t : Fin 5) (i : Fin 4096) : V2r m A d main_v29 (Idealize.ShloMosaic.ix3 t 0 i) = V0 m d (Proc.devRef .tc main_v10) (ix1 (nrow t i)) := by
  have e : V2 m A d (Proc.devRef .tc main_v29) = shapeCast S5x1x4096 (V1 m A d (Proc.devRef .tc main_v10)) shapeCasts_S20480_S5x1x4096 := by
    unfold V2 ops1
    after_reads_simp
    try rfl
  rw [show V2r m A d main_v29 (Idealize.ShloMosaic.ix3 t 0 i) = V2 m A d (Proc.devRef .tc main_v29) (Idealize.ShloMosaic.ix3 t 0 i) from rfl, e, V1_ne m A d main_v10 (by decide)]
  exact cast5 _ _ t i

theorem V2_v30 (r : Fin 16) (k : Fin 256) : V2r m A d main_v30 (ix2 r k) = outF (A d) (ix2 ⟨k.val, by omega⟩ r) := by
  have e : V2 m A d (Proc.devRef .tc main_v30) = transpose S16x256 [1, 0] (extractStridedSlice S256x16 ![0, 0] (V1 m A d (Proc.devRef .tc main_v20)) slices_S288x16_S256x16_0_0) transposes_S256x16_S16x256_1_0 := by
    unfold V2 ops1
    after_reads_simp
  rw [show V2r m A d main_v30 (ix2 r k) = V2 m A d (Proc.devRef .tc main_v30) (ix2 r k) from rfl, e, V1_out]
  pointwise

theorem V2_v23 (k : Fin 256) : V2r m A d main_v23 (ix2 0 k) = outF (A d) (ix2 ⟨256 + k.val / 16, by omega⟩ ⟨k.val % 16, by omega⟩) := by
  have e : V2 m A d (Proc.devRef .tc main_v23) = shapeCast S1x256 (extractStridedSlice S16x16 ![256, 0] (V1 m A d (Proc.devRef .tc main_v20)) slices_S288x16_S16x16_256_0) shapeCasts_S16x16_S1x256 := by
    unfold V2 ops1
    after_reads_simp
    try rfl
  rw [show V2r m A d main_v23 (ix2 0 k) = V2 m A d (Proc.devRef .tc main_v23) (ix2 0 k) from rfl, e, V1_out]
  pointwise

theorem V2_v25 (k : Fin 256) : V2r m A d main_v25 (ix2 0 k) = outF (A d) (ix2 ⟨272 + k.val / 16, by omega⟩ ⟨k.val % 16, by omega⟩) := by
  have e : V2 m A d (Proc.devRef .tc main_v25) = shapeCast S1x256 (extractStridedSlice S16x16 ![272, 0] (V1 m A d (Proc.devRef .tc main_v20)) slices_S288x16_S16x16_272_0) shapeCasts_S16x16_S1x256 := by
    unfold V2 ops1
    after_reads_simp
    try rfl
  rw [show V2r m A d main_v25 (ix2 0 k) = V2 m A d (Proc.devRef .tc main_v25) (ix2 0 k) from rfl, e, V1_out]
  pointwise

variable (t : Fin grid1.N)

theorem widx0 : ∀ t : Fin grid1.N, win1_0.index t 0 = 0 ∧ win1_0.index t 1 = t.val := by decide +kernel
theorem widx1 : ∀ t : Fin grid1.N, win1_1.index t 0 = t.val ∧ win1_1.index t 1 = 0 := by decide +kernel
theorem widx2 : ∀ t : Fin grid1.N, win1_2.index t 0 = t.val ∧ win1_2.index t 1 = 0 ∧ win1_2.index t 2 = 0 := by decide +kernel
theorem widx3 : ∀ t : Fin grid1.N, win1_3.index t 0 = t.val ∧ win1_3.index t 1 = 0 ∧ win1_3.index t 2 = 0 := by decide +kernel
theorem widx4 : ∀ t : Fin grid1.N, win1_4.index t 0 = 0 ∧ win1_4.index t 1 = 0 := by decide +kernel
theorem widx5 : ∀ t : Fin grid1.N, win1_5.index t 0 = 0 ∧ win1_5.index t 1 = 0 := by decide +kernel
theorem widx6 : ∀ t : Fin grid1.N, win1_6.index t 0 = 0 ∧ win1_6.index t 1 = 0 := by decide +kernel
theorem blk0_at (r : Fin 16) (i : Fin 4096) : blk0 (V2r m A) d t (ix2 r i) = V0 m d (Proc.devRef .tc main_v4) (ix2 (nrow t i) r) := by
  rw [← V2_v26 m A]
  refine congrArg (V2r m A d main_v26) ?_
  refine funext fun a => Fin.ext ?_
  match a with
  | 0 => have e := (widx0 t).1; blk_simp; rw [e]; simp
  | 1 => have e := (widx0 t).2; blk_simp; rw [e]
theorem blk1_at (i : Fin 4096) : blk1 (V2r m A) d t (ix2 i 0) = V0 m d (Proc.devRef .tc main_v10) (ix1 (nrow t i)) := by
  rw [← V2_v27 m A]
  refine congrArg (V2r m A d main_v27) ?_
  refine funext fun a => Fin.ext ?_
  match a with
  | 0 => have e := (widx1 t).1; blk_simp; rw [e]
  | 1 => have e := (widx1 t).2; blk_simp; rw [e]; simp
theorem blk2_at (i : Fin 4096) : blk2 (V2r m A) d t (Idealize.ShloMosaic.ix3 0 0 i) = V0 m d (Proc.devRef .tc main_v7) (ix1 (nrow t i)) := by
  rw [← V2_v28 m A d t i]
  refine congrArg (V2r m A d main_v28) ?_
  refine funext fun a => Fin.ext ?_
  match a with
  | 0 => have e := (widx2 t).1; blk_simp; rw [e]; simp
  | 1 => have e := (widx2 t).2.1; blk_simp; rw [e]; simp
  | 2 => have e := (widx2 t).2.2; blk_simp; rw [e]; simp
theorem blk3_at (i : Fin 4096) : blk3 (V2r m A) d t (Idealize.ShloMosaic.ix3 0 0 i) = V0 m d (Proc.devRef .tc main_v10) (ix1 (nrow t i)) := by
  rw [← V2_v29 m A d t i]
  refine congrArg (V2r m A d main_v29) ?_
  refine funext fun a => Fin.ext ?_
  match a with
  | 0 => have e := (widx3 t).1; blk_simp; rw [e]; simp
  | 1 => have e := (widx3 t).2.1; blk_simp; rw [e]; simp
  | 2 => have e := (widx3 t).2.2; blk_simp; rw [e]; simp
theorem blk4_at (r : Fin 16) (k : Fin 256) : blk4 (V2r m A) d t (ix2 r k) = outF (A d) (ix2 ⟨k.val, by omega⟩ r) := by
  rw [← V2_v30 m A]
  refine congrArg (V2r m A d main_v30) ?_
  refine funext fun a => Fin.ext ?_
  match a with
  | 0 => have e := (widx4 t).1; blk_simp; rw [e]; simp
  | 1 => have e := (widx4 t).2; blk_simp; rw [e]; simp
theorem blk5_at (k : Fin 256) : blk5 (V2r m A) d t (ix2 0 k) = outF (A d) (ix2 ⟨256 + k.val / 16, by omega⟩ ⟨k.val % 16, by omega⟩) := by
  rw [← V2_v23 m A]
  refine congrArg (V2r m A d main_v23) ?_
  refine funext fun a => Fin.ext ?_
  match a with
  | 0 => have e := (widx5 t).1; blk_simp; rw [e]; simp
  | 1 => have e := (widx5 t).2; blk_simp; rw [e]; simp
theorem blk6_at (k : Fin 256) : blk6 (V2r m A) d t (ix2 0 k) = outF (A d) (ix2 ⟨272 + k.val / 16, by omega⟩ ⟨k.val % 16, by omega⟩) := by
  rw [← V2_v25 m A]
  refine congrArg (V2r m A d main_v25) ?_
  refine funext fun a => Fin.ext ?_
  match a with
  | 0 => have e := (widx6 t).1; blk_simp; rw [e]; simp
  | 1 => have e := (widx6 t).2; blk_simp; rw [e]; simp

end Cert.Proof.Sc

end
-- ==== Proof.Sc.Sum.lean ====
/-
  The kernel's result as sums over the padded rows.
-/
module

public import proofs.«01_k».proof.Proof.Sc.Blocks
public import proofs.«01_k».proof.Proof.Sc.Valid
public import Idealize.ShloMosaic.Lib.Pipeline.Frame
public import Idealize.ShloMosaic.Lib.Pipeline.FrameTail
public import Idealize.ShloMosaic.Lib.Routing.OpsSet
public import Idealize.ShloMosaic.Lib.StableHlo.ReadAt
public import Idealize.ShloMosaic.Lib.ReduceAll
public import Idealize.ShloMosaic.Lib.Pipeline.FrameBody
public import Idealize.ShloMosaic.Lib.Pipeline.Regions
public import Idealize.ShloMosaic.Lib.Pipeline.ValueKit

@[expose] public section

set_option maxRecDepth 16384

noncomputable section

namespace Cert.Proof.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.TcCoe
open Idealize.ShloMosaic.Pipeline (Dat Cfg Window BodyObligation cellOf)
open Idealize.ShloMosaic.Rounds
open Idealize.ShloMosaic.ValueIdx (contrEquiv1 contrEquiv1_symm_val)

variable (m : (ℓ : Loc nD τ sig) → Buf (Elt Ideal) ℓ) (A : Dev nD → Inp Ideal) (d : Dev nD)

/-! ## The kernel's result as sums over the padded rows -/

/-- A padded row's class number, confidence and coordinates, -/
def kY (n : Fin 20480) : BitVec 32 := V0 m d (Proc.devRef .tc main_v10) (ix1 n)
def kF (n : Fin 20480) : EReal := V0 m d (Proc.devRef .tc main_v7) (ix1 n)
def kX (n : Fin 20480) (r : Fin 16) : EReal := V0 m d (Proc.devRef .tc main_v4) (ix2 n r)
/-- a class's centre and largest confidence, a segment's largest confidence, -/
def kA (k : Fin 256) (r : Fin 16) : EReal := outF (A d) (ix2 ⟨k.val, by omega⟩ r)
def kB (k : Fin 256) : EReal := outF (A d) (ix2 ⟨256 + k.val / 16, by omega⟩ ⟨k.val % 16, by omega⟩)
def kC (k : Fin 256) : EReal := outF (A d) (ix2 ⟨272 + k.val / 16, by omega⟩ ⟨k.val % 16, by omega⟩)
/-- a row's distance to a centre, its potential and its charge, -/
def kD (n : Fin 20480) (k : Fin 256) : EReal :=
  (∑ r : Fin 16, kX m d n r * (Ideal.ofBits .f32 0xC0000000#32 * kA A d k r))
    + (∑ r : Fin 16, kX m d n r * kX m d n r) * (Ideal.ofBits .f32 0x00000000#32 + Ideal.ofBits .f32 0x3F800000#32)
    + (Ideal.ofBits .f32 0x00000000#32 + Ideal.ofBits .f32 0x3F800000#32) * (∑ r : Fin 16, kA A d k r * kA A d k r)
def kP (n : Fin 20480) (k : Fin 256) : EReal :=
  if kY m d n = BitVec.ofNat 32 k.val then kD m A d n k
  else max (Ideal.ofBits .f32 0x3F800000#32 - kD m A d n k) (Ideal.ofBits .f32 0x00000000#32)
def kQ (n : Fin 20480) : EReal := if kY m d n = 4294967294#32 then 0 else qq (kF m d n)
/-- and a class's charge. -/
def kK (k : Fin 256) : EReal := if kB A d k < 0 then 0 else qq (kB A d k)

variable (t : Fin grid1.N)

theorem dst_at (i : Fin 4096) (k : Fin 256) : dst (blk0 (V2r m A) d t) (blk4 (V2r m A) d t) i k = kD m A d (nrow t i) k := by
  have a : ∀ r, blk0 (V2r m A) d t (ix2 r i) = kX m d (nrow t i) r := fun r => blk0_at m A d t r i
  have b : ∀ r, blk4 (V2r m A) d t (ix2 r k) = kA A d k r := fun r => blk4_at m A d t r k
  generalize hX : blk0 (V2r m A) d t = X at a ⊢
  generalize hB : blk4 (V2r m A) d t = B at b ⊢
  unfold dst kD
  have a' := funext a
  have b' := funext b
  rw [← a', ← b']

theorem pot_at (i : Fin 4096) (k : Fin 256) : pot (blk0 (V2r m A) d t) (blk1 (V2r m A) d t) (blk4 (V2r m A) d t) i k = kP m A d (nrow t i) k := by
  unfold pot
  rw [dst_at, blk1_at]
  rfl

/-- What a point adds to the first word. -/
theorem step0 (a : T3 Ideal) : (tstep (blk0 (V2r m A) d t) (blk1 (V2r m A) d t) (blk2 (V2r m A) d t) (blk3 (V2r m A) d t) (blk4 (V2r m A) d t) (blk5 (V2r m A) d t) a).1
    = (a.1 : EReal) + ∑ k : Fin 256, (∑ i : Fin 4096, kP m A d (nrow t i) k * kQ m d (nrow t i)) * kK A d k := by
  refine (tc0_apply _ _ _ _ _ _ _).trans (congrArg ((a.1 : EReal) + ·) (Finset.sum_congr rfl fun k _ => ?_))
  refine congrArg₂ (fun u v : EReal => u * v) (Finset.sum_congr rfl fun i _ => ?_) ?_
  · rw [pot_at, blk3_at, blk2_at]
    rfl
  · rw [blk5_at]
    rfl

theorem step1 (a : T3 Ideal) : (tstep (blk0 (V2r m A) d t) (blk1 (V2r m A) d t) (blk2 (V2r m A) d t) (blk3 (V2r m A) d t) (blk4 (V2r m A) d t) (blk5 (V2r m A) d t) a).2.1
    = (a.2.1 : EReal) + ∑ i : Fin 4096, if kY m d (nrow t i) = 4294967295#32 then kF m d (nrow t i) else 0 := by
  refine (tc1_apply _ _ _).trans (congrArg ((a.2.1 : EReal) + ·) (Finset.sum_congr rfl fun i _ => ?_))
  rw [blk3_at, blk2_at]
  rfl

theorem step2 (a : T3 Ideal) : (tstep (blk0 (V2r m A) d t) (blk1 (V2r m A) d t) (blk2 (V2r m A) d t) (blk3 (V2r m A) d t) (blk4 (V2r m A) d t) (blk5 (V2r m A) d t) a).2.2
    = (a.2.2 : EReal) + ∑ i : Fin 4096, if kY m d (nrow t i) = 4294967295#32 then (1 : EReal) else 0 := by
  refine (tc2_apply _ _).trans (congrArg ((a.2.2 : EReal) + ·) (Finset.sum_congr rfl fun i _ => ?_))
  rw [blk3_at]
  rfl

/-- Five terms added one after the other to zero. -/
theorem five (f : ℕ → EReal) (g : Fin 5 → EReal) (h0 : f 0 = 0) (h : ∀ t : Fin 5, f (t.val + 1) = f t.val + g t) : f 5 = ∑ t, g t := by
  rw [Fin.sum_univ_five, ← zero_add (g 0), ← h0]
  have e4 := h 4
  have e3 := h 3
  have e2 := h 2
  have e1 := h 1
  have e0 := h 0
  exact e4.trans (congrArg (· + g 4) (e3.trans (congrArg (· + g 3) (e2.trans (congrArg (· + g 2) (e1.trans (congrArg (· + g 1) e0)))))))

theorem acc0 : (tacc (V2r m A) d 5).1 = ∑ t : Fin 5, ∑ k : Fin 256, (∑ i : Fin 4096, kP m A d (nrow t i) k * kQ m d (nrow t i)) * kK A d k :=
  five (fun n => (tacc (V2r m A) d n).1) _ ofB0 fun t => (congrArg Prod.fst (tacc_succ (V2r m A) d t)).trans (step0 m A d t _)
theorem acc1 : (tacc (V2r m A) d 5).2.1 = ∑ t : Fin 5, ∑ i : Fin 4096, if kY m d (nrow t i) = 4294967295#32 then kF m d (nrow t i) else 0 :=
  five (fun n => (tacc (V2r m A) d n).2.1) _ ofB0 fun t => (congrArg (fun u : T3 Ideal => u.2.1) (tacc_succ (V2r m A) d t)).trans (step1 m A d t _)
theorem acc2 : (tacc (V2r m A) d 5).2.2 = ∑ t : Fin 5, ∑ i : Fin 4096, if kY m d (nrow t i) = 4294967295#32 then (1 : EReal) else 0 :=
  five (fun n => (tacc (V2r m A) d n).2.2) _ ofB0 fun t => (congrArg (fun u : T3 Ideal => u.2.2) (tacc_succ (V2r m A) d t)).trans (step2 m A d t _)

/-- The kernel's result. -/
theorem ker_out (j : S_.Idx) : V4 m A d (Proc.devRef .tc main_v32) j
    = ((1 - Ideal.div (∑ k : Fin 256, kC A d k) ((256 : ℝ) : EReal))
        + Ideal.div (1 * ∑ t : Fin 5, ∑ i : Fin 4096, if kY m d (nrow t i) = 4294967295#32 then kF m d (nrow t i) else 0)
          (∑ t : Fin 5, ∑ i : Fin 4096, if kY m d (nrow t i) = 4294967295#32 then (1 : EReal) else 0))
      + Ideal.div (∑ t : Fin 5, ∑ k : Fin 256, (∑ i : Fin 4096, kP m A d (nrow t i) k * kQ m d (nrow t i)) * kK A d k) ((20000 : ℝ) : EReal) := by
  have e : V4 m A d (Proc.devRef .tc main_v32) = shapeCast S_ (V3 m A d (Proc.devRef .tc main_v31)) shapeCasts_S1x1_S_ := by
    unfold V4 ops2
    after_reads_simp
    try rfl
  rw [e, show V3 m A d (Proc.devRef .tc main_v31) = regOut (V2r m A) d from V3_out m A d]
  show regOut (V2r m A) d _ = _
  rw [regOut_eq]
  unfold tout
  refine (tcOut_apply _ _ _ _ _).trans ?_
  rw [acc0, acc1, acc2]
  exact congrArg₂ (fun u v : EReal => u + v) (congrArg₂ (fun u v : EReal => u + v) (congrArg (fun u : EReal => 1 - Ideal.div u ((256 : ℝ) : EReal))
    (Finset.sum_congr rfl fun k _ => blk6_at m A d t1_4 k)) rfl) rfl

/-- A sum over the blocks is one over the rows that are not padding, where the padding's terms are zero. -/
theorem sum_rows {M : Type} [AddCommMonoid M] (g : Fin 20480 → M) (h0 : ∀ n, 20000 ≤ n.val → g n = 0) :
    ∑ t : Fin 5, ∑ i : Fin 4096, g (nrow t i) = ∑ i : Fin 20000, g ⟨i.val, by omega⟩ := by
  have e1 : ∑ t : Fin 5, ∑ i : Fin 4096, g (nrow t i) = ∑ n : Fin (5 * 4096), g n := by
    rw [← Fintype.sum_prod_type' (f := fun (t : Fin 5) (i : Fin 4096) => g (nrow t i))]
    refine Fintype.sum_equiv finProdFinEquiv _ _ fun p => congrArg g (Fin.ext ?_)
    show p.1.val * 4096 + p.2.val = p.2.val + 4096 * p.1.val
    omega
  have e2 : ∑ n : Fin (5 * 4096), g n = ∑ n : Fin (20000 + 480), g n := rfl
  rw [e1, e2, Fin.sum_univ_add]
  rw [Finset.sum_eq_zero (s := Finset.univ) (f := fun i : Fin 480 => g (Fin.natAdd 20000 i)) fun i _ => h0 _ (Nat.le_add_right _ _), add_zero]
  rfl

end Cert.Proof.Sc

end
-- ==== Proof.RefRun.lean ====
/-
  The reference: its result as a term of its four arguments, and its run to it.
-/
module

public import proofs.«01_k».proof.ReferenceIdeal
public import proofs.«01_k».proof.Proof.Gen.ReferenceIdeal
public import Idealize.ShloMosaic.Lib.Claim
public import Idealize.ShloMosaic.Lib.Routing.OpsSet
public import Idealize.ShloMosaic.Lib.StableHlo.ReadAt
public import Idealize.ShloMosaic.Adequacy
public import Idealize.ShloMosaic.Init
public import Idealize.ShloMosaic.PureOps.Ideal.Laws
public import Idealize.ShloMosaic.Lib.ReduceAll
public import Idealize.ShloMosaic.Lib.Pipeline.ValueKit

@[expose] public section

set_option maxRecDepth 16384

noncomputable section

namespace Cert.Proof.Ref

open Cert.ReferenceIdeal Cert.ReferenceIdeal.Gen
open Idealize.ShloMosaic Idealize.SL.Sem

variable (x : FVec Ideal S20000x4 .f32) (f : FVec Ideal S20000 .f32) (y : IVec S20000 32) (e : IVec S2x40000 32)

/-! ## The reference's arrays, one after the other -/

/-- The noise points. -/
def bkg : IVec S20000 1 := cmpi .eq y (broadcastInDim S20000 ![] bcast_S_S20000 (constantI S_ 32 4294967295#32))
/-- The one-hot rows of the class numbers, -/
def hot : FVec Ideal S20000x256 .f32 := uitofp .f32 (cmpi .eq (broadcastInDim S20000x256 ![0, 1] bcast_S20000x1_S20000x256_0_1 (broadcastInDim S20000x1 ![0] bcast_S20000_S20000x1_0 y))
  (broadcastInDim S20000x256 ![0, 1] bcast_S1x256_S20000x256_0_1 (iotaInDim S1x256 32 1)))
/-- zero for noise. -/
def mat : FVec Ideal S20000x256 .f32 := select (broadcastInDim S20000x256 ![0, 1] bcast_S20000x1_S20000x256_0_1 (broadcastInDim S20000x1 ![0] bcast_S20000_S20000x1_0 (bkg y)))
  (broadcastInDim S20000x256 ![] bcast_S_S20000x256 (id (constant (F := Ideal) S_ .f32 0x00000000#32))) (hot y)
/-- The charges, -/
def chg : FVec Ideal S20000 .f32 := addf (mulf (Host.atanh f) (Host.atanh f)) (broadcastInDim S20000 ![] bcast_S_S20000 (constant (F := Ideal) S_ .f32 0x3F000000#32))
/-- by class, -/
def qm : FVec Ideal S20000x256 .f32 := mulf (broadcastInDim S20000x256 ![0, 1] bcast_S20000x1_S20000x256_0_1 (broadcastInDim S20000x1 ![0] bcast_S20000_S20000x1_0 (chg f))) (mat y)
/-- the largest of each class, -/
def qak : FVec Ideal S256 .f32 := Host.reduce FloatOps.maximumf (qm f y) (constant (F := Ideal) S_ .f32 0xFF800000#32) reducesTo_S20000x256_S256_d0 h_S_
/-- and where it is. -/
def amax : IVec S256 32 := fun j => (Host.argReduce reducer_argmax_f32_i32 (qm f y) (iotaInDim S20000x256 32 0) (constant (F := Ideal) S_ .f32 0xFF800000#32) (constantI S_ 32 0#32) reducesTo_S20000x256_S256_d0 h_S_ j).2
/-- A row number, counted from the end where it is negative. -/
def wrp (a : IVec S256 32) : IVec S256 32 := select (cmpi .slt a (broadcastInDim S256 ![] bcast_S_S256 (constantI S_ 32 0#32)))
  (addi a (broadcastInDim S256 ![] bcast_S_S256 (constantI S_ 32 20000#32))) a
/-- The centres. -/
def ctr : FVec Ideal S256x4 .f32 := Host.gather gather_S20000x4_S256x1_S256x4_1_0_n_n_0_1_14 x (broadcastInDim S256x1 ![0] bcast_S256_S256x1_0 (wrp (amax f y)))
/-- The differences to the centres, -/
def dif : FVec Ideal S20000x256x4 .f32 := subf (broadcastInDim S20000x256x4 ![0, 1, 2] bcast_S20000x1x4_S20000x256x4_0_1_2 (broadcastInDim S20000x1x4 ![0, 2] bcast_S20000x4_S20000x1x4_0_2 x))
  (broadcastInDim S20000x256x4 ![0, 1, 2] bcast_S1x256x4_S20000x256x4_0_1_2 (broadcastInDim S1x256x4 ![1, 2] bcast_S256x4_S1x256x4_1_2 (ctr x f y)))
/-- squared and summed. -/
def dist : FVec Ideal S20000x256 .f32 := Host.reduceAdd (mulf (dif x f y) (dif x f y)) (constant (F := Ideal) S_ .f32 0x00000000#32) reducesTo_S20000x256x4_S20000x256_d2 h_S_
/-- The repelling potential. -/
def rep : FVec Ideal S20000x256 .f32 := maximumf (subf (broadcastInDim S20000x256 ![] bcast_S_S20000x256 (constant (F := Ideal) S_ .f32 0x3F800000#32)) (dist x f y))
  (broadcastInDim S20000x256 ![] bcast_S_S20000x256 (constant (F := Ideal) S_ .f32 0x00000000#32))
/-- The largest charges, for every point. -/
def qakB : FVec Ideal S1x20000x256 .f32 := broadcastInDim S1x20000x256 ![0, 1, 2] bcast_S1x1x256_S1x20000x256_0_1_2 (broadcastInDim S1x1x256 ![2] bcast_S256_S1x1x256_2 (qak f y))
/-- A plane as one of a batch. -/
def up (v : FVec Ideal S20000x256 .f32) : FVec Ideal S1x20000x256 .f32 := broadcastInDim S1x20000x256 ![1, 2] bcast_S20000x256_S1x20000x256_1_2 v
/-- The summands of the potential loss, -/
def lsum : FVec Ideal S1x20000x256 .f32 := addf (mulf (up (mat y)) (mulf (up (dist x f y)) (qakB f y)))
  (mulf (up (subf (broadcastInDim S20000x256 ![] bcast_S_S20000x256 (constant (F := Ideal) S_ .f32 0x3F800000#32)) (mat y))) (mulf (up (rep x f y)) (qakB f y)))
/-- summed over the classes and weighed, -/
def lrow : FVec Ideal S1x20000 .f32 := mulf (Host.reduceAdd (lsum x f y) (constant (F := Ideal) S_ .f32 0x00000000#32) reducesTo_S1x20000x256_S1x20000_d2 h_S_) (broadcastInDim S1x20000 ![1] bcast_S20000_S1x20000_1 (chg f))
/-- and over the points. -/
def lv : FVec Ideal S_ .f32 := Host.divf (Host.reduceAdd (lrow x f y) (constant (F := Ideal) S_ .f32 0x00000000#32) reducesTo_S1x20000_S_d0_1 h_S_) (constant (F := Ideal) S_ .f32 0x469C4000#32)
/-- The edges' ends and segments. -/
def ends : IVec S40000 32 := shapeCast S40000 (extractStridedSlice S1x40000 ![0, 0] e slices_S2x40000_S1x40000_0_0) shapeCasts_S1x40000_S40000
def segs : IVec S40000 32 := shapeCast S40000 (extractStridedSlice S1x40000 ![1, 0] e slices_S2x40000_S1x40000_1_0) shapeCasts_S1x40000_S40000
/-- Which edge is of which segment. -/
def ofk : IVec S40000x256 1 := cmpi .eq (broadcastInDim S40000x256 ![0, 1] bcast_S40000x1_S40000x256_0_1 (broadcastInDim S40000x1 ![0] bcast_S40000_S40000x1_0 (segs e)))
  (broadcastInDim S40000x256 ![0, 1] bcast_S1x256_S40000x256_0_1 (broadcastInDim S1x256 ![1] bcast_S256_S1x256_1 (iotaInDim S256 32 0)))
/-- The confidences at the edges' ends. -/
def fend : FVec Ideal S40000 .f32 := Host.gather gather_S20000_S40000x1_S40000_n_0_n_n_0_1_1 f (broadcastInDim S40000x1 ![0] bcast_S40000_S40000x1_0
  (select (cmpi .slt (ends e) (broadcastInDim S40000 ![] bcast_S_S40000 (constantI S_ 32 0#32))) (addi (ends e) (broadcastInDim S40000 ![] bcast_S_S40000 (constantI S_ 32 20000#32))) (ends e)))
/-- Each segment's largest, at least zero. -/
def fctr : FVec Ideal S256 .f32 := maximumf (Host.reduce FloatOps.maximumf (select (ofk e)
    (broadcastInDim S40000x256 ![0, 1] bcast_S40000x1_S40000x256_0_1 (broadcastInDim S40000x1 ![0] bcast_S40000_S40000x1_0 (fend f e)))
    (broadcastInDim S40000x256 ![] bcast_S_S40000x256 (id (constant (F := Ideal) S_ .f32 0xFF800000#32))))
  (constant (F := Ideal) S_ .f32 0xFF800000#32) reducesTo_S40000x256_S256_d0 h_S_) (broadcastInDim S256 ![] bcast_S_S256 (constant (F := Ideal) S_ .f32 0x00000000#32))
/-- The centres' loss. -/
def b1 : FVec Ideal S_ .f32 := subf (constant (F := Ideal) S_ .f32 0x3F800000#32) (Host.divf (Host.reduceAdd (fctr f e) (constant (F := Ideal) S_ .f32 0x00000000#32) reducesTo_S256_S_d0 h_S_) (constant (F := Ideal) S_ .f32 0x43800000#32))
/-- The noise loss. -/
def b2 : FVec Ideal S_ .f32 := mulf (Host.divf (constant (F := Ideal) S_ .f32 0x3F800000#32) (sitofp .f32 (Host.reduce IntOp.addi (extui 32 (bkg y) natLt_1_32) (constantI S_ 32 0#32) reducesTo_S20000_S_d0 h_S_)))
  (Host.reduceAdd (select (bkg y) f (broadcastInDim S20000 ![] bcast_S_S20000 (id (constant (F := Ideal) S_ .f32 0x00000000#32)))) (constant (F := Ideal) S_ .f32 0x00000000#32) reducesTo_S20000_S_d0 h_S_)
/-- The reference's result. -/
def out : FVec Ideal S_ .f32 := addf (addf (b1 f e) (b2 f y)) (lv x f y)

set_option maxHeartbeats 20000000 in
/-- The reference runs to its result, its arguments as they were. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v85) = out (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  hlo_run
  rfl

end Cert.Proof.Ref

end
-- ==== Proof.RefRead.lean ====
/-
  The reference read at an index over the extended reals.
-/
module

public import proofs.«01_k».proof.Proof.RefRun
public import Idealize.ShloMosaic.Lib.ValueIdxRank1
public import proofs.«01_k».proof.Proof.Sc.TcVal
public import proofs.«01_k».proof.Proof.Sc.Valid

@[expose] public section

set_option maxRecDepth 16384

noncomputable section

namespace Cert.Proof.Ref

open Cert.ReferenceIdeal Cert.ReferenceIdeal.Gen
open Idealize.ShloMosaic Idealize.SL.Sem
open Cert.Proof.Sc (ofB0 ofB1 ofBhalf ofBm2 ofB256 ofB20000 ofBcap ofBtop ofBbot ofb)

variable (x : FVec Ideal S20000x4 .f32) (f : FVec Ideal S20000 .f32) (y : IVec S20000 32) (e : IVec S2x40000 32)

theorem ofb0 {n : ℕ} {a b : BitVec n} (h : a ≠ b) : BitVec.ofBool (a == b) = 0#1 := by
  rw [beq_false_of_ne h]
  rfl

theorem chg_at (i : Fin 20000) : chg f (ix1 i) = Ideal.atanh (f (ix1 i)) * Ideal.atanh (f (ix1 i)) + Ideal.ofBits .f32 0x3F000000#32 := rfl

theorem hot_at (i : Fin 20000) (k : Fin 256) : hot y (ix2 i k) = if y (ix1 i) = BitVec.ofNat 32 k.val then (1 : EReal) else 0 := by
  have h : hot y (ix2 i k) = (((BitVec.ofBool (y (ix1 i) == BitVec.ofNat 32 k.val)).toNat : ℝ) : EReal) := by
    unfold hot
    pointwise
    rfl
  rw [h]
  by_cases c : y (ix1 i) = BitVec.ofNat 32 k.val
  · rw [if_pos c, (ofb _ _).mpr c]; norm_num
  · rw [if_neg c]
    rw [ofb0 c]; norm_num

theorem mat_at (i : Fin 20000) (k : Fin 256) : mat y (ix2 i k) = if y (ix1 i) = BitVec.ofNat 32 k.val then (1 : EReal) else 0 := by
  have h : mat y (ix2 i k) = Scalar.select (IntOp.cmpi .eq (y (ix1 i)) 4294967295#32) (id (constant (F := Ideal) S_ .f32 0x00000000#32) ix0) (hot y (ix2 i k)) := by
    unfold mat bkg
    pointwise
  refine h.trans ?_
  rw [hot_at]
  by_cases c : y (ix1 i) = 4294967295#32
  · refine (if_pos ((ofb _ _).mpr c)).trans ((ofB0 : _ = (0 : EReal)).trans (if_neg ?_).symm)
    rw [c]
    intro q
    have h1 := congrArg BitVec.toNat q
    rw [BitVec.toNat_ofNat, BitVec.toNat_ofNat] at h1
    have h2 := k.isLt
    omega
  · exact if_neg fun q => c ((ofb _ _).mp q)

theorem qm_at (i : Fin 20000) (k : Fin 256) : qm f y (ix2 i k) = chg f (ix1 i) * mat y (ix2 i k) := by
  unfold qm
  pointwise

theorem dif_at (i : Fin 20000) (k : Fin 256) (r : Fin 4) : dif x f y (Idealize.ShloMosaic.ix3 i k r) = x (ix2 i r) - ctr x f y (ix2 k r) := by
  unfold dif
  pointwise

theorem dist_at (i : Fin 20000) (k : Fin 256) : dist x f y (ix2 i k)
    = ∑ r : Fin 4, (x (ix2 i r) - ctr x f y (ix2 k r)) * (x (ix2 i r) - ctr x f y (ix2 k r)) := by
  unfold dist
  refine (Ideal.hostReduceAdd_single _ (by decide : S20000x256x4.Reduces [2] S20000x256) _ _ _).trans ?_
  refine (congrArg₂ (· + ·) (ofB0 : _ = (0 : EReal)) (Finset.sum_congr rfl fun r _ => ?_)).trans (zero_add _)
  refine (congrArg (fun u => dif x f y u * dif x f y u) (?_ : _ = Idealize.ShloMosaic.ix3 i k r)).trans (congrArg₂ (fun u v : EReal => u * v) (dif_at x f y i k r) (dif_at x f y i k r))
  refine funext fun a => ?_
  match a with
  | 0 => rfl
  | 1 => rfl
  | 2 => rfl

theorem lsum_at (i : Fin 20000) (k : Fin 256) : lsum x f y (Idealize.ShloMosaic.ix3 0 i k)
    = mat y (ix2 i k) * (dist x f y (ix2 i k) * qak f y (ix1 k)) + (1 - mat y (ix2 i k)) * (max (1 - dist x f y (ix2 i k)) 0 * qak f y (ix1 k)) := by
  have h : lsum x f y (Idealize.ShloMosaic.ix3 0 i k)
    = mat y (ix2 i k) * (dist x f y (ix2 i k) * qak f y (ix1 k)) + (Ideal.ofBits .f32 0x3F800000#32 - mat y (ix2 i k)) * (max (Ideal.ofBits .f32 0x3F800000#32 - dist x f y (ix2 i k)) (Ideal.ofBits .f32 0x00000000#32) * qak f y (ix1 k)) := by
    unfold lsum up qakB rep
    pointwise
  rw [h, ofB1, ofB0]

theorem lrow_at (i : Fin 20000) : lrow x f y (ix2 0 i) = (∑ k : Fin 256, lsum x f y (Idealize.ShloMosaic.ix3 0 i k)) * chg f (ix1 i) := by
  refine congrArg₂ (fun u v : EReal => u * v) ?_ ?_
  · refine (Ideal.hostReduceAdd_single _ (by decide : S1x20000x256.Reduces [2] S1x20000) _ _ _).trans ?_
    refine (congrArg₂ (· + ·) (ofB0 : _ = (0 : EReal)) (Finset.sum_congr rfl fun r _ => ?_)).trans (zero_add _)
    refine congrArg (lsum x f y) ?_
    refine funext fun a => ?_
    match a with
    | 0 => rfl
    | 1 => rfl
    | 2 => rfl
  · pointwise

theorem lv_at (j : S_.Idx) : lv x f y j = Ideal.div (∑ i : Fin 20000, (∑ k : Fin 256, lsum x f y (Idealize.ShloMosaic.ix3 0 i k)) * chg f (ix1 i)) ((20000 : ℝ) : EReal) := by
  refine congrArg₂ Ideal.div ?_ ofB20000
  refine (Ideal.hostReduceAdd_total _ (fun b => b.elim0) _ _ _).trans ?_
  refine (congrArg₂ (· + ·) (ofB0 : _ = (0 : EReal)) (sum_idx2 _)).trans ?_
  rw [zero_add, Fin.sum_univ_one]
  exact Finset.sum_congr rfl fun i _ => lrow_at x f y i

theorem b1_at (j : S_.Idx) : b1 f e j = 1 - Ideal.div (∑ k : Fin 256, fctr f e (ix1 k)) ((256 : ℝ) : EReal) := by
  refine congrArg₂ (fun u v : EReal => u - v) ofB1 (congrArg₂ Ideal.div ?_ ofB256)
  refine (Ideal.hostReduceAdd_total _ (fun b => b.elim0) _ _ _).trans ?_
  refine (congrArg₂ (· + ·) (ofB0 : _ = (0 : EReal)) (Fintype.sum_equiv (ValueIdx.idxEquiv1) _ _ fun i => ?_)).trans (zero_add _)
  exact congrArg (fctr f e) (funext fun a => match a with | 0 => rfl)

theorem b2_at (j : S_.Idx) : b2 f y j = Ideal.div 1 (((Host.reduce IntOp.addi (extui 32 (bkg y) natLt_1_32) (constantI S_ 32 0#32) reducesTo_S20000_S_d0 h_S_ j).toInt : ℝ) : EReal)
    * ∑ i : Fin 20000, (if y (ix1 i) = 4294967295#32 then f (ix1 i) else 0) := by
  refine congrArg₂ (fun u v : EReal => u * v) (congrArg₂ Ideal.div ofB1 rfl) ?_
  refine (Ideal.hostReduceAdd_total _ (fun b => b.elim0) _ _ _).trans ?_
  refine (congrArg₂ (· + ·) (ofB0 : _ = (0 : EReal)) (Fintype.sum_equiv (ValueIdx.idxEquiv1) _ _ fun i => ?_)).trans (zero_add _)
  obtain ⟨i, rfl⟩ : ∃ a, i = ix1 a := ⟨i 0, funext fun a => match a with | 0 => rfl⟩
  show Scalar.select (BitVec.ofBool (y (ix1 i) == 4294967295#32)) (f (ix1 i)) (Ideal.ofBits .f32 0x00000000#32 : EReal) = if y (ix1 i) = _ then _ else _
  rw [ofB0]
  unfold Scalar.select
  by_cases c : y (ix1 i) = 4294967295#32
  · rw [if_pos c]; exact if_pos ((ofb _ _).mpr c)
  · rw [if_neg c]; exact if_neg (fun q => c ((ofb _ _).mp q))

/-! ## Reductions by the larger -/

/-- A running maximum: it bounds what came, and is the start or one of what came. -/
theorem foldl_max {ι : Type} (g : ι → EReal) : ∀ (l : List ι) (a : EReal),
    (∀ n ∈ l, g n ≤ l.foldl (fun r n => FloatOps.maximumf (F := Ideal) (φ := .f32) r (g n)) a) ∧ a ≤ l.foldl (fun r n => FloatOps.maximumf (F := Ideal) (φ := .f32) r (g n)) a
      ∧ (l.foldl (fun r n => FloatOps.maximumf (F := Ideal) (φ := .f32) r (g n)) a = a ∨ ∃ n ∈ l, g n = l.foldl (fun r n => FloatOps.maximumf (F := Ideal) (φ := .f32) r (g n)) a)
  | [], a => ⟨fun n h => absurd h List.not_mem_nil, le_rfl, .inl rfl⟩
  | b :: l, a => by
    obtain ⟨h1, h2, h3⟩ := foldl_max g l (max a (g b))
    refine ⟨fun n h => ?_, (le_max_left _ _).trans h2, ?_⟩
    · rcases List.mem_cons.mp h with rfl | h
      · exact (le_max_right _ _).trans h2
      · exact h1 n h
    · rcases h3 with h3 | ⟨n, hn, h3⟩
      · rcases max_choice a (g b) with e | e
        · exact .inl (h3.trans e)
        · exact .inr ⟨b, List.mem_cons_self, (h3.trans e).symm⟩
      · exact .inr ⟨n, List.mem_cons_of_mem _ hn, h3⟩

/-- A reduction by the larger over the rows of a two-axis array. -/
theorem colmax {N : ℕ} (h : (⟨2, ![N, 256]⟩ : Shape).ReducesTo [0] S256) (v : FVec Ideal ⟨2, ![N, 256]⟩ .f32) (k : Fin 256) :
    (∀ i : Fin N, v (ix2 i k) ≤ Host.reduce FloatOps.maximumf v (constant (F := Ideal) S_ .f32 0xFF800000#32) h h_S_ (ix1 k))
    ∧ (Host.reduce FloatOps.maximumf v (constant (F := Ideal) S_ .f32 0xFF800000#32) h h_S_ (ix1 k) = (⊥ : EReal)
      ∨ ∃ i : Fin N, v (ix2 i k) = Host.reduce FloatOps.maximumf v (constant (F := Ideal) S_ .f32 0xFF800000#32) h h_S_ (ix1 k)) := by
  have hd : ∀ i : (⟨2, ![N, 256]⟩ : Shape).Idx, h.drop i = ix1 (i 1) := fun i => funext fun b => by
    match b with
    | 0 => rfl
  have e := Host.reduce_eq_foldl (FloatOps.maximumf (F := Ideal) (φ := .f32)) v (constant (F := Ideal) S_ .f32 0xFF800000#32) h h_S_ (ix1 k)
  rw [e]
  have hm : ∀ i, i ∈ (((List.finRange _).map (⟨2, ![N, 256]⟩ : Shape).rowMajor.symm).filter fun i => h.drop i = ix1 k) ↔ i 1 = k := fun i => by
    rw [List.mem_filter, decide_eq_true_iff, hd]
    refine ⟨fun q => congrFun q.2 0, fun q => ⟨List.mem_map.mpr ⟨_, List.mem_finRange _, Equiv.symm_apply_apply _ i⟩, congrArg ix1 q⟩⟩
  obtain ⟨h1, _, h3⟩ := foldl_max v (((List.finRange _).map (⟨2, ![N, 256]⟩ : Shape).rowMajor.symm).filter fun i => h.drop i = ix1 k) (constant (F := Ideal) S_ .f32 0xFF800000#32 (Shape.Idx.first h_S_))
  refine ⟨fun i => h1 _ ((hm _).mpr rfl), h3.imp (fun q => q.trans ofBbot) fun ⟨n, hn, q⟩ => ⟨n 0, (congrArg v ?_).trans q⟩⟩
  have := (hm n).mp hn
  refine funext fun a => ?_
  match a with
  | 0 => rfl
  | 1 => exact this.symm

/-- One pair below another: smaller, or equal and later. -/
def Below (p q : EReal × BitVec 32) : Prop := p.1 ≤ q.1 ∧ (p.1 = q.1 → q.2.toNat ≤ p.2.toNat)

theorem Below.trans {p q r : EReal × BitVec 32} (h : Below p q) (k : Below q r) : Below p r :=
  ⟨h.1.trans k.1, fun e => (k.2 (le_antisymm k.1 (e ▸ h.1))).trans (h.2 (le_antisymm h.1 (e.symm ▸ k.1)))⟩

theorem red_step (p q : EReal × BitVec 32) (hp : p.2.toNat < 20000) (hq : q.2.toNat < 20000) :
    (reducer_argmax_f32_i32 (F := Ideal) p q = p ∨ reducer_argmax_f32_i32 (F := Ideal) p q = q) ∧ Below p (reducer_argmax_f32_i32 (F := Ideal) p q) ∧ Below q (reducer_argmax_f32_i32 (F := Ideal) p q) := by
  have hs : IntOp.cmpi .slt p.2 q.2 = 1#1 ↔ p.2.toNat < q.2.toNat := by
    rw [IntOp.cmpi_slt, BitVec.toInt_eq_toNat_cond, BitVec.toInt_eq_toNat_cond, if_pos (by omega), if_pos (by omega)]
    omega
  have hg : IntOp.ori (FloatOps.cmpf (F := Ideal) (φ := .f32) .ogt p.1 q.1) (FloatOps.cmpf (F := Ideal) (φ := .f32) .une p.1 p.1) = 1#1 ↔ q.1 < p.1 := by
    rw [IntOp.ori_eq_one, Sc.ogt_iff]
    refine ⟨fun h => h.resolve_right ?_, .inl⟩
    show ¬ BitVec.ofBool (decide (p.1 ≠ p.1)) = 1#1
    simp
  have e : reducer_argmax_f32_i32 (F := Ideal) p q = (if q.1 < p.1 then p.1 else q.1, if q.1 < p.1 ∨ (p.1 = q.1 ∧ p.2.toNat < q.2.toNat) then p.2 else q.2) := by
    exact Prod.ext (if_congr hg rfl rfl) (if_congr (IntOp.ori_eq_one.trans (or_congr hg (IntOp.andi_eq_one.trans (and_congr (Sc.oeq_iff _ _) hs)))) rfl rfl)
  rw [e]
  by_cases c : q.1 < p.1
  · rw [if_pos c, if_pos (.inl c)]
    exact ⟨.inl rfl, ⟨le_rfl, fun _ => le_rfl⟩, c.le, fun h => absurd h c.ne⟩
  · rw [if_neg c]
    by_cases d : p.1 = q.1 ∧ p.2.toNat < q.2.toNat
    · rw [if_pos (.inr d)]
      exact ⟨.inl (Prod.ext d.1.symm rfl), ⟨d.1.le, fun _ => le_rfl⟩, le_rfl, fun _ => d.2.le⟩
    · rw [if_neg (not_or.mpr ⟨c, d⟩)]
      exact ⟨.inr rfl, ⟨not_lt.mp c, fun h => not_lt.mp fun w => d ⟨h, w⟩⟩, le_rfl, fun _ => le_rfl⟩

theorem red_fold : ∀ (l : List (EReal × BitVec 32)) (p : EReal × BitVec 32), p.2.toNat < 20000 → (∀ q ∈ l, q.2.toNat < 20000) →
    (l.foldl (reducer_argmax_f32_i32 (F := Ideal)) p = p ∨ l.foldl (reducer_argmax_f32_i32 (F := Ideal)) p ∈ l) ∧ Below p (l.foldl (reducer_argmax_f32_i32 (F := Ideal)) p) ∧ ∀ q ∈ l, Below q (l.foldl (reducer_argmax_f32_i32 (F := Ideal)) p)
  | [], p, _, _ => ⟨.inl rfl, ⟨le_rfl, fun _ => le_rfl⟩, fun q h => absurd h List.not_mem_nil⟩
  | a :: l, p, hp, hl => by
    obtain ⟨s1, s2, s3⟩ := red_step p a hp (hl a List.mem_cons_self)
    have hs : (reducer_argmax_f32_i32 (F := Ideal) p a).2.toNat < 20000 := by
      rcases s1 with e | e <;> rw [e]
      exacts [hp, hl a List.mem_cons_self]
    obtain ⟨h1, h2, h3⟩ := red_fold l (reducer_argmax_f32_i32 (F := Ideal) p a) hs fun q h => hl q (List.mem_cons_of_mem _ h)
    refine ⟨?_, s2.trans h2, fun q h => ?_⟩
    · rcases h1 with h1 | h1
      · rcases s1 with e | e
        · exact .inl (h1.trans e)
        · exact .inr (List.mem_cons.mpr (.inl (h1.trans e)))
      · exact .inr (List.mem_cons_of_mem _ h1)
    · rcases List.mem_cons.mp h with rfl | h
      · exact s3.trans h2
      · exact h3 q h

/-- Where a column is largest, and first so. -/
theorem colarg (v : FVec Ideal S20000x256 .f32) (hv : ∀ i, (⊥ : EReal) < v i) (k : Fin 256) :
    ∃ i : Fin 20000, (Host.argReduce reducer_argmax_f32_i32 v (iotaInDim S20000x256 32 0) (constant (F := Ideal) S_ .f32 0xFF800000#32) (constantI S_ 32 0#32) reducesTo_S20000x256_S256_d0 h_S_ (ix1 k)).2 = BitVec.ofNat 32 i.val
      ∧ ∀ i' : Fin 20000, (v (ix2 i' k) : EReal) ≤ v (ix2 i k) ∧ (v (ix2 i' k) = v (ix2 i k) → i ≤ i') := by
  rw [Ideal.argReduce_eq_reduce2, Host.reduce2_eq_foldl_fiber]
  have hd : ∀ i : S20000x256.Idx, reducesTo_S20000x256_S256_d0.drop i = ix1 (i 1) := fun i => funext fun b => by
    match b with
    | 0 => rfl
  have hm : ∀ p, p ∈ Host.argReduceFiber v (iotaInDim S20000x256 32 0) reducesTo_S20000x256_S256_d0 (ix1 k) ↔ ∃ i : Fin 20000, p = (v (ix2 i k), BitVec.ofNat 32 i.val) := fun p => by
    unfold Host.argReduceFiber
    rw [List.mem_map]
    constructor
    · rintro ⟨n, hn, rfl⟩
      have hk := congrFun ((hd _).symm.trans (of_decide_eq_true (List.mem_filter.mp hn).2)) 0
      refine ⟨S20000x256.rowMajor.symm n 0, Prod.ext (congrArg v (funext fun a => ?_)) rfl⟩
      match a with
      | 0 => rfl
      | 1 => exact hk
    · rintro ⟨i, rfl⟩
      refine ⟨S20000x256.rowMajor (ix2 i k), List.mem_filter.mpr ⟨List.mem_finRange _, decide_eq_true ?_⟩, ?_⟩
      · rw [Equiv.symm_apply_apply]
        exact hd _
      · rw [Equiv.symm_apply_apply]
        rfl
  have hb : ∀ i : Fin 20000, (BitVec.ofNat 32 i.val).toNat = i.val := fun i => by
    have := i.isLt
    rw [BitVec.toNat_ofNat]
    omega
  obtain ⟨h1, h2, h3⟩ := red_fold (Host.argReduceFiber v (iotaInDim S20000x256 32 0) reducesTo_S20000x256_S256_d0 (ix1 k)) (⊥, 0#32) (by decide) fun q hq => by
    obtain ⟨i, rfl⟩ := (hm q).mp hq
    rw [hb]
    exact i.isLt
  rw [show ((constant (F := Ideal) S_ .f32 0xFF800000#32) (Shape.Idx.first h_S_), constantI S_ 32 0#32 (Shape.Idx.first h_S_)) = ((⊥, 0#32) : EReal × BitVec 32) from Prod.ext ofBbot rfl]
  have h0 := (h3 _ ((hm _).mpr ⟨0, rfl⟩)).1
  have h1 := h1.resolve_left fun q => by
    rw [q] at h0
    exact absurd (hv _) (not_lt.mpr h0)
  obtain ⟨i, hi⟩ := (hm _).mp h1
  refine ⟨i, congrArg Prod.snd hi, fun i' => ?_⟩
  have h4 := h3 _ ((hm _).mpr ⟨i', rfl⟩)
  rw [hi] at h4
  refine ⟨h4.1, fun q => ?_⟩
  have := h4.2 q
  rw [hb, hb] at this
  exact this

end Cert.Proof.Ref

end
-- ==== Proof.RefSeg.lean ====
/-
  The reference: its centres, and each segment's largest confidence.
-/
module

public import proofs.«01_k».proof.Proof.RefRead
public import Idealize.ShloMosaic.Lib.ValueIdxRank1
public import proofs.«01_k».proof.Proof.Sc.TcVal
public import proofs.«01_k».proof.Proof.Sc.Valid

@[expose] public section

set_option maxRecDepth 16384

noncomputable section

namespace Cert.Proof.Ref

open Cert.ReferenceIdeal Cert.ReferenceIdeal.Gen
open Idealize.ShloMosaic Idealize.SL.Sem
open Cert.Proof.Sc (ofB0 ofB1 ofBhalf ofBm2 ofB256 ofB20000 ofBcap ofBtop ofBbot ofb)

variable (x : FVec Ideal S20000x4 .f32) (f : FVec Ideal S20000 .f32) (y : IVec S20000 32) (e : IVec S2x40000 32)

/-- Every centre is a row. -/
theorem ctr_at (k : Fin 256) (i : Fin 20000) (h : amax f y (ix1 k) = BitVec.ofNat 32 i.val) (r : Fin 4) : ctr x f y (ix2 k r) = x (ix2 i r) := by
  have hi := i.isLt
  refine Routing.gather_row (nb := 20000) (B := 4) (n := 256) gather_S20000x4_S256x1_S256x4_1_0_n_n_0_1_14 rfl rfl rfl rfl rfl x _ k r i ?_ (by decide)
  have e : (broadcastInDim S256x1 ![0] bcast_S256_S256x1_0 (wrp (amax f y))) (ix2 k 0) = Scalar.select (IntOp.cmpi .slt (amax f y (ix1 k)) 0#32) (IntOp.addi (amax f y (ix1 k)) 20000#32) (amax f y (ix1 k)) := by
    unfold wrp
    pointwise
  refine Eq.trans e ?_
  rw [h]
  refine if_neg fun q => ?_
  have := IntOp.cmpi_slt.mp q
  rw [BitVec.toInt_eq_toNat_cond, BitVec.toNat_ofNat] at this
  simp at this
  omega

theorem row_at (o : Fin 2) (hs : S2x40000.Slices ![o.val, 0] S1x40000) (n : Fin 40000) :
    shapeCast S40000 (extractStridedSlice S1x40000 ![o.val, 0] e hs) shapeCasts_S1x40000_S40000 (ix1 n) = e (ix2 o n) := by
  pointwise

theorem fend_at (n : Fin 40000) (i : Fin 20000) (h : e (ix2 0 n) = BitVec.ofNat 32 i.val) : fend f e (ix1 n) = f (ix1 i) := by
  have hi := i.isLt
  refine Routing.gather_take1 (N := 20000) (n := 40000) gather_S20000_S40000x1_S40000_n_0_n_n_0_1_1 rfl rfl rfl rfl f _ n i ?_ (by decide)
  have e1 : ends e (ix1 n) = BitVec.ofNat 32 i.val := (row_at e 0 _ n).trans h
  have e2 : ∀ v : IVec S40000 32, (broadcastInDim S40000x1 ![0] bcast_S40000_S40000x1_0
      (select (cmpi .slt v (broadcastInDim S40000 ![] bcast_S_S40000 (constantI S_ 32 0#32))) (addi v (broadcastInDim S40000 ![] bcast_S_S40000 (constantI S_ 32 20000#32))) v)) (ix2 n 0)
    = Scalar.select (IntOp.cmpi .slt (v (ix1 n)) 0#32) (IntOp.addi (v (ix1 n)) 20000#32) (v (ix1 n)) := fun v => by
    pointwise
  refine Eq.trans (e2 (ends e)) ?_
  rw [e1]
  refine if_neg fun q => ?_
  have := IntOp.cmpi_slt.mp q
  rw [BitVec.toInt_eq_toNat_cond, BitVec.toNat_ofNat] at this
  simp at this
  omega

/-- The confidences of the edges' ends by segment. -/
def seg : FVec Ideal S40000x256 .f32 := select (ofk e)
    (broadcastInDim S40000x256 ![0, 1] bcast_S40000x1_S40000x256_0_1 (broadcastInDim S40000x1 ![0] bcast_S40000_S40000x1_0 (fend f e)))
    (broadcastInDim S40000x256 ![] bcast_S_S40000x256 (id (constant (F := Ideal) S_ .f32 0xFF800000#32)))

theorem max0_at (v : FVec Ideal S256 .f32) (k : Fin 256) : maximumf v (broadcastInDim S256 ![] bcast_S_S256 (constant (F := Ideal) S_ .f32 0x00000000#32)) (ix1 k) = max (v (ix1 k)) (0 : EReal) :=
  congrArg (max (v (ix1 k))) (ofB0 : _ = (0 : EReal))

theorem seg_at (n : Fin 40000) (k : Fin 256) : seg f e (ix2 n k) = if e (ix2 1 n) = BitVec.ofNat 32 k.val then fend f e (ix1 n) else (⊥ : EReal) := by
  have h : seg f e (ix2 n k) = Scalar.select (IntOp.cmpi .eq (segs e (ix1 n)) (BitVec.ofNat 32 k.val)) (fend f e (ix1 n)) (id (constant (F := Ideal) S_ .f32 0xFF800000#32) ix0) := by
    unfold seg ofk
    pointwise
  refine h.trans ?_
  rw [show segs e (ix1 n) = e (ix2 1 n) from row_at e 1 _ n]
  exact (if_congr (ofb _ _) rfl ofBbot)

theorem fctr_max (k : Fin 256) : fctr f e (ix1 k) = max (Host.reduce FloatOps.maximumf (seg f e) (constant (F := Ideal) S_ .f32 0xFF800000#32) reducesTo_S40000x256_S256_d0 h_S_ (ix1 k)) (0 : EReal) :=
  max0_at (Host.reduce FloatOps.maximumf (seg f e) (constant (F := Ideal) S_ .f32 0xFF800000#32) reducesTo_S40000x256_S256_d0 h_S_) k

/-- A segment's largest confidence, at least zero. -/
theorem fctr_at (hi : ∀ n : Fin 40000, ∃ i : Fin 20000, e (ix2 0 n) = BitVec.ofNat 32 i.val) (k : Fin 256) :
    (∀ (n : Fin 40000) (i : Fin 20000), e (ix2 0 n) = BitVec.ofNat 32 i.val → e (ix2 1 n) = BitVec.ofNat 32 k.val → f (ix1 i) ≤ fctr f e (ix1 k))
    ∧ 0 ≤ fctr f e (ix1 k)
    ∧ (fctr f e (ix1 k) = 0 ∨ ∃ (n : Fin 40000) (i : Fin 20000), e (ix2 0 n) = BitVec.ofNat 32 i.val ∧ e (ix2 1 n) = BitVec.ofNat 32 k.val ∧ f (ix1 i) = fctr f e (ix1 k)) := by
  obtain ⟨h1, h2⟩ := colmax reducesTo_S40000x256_S256_d0 (seg f e) k
  rw [fctr_max]
  generalize Host.reduce FloatOps.maximumf (seg f e) (constant (F := Ideal) S_ .f32 0xFF800000#32) reducesTo_S40000x256_S256_d0 h_S_ (ix1 k) = M at h1 h2 ⊢
  refine ⟨fun n i hn hk => ?_, le_max_right _ _, ?_⟩
  · refine le_trans ?_ (le_max_left _ _)
    refine le_trans (le_of_eq ?_) (h1 n)
    rw [seg_at, if_pos hk, fend_at f e n i hn]
  · rcases max_choice M (0 : EReal) with q | q
    · rcases h2 with h2 | ⟨n, h2⟩
      · rw [h2]
        exact .inl (max_eq_right bot_le)
      · rw [seg_at] at h2
        by_cases c : e (ix2 1 n) = BitVec.ofNat 32 k.val
        · rw [if_pos c] at h2
          obtain ⟨i, hi⟩ := hi n
          rw [fend_at f e n i hi] at h2
          exact .inr ⟨n, i, hi, c, h2.trans q.symm⟩
        · rw [if_neg c] at h2
          rw [← h2]
          exact .inl (max_eq_right bot_le)
    · exact .inl q

end Cert.Proof.Ref

end
-- ==== Proof.Sc.Charge.lean ====
/-
  Charges and distances as real numbers.
-/
module

public import proofs.«01_k».proof.Proof.Sc.Sum
public import proofs.«01_k».proof.Proof.RefSeg
public import Mathlib.Analysis.SpecialFunctions.Artanh

@[expose] public section

set_option maxRecDepth 16384

noncomputable section

namespace Cert.Proof.Sc

open Idealize.ShloMosaic

/-! ## A charge as a real number -/

/-- The charge of a confidence. -/
def charge (a : ℝ) : ℝ := Real.artanh a * Real.artanh a + 1 / 2

theorem charge_pos (a : ℝ) : 0 < charge a := by
  unfold charge
  nlinarith [mul_self_nonneg (Real.artanh a)]

theorem charge_lt {a b : ℝ} (h0 : 0 ≤ a) (h : a < b) (h1 : b < 1) : charge a < charge b := by
  have k := Real.artanh_lt_artanh (by linarith) h1 h
  have k0 := Real.artanh_nonneg h0
  unfold charge
  nlinarith

theorem charge_le_iff {a b : ℝ} (ha : 0 ≤ a ∧ a < 1) (hb : 0 ≤ b ∧ b < 1) : charge a ≤ charge b ↔ a ≤ b :=
  ⟨fun h => not_lt.mp fun k => absurd (charge_lt hb.1 k ha.2) (not_lt.mpr h),
    fun h => h.lt_or_eq.elim (fun k => (charge_lt ha.1 k hb.2).le) fun k => k ▸ le_rfl⟩

theorem charge_inj {a b : ℝ} (ha : 0 ≤ a ∧ a < 1) (hb : 0 ≤ b ∧ b < 1) (h : charge a = charge b) : a = b :=
  le_antisymm ((charge_le_iff ha hb).mp h.le) ((charge_le_iff hb ha).mp h.ge)

/-- The host's formula, -/
theorem atanh_charge {a : ℝ} (h0 : 0 ≤ a) (h1 : a < 1) : Ideal.atanh (a : EReal) * Ideal.atanh (a : EReal) + Ideal.ofBits .f32 0x3F000000#32 = (charge a : EReal) := by
  have e : Ideal.atanh (a : EReal) = (Real.artanh a : EReal) := by
    show (if a = 1 then (⊤ : EReal) else if a = -1 then ⊥ else if -1 < a ∧ a < 1 then (Real.artanh a : EReal) else ⊥) = _
    rw [if_neg h1.ne, if_neg (by linarith), if_pos ⟨by linarith, h1⟩]
  rw [e, ofBhalf]
  unfold charge
  norm_cast

/-- and the kernel's. -/
theorem qq_charge {a : ℝ} (h0 : 0 ≤ a) (h1 : a ≤ 15938355 / 16777216) : qq (a : EReal) = (charge a : EReal) := by
  have l1 : a < 1 := by linarith [show (15938355 / 16777216 : ℝ) < 1 by norm_num]
  unfold qq
  rw [ofB0, ofBcap, ofBhalf, ofB1]
  have c1 : min ((15938355 / 16777216 : ℝ) : EReal) (max (0 : EReal) (a : EReal)) = (a : EReal) := by
    rw [max_eq_right (by exact_mod_cast h0), min_eq_right (by exact_mod_cast h1)]
  simp only [c1]
  have c2 : Ideal.div (1 + (a : EReal)) (1 - (a : EReal)) = (((1 + a) / (1 - a) : ℝ) : EReal) := by
    rw [show (1 : EReal) + (a : EReal) = ((1 + a : ℝ) : EReal) by norm_cast, show (1 : EReal) - (a : EReal) = ((1 - a : ℝ) : EReal) by norm_cast]
    unfold Ideal.div
    have hne : ((1 - a : ℝ) : EReal) ≠ 0 := by exact_mod_cast (by linarith : (1 - a : ℝ) ≠ 0)
    rw [if_neg hne, div_eq_mul_inv]
    norm_cast
  have hp : 0 < (1 + a) / (1 - a) := div_pos (by linarith) (by linarith)
  have c3 : Ideal.log (((1 + a) / (1 - a) : ℝ) : EReal) = (Real.log ((1 + a) / (1 - a)) : EReal) := by
    show (if (1 + a) / (1 - a) ≤ 0 then (⊥ : EReal) else (Real.log ((1 + a) / (1 - a)) : EReal)) = _
    rw [if_neg (not_le.mpr hp)]
  rw [c2, c3]
  unfold charge
  rw [Real.artanh_eq_half_log ⟨by linarith, l1.le⟩]
  norm_cast

theorem coe_sum {ι : Type} (s : Finset ι) (g : ι → ℝ) : ∑ i ∈ s, (g i : EReal) = ((∑ i ∈ s, g i : ℝ) : EReal) :=
  (map_sum (⟨⟨Real.toEReal, rfl⟩, EReal.coe_add⟩ : ℝ →+ EReal) g s).symm

/-- The squared distance: the kernel's three sums of sixteen products, twelve of them zero, are the reference's four squares. -/
theorem dist_real (X C : Fin 16 → EReal) (x c : Fin 4 → ℝ) (hX : ∀ r : Fin 16, X r = if h : r.val < 4 then (x ⟨r.val, h⟩ : EReal) else 0)
    (hC : ∀ r : Fin 16, C r = if h : r.val < 4 then (c ⟨r.val, h⟩ : EReal) else 0) :
    (∑ r : Fin 16, X r * (Ideal.ofBits .f32 0xC0000000#32 * C r)) + (∑ r : Fin 16, X r * X r) * (Ideal.ofBits .f32 0x00000000#32 + Ideal.ofBits .f32 0x3F800000#32)
      + (Ideal.ofBits .f32 0x00000000#32 + Ideal.ofBits .f32 0x3F800000#32) * (∑ r : Fin 16, C r * C r)
    = ((∑ r : Fin 4, (x r - c r) * (x r - c r) : ℝ) : EReal) := by
  have hX' : ∀ r, X r = ((if h : r.val < 4 then x ⟨r.val, h⟩ else 0 : ℝ) : EReal) := fun r => by
    rw [hX]
    split <;> rfl
  have hC' : ∀ r, C r = ((if h : r.val < 4 then c ⟨r.val, h⟩ else 0 : ℝ) : EReal) := fun r => by
    rw [hC]
    split <;> rfl
  rw [ofB0, ofB1, ofBm2]
  simp only [hX', hC', zero_add, mul_one, one_mul, ← EReal.coe_mul, coe_sum, ← EReal.coe_add]
  congr 1
  simp [Fin.sum_univ_succ]
  ring

theorem dist_ref (X C : Fin 4 → EReal) (x c : Fin 4 → ℝ) (hX : ∀ r, X r = (x r : EReal)) (hC : ∀ r, C r = (c r : EReal)) :
    ∑ r : Fin 4, (X r - C r) * (X r - C r) = ((∑ r : Fin 4, (x r - c r) * (x r - c r) : ℝ) : EReal) := by
  simp only [hX, hC, ← EReal.coe_sub, ← EReal.coe_mul, coe_sum]

end Cert.Proof.Sc

end
-- ==== Proof.Sc.Centre.lean ====
/-
  The centres, the classes' and the segments' largest confidences that the SparseCore call finds, as functions of the arguments.
-/
module

public import proofs.«01_k».proof.Proof.Sc.Charge

@[expose] public section

set_option maxRecDepth 16384

noncomputable section

namespace Cert.Proof.Sc

open Cert.KernelIdeal Cert.KernelIdeal.Gen
open Idealize.ShloMosaic

/-! ## What the SparseCore call finds -/

variable (m : (ℓ : Loc nD τ sig) → Buf (Elt Ideal) ℓ) (d : Dev nD)
variable (hr : ∀ d, InRange (m ((SparseCore.T d).loc main_arg2)) (m ((SparseCore.T d).loc main_arg3)))

/-- The arguments. -/
def aX : FVec Ideal S20000x4 .f32 := m ((SparseCore.T d).loc main_arg0)
def aF : FVec Ideal S20000 .f32 := m ((SparseCore.T d).loc main_arg1)
def aY : IVec S20000 32 := m ((SparseCore.T d).loc main_arg2)
def aE : IVec S2x40000 32 := m ((SparseCore.T d).loc main_arg3)

theorem ix1_i1 {n : ℕ} (i : Fin n) : (ix1 i : (⟨1, ![n]⟩ : Shape).Idx) = i1 i.val i.isLt := funext fun a => match a with | 0 => rfl
theorem ix2_i2 {a b : ℕ} (i : Fin a) (j : Fin b) : (ix2 i j : (⟨2, ![a, b]⟩ : Shape).Idx) = i2 i.val j.val i.isLt j.isLt :=
  funext fun a => match a with | 0 => rfl | 1 => rfl

theorem kY_eq (n : Fin 20480) : kY m d n = if h : n.val < 20000 then aY m d (ix1 ⟨n.val, h⟩) else 4294967294#32 := by
  refine (V0_v10 m d (ix1 n)).trans ?_
  show (if h : n.val < 20000 then _ else _) = _
  split
  · rename_i h
    exact congrArg (aY m d) (ix1_i1 (⟨n.val, h⟩ : Fin 20000)).symm
  · rfl

theorem kF_eq (n : Fin 20480) : kF m d n = if h : n.val < 20000 then aF m d (ix1 ⟨n.val, h⟩) else 0 := by
  refine (V0_v7 m d (ix1 n)).trans ?_
  show (if h : n.val < 20000 then _ else _) = _
  split
  · rename_i h
    exact congrArg (aF m d) (ix1_i1 (⟨n.val, h⟩ : Fin 20000)).symm
  · exact ofB0

theorem kX_eq (n : Fin 20480) (r : Fin 16) : kX m d n r = if h : n.val < 20000 ∧ r.val < 4 then aX m d (ix2 ⟨n.val, h.1⟩ ⟨r.val, h.2⟩) else 0 := by
  refine (V0_v4 m d (ix2 n r)).trans ?_
  show (if h : n.val < 20000 ∧ r.val < 4 then _ else _) = _
  split
  · rename_i h
    exact congrArg (aX m d) (ix2_i2 (⟨n.val, h.1⟩ : Fin 20000) (⟨r.val, h.2⟩ : Fin 4)).symm
  · exact ofB0

theorem gOf_eq (n : ℕ) (h : n < 20480) : gOf (inpOf m hr d).fp n = kF m d ⟨n, h⟩ := by
  unfold gOf
  rw [dif_pos h]
  rw [(feeds_of m hr d).fp, ← ix1_i1 (⟨n, h⟩ : Fin 20480)]
  rfl

theorem gOf_nonneg (hf : ∀ n, 0 ≤ aF m d n) (n : ℕ) : 0 ≤ gOf (inpOf m hr d).fp n := by
  by_cases h : n < 20480
  · rw [gOf_eq m d hr n h, kF_eq]
    split
    · exact hf _
    · exact le_rfl
  · unfold gOf
    rw [dif_neg h]

theorem binAt_eq (n : ℕ) (h : n < 20480) : binAt (inpOf m hr d).ints n = (binOf (kY m d ⟨n, h⟩)).toNat := by
  unfold binAt
  rw [dif_pos h]
  refine congrArg (fun b => (binOf b).toNat) ((V0_v19 m d _).trans ?_)
  show (if h : n < 20480 then _ else _) = _
  rw [dif_pos h]
  exact congrArg (V0 m d (Proc.devRef .tc main_v10)) (ix1_i1 (⟨n, h⟩ : Fin 20480)).symm

theorem eq_ofNat {b : BitVec 32} {k : ℕ} (hk : k < 20000) : b = BitVec.ofNat 32 k ↔ b.toNat = k := by
  constructor
  · rintro rfl
    rw [BitVec.toNat_ofNat]
    omega
  · intro h
    refine BitVec.eq_of_toNat_eq ?_
    rw [BitVec.toNat_ofNat]
    omega

/-- A bin below 256 is a class number. -/
theorem bin_iff {b : BitVec 32} {k : ℕ} (hk : k < 256) : (binOf b).toNat = k ↔ b = BitVec.ofNat 32 k := by
  rw [eq_ofNat (by omega)]
  unfold binOf Scalar.select
  split
  · rfl
  · rename_i hc
    have hc' : ¬ 0 ≤ b.toInt := fun q => hc (IntOp.cmpi_sge.mpr q)
    rw [BitVec.toInt_eq_toNat_cond] at hc'
    have h2 : ((256#32 : BitVec 32)).toNat = 256 := rfl
    constructor
    · intro q
      have : (256 : ℕ) = k := q
      omega
    · intro q
      split at hc' <;> omega

/-- A row of class `k` is one of the rows the kernel puts in bin `k`. -/
theorem bin_row (k : Fin 256) (n : ℕ) (h : n < 20480) : binAt (inpOf m hr d).ints n = k.val ↔ ∃ h : n < 20000, aY m d (ix1 ⟨n, h⟩) = BitVec.ofNat 32 k.val := by
  rw [binAt_eq m d hr n h, bin_iff k.isLt, kY_eq]
  have hk := k.isLt
  constructor
  · intro q
    split at q
    · rename_i h1
      exact ⟨h1, q⟩
    · rw [eq_ofNat (by omega)] at q
      have h2 : (4294967294#32 : BitVec 32).toNat = 4294967294 := rfl
      omega
  · rintro ⟨h1, q⟩
    rw [dif_pos h1]
    exact q

/-- The row of class `k` with the largest confidence, the first of equal ones. -/
structure First (f : FVec Ideal S20000 .f32) (y : IVec S20000 32) (k : Fin 256) (i : Fin 20000) : Prop where
  cls : y (ix1 i) = BitVec.ofNat 32 k.val
  le : ∀ j, y (ix1 j) = BitVec.ofNat 32 k.val → f (ix1 j) ≤ f (ix1 i)
  fst : ∀ j, y (ix1 j) = BitVec.ofNat 32 k.val → f (ix1 j) = f (ix1 i) → i ≤ j

theorem First.unique {f : FVec Ideal S20000 .f32} {y : IVec S20000 32} {k : Fin 256} {i j : Fin 20000} (h : First f y k i) (g : First f y k j) : i = j :=
  have e : f (ix1 i) = f (ix1 j) := le_antisymm (g.le i h.cls) (h.le j g.cls)
  le_antisymm (h.fst j g.cls e.symm) (g.fst i h.cls e)

theorem kB_top (k : Fin 256) : kB (inpOf m hr) d k = topF (inpOf m hr d) ⟨k.val / 16, by omega⟩ (i1 (k.val % 16) (Nat.mod_lt _ (by decide))) := by
  refine Eq.trans ?_ (outF_topF (inpOf m hr d) ⟨k.val / 16, by omega⟩ (i1 (k.val % 16) (Nat.mod_lt _ (by decide))) (by show k.val / 16 + 256 < 288; omega))
  refine congrArg (outF (inpOf m hr d)) (funext fun a => Fin.ext ?_)
  match a with
  | 0 => exact Nat.add_comm _ _
  | 1 => rfl

theorem kC_top (k : Fin 256) : kC (inpOf m hr) d k = topE (inpOf m hr d) ⟨k.val / 16, by omega⟩ (i1 (k.val % 16) (Nat.mod_lt _ (by decide))) := by
  refine Eq.trans ?_ (outF_topE (inpOf m hr d) ⟨k.val / 16, by omega⟩ (i1 (k.val % 16) (Nat.mod_lt _ (by decide))) (by show k.val / 16 + 272 < 288; omega))
  refine congrArg (outF (inpOf m hr d)) (funext fun a => Fin.ext ?_)
  match a with
  | 0 => exact Nat.add_comm _ _
  | 1 => rfl

theorem kA_top (k : Fin 256) (r : Fin 16) : kA (inpOf m hr) d k r
    = V0 m d (Proc.devRef .tc main_v4) (i2 ((topI (inpOf m hr d) ⟨k.val / 16, by omega⟩ (i1 (k.val % 16) (Nat.mod_lt _ (by decide)))).toNat % 20480) r.val (Nat.mod_lt _ (by decide)) r.isLt) := by
  have e := outF_blk (inpOf m hr d) ⟨k.val / 16, by omega⟩ (i2 (k.val % 16) r.val (Nat.mod_lt _ (by decide)) r.isLt) (by show 16 * (k.val / 16) + k.val % 16 < 288; omega)
  unfold gath at e
  rw [(feeds_of m hr d).x] at e
  refine Eq.trans ?_ e
  refine congrArg (outF (inpOf m hr d)) (funext fun a => Fin.ext ?_)
  match a with
  | 0 =>
    show k.val = 16 * (k.val / 16) + k.val % 16
    omega
  | 1 => rfl

/-- The class's centre: its first row of largest confidence; `-1` for the confidence of an empty class. -/
theorem ker_centre (hf : ∀ n, 0 ≤ aF m d n) (k : Fin 256) :
    ((∀ i, aY m d (ix1 i) ≠ BitVec.ofNat 32 k.val) ∧ kB (inpOf m hr) d k = -1)
    ∨ ∃ i, First (aF m d) (aY m d) k i ∧ kB (inpOf m hr) d k = aF m d (ix1 i) ∧ ∀ r : Fin 16, kA (inpOf m hr) d k r = if h : r.val < 4 then aX m d (ix2 i ⟨r.val, h⟩) else 0 := by
  have hb := top_best (inpOf m hr d) (gOf_nonneg m d hr hf) ⟨k.val / 16, by omega⟩ (i1 (k.val % 16) (Nat.mod_lt _ (by decide)))
  have hk : 16 * (k.val / 16) + k.val % 16 = k.val := by omega
  have hS : {n | n < 20480 ∧ binAt (inpOf m hr d).ints n = 16 * (k.val / 16) + k.val % 16} = {n | ∃ h : n < 20000, aY m d (ix1 ⟨n, h⟩) = BitVec.ofNat 32 k.val} := by
    ext n
    rw [Set.mem_setOf_eq, hk]
    constructor
    · rintro ⟨h1, h2⟩
      exact (bin_row m d hr k n h1).mp h2
    · rintro ⟨h1, h2⟩
      exact ⟨by omega, (bin_row m d hr k n (by omega)).mpr ⟨h1, h2⟩⟩
  have hb := hb.congr hS
  rw [kB_top]
  have hA := fun r => kA_top m d hr k r
  generalize topF (inpOf m hr d) ⟨k.val / 16, by omega⟩ (i1 (k.val % 16) (Nat.mod_lt _ (by decide))) = v at hb ⊢
  generalize topI (inpOf m hr d) ⟨k.val / 16, by omega⟩ (i1 (k.val % 16) (Nat.mod_lt _ (by decide))) = b at hb hA
  have hg : ∀ i : Fin 20000, gOf (inpOf m hr d).fp i.val = aF m d (ix1 i) := fun i => by
    rw [gOf_eq m d hr i.val (by omega), kF_eq, dif_pos i.isLt]
  obtain ⟨hle, ⟨h0, hv, _⟩ | ⟨⟨hn, hc⟩, hv, hfst⟩⟩ := hb
  · exact .inl ⟨fun i q => by
      have : i.val ∈ {n | ∃ h : n < 20000, aY m d (ix1 ⟨n, h⟩) = BitVec.ofNat 32 k.val} := ⟨i.isLt, q⟩
      rw [h0] at this
      exact absurd this (Set.notMem_empty _), hv⟩
  · have hv' : aF m d (ix1 ⟨b.toNat, hn⟩) = v := (hg ⟨b.toNat, hn⟩).symm.trans hv
    refine .inr ⟨⟨b.toNat, hn⟩, ⟨hc, fun j hj => ?_, fun j hj e => ?_⟩, hv'.symm, fun r => ?_⟩
    · rw [hv', ← hg j]
      exact hle j.val ⟨j.isLt, hj⟩
    · exact hfst j.val ⟨j.isLt, hj⟩ ((hg j).trans (e.trans hv'))
    · rw [hA r]
      have e : b.toNat % 20480 = b.toNat := Nat.mod_eq_of_lt (by omega)
      have e2 : (i2 (b.toNat % 20480) r.val (Nat.mod_lt _ (by decide)) r.isLt : S20480x16.Idx) = ix2 (⟨b.toNat, by omega⟩ : Fin 20480) r := by
        rw [ix2_i2]
        exact funext fun a => Fin.ext (match a with | 0 => e | 1 => rfl)
      rw [e2]
      refine (kX_eq m d ⟨b.toNat, by omega⟩ r).trans ?_
      by_cases h4 : r.val < 4
      · rw [dif_pos ⟨hn, h4⟩, dif_pos h4]
      · rw [dif_neg (fun q => h4 q.2), dif_neg h4]

/-- An edge's confidence and segment. -/
theorem jAt_eq (n : ℕ) (h : n < 40960) : jAt (inpOf m hr d).ints n = if h : n < 40000 then (aE m d (ix2 1 ⟨n, h⟩)).toNat else 256 := by
  unfold jAt
  rw [dif_pos h]
  have e : (inpOf m hr d).ints (i1 (61440 + n) (by omega)) = V0 m d (Proc.devRef .tc main_v18) (i1 n h) := by
    refine (V0_v19 m d _).trans ?_
    show (if h : 61440 + n < 20480 then _ else if h' : 61440 + n < 61440 then _ else _) = _
    rw [dif_neg (by omega), dif_neg (by omega)]
    exact congrArg (V0 m d (Proc.devRef .tc main_v18)) (funext fun a => Fin.ext (match a with | 0 => Nat.add_sub_cancel_left _ _))
  rw [e, V0_v18]
  split
  · rename_i h1
    exact congrArg (fun u => (aE m d u).toNat) (ix2_i2 (1 : Fin 2) (⟨n, h1⟩ : Fin 40000)).symm
  · rfl

theorem gE_eq (n : ℕ) (h : n < 40000) (i : Fin 20000) (hi : aE m d (ix2 0 ⟨n, h⟩) = BitVec.ofNat 32 i.val) : gE (inpOf m hr d).fp (inpOf m hr d).ints n = aF m d (ix1 i) := by
  unfold gE
  rw [dif_pos (by omega)]
  have hi' := i.isLt
  have e : (inpOf m hr d).ints (i1 (20480 + n) (by omega)) = BitVec.ofNat 32 i.val := by
    refine (V0_v19 m d _).trans ?_
    show (if h : 20480 + n < 20480 then _ else if h' : 20480 + n < 61440 then _ else _) = _
    rw [dif_neg (by omega), dif_pos (by omega)]
    refine Eq.trans (congrArg (V0 m d (Proc.devRef .tc main_v14)) (funext fun a => Fin.ext (match a with | 0 => Nat.add_sub_cancel_left _ _))) ((V0_v14 m d n (by omega)).trans ?_)
    rw [dif_pos h]
    exact (congrArg (aE m d) (ix2_i2 (0 : Fin 2) (⟨n, h⟩ : Fin 40000)).symm).trans hi
  have e3 : ((inpOf m hr d).ints (i1 (20480 + n) (by omega))).toNat % 20480 = i.val := by
    rw [e, BitVec.toNat_ofNat]
    omega
  have e4 : (i1 (((inpOf m hr d).ints (i1 (20480 + n) (by omega))).toNat % 20480) (Nat.mod_lt _ (by decide)) : S20480.Idx) = ix1 (⟨i.val, by omega⟩ : Fin 20480) := by
    rw [ix1_i1]
    exact funext fun a => Fin.ext (match a with | 0 => e3)
  rw [e4]
  rw [(feeds_of m hr d).fp]
  refine Eq.trans (kF_eq m d ⟨i.val, by omega⟩) ?_
  rw [dif_pos i.isLt]

/-- The segments' largest confidences are the reference's. -/
theorem ker_seg (k : Fin 256) : kC (inpOf m hr) d k = Ref.fctr (aF m d) (aE m d) (ix1 k) := by
  have hi : ∀ n : Fin 40000, ∃ i : Fin 20000, aE m d (ix2 0 n) = BitVec.ofNat 32 i.val := fun n => by
    have := small_of (k := 20000) ((hr d).i n.val n.isLt)
    refine ⟨⟨_, this⟩, (eq_ofNat this).mpr ?_⟩
    exact congrArg (fun u => (aE m d u).toNat) (ix2_i2 (0 : Fin 2) n)
  have hk : 16 * (k.val / 16) + k.val % 16 = k.val := by omega
  have hb := top_big (inpOf m hr d) ⟨k.val / 16, by omega⟩ (i1 (k.val % 16) (Nat.mod_lt _ (by decide)))
  have hS : {n | n < 40960 ∧ jAt (inpOf m hr d).ints n = 16 * (k.val / 16) + k.val % 16} = {n | ∃ h : n < 40000, aE m d (ix2 1 ⟨n, h⟩) = BitVec.ofNat 32 k.val} := by
    ext n
    have hkl := k.isLt
    rw [Set.mem_setOf_eq, hk]
    constructor
    · rintro ⟨h1, h2⟩
      rw [jAt_eq m d hr n h1] at h2
      split at h2
      · rename_i h3
        exact ⟨h3, (eq_ofNat (by omega)).mpr h2⟩
      · omega
    · rintro ⟨h1, h2⟩
      refine ⟨by omega, ?_⟩
      rw [jAt_eq m d hr n (by omega), dif_pos h1]
      exact (eq_ofNat (by omega)).mp h2
  have hb := hb.congr hS
  rw [kC_top]
  generalize topE (inpOf m hr d) ⟨k.val / 16, by omega⟩ (i1 (k.val % 16) (Nat.mod_lt _ (by decide))) = v at hb ⊢
  obtain ⟨r1, r2, r3⟩ := Ref.fctr_at (aF m d) (aE m d) hi k
  refine le_antisymm ?_ ?_
  · rcases hb.at' with h | ⟨n, ⟨hn, hc⟩, hv⟩
    · exact h.le.trans r2
    · obtain ⟨i, hin⟩ := hi ⟨n, hn⟩
      rw [← hv, gE_eq m d hr n hn i hin]
      exact r1 _ i hin hc
  · rcases r3 with h | ⟨n, i, hin, hc, hv⟩
    · exact h.le.trans hb.nn
    · rw [← hv, ← gE_eq m d hr n.val n.isLt i hin]
      exact hb.le n.val ⟨n.isLt, hc⟩

end Cert.Proof.Sc

end
-- ==== Proof.RefCount.lean ====
/-
  What the reference's reductions over the points give: a class's row of largest charge, that charge, and the number of noise points.
-/
module

public import proofs.«01_k».proof.Proof.RefSeg
public import Idealize.ShloMosaic.Lib.ValueIdxRank1
public import proofs.«01_k».proof.Proof.Sc.TcVal
public import proofs.«01_k».proof.Proof.Sc.Valid

@[expose] public section

set_option maxRecDepth 16384

noncomputable section

namespace Cert.Proof.Ref

open Cert.ReferenceIdeal Cert.ReferenceIdeal.Gen
open Idealize.ShloMosaic Idealize.SL.Sem
open Cert.Proof.Sc (ofB0 ofb)

variable (f : FVec Ideal S20000 .f32) (y : IVec S20000 32)

/-! ## The rows of largest charge, and the charges -/

/-- The row of a column's largest value, of the pairs the reduction gives. -/
theorem colarg_of (v : FVec Ideal S20000x256 .f32) (hv : ∀ i, (⊥ : EReal) < v i) (k : Fin 256) (X : S256.Idx → Ideal .f32 × BitVec 32)
    (hX : Host.argReduce reducer_argmax_f32_i32 v (iotaInDim S20000x256 32 0) (constant (F := Ideal) S_ .f32 0xFF800000#32) (constantI S_ 32 0#32) reducesTo_S20000x256_S256_d0 h_S_ = X) : ∃ i : Fin 20000, (X (ix1 k)).2 = BitVec.ofNat 32 i.val
      ∧ ∀ i' : Fin 20000, (v (ix2 i' k) : EReal) ≤ v (ix2 i k) ∧ (v (ix2 i' k) = v (ix2 i k) → i ≤ i') := by
  have h := colarg v hv k
  rw [hX] at h
  exact h

/-- The classes' rows are those pairs' second parts. -/
theorem amax_eq (X : S256.Idx → Ideal .f32 × BitVec 32) (hX : Host.argReduce reducer_argmax_f32_i32 (qm f y) (iotaInDim S20000x256 32 0) (constant (F := Ideal) S_ .f32 0xFF800000#32) (constantI S_ 32 0#32) reducesTo_S20000x256_S256_d0 h_S_ = X) : amax f y = fun j => (X j).2 := by
  subst hX
  with_unfolding_all rfl

/-- A class's row of largest charge. -/
theorem amax_first (h : ∀ p, (⊥ : EReal) < qm f y p) (k : Fin 256) : ∃ i : Fin 20000, amax f y (ix1 k) = BitVec.ofNat 32 i.val
    ∧ ∀ i' : Fin 20000, (qm f y (ix2 i' k) : EReal) ≤ qm f y (ix2 i k) ∧ (qm f y (ix2 i' k) = qm f y (ix2 i k) → i ≤ i') := by
  obtain ⟨X, hX⟩ : ∃ X, Host.argReduce reducer_argmax_f32_i32 (qm f y) (iotaInDim S20000x256 32 0) (constant (F := Ideal) S_ .f32 0xFF800000#32) (constantI S_ 32 0#32) reducesTo_S20000x256_S256_d0 h_S_ = X := ⟨_, rfl⟩
  rw [amax_eq f y X hX]
  exact colarg_of (qm f y) h k X hX

/-- A class's largest charge bounds its rows' and is one of them. -/
theorem qak_max (k : Fin 256) : (∀ i : Fin 20000, (qm f y (ix2 i k) : EReal) ≤ qak f y (ix1 k))
    ∧ (qak f y (ix1 k) = (⊥ : EReal) ∨ ∃ i : Fin 20000, qm f y (ix2 i k) = qak f y (ix1 k)) := by
  have h := colmax (N := 20000) reducesTo_S20000x256_S256_d0 (qm f y) k
  unfold qak
  exact h

/-! ## The number of noise points -/

theorem fold_addi {ι : Type} (g : ι → BitVec 32) (s : Finset ι) (a : BitVec 32) : s.fold IntOp.addi a g = a + ∑ i ∈ s, g i := by
  classical
  induction s using Finset.induction with
  | empty => simp
  | insert b s hb ih =>
    rw [Finset.fold_insert hb, ih, Finset.sum_insert hb]
    show g b + (a + _) = _
    rw [add_left_comm]

/-- The noise points counted. -/
def cnt : ℕ := (Finset.univ.filter fun i : Fin 20000 => y (ix1 i) = 4294967295#32).card

theorem cnt_sum : (∑ i : Fin 20000, if y (ix1 i) = 4294967295#32 then (1 : EReal) else 0) = ((cnt y : ℝ) : EReal) := by
  have h : ∀ i : Fin 20000, (if y (ix1 i) = 4294967295#32 then (1 : EReal) else 0) = ((if y (ix1 i) = 4294967295#32 then (1 : ℝ) else 0 : ℝ) : EReal) := fun i => by
    split <;> rfl
  simp only [h]
  refine (map_sum (⟨⟨Real.toEReal, rfl⟩, EReal.coe_add⟩ : ℝ →+ EReal) _ _).symm.trans (congrArg Real.toEReal ?_)
  unfold cnt
  rw [← Finset.sum_boole]

theorem bkg_at (i : Fin 20000) : extui 32 (bkg y) natLt_1_32 (ix1 i) = if y (ix1 i) = 4294967295#32 then (1 : BitVec 32) else 0 := by
  show BitVec.zeroExtend 32 (BitVec.ofBool (y (ix1 i) == 4294967295#32)) = _
  by_cases c : y (ix1 i) = 4294967295#32
  · rw [if_pos c, (ofb _ _).mpr c]
    rfl
  · rw [if_neg c, ofb0 c]
    rfl

theorem cnt_red (j : S_.Idx) : ((Host.reduce IntOp.addi (extui 32 (bkg y) natLt_1_32) (constantI S_ 32 0#32) reducesTo_S20000_S_d0 h_S_ j).toInt : ℝ) = (cnt y : ℝ) := by
  have e : Host.reduce IntOp.addi (extui 32 (bkg y) natLt_1_32) (constantI S_ 32 0#32) reducesTo_S20000_S_d0 h_S_ j = BitVec.ofNat 32 (cnt y) := by
    refine (Host.reduce_eq_fold IntOp.addi _ _ _ _ _).trans ?_
    rw [fold_addi]
    rw [Finset.filter_true_of_mem fun i _ => funext fun b => b.elim0]
    refine (congrArg₂ (· + ·) (rfl : _ = (0 : BitVec 32)) (Fintype.sum_equiv (ValueIdx.idxEquiv1) _ (fun i : Fin 20000 => if y (ix1 i) = 4294967295#32 then (1 : BitVec 32) else 0) fun i => ?_)).trans ?_
    · obtain ⟨i, rfl⟩ : ∃ a, i = ix1 a := ⟨i 0, funext fun a => match a with | 0 => rfl⟩
      exact bkg_at y i
    · rw [zero_add, Finset.sum_boole]
      unfold cnt
      generalize Finset.card _ = c
      rfl
  have hc : cnt y ≤ 20000 := (Finset.card_le_univ _).trans (le_of_eq (Fintype.card_fin _))
  rw [e]
  have : (BitVec.ofNat 32 (cnt y)).toInt = (cnt y : ℤ) := by
    rw [BitVec.toInt_eq_toNat_cond, BitVec.toNat_ofNat]
    have h : cnt y % 2 ^ 32 = cnt y := by omega
    rw [h, if_pos (by omega)]
  rw [this]
  exact Int.cast_natCast _

theorem cnt_pos (h : ∃ n, y n = 4294967295#32) : 0 < cnt y := by
  obtain ⟨n, hn⟩ := h
  obtain ⟨i, rfl⟩ : ∃ i : Fin 20000, n = ix1 i := ⟨n 0, funext fun a => match a with | 0 => rfl⟩
  unfold cnt
  rw [Finset.card_pos]
  exact ⟨i, by rw [Finset.mem_filter]; exact ⟨Finset.mem_univ _, hn⟩⟩

end Cert.Proof.Ref

end
-- ==== Proof.Sc.Equation.lean ====
/-
  The kernel's result is the reference's: class by class the same real numbers, summed in another order.
-/
module

public import proofs.«01_k».proof.Proof.Sc.Centre
public import proofs.«01_k».proof.Proof.RefCount
public import proofs.«01_k».proof.Proof.Sc.Valid

@[expose] public section

set_option maxRecDepth 16384

noncomputable section

namespace Cert.Proof.Sc

open Cert.KernelIdeal Cert.KernelIdeal.Gen
open Idealize.ShloMosaic

/-! ## The reference's centres -/

section
variable (x : FVec Ideal S20000x4 .f32) (f : FVec Ideal S20000 .f32) (y : IVec S20000 32)
variable (fr : Fin 20000 → ℝ) (hf : ∀ i, f (ix1 i) = (fr i : EReal)) (hb : ∀ i, 0 ≤ fr i ∧ fr i ≤ 15938355 / 16777216)

/-- A confidence under the cap is under one. -/
theorem below1 {a : ℝ} (h : 0 ≤ a ∧ a ≤ 15938355 / 16777216) : 0 ≤ a ∧ a < 1 :=
  ⟨h.1, h.2.trans_lt (by norm_num)⟩

include hf hb in
/-- The reference's charge of a point, -/
theorem chg_real (i : Fin 20000) : Ref.chg f (ix1 i) = (charge (fr i) : EReal) := by
  rw [Ref.chg_at, hf]
  exact atanh_charge (hb i).1 (below1 (hb i)).2

include hf hb in
/-- of a point in a class, -/
theorem qm_real (i : Fin 20000) (k : Fin 256) : Ref.qm f y (ix2 i k) = if y (ix1 i) = BitVec.ofNat 32 k.val then (charge (fr i) : EReal) else 0 := by
  rw [Ref.qm_at, Ref.mat_at, chg_real f fr hf hb]
  split
  · rw [mul_one]
  · rw [mul_zero]

include hf hb in
/-- and of a class: nothing if the class is empty, else its first largest confidence's, whose row is the centre. -/
theorem ref_centre (k : Fin 256) :
    ((∀ i, y (ix1 i) ≠ BitVec.ofNat 32 k.val) ∧ Ref.qak f y (ix1 k) = (0 : EReal))
    ∨ ∃ i, First f y k i ∧ Ref.qak f y (ix1 k) = (charge (fr i) : EReal) ∧ ∀ r, Ref.ctr x f y (ix2 k r) = x (ix2 i r) := by
  have hq := qm_real f y fr hf hb
  have hn : ∀ i k, (0 : EReal) ≤ Ref.qm f y (ix2 i k) := fun i k => by
    rw [hq]
    split
    · exact_mod_cast (charge_pos _).le
    · exact le_rfl
  have hp : ∀ p, (⊥ : EReal) < Ref.qm f y p := fun p => by
    have e : p = ix2 (p 0) (p 1) := funext fun a => match a with | 0 => rfl | 1 => rfl
    rw [e]
    exact lt_of_lt_of_le EReal.bot_lt_zero (hn _ _)
  obtain ⟨i, hi, hmax⟩ := Ref.amax_first f y hp k
  obtain ⟨m1, m2⟩ := Ref.qak_max f y k
  have hM : Ref.qak f y (ix1 k) = Ref.qm f y (ix2 i k) := by
    refine le_antisymm ?_ (m1 i)
    rcases m2 with q | ⟨j, q⟩
    · rw [q]
      exact bot_le
    · rw [← q]
      exact (hmax j).1
  rw [hM]
  by_cases c : y (ix1 i) = BitVec.ofNat 32 k.val
  · have hci : Ref.qm f y (ix2 i k) = (charge (fr i) : EReal) := by rw [hq, if_pos c]
    have hcj : ∀ j, y (ix1 j) = BitVec.ofNat 32 k.val → Ref.qm f y (ix2 j k) = (charge (fr j) : EReal) := fun j h => by rw [hq, if_pos h]
    refine .inr ⟨i, ⟨c, fun j hj => ?_, fun j hj e => ?_⟩, hci, fun r => Ref.ctr_at x f y k i hi r⟩
    · have h := (hmax j).1
      rw [hci, hcj j hj] at h
      rw [hf, hf]
      exact_mod_cast (charge_le_iff (below1 (hb j)) (below1 (hb i))).mp (by exact_mod_cast h)
    · refine (hmax j).2 ?_
      rw [hf, hf] at e
      rw [hci, hcj j hj, show fr j = fr i by exact_mod_cast e]
  · have h0 : Ref.qm f y (ix2 i k) = (0 : EReal) := by rw [hq, if_neg c]
    refine .inl ⟨fun j hj => ?_, h0⟩
    have h := (hmax j).1
    rw [h0, hq, if_pos hj] at h
    exact absurd (charge_pos (fr j)) (not_lt.mpr (by exact_mod_cast h))
end

/-! ## One class -/

section
variable (m : (ℓ : Loc nD τ sig) → Buf (Elt Ideal) ℓ) (d : Dev nD)
variable (hr : ∀ d, InRange (m ((SparseCore.T d).loc main_arg2)) (m ((SparseCore.T d).loc main_arg3)))
variable (fr : Fin 20000 → ℝ) (hF : ∀ i, aF m d (ix1 i) = (fr i : EReal)) (hb : ∀ i, 0 ≤ fr i ∧ fr i ≤ 15938355 / 16777216)
variable (xr : Fin 20000 → Fin 4 → ℝ) (hX : ∀ i r, aX m d (ix2 i r) = (xr i r : EReal))

/-- A point's row among the padded ones. -/
def wide (i : Fin 20000) : Fin 20480 := ⟨i.val, by omega⟩

/-- The padded rows' class numbers and confidences are the points', and the padding's class is none. -/
theorem kY_wide (i : Fin 20000) : kY m d (wide i) = aY m d (ix1 i) := by
  rw [kY_eq, dif_pos (show (wide i).val < 20000 from i.isLt)]
  rfl

theorem kY_pad (n : Fin 20480) (h : 20000 ≤ n.val) : kY m d n = 4294967294#32 := by
  rw [kY_eq, dif_neg (not_lt.mpr h)]

theorem kF_wide (i : Fin 20000) : kF m d (wide i) = aF m d (ix1 i) := by
  rw [kF_eq, dif_pos (show (wide i).val < 20000 from i.isLt)]
  rfl

include hr in
theorem aY_ne (i : Fin 20000) : aY m d (ix1 i) ≠ 4294967294#32 := fun h => by
  have k : -1 ≤ (aY m d (ix1 i)).toInt := ((hr d).y (ix1 i)).1
  rw [h] at k
  exact absurd k (by decide)

/-- The padding has no charge, -/
theorem kQ_pad (n : Fin 20480) (h : 20000 ≤ n.val) : kQ m d n = 0 := by
  unfold kQ
  rw [if_pos (kY_pad m d n h)]

include hr hF hb in
/-- a point has the reference's. -/
theorem kQ_wide (i : Fin 20000) : kQ m d (wide i) = (charge (fr i) : EReal) := by
  unfold kQ
  rw [kY_wide, if_neg (aY_ne m d hr i), kF_wide, hF]
  exact qq_charge (hb i).1 (hb i).2

/-- A point's squared distance to another. -/
def sq (i j : Fin 20000) : ℝ := ∑ r : Fin 4, (xr i r - xr j r) * (xr i r - xr j r)

/-- A point's potential in the class `k` with the centre `j`. -/
def pull (k : Fin 256) (j i : Fin 20000) : ℝ := if aY m d (ix1 i) = BitVec.ofNat 32 k.val then sq xr i j else max (1 - sq xr i j) 0

include hX in
/-- The kernel's squared distance to a class's centre, -/
theorem kD_wide (A : Dev nD → Inp Ideal) (k : Fin 256) (j : Fin 20000)
    (hA : ∀ r : Fin 16, kA A d k r = if h : r.val < 4 then aX m d (ix2 j ⟨r.val, h⟩) else 0) (i : Fin 20000) :
    kD m A d (wide i) k = (sq xr i j : EReal) := by
  unfold kD sq
  refine dist_real (fun r => kX m d (wide i) r) (fun r => kA A d k r) (xr i) (xr j) (fun r => ?_) fun r => ?_
  · show kX m d (wide i) r = _
    rw [kX_eq]
    by_cases h : r.val < 4
    · rw [dif_pos ⟨i.isLt, h⟩, dif_pos h]
      exact hX i ⟨r.val, h⟩
    · rw [dif_neg fun p => h p.2, dif_neg h]
  · show kA A d k r = _
    rw [hA]
    by_cases h : r.val < 4
    · rw [dif_pos h, dif_pos h]
      exact hX j ⟨r.val, h⟩
    · rw [dif_neg h, dif_neg h]

theorem coe_max0 (a : ℝ) : max ((1 : EReal) - (a : EReal)) 0 = ((max (1 - a) 0 : ℝ) : EReal) := by
  refine Eq.trans ?_ (EReal.coe_strictMono.monotone.map_max (a := 1 - a) (b := 0)).symm
  rw [EReal.coe_sub]
  rfl

include hX in
/-- and its potential. -/
theorem kP_wide (A : Dev nD → Inp Ideal) (k : Fin 256) (j : Fin 20000)
    (hA : ∀ r : Fin 16, kA A d k r = if h : r.val < 4 then aX m d (ix2 j ⟨r.val, h⟩) else 0) (i : Fin 20000) :
    kP m A d (wide i) k = (pull m d xr k j i : EReal) := by
  unfold kP pull
  rw [kY_wide, kD_wide m d xr hX A k j hA, ofB0, ofB1, coe_max0]
  split <;> rfl

include hX in
/-- The reference's potential is the same, -/
theorem lsum_real (k : Fin 256) (j : Fin 20000) (q : ℝ) (hq : Ref.qak (aF m d) (aY m d) (ix1 k) = (q : EReal))
    (hc : ∀ r, Ref.ctr (aX m d) (aF m d) (aY m d) (ix2 k r) = aX m d (ix2 j r)) (i : Fin 20000) :
    Ref.lsum (aX m d) (aF m d) (aY m d) (Idealize.ShloMosaic.ix3 0 i k) = ((pull m d xr k j i * q : ℝ) : EReal) := by
  have hD : Ref.dist (aX m d) (aF m d) (aY m d) (ix2 i k) = (sq xr i j : EReal) := by
    rw [Ref.dist_at]
    exact dist_ref (fun r => aX m d (ix2 i r)) (fun r => Ref.ctr (aX m d) (aF m d) (aY m d) (ix2 k r)) (xr i) (xr j) (hX i) fun r => (hc r).trans (hX j r)
  rw [Ref.lsum_at, Ref.mat_at, hD, hq, coe_max0]
  unfold pull
  split
  · have e : (1 : EReal) - 1 = 0 := by
      show ((1 : ℝ) : EReal) - ((1 : ℝ) : EReal) = 0
      rw [← EReal.coe_sub, sub_self]
      rfl
    rw [e, zero_mul, add_zero, one_mul, EReal.coe_mul]
  · rw [zero_mul, zero_add, sub_zero, one_mul, EReal.coe_mul]

/-- and nothing when the class has no charge. -/
theorem lsum_zero (k : Fin 256) (hq : Ref.qak (aF m d) (aY m d) (ix1 k) = (0 : EReal)) (i : Fin 20000) :
    Ref.lsum (aX m d) (aF m d) (aY m d) (Idealize.ShloMosaic.ix3 0 i k) = (0 : EReal) := by
  rw [Ref.lsum_at, hq]
  simp only [mul_zero, add_zero]

/-- A row's potential times its charge, nothing in the padding. -/
def pad (p : Fin 20000 → ℝ) (n : Fin 20480) : ℝ := if h : n.val < 20000 then p ⟨n.val, h⟩ * charge (fr ⟨n.val, h⟩) else 0

include hr hF hb hX in
/-- One class's sums, the kernel's and the reference's, by the same real numbers. -/
theorem one_class (k : Fin 256) : ∃ (p : Fin 20000 → ℝ) (q : ℝ),
    (∀ t : Fin 5, (∑ i : Fin 4096, kP m (inpOf m hr) d (nrow t i) k * kQ m d (nrow t i)) * kK (inpOf m hr) d k
      = ((∑ i : Fin 4096, pad fr p (nrow t i) * q : ℝ) : EReal))
    ∧ ∀ i : Fin 20000, Ref.lsum (aX m d) (aF m d) (aY m d) (Idealize.ShloMosaic.ix3 0 i k) = ((p i * q : ℝ) : EReal) := by
  have h0 : ∀ n, (0 : EReal) ≤ aF m d n := fun n => by
    obtain ⟨i, rfl⟩ : ∃ i : Fin 20000, n = ix1 i := ⟨n 0, funext fun a => match a with | 0 => rfl⟩
    rw [hF]
    exact_mod_cast (hb i).1
  rcases ker_centre m d hr h0 k with ⟨e1, kb⟩ | ⟨i, hi, kb, ka⟩
  · rcases ref_centre (aX m d) (aF m d) (aY m d) fr hF hb k with ⟨-, rq⟩ | ⟨j, hj, -, -⟩
    · refine ⟨fun _ => 0, 0, fun t => ?_, fun i => ?_⟩
      · have e : kK (inpOf m hr) d k = 0 := by
          unfold kK
          rw [kb, if_pos]
          rw [← EReal.coe_one, ← EReal.coe_neg]
          exact EReal.coe_neg'.mpr (by norm_num)
        rw [e]
        simp only [mul_zero, Finset.sum_const_zero]
        rfl
      · rw [lsum_zero m d k rq, mul_zero]
        rfl
    · exact absurd hj.cls (e1 j)
  · rcases ref_centre (aX m d) (aF m d) (aY m d) fr hF hb k with ⟨e1, -⟩ | ⟨j, hj, rq, rc⟩
    · exact absurd hi.cls (e1 i)
    · obtain rfl := hi.unique hj
      refine ⟨pull m d xr k i, charge (fr i), fun t => ?_, lsum_real m d xr hX k i _ rq rc⟩
      have e : kK (inpOf m hr) d k = (charge (fr i) : EReal) := by
        unfold kK
        rw [kb, hF, if_neg (not_lt.mpr (by exact_mod_cast (hb i).1))]
        exact qq_charge (hb i).1 (hb i).2
      have g : ∀ n : Fin 20480, kP m (inpOf m hr) d n k * kQ m d n = (pad fr (pull m d xr k i) n : EReal) := fun n => by
        unfold pad
        by_cases h : n.val < 20000
        · rw [dif_pos h]
          obtain ⟨a, rfl⟩ : ∃ a : Fin 20000, n = wide a := ⟨⟨n.val, h⟩, rfl⟩
          rw [kP_wide m d xr hX _ k i ka, kQ_wide m d hr fr hF hb, EReal.coe_mul]
          rfl
        · rw [dif_neg h, kQ_pad m d n (not_lt.mp h), mul_zero]
          rfl
      simp only [g, e, coe_sum]
      rw [← EReal.coe_mul, Finset.sum_mul]
end

/-! ## The two results -/

section
variable (m : (ℓ : Loc nD τ sig) → Buf (Elt Ideal) ℓ) (d : Dev nD)
variable (hr : ∀ d, InRange (m ((SparseCore.T d).loc main_arg2)) (m ((SparseCore.T d).loc main_arg3)))
variable (fr : Fin 20000 → ℝ) (hF : ∀ i, aF m d (ix1 i) = (fr i : EReal)) (hb : ∀ i, 0 ≤ fr i ∧ fr i ≤ 15938355 / 16777216)
variable (xr : Fin 20000 → Fin 4 → ℝ) (hX : ∀ i r, aX m d (ix2 i r) = (xr i r : EReal))

/-- A sum over the padded rows where the padding's class is not the summed one. -/
theorem noise_sum (g : Fin 20480 → EReal) :
    ∑ t : Fin 5, ∑ i : Fin 4096, (if kY m d (nrow t i) = 4294967295#32 then g (nrow t i) else 0)
      = ∑ i : Fin 20000, if aY m d (ix1 i) = 4294967295#32 then g (wide i) else 0 := by
  refine (sum_rows (fun n => if kY m d n = 4294967295#32 then g n else 0) fun n h => ?_).trans (Finset.sum_congr rfl fun i _ => ?_)
  · rw [kY_pad m d n h, if_neg (by decide)]
  · show (if kY m d (wide i) = _ then g (wide i) else 0) = _
    rw [kY_wide]

/-- The noise term divided last or first. -/
theorem div_one_mul (a : EReal) {n : ℕ} (h : 0 < n) : Ideal.div (1 * a) ((n : ℝ) : EReal) = Ideal.div 1 ((n : ℝ) : EReal) * a := by
  have e : ((n : ℝ) : EReal) ≠ 0 := by
    rw [← EReal.coe_zero]
    exact fun q => h.ne' (by exact_mod_cast EReal.coe_injective q)
  unfold Ideal.div
  rw [if_neg e, if_neg e, one_mul, one_mul, mul_comm]

include hr hF hb hX in
/-- The potentials' sums: by blocks and classes in the kernel, by points and classes in the reference. -/
theorem all_classes : ∑ t : Fin 5, ∑ k : Fin 256, (∑ i : Fin 4096, kP m (inpOf m hr) d (nrow t i) k * kQ m d (nrow t i)) * kK (inpOf m hr) d k
    = ∑ i : Fin 20000, (∑ k : Fin 256, Ref.lsum (aX m d) (aF m d) (aY m d) (Idealize.ShloMosaic.ix3 0 i k)) * Ref.chg (aF m d) (ix1 i) := by
  choose p q hK hR using one_class m d hr fr hF hb xr hX
  have hc := chg_real (aF m d) fr hF hb
  simp only [hK, hR, hc, coe_sum, ← EReal.coe_mul]
  refine congrArg Real.toEReal ?_
  rw [Finset.sum_comm]
  have e : ∀ k, ∑ t : Fin 5, ∑ i : Fin 4096, pad fr (p k) (nrow t i) * q k = ∑ i : Fin 20000, p k i * charge (fr i) * q k := fun k => by
    refine (sum_rows (fun n => pad fr (p k) n * q k) fun n h => ?_).trans (Finset.sum_congr rfl fun i _ => ?_)
    · unfold pad
      rw [dif_neg (not_lt.mpr h), zero_mul]
    · unfold pad
      rw [dif_pos (show (⟨i.val, by omega⟩ : Fin 20480).val < 20000 from i.isLt)]
  simp only [e]
  rw [Finset.sum_comm]
  refine Finset.sum_congr rfl fun i _ => ?_
  rw [Finset.sum_mul]
  exact Finset.sum_congr rfl fun k _ => mul_right_comm _ _ _

include hF hb hX in
/-- The two results, in their one word, -/
theorem result_at (hn : ∃ n, aY m d n = 4294967295#32) (j : S_.Idx) : V4 m (inpOf m hr) d (Proc.devRef .tc main_v32) j
    = (Ref.b1 (aF m d) (aE m d) j + Ref.b2 (aF m d) (aY m d) j : EReal) + Ref.lv (aX m d) (aF m d) (aY m d) j := by
  refine (ker_out m (inpOf m hr) d j).trans ?_
  rw [Ref.b1_at, Ref.b2_at, Ref.lv_at, Ref.cnt_red, all_classes m d hr fr hF hb xr hX, noise_sum m d (kF m d), noise_sum m d fun _ => 1]
  have e1 : ∑ k : Fin 256, kC (inpOf m hr) d k = ∑ k : Fin 256, Ref.fctr (aF m d) (aE m d) (ix1 k) := Finset.sum_congr rfl fun k _ => ker_seg m d hr k
  rw [e1, Ref.cnt_sum, div_one_mul _ (Ref.cnt_pos (aY m d) hn)]
  simp only [kF_wide]

include hF hb hX in
/-- and as arrays. -/
theorem result_eq (hn : ∃ n, aY m d n = 4294967295#32) :
    V4 m (inpOf m hr) d (Proc.devRef .tc main_v32) = Ref.out (aX m d) (aF m d) (aY m d) (aE m d) :=
  funext fun j => result_at m d hr fr hF hb xr hX hn j
end

/-! ## The arguments as real numbers -/

/-- A confidence within the precondition's bounds is a real number within them, -/
theorem real_conf {a : EReal} (h1 : FloatOps.cmpf (F := Ideal) (φ := .f32) .oge a (FloatOps.ofBits (F := Ideal) .f32 0x00000000#32) = 1#1)
    (h2 : FloatOps.cmpf (F := Ideal) (φ := .f32) .ole a (FloatOps.ofBits (F := Ideal) .f32 0x3F733333#32) = 1#1) :
    ∃ b : ℝ, a = (b : EReal) ∧ 0 ≤ b ∧ b ≤ 15938355 / 16777216 := by
  have h1 : BitVec.ofBool (decide (a ≥ Ideal.ofBits .f32 0x00000000#32)) = 1#1 := h1
  have h2 : BitVec.ofBool (decide (a ≤ Ideal.ofBits .f32 0x3F733333#32)) = 1#1 := h2
  rw [ofB0] at h1
  rw [ofBcap] at h2
  have g1 : (0 : EReal) ≤ a := by
    by_contra c
    rw [decide_eq_false c] at h1
    exact absurd h1 (by decide)
  have g2 : a ≤ ((15938355 / 16777216 : ℝ) : EReal) := by
    by_contra c
    rw [decide_eq_false c] at h2
    exact absurd h2 (by decide)
  induction a using EReal.rec with
  | bot => exact absurd g1 (not_le.mpr EReal.bot_lt_zero)
  | top => exact absurd g2 (not_le.mpr (EReal.coe_lt_top _))
  | coe b => exact ⟨b, rfl, by exact_mod_cast g1, EReal.coe_le_coe_iff.mp g2⟩

/-- and a finite coordinate is a real number. -/
theorem real_coord {a : EReal} (h : FloatOps.cmpf (F := Ideal) (φ := .f32) .olt (max a (-a) : EReal) (FloatOps.ofBits (F := Ideal) .f32 0x7F800000#32) = 1#1) :
    ∃ b : ℝ, a = (b : EReal) := by
  have h : BitVec.ofBool (decide (max a (-a) < Ideal.ofBits .f32 0x7F800000#32)) = 1#1 := h
  rw [ofBtop] at h
  have g : max a (-a) < (⊤ : EReal) := by
    by_contra c
    rw [decide_eq_false c] at h
    exact absurd h (by decide)
  induction a using EReal.rec with
  | bot => exact absurd ((le_max_right _ _).trans_lt g) (by simp)
  | top => exact absurd ((le_max_left _ _).trans_lt g) (by simp)
  | coe b => exact ⟨b, rfl⟩

/-- Under the precondition the kernel's result is the reference's. -/
theorem results_agree (m : (ℓ : Loc nD τ sig) → Buf (Elt Ideal) ℓ)
    (hr : ∀ d, InRange (m ((SparseCore.T d).loc main_arg2)) (m ((SparseCore.T d).loc main_arg3))) (d : Dev nD)
    (hv : Valid (aX m d) (aF m d) (aY m d) (aE m d)) :
    V4 m (inpOf m hr) d (Proc.devRef .tc main_v32) = Ref.out (aX m d) (aF m d) (aY m d) (aE m d) := by
  choose fr hF hb using fun i : Fin 20000 => real_conf (hv.f (ix1 i)).1 (hv.f (ix1 i)).2
  choose xr hX using fun (i : Fin 20000) (r : Fin 4) => real_coord (a := aX m d (ix2 i r)) (hv.x (ix2 i r))
  exact result_eq m d hr fr hF hb xr hX hv.bkg

end Cert.Proof.Sc

end
-- ==== Proof.Algebraic.lean ====
/-
  The value claim: on the same arguments the idealized kernel and the reference end with the same result.
-/
module

public import proofs.«01_k».proof.Defs
public import proofs.«01_k».proof.Proof.FramesValid
public import proofs.«01_k».proof.Proof.Sc.Equation
public import proofs.«01_k».proof.Proof.RefRun

@[expose] public section

set_option maxRecDepth 16384

noncomputable section

namespace Cert.Proof

open Idealize.ShloMosaic Idealize.SL.Sem

/-- The idealized kernel computes the reference. -/
theorem kernel_computes : Cert.algebraic_KernelIdeal_ReferenceIdeal_pre_valid (hKernelIdeal := Cert.KernelIdeal.Gen.facts)
    (hReferenceIdeal := Cert.ReferenceIdeal.Gen.facts) (hPre_valid := Sc.validFacts) := by
  intro m g m' g' hP hA
  have hv := fun d => Sc.valid_of (F := Ideal) (hP d)
  have hr := fun d => (hv d).toInRange
  refine ⟨fun c => Ref.out (Sc.aX m c) (Sc.aF m c) (Sc.aY m c) (Sc.aE m c), ?_, ?_⟩
  · refine (θ_run (Cert.KernelIdeal.defs (F := Ideal)) _ _).mono (fun r h c => ?_) (Sc.run_args (F := Ideal) m hr g)
    exact ⟨(h.2 c).trans (Sc.results_agree m hr c (hv c)), h.1.1 c⟩
  · refine (θ_run (Cert.ReferenceIdeal.defs (F := Ideal)) _ _).mono (fun r h c => ?_) (Ref.run m' g')
    obtain ⟨h0, h1, h2, h3⟩ := hA c
    refine ⟨(h c).1.trans ?_, (h c).2⟩
    rw [h0, h1, h2, h3]
    rfl

end Cert.Proof

end
-- ==== Proof.lean ====
/-
  The certificate: every claim, from the modules beside this file.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Frames
public import proofs.«01_k».proof.Proof.FramesValid
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Every claim holds. -/
theorem claim : Cert.Claim :=
  ⟨Cert.Kernel.Gen.facts, Cert.KernelIdeal.Gen.facts, Cert.ReferenceIdeal.Gen.facts, Sc.preFacts, Sc.validFacts,
    kernel_frame, ideal_frame, ideal_frame_valid, reference_frame, reference_frame_valid, trivial, kernel_computes⟩

end Cert.Proof

end
